-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  IdealRules.named_const.Statement Cert.Kernel5Ideal.κ "mask" .f32 0xF149F2CA#32 ⊥

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
-- ==== Pre_finite.lean ====
abbrev S8x1024x4096 : Shape := ⟨3, ![8, 1024, 4096]⟩
abbrev S8x4096x1024 : Shape := ⟨3, ![8, 4096, 1024]⟩
abbrev S8x128x4096 : Shape := ⟨3, ![8, 128, 4096]⟩
abbrev S8x4096x128 : Shape := ⟨3, ![8, 4096, 128]⟩
abbrev S_ : Shape := ⟨0, ![]⟩

class Facts : Prop where
  bitsLt_bf16_f32 : FTy.bits .bf16 < FTy.bits .f32
  bcast_S_S8x1024x4096 : S_.BroadcastsInDim S8x1024x4096 (![] : Fin 0 → Fin S8x1024x4096.rank)
  reducesTo_S8x1024x4096_S_d0_1_2 : S8x1024x4096.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x128x4096 : S_.BroadcastsInDim S8x128x4096 (![] : Fin 0 → Fin S8x128x4096.rank)
  reducesTo_S8x128x4096_S_d0_1_2 : S8x128x4096.ReducesTo [0, 1, 2] S_
  bcast_S_S8x4096x128 : S_.BroadcastsInDim S8x4096x128 (![] : Fin 0 → Fin S8x4096x128.rank)
  reducesTo_S8x4096x128_S_d0_1_2 : S8x4096x128.ReducesTo [0, 1, 2] S_

variable [Facts]

def fn_part1 {F : FTy → Type} [FloatOps F] (main_arg5 : FVec F S8x4096x128 .bf16) (main_v4 : IVec S_ 1) (main_v9 : IVec S_ 1) (main_v14 : IVec S_ 1) (main_v16 : FVec F S8x128x4096 .f32) (main_cst_4 : FVec F S_ .f32) : IVec S_ 1 :=
  let main_v17 : FVec F S8x128x4096 .f32 := broadcastInDim S8x128x4096 ![] bcast_S_S8x128x4096 main_cst_4
  let main_v18 : IVec S8x128x4096 1 := cmpf .olt main_v16 main_v17
  let main_c_5 : IVec S_ 1 := constantI S_ 1 1#1
  let main_v19 : IVec S_ 1 := (fun x v => Host.reduce IntOp.andi x v reducesTo_S8x128x4096_S_d0_1_2 h_S_) main_v18 main_c_5
  let main_v20 : FVec F S8x4096x128 .f32 := (extf .f32 · bitsLt_bf16_f32) main_arg5
  let main_v21 : FVec F S8x4096x128 .f32 := Host.absf main_v20
  let main_cst_6 : FVec F S_ .f32 := constant S_ .f32 0x7F800000#32
  let main_v22 : FVec F S8x4096x128 .f32 := broadcastInDim S8x4096x128 ![] bcast_S_S8x4096x128 main_cst_6
  let main_v23 : IVec S8x4096x128 1 := cmpf .olt main_v21 main_v22
  let main_c_7 : IVec S_ 1 := constantI S_ 1 1#1
  let main_v24 : IVec S_ 1 := (fun x v => Host.reduce IntOp.andi x v reducesTo_S8x4096x128_S_d0_1_2 h_S_) main_v23 main_c_7
  let main_v25 : IVec S_ 1 := andi main_v4 main_v9
  let main_v26 : IVec S_ 1 := andi main_v25 main_v14
  let main_v27 : IVec S_ 1 := andi main_v26 main_v19
  let main_v28 : IVec S_ 1 := andi main_v27 main_v24
  main_v28

def fn {F : FTy → Type} [FloatOps F] (main_arg0 : FVec F S8x1024x4096 .bf16) (main_arg1 : FVec F S8x4096x1024 .bf16) (main_arg2 : FVec F S8x1024x4096 .bf16) (main_arg3 : FVec F S8x4096x1024 .bf16) (main_arg4 : FVec F S8x128x4096 .bf16) (main_arg5 : FVec F S8x4096x128 .bf16) : IVec S_ 1 :=
  let main_v0 : FVec F S8x1024x4096 .f32 := (extf .f32 · bitsLt_bf16_f32) main_arg0
  let main_v1 : FVec F S8x1024x4096 .f32 := Host.absf main_v0
  let main_cst : FVec F S_ .f32 := constant S_ .f32 0x7F800000#32
  let main_v2 : FVec F S8x1024x4096 .f32 := broadcastInDim S8x1024x4096 ![] bcast_S_S8x1024x4096 main_cst
  let main_v3 : IVec S8x1024x4096 1 := cmpf .olt main_v1 main_v2
  let main_c : IVec S_ 1 := constantI S_ 1 1#1
  let main_v4 : IVec S_ 1 := (fun x v => Host.reduce IntOp.andi x v reducesTo_S8x1024x4096_S_d0_1_2 h_S_) main_v3 main_c
  let main_v5 : FVec F S8x4096x1024 .f32 := (extf .f32 · bitsLt_bf16_f32) main_arg1
  let main_v6 : FVec F S8x4096x1024 .f32 := Host.absf main_v5
  let main_cst_0 : FVec F S_ .f32 := constant S_ .f32 0x7F800000#32
  let main_v7 : FVec F S8x4096x1024 .f32 := broadcastInDim S8x4096x1024 ![] bcast_S_S8x4096x1024 main_cst_0
  let main_v8 : IVec S8x4096x1024 1 := cmpf .olt main_v6 main_v7
  let main_c_1 : IVec S_ 1 := constantI S_ 1 1#1
  let main_v9 : IVec S_ 1 := (fun x v => Host.reduce IntOp.andi x v reducesTo_S8x4096x1024_S_d0_1_2 h_S_) main_v8 main_c_1
  let main_v10 : FVec F S8x1024x4096 .f32 := (extf .f32 · bitsLt_bf16_f32) main_arg2
  let main_v11 : FVec F S8x1024x4096 .f32 := Host.absf main_v10
  let main_cst_2 : FVec F S_ .f32 := constant S_ .f32 0x7F800000#32
  let main_v12 : FVec F S8x1024x4096 .f32 := broadcastInDim S8x1024x4096 ![] bcast_S_S8x1024x4096 main_cst_2
  let main_v13 : IVec S8x1024x4096 1 := cmpf .olt main_v11 main_v12
  let main_c_3 : IVec S_ 1 := constantI S_ 1 1#1
  let main_v14 : IVec S_ 1 := (fun x v => Host.reduce IntOp.andi x v reducesTo_S8x1024x4096_S_d0_1_2 h_S_) main_v13 main_c_3
  let main_v15 : FVec F S8x128x4096 .f32 := (extf .f32 · bitsLt_bf16_f32) main_arg4
  let main_v16 : FVec F S8x128x4096 .f32 := Host.absf main_v15
  let main_cst_4 : FVec F S_ .f32 := constant S_ .f32 0x7F800000#32
  fn_part1 (F := F) main_arg5 main_v4 main_v9 main_v14 main_v16 main_cst_4
-- ==== Kernel.lean ====
abbrev S8x4096x512 : Shape := ⟨3, ![8, 4096, 512]⟩
abbrev S8x4x4096x64 : Shape := ⟨4, ![8, 4, 4096, 64]⟩
abbrev S8x4096x128 : Shape := ⟨3, ![8, 4096, 128]⟩
abbrev S128 : Shape := ⟨1, ![128]⟩
abbrev S1x128 : Shape := ⟨2, ![1, 128]⟩
abbrev S4x256x512 : Shape := ⟨3, ![4, 256, 512]⟩
abbrev S4x4x256x64 : Shape := ⟨4, ![4, 4, 256, 64]⟩
abbrev S4x256x128 : Shape := ⟨3, ![4, 256, 128]⟩
abbrev S4x4x128x128 : Shape := ⟨4, ![4, 4, 128, 128]⟩
abbrev S1x1x128x128 : Shape := ⟨4, ![1, 1, 128, 128]⟩
abbrev S128x128 : Shape := ⟨2, ![128, 128]⟩
abbrev S1x64x128 : Shape := ⟨3, ![1, 64, 128]⟩
abbrev S64x128 : Shape := ⟨2, ![64, 128]⟩
abbrev S1x1x64x64 : Shape := ⟨4, ![1, 1, 64, 64]⟩
abbrev S64x64 : Shape := ⟨2, ![64, 64]⟩
abbrev S1x1x1 : Shape := ⟨3, ![1, 1, 1]⟩
abbrev S1x1 : Shape := ⟨2, ![1, 1]⟩
abbrev S64 : Shape := ⟨1, ![64]⟩
abbrev S64x1 : Shape := ⟨2, ![64, 1]⟩

abbrev nBuf : Space → Nat
  | .hbm => 10
  | .vmem => 18
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4x4096x64, .bf16⟩
  | .hbm, ⟨5, _⟩ => ⟨S8x4096x128, .f32⟩
  | .hbm, ⟨6, _⟩ => ⟨S8x4096x512, .bf16⟩
  | .hbm, ⟨7, _⟩ => ⟨S128, .f32⟩
  | .hbm, ⟨8, _⟩ => ⟨S1x128, .f32⟩
  | .hbm, ⟨9, _⟩ => ⟨S8x4096x512, .bf16⟩
  | .local _ .vmem, ⟨0, _⟩ => ⟨S4x256x512, .f32⟩
  | .local _ .vmem, ⟨1, _⟩ => ⟨S4x256x512, .f32⟩
  | .local _ .vmem, ⟨2, _⟩ => ⟨S4x256x512, .bf16⟩
  | .local _ .vmem, ⟨3, _⟩ => ⟨S4x256x512, .bf16⟩
  | .local _ .vmem, ⟨4, _⟩ => ⟨S4x256x512, .bf16⟩
  | .local _ .vmem, ⟨5, _⟩ => ⟨S4x256x512, .bf16⟩
  | .local _ .vmem, ⟨6, _⟩ => ⟨S4x256x512, .bf16⟩
  | .local _ .vmem, ⟨7, _⟩ => ⟨S4x256x512, .bf16⟩
  | .local _ .vmem, ⟨8, _⟩ => ⟨S4x4x256x64, .bf16⟩
  | .local _ .vmem, ⟨9, _⟩ => ⟨S4x4x256x64, .bf16⟩
  | .local _ .vmem, ⟨10, _⟩ => ⟨S4x256x128, .f32⟩
  | .local _ .vmem, ⟨11, _⟩ => ⟨S4x256x128, .f32⟩
  | .local _ .vmem, ⟨12, _⟩ => ⟨S4x256x512, .bf16⟩
  | .local _ .vmem, ⟨13, _⟩ => ⟨S4x256x512, .bf16⟩
  | .local _ .vmem, ⟨14, _⟩ => ⟨S1x128, .f32⟩
  | .local _ .vmem, ⟨15, _⟩ => ⟨S4x256x512, .bf16⟩
  | .local _ .vmem, ⟨16, _⟩ => ⟨S4x256x512, .bf16⟩
  | .local _ .vmem, ⟨17, _⟩ => ⟨S4x4x128x128, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x4x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x4096x512 : Shape := ⟨3, ![8, 4096, 512]⟩
abbrev S8x4x4096x64 : Shape := ⟨4, ![8, 4, 4096, 64]⟩
abbrev S8x4096x128 : Shape := ⟨3, ![8, 4096, 128]⟩
abbrev S128 : Shape := ⟨1, ![128]⟩
abbrev S8x4096x4 : Shape := ⟨3, ![8, 4096, 4]⟩
abbrev S8x4x4096 : Shape := ⟨3, ![8, 4, 4096]⟩
abbrev S8x4x64x64 : Shape := ⟨4, ![8, 4, 64, 64]⟩
abbrev S8x4x64x1 : Shape := ⟨4, ![8, 4, 64, 1]⟩
abbrev S8x4x64 : Shape := ⟨3, ![8, 4, 64]⟩
abbrev S8x64x64x4x128 : Shape := ⟨5, ![8, 64, 64, 4, 128]⟩
abbrev S8x4x64x64x128 : Shape := ⟨5, ![8, 4, 64, 64, 128]⟩
abbrev S8x4x64x64x64 : Shape := ⟨5, ![8, 4, 64, 64, 64]⟩
abbrev S64x8x4x64x128 : Shape := ⟨5, ![64, 8, 4, 64, 128]⟩
abbrev S64x8x4x64x64 : Shape := ⟨5, ![64, 8, 4, 64, 64]⟩
abbrev S64x8x4 : Shape := ⟨3, ![64, 8, 4]⟩
abbrev S_ : Shape := ⟨0, ![]⟩
abbrev S8x4x128x128 : Shape := ⟨4, ![8, 4, 128, 128]⟩
abbrev S1x8x4x64x128 : Shape := ⟨5, ![1, 8, 4, 64, 128]⟩
abbrev S8x4x64x128 : Shape := ⟨4, ![8, 4, 64, 128]⟩
abbrev S1x8x4x64x64 : Shape := ⟨5, ![1, 8, 4, 64, 64]⟩
abbrev S1x8x4 : Shape := ⟨3, ![1, 8, 4]⟩
abbrev S8x4 : Shape := ⟨2, ![8, 4]⟩
abbrev S8x4x1x1 : Shape := ⟨4, ![8, 4, 1, 1]⟩
abbrev S8x4x4096x128 : Shape := ⟨4, ![8, 4, 4096, 128]⟩
abbrev S8x4096x4x128 : Shape := ⟨4, ![8, 4096, 4, 128]⟩
abbrev S8x4096x4x1 : Shape := ⟨4, ![8, 4096, 4, 1]⟩
abbrev S1x1x1x128 : Shape := ⟨4, ![1, 1, 1, 128]⟩

abbrev nBuf : Space → Nat
  | .hbm => 134
  | .vmem => 0
  | .smem => 0
  | _ => 0

abbrev hbmTy0_0 (i : Nat) : BufTy := match i % 128 with
  | 0 => ⟨S8x4096x512, .f32⟩
  | 1 => ⟨S8x4096x512, .bf16⟩
  | 2 => ⟨S8x4096x512, .bf16⟩
  | 3 => ⟨S8x4096x512, .bf16⟩
  | 4 => ⟨S8x4x4096x64, .bf16⟩
  | 5 => ⟨S8x4096x128, .f32⟩
  | 6 => ⟨S8x4096x512, .bf16⟩
  | 7 => ⟨S128, .f32⟩
  | 8 => ⟨S8x4096x4, .f32⟩
  | 9 => ⟨S8x4x4096, .f32⟩
  | 10 => ⟨S8x4x64x64, .f32⟩
  | 11 => ⟨S8x4x64x1, .f32⟩
  | 12 => ⟨S8x4x64, .f32⟩
  | 13 => ⟨S8x4x64, .f32⟩
  | 14 => ⟨S8x4096x512, .f32⟩
  | 15 => ⟨S8x64x64x4x128, .f32⟩
  | 16 => ⟨S8x4x64x64x128, .f32⟩
  | 17 => ⟨S8x4096x512, .f32⟩
  | 18 => ⟨S8x64x64x4x128, .f32⟩
  | 19 => ⟨S8x4x64x64x128, .f32⟩
  | 20 => ⟨S8x64x64x4x128, .f32⟩
  | 21 => ⟨S8x4x64x64x128, .f32⟩
  | 22 => ⟨S8x4096x512, .f32⟩
  | 23 => ⟨S8x64x64x4x128, .f32⟩
  | 24 => ⟨S8x4x64x64x128, .f32⟩
  | 25 => ⟨S8x4x4096x64, .f32⟩
  | 26 => ⟨S8x4x64x64x64, .f32⟩
  | 27 => ⟨S64x8x4x64x128, .f32⟩
  | 28 => ⟨S64x8x4x64x128, .f32⟩
  | 29 => ⟨S64x8x4x64x128, .f32⟩
  | 30 => ⟨S64x8x4x64x128, .f32⟩
  | 31 => ⟨S64x8x4x64x64, .f32⟩
  | 32 => ⟨S64x8x4, .f32⟩
  | 33 => ⟨S_, .f32⟩
  | 34 => ⟨S8x4x128x128, .f32⟩
  | 35 => ⟨S_, .f32⟩
  | 36 => ⟨S64x8x4x64x128, .f32⟩
  | 37 => ⟨S_, .i32⟩
  | 38 => ⟨S64x8x4x64x128, .f32⟩
  | 39 => ⟨S64x8x4x64x128, .f32⟩
  | 40 => ⟨S64x8x4x64x128, .f32⟩
  | 41 => ⟨S64x8x4x64x128, .f32⟩
  | 42 => ⟨S64x8x4x64x64, .f32⟩
  | 43 => ⟨S64x8x4, .f32⟩
  | 44 => ⟨S_, .i32⟩
  | 45 => ⟨S8x4x128x128, .f32⟩
  | 46 => ⟨S64x8x4x64x128, .f32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S1x8x4x64x128, .f32⟩
  | 54 => ⟨S8x4x64x128, .f32⟩
  | 55 => ⟨S_, .i32⟩
  | 56 => ⟨S_, .i32⟩
  | 57 => ⟨S_, .i32⟩
  | 58 => ⟨S_, .i32⟩
  | 59 => ⟨S1x8x4x64x128, .f32⟩
  | 60 => ⟨S8x4x64x128, .f32⟩
  | 61 => ⟨S_, .i32⟩
  | 62 => ⟨S_, .i32⟩
  | 63 => ⟨S_, .i32⟩
  | 64 => ⟨S_, .i32⟩
  | 65 => ⟨S1x8x4x64x128, .f32⟩
  | 66 => ⟨S8x4x64x128, .f32⟩
  | 67 => ⟨S_, .i32⟩
  | 68 => ⟨S_, .i32⟩
  | 69 => ⟨S_, .i32⟩
  | 70 => ⟨S_, .i32⟩
  | 71 => ⟨S1x8x4x64x128, .f32⟩
  | 72 => ⟨S8x4x64x128, .f32⟩
  | 73 => ⟨S_, .i32⟩
  | 74 => ⟨S_, .i32⟩
  | 75 => ⟨S_, .i32⟩
  | 76 => ⟨S_, .i32⟩
  | 77 => ⟨S1x8x4x64x64, .f32⟩
  | 78 => ⟨S8x4x64x64, .f32⟩
  | 79 => ⟨S_, .i32⟩
  | 80 => ⟨S_, .i32⟩
  | 81 => ⟨S1x8x4, .f32⟩
  | 82 => ⟨S8x4, .f32⟩
  | 83 => ⟨S8x4x64x128, .f32⟩
  | 84 => ⟨S8x4x64x128, .f32⟩
  | 85 => ⟨S8x4x64x128, .f32⟩
  | 86 => ⟨S8x4x64x128, .f32⟩
  | 87 => ⟨S8x4x64x128, .f32⟩
  | 88 => ⟨S8x4x1x1, .f32⟩
  | 89 => ⟨S8x4x128x128, .f32⟩
  | 90 => ⟨S8x4x128x128, .f32⟩
  | 91 => ⟨S8x4x128x128, .f32⟩
  | 92 => ⟨S8x4x128x128, .f32⟩
  | 93 => ⟨S1x8x4x64x128, .f32⟩
  | 94 => ⟨S_, .i32⟩
  | 95 => ⟨S_, .i32⟩
  | 96 => ⟨S_, .i32⟩
  | 97 => ⟨S_, .i32⟩
  | 98 => ⟨S64x8x4x64x128, .f32⟩
  | 99 => ⟨S_, .i32⟩
  | 100 => ⟨S_, .i32⟩
  | 101 => ⟨S8x4x64x64x128, .f32⟩
  | 102 => ⟨S8x4x4096x128, .f32⟩
  | 103 => ⟨S8x4096x4x128, .f32⟩
  | 104 => ⟨S8x4096x4x128, .f32⟩
  | 105 => ⟨S_, .f32⟩
  | 106 => ⟨S8x4096x4, .f32⟩
  | 107 => ⟨S8x4096x4x1, .f32⟩
  | 108 => ⟨S_, .f32⟩
  | 109 => ⟨S8x4096x4x1, .f32⟩
  | 110 => ⟨S8x4096x4x1, .f32⟩
  | 111 => ⟨S_, .f32⟩
  | 112 => ⟨S8x4096x4x1, .f32⟩
  | 113 => ⟨S8x4096x4x1, .f32⟩
  | 114 => ⟨S8x4096x4x1, .f32⟩
  | 115 => ⟨S8x4096x4x128, .f32⟩
  | 116 => ⟨S8x4096x4x128, .f32⟩
  | 117 => ⟨S1x1x1x128, .f32⟩
  | 118 => ⟨S8x4096x4x128, .f32⟩
  | 119 => ⟨S8x4096x4x128, .f32⟩
  | 120 => ⟨S8x4096x512, .f32⟩
  | 121 => ⟨S8x4096x4x128, .f32⟩
  | 122 => ⟨S8x4096x4x128, .f32⟩
  | 123 => ⟨S8x4096x4x128, .f32⟩
  | 124 => ⟨S_, .f32⟩
  | 125 => ⟨S8x4096x4x128, .f32⟩
  | 126 => ⟨S8x4096x4x128, .f32⟩
  | 127 => ⟨S_, .f32⟩
  | _ => ⟨S8x4096x512, .f32⟩

abbrev hbmTy0_1 (i : Nat) : BufTy := match i % 128 with
  | 0 => ⟨S8x4096x4x128, .f32⟩
  | 1 => ⟨S8x4096x4x128, .f32⟩
  | 2 => ⟨S8x4096x4x128, .f32⟩
  | 3 => ⟨S8x4096x4x128, .f32⟩
  | 4 => ⟨S8x4096x512, .f32⟩
  | 5 => ⟨S8x4096x512, .bf16⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_c : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev main_v27_3 : Ref sig .tc := ⟨.hbm, 41, rfl⟩
abbrev main_v27_4 : Ref sig .tc := ⟨.hbm, 42, rfl⟩
abbrev main_v27_5 : Ref sig .tc := ⟨.hbm, 43, rfl⟩
abbrev main_v27_6 : Ref sig .tc := ⟨.hbm, 44, rfl⟩
abbrev main_v27_7 : Ref sig .tc := ⟨.hbm, 45, rfl⟩
abbrev main_v27_8 : Ref sig .tc := ⟨.hbm, 46, rfl⟩
abbrev main_while0c_c_12 : Ref sig .tc := ⟨.hbm, 47, rfl⟩
abbrev main_while0c_v50 : Ref sig .tc := ⟨.hbm, 48, rfl⟩
abbrev main_while0b_call0_c : Ref sig .tc := ⟨.hbm, 49, rfl⟩
abbrev main_while0b_call0_c_0 : Ref sig .tc := ⟨.hbm, 50, rfl⟩
abbrev main_while0b_call0_c_1 : Ref sig .tc := ⟨.hbm, 51, rfl⟩
abbrev main_while0b_call0_c_2 : Ref sig .tc := ⟨.hbm, 52, rfl⟩
abbrev main_while0b_call0_v0 : Ref sig .tc := ⟨.hbm, 53, rfl⟩
abbrev main_while0b_v50 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_call1_c_1 : Ref sig .tc := ⟨.hbm, 57, rfl⟩
abbrev main_while0b_call1_c_2 : Ref sig .tc := ⟨.hbm, 58, rfl⟩
abbrev main_while0b_call1_v0 : Ref sig .tc := ⟨.hbm, 59, rfl⟩
abbrev main_while0b_v51 : Ref sig .tc := ⟨.hbm, 60, rfl⟩
abbrev main_while0b_call2_c : Ref sig .tc := ⟨.hbm, 61, rfl⟩
abbrev main_while0b_call2_c_0 : Ref sig .tc := ⟨.hbm, 62, rfl⟩
abbrev main_while0b_call2_c_1 : Ref sig .tc := ⟨.hbm, 63, rfl⟩
abbrev main_while0b_call2_c_2 : Ref sig .tc := ⟨.hbm, 64, rfl⟩
abbrev main_while0b_call2_v0 : Ref sig .tc := ⟨.hbm, 65, rfl⟩
abbrev main_while0b_v52 : Ref sig .tc := ⟨.hbm, 66, rfl⟩
abbrev main_while0b_call3_c : Ref sig .tc := ⟨.hbm, 67, rfl⟩
abbrev main_while0b_call3_c_0 : Ref sig .tc := ⟨.hbm, 68, rfl⟩
abbrev main_while0b_call3_c_1 : Ref sig .tc := ⟨.hbm, 69, rfl⟩
abbrev main_while0b_call3_c_2 : Ref sig .tc := ⟨.hbm, 70, rfl⟩
abbrev main_while0b_call3_v0 : Ref sig .tc := ⟨.hbm, 71, rfl⟩
abbrev main_while0b_v53 : Ref sig .tc := ⟨.hbm, 72, rfl⟩
abbrev main_while0b_call4_c : Ref sig .tc := ⟨.hbm, 73, rfl⟩
abbrev main_while0b_call4_c_0 : Ref sig .tc := ⟨.hbm, 74, rfl⟩
abbrev main_while0b_call4_c_1 : Ref sig .tc := ⟨.hbm, 75, rfl⟩
abbrev main_while0b_call4_c_2 : Ref sig .tc := ⟨.hbm, 76, rfl⟩
abbrev main_while0b_call4_v0 : Ref sig .tc := ⟨.hbm, 77, rfl⟩
abbrev main_while0b_v54 : Ref sig .tc := ⟨.hbm, 78, rfl⟩
abbrev main_while0b_call5_c : Ref sig .tc := ⟨.hbm, 79, rfl⟩
abbrev main_while0b_call5_c_0 : Ref sig .tc := ⟨.hbm, 80, rfl⟩
abbrev main_while0b_call5_v0 : Ref sig .tc := ⟨.hbm, 81, rfl⟩
abbrev main_while0b_v55 : Ref sig .tc := ⟨.hbm, 82, rfl⟩
abbrev main_while0b_v56 : Ref sig .tc := ⟨.hbm, 83, rfl⟩
abbrev main_while0b_v57 : Ref sig .tc := ⟨.hbm, 84, rfl⟩
abbrev main_while0b_v58 : Ref sig .tc := ⟨.hbm, 85, rfl⟩
abbrev main_while0b_v59 : Ref sig .tc := ⟨.hbm, 86, rfl⟩
abbrev main_while0b_v60 : Ref sig .tc := ⟨.hbm, 87, rfl⟩
abbrev main_while0b_v61 : Ref sig .tc := ⟨.hbm, 88, rfl⟩
abbrev main_while0b_v62 : Ref sig .tc := ⟨.hbm, 89, rfl⟩
abbrev main_while0b_v63 : Ref sig .tc := ⟨.hbm, 90, rfl⟩
abbrev main_while0b_v64 : Ref sig .tc := ⟨.hbm, 91, rfl⟩
abbrev main_while0b_v65 : Ref sig .tc := ⟨.hbm, 92, rfl⟩
abbrev main_while0b_call6_v0 : Ref sig .tc := ⟨.hbm, 93, rfl⟩
abbrev main_while0b_call6_c : Ref sig .tc := ⟨.hbm, 94, rfl⟩
abbrev main_while0b_call6_c_0 : Ref sig .tc := ⟨.hbm, 95, rfl⟩
abbrev main_while0b_call6_c_1 : Ref sig .tc := ⟨.hbm, 96, rfl⟩
abbrev main_while0b_call6_c_2 : Ref sig .tc := ⟨.hbm, 97, rfl⟩
abbrev main_while0b_v66 : Ref sig .tc := ⟨.hbm, 98, rfl⟩
abbrev main_while0b_c_12 : Ref sig .tc := ⟨.hbm, 99, rfl⟩
abbrev main_while0b_v67 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_cst_1 : Ref sig .tc := ⟨.hbm, 105, rfl⟩
abbrev main_v32 : Ref sig .tc := ⟨.hbm, 106, rfl⟩
abbrev main_v33 : Ref sig .tc := ⟨.hbm, 107, rfl⟩
abbrev main_cst_2 : Ref sig .tc := ⟨.hbm, 108, rfl⟩
abbrev main_v34 : Ref sig .tc := ⟨.hbm, 109, rfl⟩
abbrev main_v35 : Ref sig .tc := ⟨.hbm, 110, rfl⟩
abbrev main_cst_3 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_call7_v0 : Ref sig .tc := ⟨.hbm, 122, rfl⟩
abbrev main_call7_v1 : Ref sig .tc := ⟨.hbm, 123, rfl⟩
abbrev main_call7_cst : Ref sig .tc := ⟨.hbm, 124, rfl⟩
abbrev main_call7_v2 : Ref sig .tc := ⟨.hbm, 125, rfl⟩
abbrev main_call7_v3 : Ref sig .tc := ⟨.hbm, 126, rfl⟩
abbrev main_call7_cst_0 : Ref sig .tc := ⟨.hbm, 127, rfl⟩
abbrev main_call7_v4 : Ref sig .tc := ⟨.hbm, 128, rfl⟩
abbrev main_call7_v5 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x4096x1024 : Shape := ⟨3, ![8, 4096, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x4096x256 : Shape := ⟨3, ![8, 4096, 256]⟩
abbrev S256x1024 : Shape := ⟨2, ![256, 1024]⟩
abbrev S32768x1024 : Shape := ⟨2, ![32768, 1024]⟩
abbrev S1x1024 : Shape := ⟨2, ![1, 1024]⟩
abbrev S32768x256 : Shape := ⟨2, ![32768, 256]⟩
abbrev S1024x256 : Shape := ⟨2, ![1024, 256]⟩
abbrev S1024x1 : Shape := ⟨2, ![1024, 1]⟩

abbrev nBuf : Space → Nat
  | .hbm => 21
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8x4096x256, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S32768x1024, .f32⟩
  | .hbm, ⟨11, _⟩ => ⟨S32768x1024, .bf16⟩
  | .hbm, ⟨12, _⟩ => ⟨S1024x1024, .bf16⟩
  | .hbm, ⟨13, _⟩ => ⟨S1x1024, .f32⟩
  | .hbm, ⟨14, _⟩ => ⟨S1024x4096, .bf16⟩
  | .hbm, ⟨15, _⟩ => ⟨S4096x1024, .bf16⟩
  | .hbm, ⟨16, _⟩ => ⟨S32768x256, .f32⟩
  | .hbm, ⟨17, _⟩ => ⟨S256x1024, .bf16⟩
  | .hbm, ⟨18, _⟩ => ⟨S1024x1024, .bf16⟩
  | .hbm, ⟨19, _⟩ => ⟨S1x1024, .f32⟩
  | .hbm, ⟨20, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1024x256, .f32⟩
  | .local _ .vmem, ⟨9, _⟩ => ⟨S1024x256, .f32⟩
  | .local _ .vmem, ⟨10, _⟩ => ⟨S256x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x4096x1024 : Shape := ⟨3, ![8, 4096, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x4096x256 : Shape := ⟨3, ![8, 4096, 256]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8x4096x256, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S8x4096x1, .f32⟩
  | .hbm, ⟨59, _⟩ => ⟨S8x4096x1024, .f32⟩
  | .hbm, ⟨60, _⟩ => ⟨S8x4096x1024, .f32⟩
  | .hbm, ⟨61, _⟩ => ⟨S1x1x1024, .f32⟩
  | .hbm, ⟨62, _⟩ => ⟨S8x4096x1024, .f32⟩
  | .hbm, ⟨63, _⟩ => ⟨S8x4096x1024, .f32⟩
  | .hbm, ⟨64, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x4096x256 : Shape := ⟨3, ![8, 4096, 256]⟩
abbrev S256x1024 : Shape := ⟨2, ![256, 1024]⟩
abbrev S32768x1024 : Shape := ⟨2, ![32768, 1024]⟩
abbrev S32768x512 : Shape := ⟨2, ![32768, 512]⟩
abbrev S1x1024 : Shape := ⟨2, ![1, 1024]⟩
abbrev S32768x256 : Shape := ⟨2, ![32768, 256]⟩
abbrev S1024x512 : Shape := ⟨2, ![1024, 512]⟩
abbrev S1024x256 : Shape := ⟨2, ![1024, 256]⟩
abbrev S1024x1 : Shape := ⟨2, ![1024, 1]⟩

abbrev nBuf : Space → Nat
  | .hbm => 21
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S8x4096x256, .f32⟩
  | .hbm, ⟨8, _⟩ => ⟨S256x1024, .f32⟩
  | .hbm, ⟨9, _⟩ => ⟨S1024x1024, .f32⟩
  | .hbm, ⟨10, _⟩ => ⟨S32768x1024, .f32⟩
  | .hbm, ⟨11, _⟩ => ⟨S32768x512, .bf16⟩
  | .hbm, ⟨12, _⟩ => ⟨S32768x512, .bf16⟩
  | .hbm, ⟨13, _⟩ => ⟨S1024x1024, .bf16⟩
  | .hbm, ⟨14, _⟩ => ⟨S1x1024, .f32⟩
  | .hbm, ⟨15, _⟩ => ⟨S1024x4096, .bf16⟩
  | .hbm, ⟨16, _⟩ => ⟨S4096x1024, .bf16⟩
  | .hbm, ⟨17, _⟩ => ⟨S32768x256, .f32⟩
  | .hbm, ⟨18, _⟩ => ⟨S256x1024, .bf16⟩
  | .hbm, ⟨19, _⟩ => ⟨S1024x1024, .bf16⟩
  | .hbm, ⟨20, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1024x256, .f32⟩
  | .local _ .vmem, ⟨11, _⟩ => ⟨S1024x256, .f32⟩
  | .local _ .vmem, ⟨12, _⟩ => ⟨S256x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x4096x256 : Shape := ⟨3, ![8, 4096, 256]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S8x4096x256, .f32⟩
  | .hbm, ⟨8, _⟩ => ⟨S256x1024, .f32⟩
  | .hbm, ⟨9, _⟩ => ⟨S1024x1024, .f32⟩
  | .hbm, ⟨10, _⟩ => ⟨S8x4096x1024, .bf16⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S8x4096x4096, .f32⟩
  | .hbm, ⟨31, _⟩ => ⟨S_, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096x1024, .f32⟩
  | .hbm, ⟨43, _⟩ => ⟨S8x4096x1024, .f32⟩
  | .hbm, ⟨44, _⟩ => ⟨S_, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_cst : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x4096x256 : Shape := ⟨3, ![8, 4096, 256]⟩
abbrev S256x1024 : Shape := ⟨2, ![256, 1024]⟩
abbrev S32768x1024 : Shape := ⟨2, ![32768, 1024]⟩
abbrev S1x1024 : Shape := ⟨2, ![1, 1024]⟩
abbrev S32768x256 : Shape := ⟨2, ![32768, 256]⟩
abbrev S1024x256 : Shape := ⟨2, ![1024, 256]⟩
abbrev S1024x1 : Shape := ⟨2, ![1024, 1]⟩

abbrev nBuf : Space → Nat
  | .hbm => 19
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8x4096x256, .f32⟩
  | .hbm, ⟨7, _⟩ => ⟨S256x1024, .f32⟩
  | .hbm, ⟨8, _⟩ => ⟨S1024x1024, .f32⟩
  | .hbm, ⟨9, _⟩ => ⟨S32768x1024, .f32⟩
  | .hbm, ⟨10, _⟩ => ⟨S32768x1024, .bf16⟩
  | .hbm, ⟨11, _⟩ => ⟨S1024x1024, .bf16⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S32768x256, .f32⟩
  | .hbm, ⟨16, _⟩ => ⟨S256x1024, .bf16⟩
  | .hbm, ⟨17, _⟩ => ⟨S1024x1024, .bf16⟩
  | .hbm, ⟨18, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1024x256, .f32⟩
  | .local _ .vmem, ⟨9, _⟩ => ⟨S1024x256, .f32⟩
  | .local _ .vmem, ⟨10, _⟩ => ⟨S256x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8x4096x1024 : Shape := ⟨3, ![8, 4096, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x4096x256 : Shape := ⟨3, ![8, 4096, 256]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8x4096x256, .f32⟩
  | .hbm, ⟨7, _⟩ => ⟨S256x1024, .f32⟩
  | .hbm, ⟨8, _⟩ => ⟨S1024x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel5.lean ====
abbrev S8x1024x4096 : Shape := ⟨3, ![8, 1024, 4096]⟩
abbrev S8x4096x1024 : Shape := ⟨3, ![8, 4096, 1024]⟩
abbrev S8x128x4096 : Shape := ⟨3, ![8, 128, 4096]⟩
abbrev S8x4096x128 : Shape := ⟨3, ![8, 4096, 128]⟩
abbrev S1x256x4096 : Shape := ⟨3, ![1, 256, 4096]⟩
abbrev S1x4096x256 : Shape := ⟨3, ![1, 4096, 256]⟩
abbrev S1x128x4096 : Shape := ⟨3, ![1, 128, 4096]⟩
abbrev S1x4096x128 : Shape := ⟨3, ![1, 4096, 128]⟩
abbrev S2x3x512x512 : Shape := ⟨4, ![2, 3, 512, 512]⟩
abbrev S2x3x1x512 : Shape := ⟨4, ![2, 3, 1, 512]⟩
abbrev S2x1x512 : Shape := ⟨3, ![2, 1, 512]⟩
abbrev S2x144x512 : Shape := ⟨3, ![2, 144, 512]⟩
abbrev S4096x256 : Shape := ⟨2, ![4096, 256]⟩
abbrev S4096x128 : Shape := ⟨2, ![4096, 128]⟩
abbrev S16x512 : Shape := ⟨2, ![16, 512]⟩
abbrev S1x128x512 : Shape := ⟨3, ![1, 128, 512]⟩
abbrev S128x512 : Shape := ⟨2, ![128, 512]⟩
abbrev S256x512 : Shape := ⟨2, ![256, 512]⟩
abbrev S256x256 : Shape := ⟨2, ![256, 256]⟩
abbrev S1x256x128 : Shape := ⟨3, ![1, 256, 128]⟩
abbrev S256x128 : Shape := ⟨2, ![256, 128]⟩
abbrev S1x1x256x512 : Shape := ⟨4, ![1, 1, 256, 512]⟩
abbrev S1x1x256x256 : Shape := ⟨4, ![1, 1, 256, 256]⟩
abbrev S512 : Shape := ⟨1, ![512]⟩
abbrev S1x512 : Shape := ⟨2, ![1, 512]⟩
abbrev S1x256 : Shape := ⟨2, ![1, 256]⟩
abbrev S256 : Shape := ⟨1, ![256]⟩
abbrev S1x1x1x512 : Shape := ⟨4, ![1, 1, 1, 512]⟩
abbrev S1x512x128 : Shape := ⟨3, ![1, 512, 128]⟩
abbrev S512x128 : Shape := ⟨2, ![512, 128]⟩
abbrev S512x256 : Shape := ⟨2, ![512, 256]⟩
abbrev S512x512 : Shape := ⟨2, ![512, 512]⟩
abbrev S1x1x512x512 : Shape := ⟨4, ![1, 1, 512, 512]⟩
abbrev S144x512 : Shape := ⟨2, ![144, 512]⟩
abbrev S1x1x512 : Shape := ⟨3, ![1, 1, 512]⟩
abbrev S1x144x512 : Shape := ⟨3, ![1, 144, 512]⟩
abbrev S144x256 : Shape := ⟨2, ![144, 256]⟩
abbrev S1x144x256 : Shape := ⟨3, ![1, 144, 256]⟩

abbrev nBuf : Space → Nat
  | .hbm => 7
  | .vmem => 19
  | .smem => 0
  | _ => 0

abbrev bufTy : (tb : Table) → Fin (tcTables nBuf tb) → BufTy
  | .hbm, ⟨0, _⟩ => ⟨S8x1024x4096, .bf16⟩
  | .hbm, ⟨1, _⟩ => ⟨S8x4096x1024, .bf16⟩
  | .hbm, ⟨2, _⟩ => ⟨S8x1024x4096, .bf16⟩
  | .hbm, ⟨3, _⟩ => ⟨S8x4096x1024, .bf16⟩
  | .hbm, ⟨4, _⟩ => ⟨S8x128x4096, .bf16⟩
  | .hbm, ⟨5, _⟩ => ⟨S8x4096x128, .bf16⟩
  | .hbm, ⟨6, _⟩ => ⟨S8x4096x1024, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x256x4096, .bf16⟩
  | .local _ .vmem, ⟨5, _⟩ => ⟨S1x256x4096, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x128x4096, .bf16⟩
  | .local _ .vmem, ⟨9, _⟩ => ⟨S1x128x4096, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x4096x256, .bf16⟩
  | .local _ .vmem, ⟨13, _⟩ => ⟨S1x4096x256, .bf16⟩
  | .local _ .vmem, ⟨14, _⟩ => ⟨S2x3x512x512, .f32⟩
  | .local _ .vmem, ⟨15, _⟩ => ⟨S2x3x1x512, .f32⟩
  | .local _ .vmem, ⟨16, _⟩ => ⟨S2x1x512, .f32⟩
  | .local _ .vmem, ⟨17, _⟩ => ⟨S2x144x512, .f32⟩
  | .local _ .vmem, ⟨18, _⟩ => ⟨S4096x256, .bf16⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_mult1 : BitVec 32 :=
  let c0_i32_14 : BitVec 32 := 0#32
  c0_i32_14
def k0_mult2 : BitVec 32 :=
  let c0_i32_17 : BitVec 32 := 0#32
  c0_i32_17
def k0_mult3 : BitVec 32 :=
  let c0_i32_20 : BitVec 32 := 0#32
  c0_i32_20
def k0_mult4 : BitVec 32 :=
  let c0_i32_20 : BitVec 32 := 0#32
  let v55 : BitVec 32 := c0_i32_20
  let c256_i32 : BitVec 32 := 256#32
  let v69 : BitVec 32 := Scalar.addi v55 c256_i32
  v69
def k0_off1 : Fin 3 → Nat :=
  let c0_26 : Index := 0#32
  let c0_i32_20 : BitVec 32 := 0#32
  let v55 : BitVec 32 := c0_i32_20
  let c256_i32 : BitVec 32 := 256#32
  let v69 : BitVec 32 := Scalar.addi v55 c256_i32
  let v70 : BitVec 32 := v69
  let v71 : Index := Scalar.indexCast v70
  let c0_27 : Index := 0#32
  ![0, v71.toNat, 0]
def k0_off2 : Fin 2 → Nat :=
  let c0_i32_20 : BitVec 32 := 0#32
  let v55 : BitVec 32 := c0_i32_20
  let c256_i32 : BitVec 32 := 256#32
  let v69 : BitVec 32 := Scalar.addi v55 c256_i32
  let v70 : BitVec 32 := v69
  let v74 : Index := Scalar.indexCast v70
  let c0_28 : Index := 0#32
  ![v74.toNat, 0]
def k0_mult5 : BitVec 32 :=
  let c0_i32_43 : BitVec 32 := 0#32
  c0_i32_43
def k0_mult6 : BitVec 32 :=
  let c0_i32_46 : BitVec 32 := 0#32
  c0_i32_46
def k0_mult7 : BitVec 32 :=
  let c0_i32_49 : BitVec 32 := 0#32
  c0_i32_49
def k0_mult8 : BitVec 32 :=
  let c0_i32_49 : BitVec 32 := 0#32
  let v109 : BitVec 32 := c0_i32_49
  let c256_i32_55 : BitVec 32 := 256#32
  let v123 : BitVec 32 := Scalar.addi v109 c256_i32_55
  v123
def k0_off3 : Fin 3 → Nat :=
  let c0_56 : Index := 0#32
  let c0_i32_49 : BitVec 32 := 0#32
  let v109 : BitVec 32 := c0_i32_49
  let c256_i32_55 : BitVec 32 := 256#32
  let v123 : BitVec 32 := Scalar.addi v109 c256_i32_55
  let v124 : BitVec 32 := v123
  let v125 : Index := Scalar.indexCast v124
  let c128_57 : Index := 128#32
  ![0, v125.toNat, 128]
def k0_off4 : Fin 2 → Nat :=
  let c0_i32_49 : BitVec 32 := 0#32
  let v109 : BitVec 32 := c0_i32_49
  let c256_i32_55 : BitVec 32 := 256#32
  let v123 : BitVec 32 := Scalar.addi v109 c256_i32_55
  let v124 : BitVec 32 := v123
  let v128 : Index := Scalar.indexCast v124
  let c128_58 : Index := 128#32
  ![v128.toNat, 128]
@[reducible] def k0_t1_loop : Scf.Loop 32 :=
  let c0_i32_74 : BitVec 32 := 0#32
  let c8_i32 : BitVec 32 := 8#32
  let v154 : BitVec 32 := Scalar.addi c0_i32_74 c8_i32
  let c1_i32_75 : BitVec 32 := 1#32
  ⟨c0_i32_74, v154, c1_i32_75⟩
def k0_mult9 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c512_i32 : BitVec 32 := 512#32
  let v155 : BitVec 32 := Scalar.muli arg14 c512_i32
  v155
def k0_off5 (k0_t1 : Fin k0_t1_loop.trips) : Fin 3 → Nat :=
  let c0_77 : Index := 0#32
  let c0_78 : Index := 0#32
  let c0_i32_74 : BitVec 32 := 0#32
  let c1_i32_75 : BitVec 32 := 1#32
  let arg14 : BitVec 32 := Scf.iv c0_i32_74 c1_i32_75 k0_t1
  let c512_i32 : BitVec 32 := 512#32
  let v155 : BitVec 32 := Scalar.muli arg14 c512_i32
  let v156 : BitVec 32 := v155
  let v157 : Index := Scalar.indexCast v156
  ![0, 0, v157.toNat]
def k0_mult10 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c512_i32_79 : BitVec 32 := 512#32
  let v160 : BitVec 32 := Scalar.muli arg14 c512_i32_79
  v160
def k0_off6 (k0_t1 : Fin k0_t1_loop.trips) : Fin 3 → Nat :=
  let c0_80 : Index := 0#32
  let c0_81 : Index := 0#32
  let c0_i32_74 : BitVec 32 := 0#32
  let c1_i32_75 : BitVec 32 := 1#32
  let arg14 : BitVec 32 := Scf.iv c0_i32_74 c1_i32_75 k0_t1
  let c512_i32_79 : BitVec 32 := 512#32
  let v160 : BitVec 32 := Scalar.muli arg14 c512_i32_79
  let v161 : BitVec 32 := v160
  let v162 : Index := Scalar.indexCast v161
  ![0, 0, v162.toNat]
def k0_mult11 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c512_i32_82 : BitVec 32 := 512#32
  let v166 : BitVec 32 := Scalar.muli arg14 c512_i32_82
  v166
def k0_off7 (k0_t1 : Fin k0_t1_loop.trips) : Fin 3 → Nat :=
  let c0_83 : Index := 0#32
  let c128_84 : Index := 128#32
  let c0_i32_74 : BitVec 32 := 0#32
  let c1_i32_75 : BitVec 32 := 1#32
  let arg14 : BitVec 32 := Scf.iv c0_i32_74 c1_i32_75 k0_t1
  let c512_i32_82 : BitVec 32 := 512#32
  let v166 : BitVec 32 := Scalar.muli arg14 c512_i32_82
  let v167 : BitVec 32 := v166
  let v168 : Index := Scalar.indexCast v167
  ![0, 128, v168.toNat]
def k0_mult12 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c512_i32_85 : BitVec 32 := 512#32
  let v171 : BitVec 32 := Scalar.muli arg14 c512_i32_85
  v171
@[reducible] def k0_t2_loop (k0_t1 : Fin k0_t1_loop.trips) : Scf.Loop 32 :=
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_108 : BitVec 32 := 1#32
  ⟨c0_i32_106, v208, c1_i32_108⟩
def k0_mult13 (k0_t1 : Fin k0_t1_loop.trips) (k0_t2 : Fin (k0_t2_loop k0_t1).trips) : BitVec 32 :=
  let c2_i32_132 : BitVec 32 := 2#32
  let c0_i32_106 : BitVec 32 := 0#32
  let c1_i32_108 : BitVec 32 := 1#32
  let arg15 : BitVec 32 := Scf.iv c0_i32_106 c1_i32_108 k0_t2
  let v243 : BitVec 32 := Scalar.muli c2_i32_132 arg15
  let c0_i32_133 : BitVec 32 := 0#32
  let v244 : BitVec 32 := Scalar.addi v243 c0_i32_133
  let c1_i32_134 : BitVec 32 := 1#32
  let v245 : BitVec 32 := Scalar.addi v244 c1_i32_134
  let c512_i32_135 : BitVec 32 := 512#32
  let v246 : BitVec 32 := Scalar.muli v245 c512_i32_135
  v246
def k0_off8 (k0_t1 : Fin k0_t1_loop.trips) (k0_t2 : Fin (k0_t2_loop k0_t1).trips) (c0_i32_133 : BitVec 32) : Fin 3 → Nat :=
  let c0_136 : Index := 0#32
  let c2_i32_132 : BitVec 32 := 2#32
  let c0_i32_106 : BitVec 32 := 0#32
  let c1_i32_108 : BitVec 32 := 1#32
  let arg15 : BitVec 32 := Scf.iv c0_i32_106 c1_i32_108 k0_t2
  let v243 : BitVec 32 := Scalar.muli c2_i32_132 arg15
  let v244 : BitVec 32 := Scalar.addi v243 c0_i32_133
  let c1_i32_134 : BitVec 32 := 1#32
  let v245 : BitVec 32 := Scalar.addi v244 c1_i32_134
  let c512_i32_135 : BitVec 32 := 512#32
  let v246 : BitVec 32 := Scalar.muli v245 c512_i32_135
  let v247 : BitVec 32 := v246
  let v248 : Index := Scalar.indexCast v247
  let c0_137 : Index := 0#32
  ![0, v248.toNat, 0]
def k0_off9 (k0_t1 : Fin k0_t1_loop.trips) (k0_t2 : Fin (k0_t2_loop k0_t1).trips) (c0_i32_133 : BitVec 32) : Fin 2 → Nat :=
  let c2_i32_132 : BitVec 32 := 2#32
  let c0_i32_106 : BitVec 32 := 0#32
  let c1_i32_108 : BitVec 32 := 1#32
  let arg15 : BitVec 32 := Scf.iv c0_i32_106 c1_i32_108 k0_t2
  let v243 : BitVec 32 := Scalar.muli c2_i32_132 arg15
  let v244 : BitVec 32 := Scalar.addi v243 c0_i32_133
  let c1_i32_134 : BitVec 32 := 1#32
  let v245 : BitVec 32 := Scalar.addi v244 c1_i32_134
  let c512_i32_135 : BitVec 32 := 512#32
  let v246 : BitVec 32 := Scalar.muli v245 c512_i32_135
  let v247 : BitVec 32 := v246
  let v251 : Index := Scalar.indexCast v247
  let c0_138 : Index := 0#32
  ![v251.toNat, 0]
def k0_mult14 (k0_t1 : Fin k0_t1_loop.trips) (k0_t2 : Fin (k0_t2_loop k0_t1).trips) : BitVec 32 :=
  let c2_i32_149 : BitVec 32 := 2#32
  let c0_i32_106 : BitVec 32 := 0#32
  let c1_i32_108 : BitVec 32 := 1#32
  let arg15 : BitVec 32 := Scf.iv c0_i32_106 c1_i32_108 k0_t2
  let v263 : BitVec 32 := Scalar.muli c2_i32_149 arg15
  let c0_i32_150 : BitVec 32 := 0#32
  let v264 : BitVec 32 := Scalar.addi v263 c0_i32_150
  let c512_i32_151 : BitVec 32 := 512#32
  let v265 : BitVec 32 := Scalar.muli v264 c512_i32_151
  v265
def k0_off10 (k0_t1 : Fin k0_t1_loop.trips) (k0_t2 : Fin (k0_t2_loop k0_t1).trips) (c0_i32_150 : BitVec 32) : Fin 3 → Nat :=
  let c0_152 : Index := 0#32
  let c0_153 : Index := 0#32
  let c2_i32_149 : BitVec 32 := 2#32
  let c0_i32_106 : BitVec 32 := 0#32
  let c1_i32_108 : BitVec 32 := 1#32
  let arg15 : BitVec 32 := Scf.iv c0_i32_106 c1_i32_108 k0_t2
  let v263 : BitVec 32 := Scalar.muli c2_i32_149 arg15
  let v264 : BitVec 32 := Scalar.addi v263 c0_i32_150
  let c512_i32_151 : BitVec 32 := 512#32
  let v265 : BitVec 32 := Scalar.muli v264 c512_i32_151
  let v266 : BitVec 32 := v265
  let v267 : Index := Scalar.indexCast v266
  ![0, 0, v267.toNat]
def k0_mult15 (k0_t1 : Fin k0_t1_loop.trips) (k0_t2 : Fin (k0_t2_loop k0_t1).trips) : BitVec 32 :=
  let c2_i32_175 : BitVec 32 := 2#32
  let c0_i32_106 : BitVec 32 := 0#32
  let c1_i32_108 : BitVec 32 := 1#32
  let arg15 : BitVec 32 := Scf.iv c0_i32_106 c1_i32_108 k0_t2
  let v296 : BitVec 32 := Scalar.muli c2_i32_175 arg15
  let c0_i32_176 : BitVec 32 := 0#32
  let v297 : BitVec 32 := Scalar.addi v296 c0_i32_176
  let c1_i32_177 : BitVec 32 := 1#32
  let v298 : BitVec 32 := Scalar.addi v297 c1_i32_177
  let c512_i32_178 : BitVec 32 := 512#32
  let v299 : BitVec 32 := Scalar.muli v298 c512_i32_178
  v299
def k0_off11 (k0_t1 : Fin k0_t1_loop.trips) (k0_t2 : Fin (k0_t2_loop k0_t1).trips) (c0_i32_176 : BitVec 32) : Fin 3 → Nat :=
  let c0_179 : Index := 0#32
  let c2_i32_175 : BitVec 32 := 2#32
  let c0_i32_106 : BitVec 32 := 0#32
  let c1_i32_108 : BitVec 32 := 1#32
  let arg15 : BitVec 32 := Scf.iv c0_i32_106 c1_i32_108 k0_t2
  let v296 : BitVec 32 := Scalar.muli c2_i32_175 arg15
  let v297 : BitVec 32 := Scalar.addi v296 c0_i32_176
  let c1_i32_177 : BitVec 32 := 1#32
  let v298 : BitVec 32 := Scalar.addi v297 c1_i32_177
  let c512_i32_178 : BitVec 32 := 512#32
  let v299 : BitVec 32 := Scalar.muli v298 c512_i32_178
  let v300 : BitVec 32 := v299
  let v301 : Index := Scalar.indexCast v300
  let c128_180 : Index := 128#32
  ![0, v301.toNat, 128]
def k0_off12 (k0_t1 : Fin k0_t1_loop.trips) (k0_t2 : Fin (k0_t2_loop k0_t1).trips) (c0_i32_176 : BitVec 32) : Fin 2 → Nat :=
  let c2_i32_175 : BitVec 32 := 2#32
  let c0_i32_106 : BitVec 32 := 0#32
  let c1_i32_108 : BitVec 32 := 1#32
  let arg15 : BitVec 32 := Scf.iv c0_i32_106 c1_i32_108 k0_t2
  let v296 : BitVec 32 := Scalar.muli c2_i32_175 arg15
  let v297 : BitVec 32 := Scalar.addi v296 c0_i32_176
  let c1_i32_177 : BitVec 32 := 1#32
  let v298 : BitVec 32 := Scalar.addi v297 c1_i32_177
  let c512_i32_178 : BitVec 32 := 512#32
  let v299 : BitVec 32 := Scalar.muli v298 c512_i32_178
  let v300 : BitVec 32 := v299
  let v304 : Index := Scalar.indexCast v300
  let c128_181 : Index := 128#32
  ![v304.toNat, 128]
def k0_mult16 (k0_t1 : Fin k0_t1_loop.trips) (k0_t2 : Fin (k0_t2_loop k0_t1).trips) : BitVec 32 :=
  let c2_i32_192 : BitVec 32 := 2#32
  let c0_i32_106 : BitVec 32 := 0#32
  let c1_i32_108 : BitVec 32 := 1#32
  let arg15 : BitVec 32 := Scf.iv c0_i32_106 c1_i32_108 k0_t2
  let v316 : BitVec 32 := Scalar.muli c2_i32_192 arg15
  let c0_i32_193 : BitVec 32 := 0#32
  let v317 : BitVec 32 := Scalar.addi v316 c0_i32_193
  let c512_i32_194 : BitVec 32 := 512#32
  let v318 : BitVec 32 := Scalar.muli v317 c512_i32_194
  v318
def k0_off13 (k0_t1 : Fin k0_t1_loop.trips) (k0_t2 : Fin (k0_t2_loop k0_t1).trips) (c0_i32_193 : BitVec 32) : Fin 3 → Nat :=
  let c0_195 : Index := 0#32
  let c128_196 : Index := 128#32
  let c2_i32_192 : BitVec 32 := 2#32
  let c0_i32_106 : BitVec 32 := 0#32
  let c1_i32_108 : BitVec 32 := 1#32
  let arg15 : BitVec 32 := Scf.iv c0_i32_106 c1_i32_108 k0_t2
  let v316 : BitVec 32 := Scalar.muli c2_i32_192 arg15
  let v317 : BitVec 32 := Scalar.addi v316 c0_i32_193
  let c512_i32_194 : BitVec 32 := 512#32
  let v318 : BitVec 32 := Scalar.muli v317 c512_i32_194
  let v319 : BitVec 32 := v318
  let v320 : Index := Scalar.indexCast v319
  ![0, 128, v320.toNat]
def k0_mult17 (k0_t1 : Fin k0_t1_loop.trips) (k0_t2 : Fin (k0_t2_loop k0_t1).trips) : BitVec 32 :=
  let c2_i32_218 : BitVec 32 := 2#32
  let c0_i32_106 : BitVec 32 := 0#32
  let c1_i32_108 : BitVec 32 := 1#32
  let arg15 : BitVec 32 := Scf.iv c0_i32_106 c1_i32_108 k0_t2
  let v349 : BitVec 32 := Scalar.muli c2_i32_218 arg15
  let c1_i32_219 : BitVec 32 := 1#32
  let v350 : BitVec 32 := Scalar.addi v349 c1_i32_219
  let c1_i32_220 : BitVec 32 := 1#32
  let v351 : BitVec 32 := Scalar.addi v350 c1_i32_220
  let c512_i32_221 : BitVec 32 := 512#32
  let v352 : BitVec 32 := Scalar.muli v351 c512_i32_221
  v352
def k0_mult18 (k0_t1 : Fin k0_t1_loop.trips) (k0_t2 : Fin (k0_t2_loop k0_t1).trips) : BitVec 32 :=
  let c2_i32_235 : BitVec 32 := 2#32
  let c0_i32_106 : BitVec 32 := 0#32
  let c1_i32_108 : BitVec 32 := 1#32
  let arg15 : BitVec 32 := Scf.iv c0_i32_106 c1_i32_108 k0_t2
  let v369 : BitVec 32 := Scalar.muli c2_i32_235 arg15
  let c1_i32_236 : BitVec 32 := 1#32
  let v370 : BitVec 32 := Scalar.addi v369 c1_i32_236
  let c512_i32_237 : BitVec 32 := 512#32
  let v371 : BitVec 32 := Scalar.muli v370 c512_i32_237
  v371
def k0_mult19 (k0_t1 : Fin k0_t1_loop.trips) (k0_t2 : Fin (k0_t2_loop k0_t1).trips) : BitVec 32 :=
  let c2_i32_261 : BitVec 32 := 2#32
  let c0_i32_106 : BitVec 32 := 0#32
  let c1_i32_108 : BitVec 32 := 1#32
  let arg15 : BitVec 32 := Scf.iv c0_i32_106 c1_i32_108 k0_t2
  let v402 : BitVec 32 := Scalar.muli c2_i32_261 arg15
  let c1_i32_262 : BitVec 32 := 1#32
  let v403 : BitVec 32 := Scalar.addi v402 c1_i32_262
  let c1_i32_263 : BitVec 32 := 1#32
  let v404 : BitVec 32 := Scalar.addi v403 c1_i32_263
  let c512_i32_264 : BitVec 32 := 512#32
  let v405 : BitVec 32 := Scalar.muli v404 c512_i32_264
  v405
def k0_mult20 (k0_t1 : Fin k0_t1_loop.trips) (k0_t2 : Fin (k0_t2_loop k0_t1).trips) : BitVec 32 :=
  let c2_i32_278 : BitVec 32 := 2#32
  let c0_i32_106 : BitVec 32 := 0#32
  let c1_i32_108 : BitVec 32 := 1#32
  let arg15 : BitVec 32 := Scf.iv c0_i32_106 c1_i32_108 k0_t2
  let v422 : BitVec 32 := Scalar.muli c2_i32_278 arg15
  let c1_i32_279 : BitVec 32 := 1#32
  let v423 : BitVec 32 := Scalar.addi v422 c1_i32_279
  let c512_i32_280 : BitVec 32 := 512#32
  let v424 : BitVec 32 := Scalar.muli v423 c512_i32_280
  v424
@[reducible] def k0_t3_loop (k0_t1 : Fin k0_t1_loop.trips) : Scf.Loop 32 :=
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let v205 : BitVec 32 := Scalar.addi c0_i32_106 v204
  let c1_i32_109 : BitVec 32 := 1#32
  ⟨v208, v205, c1_i32_109⟩
def k0_mult21 (k0_t1 : Fin k0_t1_loop.trips) (k0_t3 : Fin (k0_t3_loop k0_t1).trips) : BitVec 32 :=
  let c2_i32_132 : BitVec 32 := 2#32
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_109 : BitVec 32 := 1#32
  let arg15 : BitVec 32 := Scf.iv v208 c1_i32_109 k0_t3
  let v243 : BitVec 32 := Scalar.muli c2_i32_132 arg15
  let c0_i32_133 : BitVec 32 := 0#32
  let v244 : BitVec 32 := Scalar.addi v243 c0_i32_133
  let c1_i32_134 : BitVec 32 := 1#32
  let v245 : BitVec 32 := Scalar.addi v244 c1_i32_134
  let c512_i32_135 : BitVec 32 := 512#32
  let v246 : BitVec 32 := Scalar.muli v245 c512_i32_135
  v246
def k0_off14 (k0_t1 : Fin k0_t1_loop.trips) (k0_t3 : Fin (k0_t3_loop k0_t1).trips) (c0_i32_133 : BitVec 32) : Fin 3 → Nat :=
  let c0_136 : Index := 0#32
  let c2_i32_132 : BitVec 32 := 2#32
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_109 : BitVec 32 := 1#32
  let arg15 : BitVec 32 := Scf.iv v208 c1_i32_109 k0_t3
  let v243 : BitVec 32 := Scalar.muli c2_i32_132 arg15
  let v244 : BitVec 32 := Scalar.addi v243 c0_i32_133
  let c1_i32_134 : BitVec 32 := 1#32
  let v245 : BitVec 32 := Scalar.addi v244 c1_i32_134
  let c512_i32_135 : BitVec 32 := 512#32
  let v246 : BitVec 32 := Scalar.muli v245 c512_i32_135
  let v247 : BitVec 32 := v246
  let v248 : Index := Scalar.indexCast v247
  let c0_137 : Index := 0#32
  ![0, v248.toNat, 0]
def k0_off15 (k0_t1 : Fin k0_t1_loop.trips) (k0_t3 : Fin (k0_t3_loop k0_t1).trips) (c0_i32_133 : BitVec 32) : Fin 2 → Nat :=
  let c2_i32_132 : BitVec 32 := 2#32
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_109 : BitVec 32 := 1#32
  let arg15 : BitVec 32 := Scf.iv v208 c1_i32_109 k0_t3
  let v243 : BitVec 32 := Scalar.muli c2_i32_132 arg15
  let v244 : BitVec 32 := Scalar.addi v243 c0_i32_133
  let c1_i32_134 : BitVec 32 := 1#32
  let v245 : BitVec 32 := Scalar.addi v244 c1_i32_134
  let c512_i32_135 : BitVec 32 := 512#32
  let v246 : BitVec 32 := Scalar.muli v245 c512_i32_135
  let v247 : BitVec 32 := v246
  let v251 : Index := Scalar.indexCast v247
  let c0_138 : Index := 0#32
  ![v251.toNat, 0]
def k0_mult22 (k0_t1 : Fin k0_t1_loop.trips) (k0_t3 : Fin (k0_t3_loop k0_t1).trips) : BitVec 32 :=
  let c2_i32_149 : BitVec 32 := 2#32
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_109 : BitVec 32 := 1#32
  let arg15 : BitVec 32 := Scf.iv v208 c1_i32_109 k0_t3
  let v263 : BitVec 32 := Scalar.muli c2_i32_149 arg15
  let c0_i32_150 : BitVec 32 := 0#32
  let v264 : BitVec 32 := Scalar.addi v263 c0_i32_150
  let c512_i32_151 : BitVec 32 := 512#32
  let v265 : BitVec 32 := Scalar.muli v264 c512_i32_151
  v265
def k0_off16 (k0_t1 : Fin k0_t1_loop.trips) (k0_t3 : Fin (k0_t3_loop k0_t1).trips) (c0_i32_150 : BitVec 32) : Fin 3 → Nat :=
  let c0_152 : Index := 0#32
  let c0_153 : Index := 0#32
  let c2_i32_149 : BitVec 32 := 2#32
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_109 : BitVec 32 := 1#32
  let arg15 : BitVec 32 := Scf.iv v208 c1_i32_109 k0_t3
  let v263 : BitVec 32 := Scalar.muli c2_i32_149 arg15
  let v264 : BitVec 32 := Scalar.addi v263 c0_i32_150
  let c512_i32_151 : BitVec 32 := 512#32
  let v265 : BitVec 32 := Scalar.muli v264 c512_i32_151
  let v266 : BitVec 32 := v265
  let v267 : Index := Scalar.indexCast v266
  ![0, 0, v267.toNat]
def k0_mult23 (k0_t1 : Fin k0_t1_loop.trips) (k0_t3 : Fin (k0_t3_loop k0_t1).trips) : BitVec 32 :=
  let c2_i32_175 : BitVec 32 := 2#32
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_109 : BitVec 32 := 1#32
  let arg15 : BitVec 32 := Scf.iv v208 c1_i32_109 k0_t3
  let v296 : BitVec 32 := Scalar.muli c2_i32_175 arg15
  let c0_i32_176 : BitVec 32 := 0#32
  let v297 : BitVec 32 := Scalar.addi v296 c0_i32_176
  let c1_i32_177 : BitVec 32 := 1#32
  let v298 : BitVec 32 := Scalar.addi v297 c1_i32_177
  let c512_i32_178 : BitVec 32 := 512#32
  let v299 : BitVec 32 := Scalar.muli v298 c512_i32_178
  v299
def k0_off17 (k0_t1 : Fin k0_t1_loop.trips) (k0_t3 : Fin (k0_t3_loop k0_t1).trips) (c0_i32_176 : BitVec 32) : Fin 3 → Nat :=
  let c0_179 : Index := 0#32
  let c2_i32_175 : BitVec 32 := 2#32
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_109 : BitVec 32 := 1#32
  let arg15 : BitVec 32 := Scf.iv v208 c1_i32_109 k0_t3
  let v296 : BitVec 32 := Scalar.muli c2_i32_175 arg15
  let v297 : BitVec 32 := Scalar.addi v296 c0_i32_176
  let c1_i32_177 : BitVec 32 := 1#32
  let v298 : BitVec 32 := Scalar.addi v297 c1_i32_177
  let c512_i32_178 : BitVec 32 := 512#32
  let v299 : BitVec 32 := Scalar.muli v298 c512_i32_178
  let v300 : BitVec 32 := v299
  let v301 : Index := Scalar.indexCast v300
  let c128_180 : Index := 128#32
  ![0, v301.toNat, 128]
def k0_off18 (k0_t1 : Fin k0_t1_loop.trips) (k0_t3 : Fin (k0_t3_loop k0_t1).trips) (c0_i32_176 : BitVec 32) : Fin 2 → Nat :=
  let c2_i32_175 : BitVec 32 := 2#32
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_109 : BitVec 32 := 1#32
  let arg15 : BitVec 32 := Scf.iv v208 c1_i32_109 k0_t3
  let v296 : BitVec 32 := Scalar.muli c2_i32_175 arg15
  let v297 : BitVec 32 := Scalar.addi v296 c0_i32_176
  let c1_i32_177 : BitVec 32 := 1#32
  let v298 : BitVec 32 := Scalar.addi v297 c1_i32_177
  let c512_i32_178 : BitVec 32 := 512#32
  let v299 : BitVec 32 := Scalar.muli v298 c512_i32_178
  let v300 : BitVec 32 := v299
  let v304 : Index := Scalar.indexCast v300
  let c128_181 : Index := 128#32
  ![v304.toNat, 128]
def k0_mult24 (k0_t1 : Fin k0_t1_loop.trips) (k0_t3 : Fin (k0_t3_loop k0_t1).trips) : BitVec 32 :=
  let c2_i32_192 : BitVec 32 := 2#32
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_109 : BitVec 32 := 1#32
  let arg15 : BitVec 32 := Scf.iv v208 c1_i32_109 k0_t3
  let v316 : BitVec 32 := Scalar.muli c2_i32_192 arg15
  let c0_i32_193 : BitVec 32 := 0#32
  let v317 : BitVec 32 := Scalar.addi v316 c0_i32_193
  let c512_i32_194 : BitVec 32 := 512#32
  let v318 : BitVec 32 := Scalar.muli v317 c512_i32_194
  v318
def k0_off19 (k0_t1 : Fin k0_t1_loop.trips) (k0_t3 : Fin (k0_t3_loop k0_t1).trips) (c0_i32_193 : BitVec 32) : Fin 3 → Nat :=
  let c0_195 : Index := 0#32
  let c128_196 : Index := 128#32
  let c2_i32_192 : BitVec 32 := 2#32
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_109 : BitVec 32 := 1#32
  let arg15 : BitVec 32 := Scf.iv v208 c1_i32_109 k0_t3
  let v316 : BitVec 32 := Scalar.muli c2_i32_192 arg15
  let v317 : BitVec 32 := Scalar.addi v316 c0_i32_193
  let c512_i32_194 : BitVec 32 := 512#32
  let v318 : BitVec 32 := Scalar.muli v317 c512_i32_194
  let v319 : BitVec 32 := v318
  let v320 : Index := Scalar.indexCast v319
  ![0, 128, v320.toNat]
def k0_mult25 (k0_t1 : Fin k0_t1_loop.trips) (k0_t3 : Fin (k0_t3_loop k0_t1).trips) : BitVec 32 :=
  let c2_i32_218 : BitVec 32 := 2#32
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_109 : BitVec 32 := 1#32
  let arg15 : BitVec 32 := Scf.iv v208 c1_i32_109 k0_t3
  let v349 : BitVec 32 := Scalar.muli c2_i32_218 arg15
  let c1_i32_219 : BitVec 32 := 1#32
  let v350 : BitVec 32 := Scalar.addi v349 c1_i32_219
  let c1_i32_220 : BitVec 32 := 1#32
  let v351 : BitVec 32 := Scalar.addi v350 c1_i32_220
  let c512_i32_221 : BitVec 32 := 512#32
  let v352 : BitVec 32 := Scalar.muli v351 c512_i32_221
  v352
def k0_mult26 (k0_t1 : Fin k0_t1_loop.trips) (k0_t3 : Fin (k0_t3_loop k0_t1).trips) : BitVec 32 :=
  let c2_i32_235 : BitVec 32 := 2#32
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_109 : BitVec 32 := 1#32
  let arg15 : BitVec 32 := Scf.iv v208 c1_i32_109 k0_t3
  let v369 : BitVec 32 := Scalar.muli c2_i32_235 arg15
  let c1_i32_236 : BitVec 32 := 1#32
  let v370 : BitVec 32 := Scalar.addi v369 c1_i32_236
  let c512_i32_237 : BitVec 32 := 512#32
  let v371 : BitVec 32 := Scalar.muli v370 c512_i32_237
  v371
def k0_mult27 (k0_t1 : Fin k0_t1_loop.trips) (k0_t3 : Fin (k0_t3_loop k0_t1).trips) : BitVec 32 :=
  let c2_i32_261 : BitVec 32 := 2#32
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_109 : BitVec 32 := 1#32
  let arg15 : BitVec 32 := Scf.iv v208 c1_i32_109 k0_t3
  let v402 : BitVec 32 := Scalar.muli c2_i32_261 arg15
  let c1_i32_262 : BitVec 32 := 1#32
  let v403 : BitVec 32 := Scalar.addi v402 c1_i32_262
  let c1_i32_263 : BitVec 32 := 1#32
  let v404 : BitVec 32 := Scalar.addi v403 c1_i32_263
  let c512_i32_264 : BitVec 32 := 512#32
  let v405 : BitVec 32 := Scalar.muli v404 c512_i32_264
  v405
def k0_mult28 (k0_t1 : Fin k0_t1_loop.trips) (k0_t3 : Fin (k0_t3_loop k0_t1).trips) : BitVec 32 :=
  let c2_i32_278 : BitVec 32 := 2#32
  let c0_i32_106 : BitVec 32 := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v204 : BitVec 32 := Scalar.subi v203 c0_i32_106
  let c1_i32_107 : BitVec 32 := 1#32
  let v206 : BitVec 32 := Scalar.divsi v204 c1_i32_107
  let v207 : BitVec 32 := Scalar.muli v206 c1_i32_107
  let v208 : BitVec 32 := Scalar.addi c0_i32_106 v207
  let c1_i32_109 : BitVec 32 := 1#32
  let arg15 : BitVec 32 := Scf.iv v208 c1_i32_109 k0_t3
  let v422 : BitVec 32 := Scalar.muli c2_i32_278 arg15
  let c1_i32_279 : BitVec 32 := 1#32
  let v423 : BitVec 32 := Scalar.addi v422 c1_i32_279
  let c512_i32_280 : BitVec 32 := 512#32
  let v424 : BitVec 32 := Scalar.muli v423 c512_i32_280
  v424
@[reducible] def k0_t4_loop (k0_t1 : Fin k0_t1_loop.trips) : Scf.Loop 32 :=
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let v210 : BitVec 32 := Scalar.subi v186 v209
  let c1_i32_112 : BitVec 32 := 1#32
  let v212 : BitVec 32 := Scalar.divsi v210 c1_i32_112
  let v213 : BitVec 32 := Scalar.muli v212 c1_i32_112
  let v214 : BitVec 32 := Scalar.addi v209 v213
  let c1_i32_113 : BitVec 32 := 1#32
  ⟨v209, v214, c1_i32_113⟩
def k0_mult29 (k0_t1 : Fin k0_t1_loop.trips) (k0_t4 : Fin (k0_t4_loop k0_t1).trips) : BitVec 32 :=
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let c1_i32_113 : BitVec 32 := 1#32
  let arg15 : BitVec 32 := Scf.iv v209 c1_i32_113 k0_t4
  let c1_i32_132 : BitVec 32 := 1#32
  let v243 : BitVec 32 := Scalar.addi arg15 c1_i32_132
  let c512_i32_133 : BitVec 32 := 512#32
  let v244 : BitVec 32 := Scalar.muli v243 c512_i32_133
  v244
def k0_off20 (k0_t1 : Fin k0_t1_loop.trips) (k0_t4 : Fin (k0_t4_loop k0_t1).trips) : Fin 3 → Nat :=
  let c0_134 : Index := 0#32
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let c1_i32_113 : BitVec 32 := 1#32
  let arg15 : BitVec 32 := Scf.iv v209 c1_i32_113 k0_t4
  let c1_i32_132 : BitVec 32 := 1#32
  let v243 : BitVec 32 := Scalar.addi arg15 c1_i32_132
  let c512_i32_133 : BitVec 32 := 512#32
  let v244 : BitVec 32 := Scalar.muli v243 c512_i32_133
  let v245 : BitVec 32 := v244
  let v246 : Index := Scalar.indexCast v245
  let c0_135 : Index := 0#32
  ![0, v246.toNat, 0]
def k0_off21 (k0_t1 : Fin k0_t1_loop.trips) (k0_t4 : Fin (k0_t4_loop k0_t1).trips) : Fin 2 → Nat :=
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let c1_i32_113 : BitVec 32 := 1#32
  let arg15 : BitVec 32 := Scf.iv v209 c1_i32_113 k0_t4
  let c1_i32_132 : BitVec 32 := 1#32
  let v243 : BitVec 32 := Scalar.addi arg15 c1_i32_132
  let c512_i32_133 : BitVec 32 := 512#32
  let v244 : BitVec 32 := Scalar.muli v243 c512_i32_133
  let v245 : BitVec 32 := v244
  let v249 : Index := Scalar.indexCast v245
  let c0_136 : Index := 0#32
  ![v249.toNat, 0]
def k0_mult30 (k0_t1 : Fin k0_t1_loop.trips) (k0_t4 : Fin (k0_t4_loop k0_t1).trips) : BitVec 32 :=
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let c1_i32_113 : BitVec 32 := 1#32
  let arg15 : BitVec 32 := Scf.iv v209 c1_i32_113 k0_t4
  let c512_i32_147 : BitVec 32 := 512#32
  let v261 : BitVec 32 := Scalar.muli arg15 c512_i32_147
  v261
def k0_off22 (k0_t1 : Fin k0_t1_loop.trips) (k0_t4 : Fin (k0_t4_loop k0_t1).trips) : Fin 3 → Nat :=
  let c0_148 : Index := 0#32
  let c0_149 : Index := 0#32
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let c1_i32_113 : BitVec 32 := 1#32
  let arg15 : BitVec 32 := Scf.iv v209 c1_i32_113 k0_t4
  let c512_i32_147 : BitVec 32 := 512#32
  let v261 : BitVec 32 := Scalar.muli arg15 c512_i32_147
  let v262 : BitVec 32 := v261
  let v263 : Index := Scalar.indexCast v262
  ![0, 0, v263.toNat]
def k0_mult31 (k0_t1 : Fin k0_t1_loop.trips) (k0_t4 : Fin (k0_t4_loop k0_t1).trips) : BitVec 32 :=
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let c1_i32_113 : BitVec 32 := 1#32
  let arg15 : BitVec 32 := Scf.iv v209 c1_i32_113 k0_t4
  let c1_i32_171 : BitVec 32 := 1#32
  let v292 : BitVec 32 := Scalar.addi arg15 c1_i32_171
  let c512_i32_172 : BitVec 32 := 512#32
  let v293 : BitVec 32 := Scalar.muli v292 c512_i32_172
  v293
def k0_off23 (k0_t1 : Fin k0_t1_loop.trips) (k0_t4 : Fin (k0_t4_loop k0_t1).trips) : Fin 3 → Nat :=
  let c0_173 : Index := 0#32
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let c1_i32_113 : BitVec 32 := 1#32
  let arg15 : BitVec 32 := Scf.iv v209 c1_i32_113 k0_t4
  let c1_i32_171 : BitVec 32 := 1#32
  let v292 : BitVec 32 := Scalar.addi arg15 c1_i32_171
  let c512_i32_172 : BitVec 32 := 512#32
  let v293 : BitVec 32 := Scalar.muli v292 c512_i32_172
  let v294 : BitVec 32 := v293
  let v295 : Index := Scalar.indexCast v294
  let c128_174 : Index := 128#32
  ![0, v295.toNat, 128]
def k0_off24 (k0_t1 : Fin k0_t1_loop.trips) (k0_t4 : Fin (k0_t4_loop k0_t1).trips) : Fin 2 → Nat :=
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let c1_i32_113 : BitVec 32 := 1#32
  let arg15 : BitVec 32 := Scf.iv v209 c1_i32_113 k0_t4
  let c1_i32_171 : BitVec 32 := 1#32
  let v292 : BitVec 32 := Scalar.addi arg15 c1_i32_171
  let c512_i32_172 : BitVec 32 := 512#32
  let v293 : BitVec 32 := Scalar.muli v292 c512_i32_172
  let v294 : BitVec 32 := v293
  let v298 : Index := Scalar.indexCast v294
  let c128_175 : Index := 128#32
  ![v298.toNat, 128]
def k0_mult32 (k0_t1 : Fin k0_t1_loop.trips) (k0_t4 : Fin (k0_t4_loop k0_t1).trips) : BitVec 32 :=
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let c1_i32_113 : BitVec 32 := 1#32
  let arg15 : BitVec 32 := Scf.iv v209 c1_i32_113 k0_t4
  let c512_i32_186 : BitVec 32 := 512#32
  let v310 : BitVec 32 := Scalar.muli arg15 c512_i32_186
  v310
def k0_off25 (k0_t1 : Fin k0_t1_loop.trips) (k0_t4 : Fin (k0_t4_loop k0_t1).trips) : Fin 3 → Nat :=
  let c0_187 : Index := 0#32
  let c128_188 : Index := 128#32
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let c1_i32_113 : BitVec 32 := 1#32
  let arg15 : BitVec 32 := Scf.iv v209 c1_i32_113 k0_t4
  let c512_i32_186 : BitVec 32 := 512#32
  let v310 : BitVec 32 := Scalar.muli arg15 c512_i32_186
  let v311 : BitVec 32 := v310
  let v312 : Index := Scalar.indexCast v311
  ![0, 128, v312.toNat]
@[reducible] def k0_t5_loop (k0_t1 : Fin k0_t1_loop.trips) : Scf.Loop 32 :=
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let v210 : BitVec 32 := Scalar.subi v186 v209
  let c1_i32_112 : BitVec 32 := 1#32
  let v212 : BitVec 32 := Scalar.divsi v210 c1_i32_112
  let v213 : BitVec 32 := Scalar.muli v212 c1_i32_112
  let v214 : BitVec 32 := Scalar.addi v209 v213
  let v211 : BitVec 32 := Scalar.addi v209 v210
  let c1_i32_114 : BitVec 32 := 1#32
  ⟨v214, v211, c1_i32_114⟩
def k0_mult33 (k0_t1 : Fin k0_t1_loop.trips) (k0_t5 : Fin (k0_t5_loop k0_t1).trips) : BitVec 32 :=
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let v210 : BitVec 32 := Scalar.subi v186 v209
  let c1_i32_112 : BitVec 32 := 1#32
  let v212 : BitVec 32 := Scalar.divsi v210 c1_i32_112
  let v213 : BitVec 32 := Scalar.muli v212 c1_i32_112
  let v214 : BitVec 32 := Scalar.addi v209 v213
  let c1_i32_114 : BitVec 32 := 1#32
  let arg15 : BitVec 32 := Scf.iv v214 c1_i32_114 k0_t5
  let c1_i32_132 : BitVec 32 := 1#32
  let v243 : BitVec 32 := Scalar.addi arg15 c1_i32_132
  let c512_i32_133 : BitVec 32 := 512#32
  let v244 : BitVec 32 := Scalar.muli v243 c512_i32_133
  v244
def k0_off26 (k0_t1 : Fin k0_t1_loop.trips) (k0_t5 : Fin (k0_t5_loop k0_t1).trips) : Fin 3 → Nat :=
  let c0_134 : Index := 0#32
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let v210 : BitVec 32 := Scalar.subi v186 v209
  let c1_i32_112 : BitVec 32 := 1#32
  let v212 : BitVec 32 := Scalar.divsi v210 c1_i32_112
  let v213 : BitVec 32 := Scalar.muli v212 c1_i32_112
  let v214 : BitVec 32 := Scalar.addi v209 v213
  let c1_i32_114 : BitVec 32 := 1#32
  let arg15 : BitVec 32 := Scf.iv v214 c1_i32_114 k0_t5
  let c1_i32_132 : BitVec 32 := 1#32
  let v243 : BitVec 32 := Scalar.addi arg15 c1_i32_132
  let c512_i32_133 : BitVec 32 := 512#32
  let v244 : BitVec 32 := Scalar.muli v243 c512_i32_133
  let v245 : BitVec 32 := v244
  let v246 : Index := Scalar.indexCast v245
  let c0_135 : Index := 0#32
  ![0, v246.toNat, 0]
def k0_off27 (k0_t1 : Fin k0_t1_loop.trips) (k0_t5 : Fin (k0_t5_loop k0_t1).trips) : Fin 2 → Nat :=
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let v210 : BitVec 32 := Scalar.subi v186 v209
  let c1_i32_112 : BitVec 32 := 1#32
  let v212 : BitVec 32 := Scalar.divsi v210 c1_i32_112
  let v213 : BitVec 32 := Scalar.muli v212 c1_i32_112
  let v214 : BitVec 32 := Scalar.addi v209 v213
  let c1_i32_114 : BitVec 32 := 1#32
  let arg15 : BitVec 32 := Scf.iv v214 c1_i32_114 k0_t5
  let c1_i32_132 : BitVec 32 := 1#32
  let v243 : BitVec 32 := Scalar.addi arg15 c1_i32_132
  let c512_i32_133 : BitVec 32 := 512#32
  let v244 : BitVec 32 := Scalar.muli v243 c512_i32_133
  let v245 : BitVec 32 := v244
  let v249 : Index := Scalar.indexCast v245
  let c0_136 : Index := 0#32
  ![v249.toNat, 0]
def k0_mult34 (k0_t1 : Fin k0_t1_loop.trips) (k0_t5 : Fin (k0_t5_loop k0_t1).trips) : BitVec 32 :=
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let v210 : BitVec 32 := Scalar.subi v186 v209
  let c1_i32_112 : BitVec 32 := 1#32
  let v212 : BitVec 32 := Scalar.divsi v210 c1_i32_112
  let v213 : BitVec 32 := Scalar.muli v212 c1_i32_112
  let v214 : BitVec 32 := Scalar.addi v209 v213
  let c1_i32_114 : BitVec 32 := 1#32
  let arg15 : BitVec 32 := Scf.iv v214 c1_i32_114 k0_t5
  let c512_i32_147 : BitVec 32 := 512#32
  let v261 : BitVec 32 := Scalar.muli arg15 c512_i32_147
  v261
def k0_off28 (k0_t1 : Fin k0_t1_loop.trips) (k0_t5 : Fin (k0_t5_loop k0_t1).trips) : Fin 3 → Nat :=
  let c0_148 : Index := 0#32
  let c0_149 : Index := 0#32
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let v210 : BitVec 32 := Scalar.subi v186 v209
  let c1_i32_112 : BitVec 32 := 1#32
  let v212 : BitVec 32 := Scalar.divsi v210 c1_i32_112
  let v213 : BitVec 32 := Scalar.muli v212 c1_i32_112
  let v214 : BitVec 32 := Scalar.addi v209 v213
  let c1_i32_114 : BitVec 32 := 1#32
  let arg15 : BitVec 32 := Scf.iv v214 c1_i32_114 k0_t5
  let c512_i32_147 : BitVec 32 := 512#32
  let v261 : BitVec 32 := Scalar.muli arg15 c512_i32_147
  let v262 : BitVec 32 := v261
  let v263 : Index := Scalar.indexCast v262
  ![0, 0, v263.toNat]
def k0_mult35 (k0_t1 : Fin k0_t1_loop.trips) (k0_t5 : Fin (k0_t5_loop k0_t1).trips) : BitVec 32 :=
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let v210 : BitVec 32 := Scalar.subi v186 v209
  let c1_i32_112 : BitVec 32 := 1#32
  let v212 : BitVec 32 := Scalar.divsi v210 c1_i32_112
  let v213 : BitVec 32 := Scalar.muli v212 c1_i32_112
  let v214 : BitVec 32 := Scalar.addi v209 v213
  let c1_i32_114 : BitVec 32 := 1#32
  let arg15 : BitVec 32 := Scf.iv v214 c1_i32_114 k0_t5
  let c1_i32_171 : BitVec 32 := 1#32
  let v292 : BitVec 32 := Scalar.addi arg15 c1_i32_171
  let c512_i32_172 : BitVec 32 := 512#32
  let v293 : BitVec 32 := Scalar.muli v292 c512_i32_172
  v293
def k0_off29 (k0_t1 : Fin k0_t1_loop.trips) (k0_t5 : Fin (k0_t5_loop k0_t1).trips) : Fin 3 → Nat :=
  let c0_173 : Index := 0#32
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let v210 : BitVec 32 := Scalar.subi v186 v209
  let c1_i32_112 : BitVec 32 := 1#32
  let v212 : BitVec 32 := Scalar.divsi v210 c1_i32_112
  let v213 : BitVec 32 := Scalar.muli v212 c1_i32_112
  let v214 : BitVec 32 := Scalar.addi v209 v213
  let c1_i32_114 : BitVec 32 := 1#32
  let arg15 : BitVec 32 := Scf.iv v214 c1_i32_114 k0_t5
  let c1_i32_171 : BitVec 32 := 1#32
  let v292 : BitVec 32 := Scalar.addi arg15 c1_i32_171
  let c512_i32_172 : BitVec 32 := 512#32
  let v293 : BitVec 32 := Scalar.muli v292 c512_i32_172
  let v294 : BitVec 32 := v293
  let v295 : Index := Scalar.indexCast v294
  let c128_174 : Index := 128#32
  ![0, v295.toNat, 128]
def k0_off30 (k0_t1 : Fin k0_t1_loop.trips) (k0_t5 : Fin (k0_t5_loop k0_t1).trips) : Fin 2 → Nat :=
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let v210 : BitVec 32 := Scalar.subi v186 v209
  let c1_i32_112 : BitVec 32 := 1#32
  let v212 : BitVec 32 := Scalar.divsi v210 c1_i32_112
  let v213 : BitVec 32 := Scalar.muli v212 c1_i32_112
  let v214 : BitVec 32 := Scalar.addi v209 v213
  let c1_i32_114 : BitVec 32 := 1#32
  let arg15 : BitVec 32 := Scf.iv v214 c1_i32_114 k0_t5
  let c1_i32_171 : BitVec 32 := 1#32
  let v292 : BitVec 32 := Scalar.addi arg15 c1_i32_171
  let c512_i32_172 : BitVec 32 := 512#32
  let v293 : BitVec 32 := Scalar.muli v292 c512_i32_172
  let v294 : BitVec 32 := v293
  let v298 : Index := Scalar.indexCast v294
  let c128_175 : Index := 128#32
  ![v298.toNat, 128]
def k0_mult36 (k0_t1 : Fin k0_t1_loop.trips) (k0_t5 : Fin (k0_t5_loop k0_t1).trips) : BitVec 32 :=
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let v210 : BitVec 32 := Scalar.subi v186 v209
  let c1_i32_112 : BitVec 32 := 1#32
  let v212 : BitVec 32 := Scalar.divsi v210 c1_i32_112
  let v213 : BitVec 32 := Scalar.muli v212 c1_i32_112
  let v214 : BitVec 32 := Scalar.addi v209 v213
  let c1_i32_114 : BitVec 32 := 1#32
  let arg15 : BitVec 32 := Scf.iv v214 c1_i32_114 k0_t5
  let c512_i32_186 : BitVec 32 := 512#32
  let v310 : BitVec 32 := Scalar.muli arg15 c512_i32_186
  v310
def k0_off31 (k0_t1 : Fin k0_t1_loop.trips) (k0_t5 : Fin (k0_t5_loop k0_t1).trips) : Fin 3 → Nat :=
  let c0_187 : Index := 0#32
  let c128_188 : Index := 128#32
  let c2_i32_110 : BitVec 32 := 2#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c0_i32_99 : BitVec 32 := 0#32
  let v188 : BitVec 1 := Scalar.cmpi .sgt v186 c0_i32_99
  let v189 : BitVec 32 := Scalar.extui v188
  let c0_i32_100 : BitVec 32 := 0#32
  let v190 : BitVec 1 := Scalar.cmpi .slt v186 c0_i32_100
  let v191 : BitVec 32 := Scalar.extui v190
  let v192 : BitVec 32 := Scalar.subi v189 v191
  let c2_i32_98 : BitVec 32 := 2#32
  let c0_i32_101 : BitVec 32 := 0#32
  let v193 : BitVec 1 := Scalar.cmpi .sgt c2_i32_98 c0_i32_101
  let v194 : BitVec 32 := Scalar.extui v193
  let c0_i32_102 : BitVec 32 := 0#32
  let v195 : BitVec 1 := Scalar.cmpi .slt c2_i32_98 c0_i32_102
  let v196 : BitVec 32 := Scalar.extui v195
  let v197 : BitVec 32 := Scalar.subi v194 v196
  let v198 : BitVec 1 := Scalar.cmpi .ne v192 v197
  let v199 : BitVec 32 := Scalar.remsi v186 c2_i32_98
  let c0_i32_103 : BitVec 32 := 0#32
  let v200 : BitVec 1 := Scalar.cmpi .ne v199 c0_i32_103
  let v201 : BitVec 1 := Scalar.andi v198 v200
  let v187 : BitVec 32 := Scalar.divsi v186 c2_i32_98
  let c1_i32_104 : BitVec 32 := 1#32
  let v202 : BitVec 32 := Scalar.subi v187 c1_i32_104
  let v203 : BitVec 32 := Scalar.select v201 v202 v187
  let v209 : BitVec 32 := Scalar.muli c2_i32_110 v203
  let v210 : BitVec 32 := Scalar.subi v186 v209
  let c1_i32_112 : BitVec 32 := 1#32
  let v212 : BitVec 32 := Scalar.divsi v210 c1_i32_112
  let v213 : BitVec 32 := Scalar.muli v212 c1_i32_112
  let v214 : BitVec 32 := Scalar.addi v209 v213
  let c1_i32_114 : BitVec 32 := 1#32
  let arg15 : BitVec 32 := Scf.iv v214 c1_i32_114 k0_t5
  let c512_i32_186 : BitVec 32 := 512#32
  let v310 : BitVec 32 := Scalar.muli arg15 c512_i32_186
  let v311 : BitVec 32 := v310
  let v312 : Index := Scalar.indexCast v311
  ![0, 128, v312.toNat]
def k0_cond1 (k0_t1 : Fin k0_t1_loop.trips) : BitVec 1 :=
  let c0_i32_74 : BitVec 32 := 0#32
  let c1_i32_75 : BitVec 32 := 1#32
  let arg14 : BitVec 32 := Scf.iv c0_i32_74 c1_i32_75 k0_t1
  let c2_i32_116 : BitVec 32 := 2#32
  let c0_i32_117 : BitVec 32 := 0#32
  let v217 : BitVec 1 := Scalar.cmpi .eq c2_i32_116 c0_i32_117
  let c1_i32_118 : BitVec 32 := 1#32
  let v218 : BitVec 32 := Scalar.select v217 c1_i32_118 c2_i32_116
  let v219 : BitVec 32 := Scalar.remsi arg14 v218
  let c0_i32_120 : BitVec 32 := 0#32
  let v221 : BitVec 1 := Scalar.cmpi .slt v219 c0_i32_120
  let c0_i32_121 : BitVec 32 := 0#32
  let v222 : BitVec 1 := Scalar.cmpi .slt v218 c0_i32_121
  let v223 : BitVec 1 := Scalar.xori v221 v222
  let c0_i32_119 : BitVec 32 := 0#32
  let v220 : BitVec 1 := Scalar.cmpi .ne v219 c0_i32_119
  let v224 : BitVec 1 := Scalar.andi v223 v220
  let v225 : BitVec 32 := Scalar.addi v219 v218
  let v226 : BitVec 32 := Scalar.select v224 v225 v219
  let c0_i32_122 : BitVec 32 := 0#32
  let v227 : BitVec 1 := Scalar.cmpi .eq v226 c0_i32_122
  let v228 : BitVec 32 := Scalar.extui v227
  let c0_i32_123 : BitVec 32 := 0#32
  let v229 : BitVec 1 := Scalar.cmpi .ne v228 c0_i32_123
  v229

@[reducible] def k0_t6_loop (k0_t1 : Fin k0_t1_loop.trips) : Scf.Loop 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_134 : BitVec 32 := 1#32
  ⟨v186, v247, c1_i32_134⟩
def k0_mult37 (k0_t1 : Fin k0_t1_loop.trips) (k0_t6 : Fin (k0_t6_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c1_i32_267 : BitVec 32 := 1#32
  let v446 : BitVec 32 := Scalar.addi arg15 c1_i32_267
  let c512_i32_268 : BitVec 32 := 512#32
  let v447 : BitVec 32 := Scalar.muli v446 c512_i32_268
  v447
def k0_off32 (k0_t1 : Fin k0_t1_loop.trips) (k0_t6 : Fin (k0_t6_loop k0_t1).trips) : Fin 3 → Nat :=
  let c0_269 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let v450 : Index := Scalar.indexCast v448
  let c0_270 : Index := 0#32
  ![0, v450.toNat, 0]
def k0_off33 (k0_t1 : Fin k0_t1_loop.trips) (k0_t6 : Fin (k0_t6_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let v453 : Index := Scalar.indexCast v448
  let c0_271 : Index := 0#32
  ![v453.toNat, 0]
def k0_mult38 (k0_t1 : Fin k0_t1_loop.trips) (k0_t6 : Fin (k0_t6_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let c256_i32_274 : BitVec 32 := 256#32
  let v462 : BitVec 32 := Scalar.addi v448 c256_i32_274
  v462
def k0_off34 (k0_t1 : Fin k0_t1_loop.trips) (k0_t6 : Fin (k0_t6_loop k0_t1).trips) : Fin 3 → Nat :=
  let c0_275 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let c256_i32_274 : BitVec 32 := 256#32
  let v462 : BitVec 32 := Scalar.addi v448 c256_i32_274
  let v463 : BitVec 32 := v462
  let v464 : Index := Scalar.indexCast v463
  let c0_276 : Index := 0#32
  ![0, v464.toNat, 0]
def k0_off35 (k0_t1 : Fin k0_t1_loop.trips) (k0_t6 : Fin (k0_t6_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let c256_i32_274 : BitVec 32 := 256#32
  let v462 : BitVec 32 := Scalar.addi v448 c256_i32_274
  let v463 : BitVec 32 := v462
  let v467 : Index := Scalar.indexCast v463
  let c0_277 : Index := 0#32
  ![v467.toNat, 0]
def k0_mult39 (k0_t1 : Fin k0_t1_loop.trips) (k0_t6 : Fin (k0_t6_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c512_i32_294 : BitVec 32 := 512#32
  let v493 : BitVec 32 := Scalar.muli arg15 c512_i32_294
  v493
def k0_off36 (k0_t1 : Fin k0_t1_loop.trips) (k0_t6 : Fin (k0_t6_loop k0_t1).trips) : Fin 3 → Nat :=
  let c0_295 : Index := 0#32
  let c0_296 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c512_i32_294 : BitVec 32 := 512#32
  let v493 : BitVec 32 := Scalar.muli arg15 c512_i32_294
  let v494 : BitVec 32 := v493
  let v495 : Index := Scalar.indexCast v494
  ![0, 0, v495.toNat]
def k0_mult40 (k0_t1 : Fin k0_t1_loop.trips) (k0_t6 : Fin (k0_t6_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c1_i32_318 : BitVec 32 := 1#32
  let v524 : BitVec 32 := Scalar.addi arg15 c1_i32_318
  let c512_i32_319 : BitVec 32 := 512#32
  let v525 : BitVec 32 := Scalar.muli v524 c512_i32_319
  v525
def k0_off37 (k0_t1 : Fin k0_t1_loop.trips) (k0_t6 : Fin (k0_t6_loop k0_t1).trips) : Fin 3 → Nat :=
  let c0_320 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let v528 : Index := Scalar.indexCast v526
  let c128_321 : Index := 128#32
  ![0, v528.toNat, 128]
def k0_off38 (k0_t1 : Fin k0_t1_loop.trips) (k0_t6 : Fin (k0_t6_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let v531 : Index := Scalar.indexCast v526
  let c128_322 : Index := 128#32
  ![v531.toNat, 128]
def k0_mult41 (k0_t1 : Fin k0_t1_loop.trips) (k0_t6 : Fin (k0_t6_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let c256_i32_325 : BitVec 32 := 256#32
  let v540 : BitVec 32 := Scalar.addi v526 c256_i32_325
  v540
def k0_off39 (k0_t1 : Fin k0_t1_loop.trips) (k0_t6 : Fin (k0_t6_loop k0_t1).trips) : Fin 3 → Nat :=
  let c0_326 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let c256_i32_325 : BitVec 32 := 256#32
  let v540 : BitVec 32 := Scalar.addi v526 c256_i32_325
  let v541 : BitVec 32 := v540
  let v542 : Index := Scalar.indexCast v541
  let c128_327 : Index := 128#32
  ![0, v542.toNat, 128]
def k0_off40 (k0_t1 : Fin k0_t1_loop.trips) (k0_t6 : Fin (k0_t6_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let c256_i32_325 : BitVec 32 := 256#32
  let v540 : BitVec 32 := Scalar.addi v526 c256_i32_325
  let v541 : BitVec 32 := v540
  let v545 : Index := Scalar.indexCast v541
  let c128_328 : Index := 128#32
  ![v545.toNat, 128]
def k0_mult42 (k0_t1 : Fin k0_t1_loop.trips) (k0_t6 : Fin (k0_t6_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c512_i32_345 : BitVec 32 := 512#32
  let v571 : BitVec 32 := Scalar.muli arg15 c512_i32_345
  v571
def k0_off41 (k0_t1 : Fin k0_t1_loop.trips) (k0_t6 : Fin (k0_t6_loop k0_t1).trips) : Fin 3 → Nat :=
  let c0_346 : Index := 0#32
  let c128_347 : Index := 128#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t6
  let c512_i32_345 : BitVec 32 := 512#32
  let v571 : BitVec 32 := Scalar.muli arg15 c512_i32_345
  let v572 : BitVec 32 := v571
  let v573 : Index := Scalar.indexCast v572
  ![0, 128, v573.toNat]
@[reducible] def k0_t7_loop (k0_t1 : Fin k0_t1_loop.trips) : Scf.Loop 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let v244 : BitVec 32 := Scalar.addi v186 v243
  let c1_i32_135 : BitVec 32 := 1#32
  ⟨v247, v244, c1_i32_135⟩
def k0_mult43 (k0_t1 : Fin k0_t1_loop.trips) (k0_t7 : Fin (k0_t7_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c1_i32_267 : BitVec 32 := 1#32
  let v446 : BitVec 32 := Scalar.addi arg15 c1_i32_267
  let c512_i32_268 : BitVec 32 := 512#32
  let v447 : BitVec 32 := Scalar.muli v446 c512_i32_268
  v447
def k0_off42 (k0_t1 : Fin k0_t1_loop.trips) (k0_t7 : Fin (k0_t7_loop k0_t1).trips) : Fin 3 → Nat :=
  let c0_269 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let v450 : Index := Scalar.indexCast v448
  let c0_270 : Index := 0#32
  ![0, v450.toNat, 0]
def k0_off43 (k0_t1 : Fin k0_t1_loop.trips) (k0_t7 : Fin (k0_t7_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let v453 : Index := Scalar.indexCast v448
  let c0_271 : Index := 0#32
  ![v453.toNat, 0]
def k0_mult44 (k0_t1 : Fin k0_t1_loop.trips) (k0_t7 : Fin (k0_t7_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let c256_i32_274 : BitVec 32 := 256#32
  let v462 : BitVec 32 := Scalar.addi v448 c256_i32_274
  v462
def k0_off44 (k0_t1 : Fin k0_t1_loop.trips) (k0_t7 : Fin (k0_t7_loop k0_t1).trips) : Fin 3 → Nat :=
  let c0_275 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let c256_i32_274 : BitVec 32 := 256#32
  let v462 : BitVec 32 := Scalar.addi v448 c256_i32_274
  let v463 : BitVec 32 := v462
  let v464 : Index := Scalar.indexCast v463
  let c0_276 : Index := 0#32
  ![0, v464.toNat, 0]
def k0_off45 (k0_t1 : Fin k0_t1_loop.trips) (k0_t7 : Fin (k0_t7_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let c256_i32_274 : BitVec 32 := 256#32
  let v462 : BitVec 32 := Scalar.addi v448 c256_i32_274
  let v463 : BitVec 32 := v462
  let v467 : Index := Scalar.indexCast v463
  let c0_277 : Index := 0#32
  ![v467.toNat, 0]
def k0_mult45 (k0_t1 : Fin k0_t1_loop.trips) (k0_t7 : Fin (k0_t7_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c512_i32_294 : BitVec 32 := 512#32
  let v493 : BitVec 32 := Scalar.muli arg15 c512_i32_294
  v493
def k0_off46 (k0_t1 : Fin k0_t1_loop.trips) (k0_t7 : Fin (k0_t7_loop k0_t1).trips) : Fin 3 → Nat :=
  let c0_295 : Index := 0#32
  let c0_296 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c512_i32_294 : BitVec 32 := 512#32
  let v493 : BitVec 32 := Scalar.muli arg15 c512_i32_294
  let v494 : BitVec 32 := v493
  let v495 : Index := Scalar.indexCast v494
  ![0, 0, v495.toNat]
def k0_mult46 (k0_t1 : Fin k0_t1_loop.trips) (k0_t7 : Fin (k0_t7_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c1_i32_318 : BitVec 32 := 1#32
  let v524 : BitVec 32 := Scalar.addi arg15 c1_i32_318
  let c512_i32_319 : BitVec 32 := 512#32
  let v525 : BitVec 32 := Scalar.muli v524 c512_i32_319
  v525
def k0_off47 (k0_t1 : Fin k0_t1_loop.trips) (k0_t7 : Fin (k0_t7_loop k0_t1).trips) : Fin 3 → Nat :=
  let c0_320 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let v528 : Index := Scalar.indexCast v526
  let c128_321 : Index := 128#32
  ![0, v528.toNat, 128]
def k0_off48 (k0_t1 : Fin k0_t1_loop.trips) (k0_t7 : Fin (k0_t7_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let v531 : Index := Scalar.indexCast v526
  let c128_322 : Index := 128#32
  ![v531.toNat, 128]
def k0_mult47 (k0_t1 : Fin k0_t1_loop.trips) (k0_t7 : Fin (k0_t7_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let c256_i32_325 : BitVec 32 := 256#32
  let v540 : BitVec 32 := Scalar.addi v526 c256_i32_325
  v540
def k0_off49 (k0_t1 : Fin k0_t1_loop.trips) (k0_t7 : Fin (k0_t7_loop k0_t1).trips) : Fin 3 → Nat :=
  let c0_326 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let c256_i32_325 : BitVec 32 := 256#32
  let v540 : BitVec 32 := Scalar.addi v526 c256_i32_325
  let v541 : BitVec 32 := v540
  let v542 : Index := Scalar.indexCast v541
  let c128_327 : Index := 128#32
  ![0, v542.toNat, 128]
def k0_off50 (k0_t1 : Fin k0_t1_loop.trips) (k0_t7 : Fin (k0_t7_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let c256_i32_325 : BitVec 32 := 256#32
  let v540 : BitVec 32 := Scalar.addi v526 c256_i32_325
  let v541 : BitVec 32 := v540
  let v545 : Index := Scalar.indexCast v541
  let c128_328 : Index := 128#32
  ![v545.toNat, 128]
def k0_mult48 (k0_t1 : Fin k0_t1_loop.trips) (k0_t7 : Fin (k0_t7_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c512_i32_345 : BitVec 32 := 512#32
  let v571 : BitVec 32 := Scalar.muli arg15 c512_i32_345
  v571
def k0_off51 (k0_t1 : Fin k0_t1_loop.trips) (k0_t7 : Fin (k0_t7_loop k0_t1).trips) : Fin 3 → Nat :=
  let c0_346 : Index := 0#32
  let c128_347 : Index := 128#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t7
  let c512_i32_345 : BitVec 32 := 512#32
  let v571 : BitVec 32 := Scalar.muli arg15 c512_i32_345
  let v572 : BitVec 32 := v571
  let v573 : Index := Scalar.indexCast v572
  ![0, 128, v573.toNat]
def k0_mult49 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c1_i32_115 : BitVec 32 := 1#32
  let v215 : BitVec 32 := Scalar.addi arg14 c1_i32_115
  let c7_i32 : BitVec 32 := 7#32
  let v216 : BitVec 32 := Scalar.minsi v215 c7_i32
  let c512_i32_136 : BitVec 32 := 512#32
  let v248 : BitVec 32 := Scalar.muli v216 c512_i32_136
  v248
def k0_off52 (k0_t1 : Fin k0_t1_loop.trips) : Fin 3 → Nat :=
  let c0_137 : Index := 0#32
  let c0_138 : Index := 0#32
  let c0_i32_74 : BitVec 32 := 0#32
  let c1_i32_75 : BitVec 32 := 1#32
  let arg14 : BitVec 32 := Scf.iv c0_i32_74 c1_i32_75 k0_t1
  let c1_i32_115 : BitVec 32 := 1#32
  let v215 : BitVec 32 := Scalar.addi arg14 c1_i32_115
  let c7_i32 : BitVec 32 := 7#32
  let v216 : BitVec 32 := Scalar.minsi v215 c7_i32
  let c512_i32_136 : BitVec 32 := 512#32
  let v248 : BitVec 32 := Scalar.muli v216 c512_i32_136
  let v249 : BitVec 32 := v248
  let v250 : Index := Scalar.indexCast v249
  ![0, 0, v250.toNat]
def k0_mult50 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c1_i32_115 : BitVec 32 := 1#32
  let v215 : BitVec 32 := Scalar.addi arg14 c1_i32_115
  let c7_i32 : BitVec 32 := 7#32
  let v216 : BitVec 32 := Scalar.minsi v215 c7_i32
  let c512_i32_139 : BitVec 32 := 512#32
  let v253 : BitVec 32 := Scalar.muli v216 c512_i32_139
  v253
def k0_off53 (k0_t1 : Fin k0_t1_loop.trips) : Fin 3 → Nat :=
  let c0_140 : Index := 0#32
  let c0_141 : Index := 0#32
  let c0_i32_74 : BitVec 32 := 0#32
  let c1_i32_75 : BitVec 32 := 1#32
  let arg14 : BitVec 32 := Scf.iv c0_i32_74 c1_i32_75 k0_t1
  let c1_i32_115 : BitVec 32 := 1#32
  let v215 : BitVec 32 := Scalar.addi arg14 c1_i32_115
  let c7_i32 : BitVec 32 := 7#32
  let v216 : BitVec 32 := Scalar.minsi v215 c7_i32
  let c512_i32_139 : BitVec 32 := 512#32
  let v253 : BitVec 32 := Scalar.muli v216 c512_i32_139
  let v254 : BitVec 32 := v253
  let v255 : Index := Scalar.indexCast v254
  ![0, 0, v255.toNat]
def k0_mult51 : BitVec 32 :=
  let c0_i32_142 : BitVec 32 := 0#32
  c0_i32_142
def k0_mult52 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c512_i32_156 : BitVec 32 := 512#32
  let v275 : BitVec 32 := Scalar.muli arg14 c512_i32_156
  v275
def k0_off54 (k0_t1 : Fin k0_t1_loop.trips) : Fin 3 → Nat :=
  let c0_157 : Index := 0#32
  let c0_158 : Index := 0#32
  let c0_i32_74 : BitVec 32 := 0#32
  let c1_i32_75 : BitVec 32 := 1#32
  let arg14 : BitVec 32 := Scf.iv c0_i32_74 c1_i32_75 k0_t1
  let c512_i32_156 : BitVec 32 := 512#32
  let v275 : BitVec 32 := Scalar.muli arg14 c512_i32_156
  let v276 : BitVec 32 := v275
  let v277 : Index := Scalar.indexCast v276
  ![0, 0, v277.toNat]
def k0_mult53 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c1_i32_115 : BitVec 32 := 1#32
  let v215 : BitVec 32 := Scalar.addi arg14 c1_i32_115
  let c7_i32 : BitVec 32 := 7#32
  let v216 : BitVec 32 := Scalar.minsi v215 c7_i32
  let c512_i32_188 : BitVec 32 := 512#32
  let v322 : BitVec 32 := Scalar.muli v216 c512_i32_188
  v322
def k0_off55 (k0_t1 : Fin k0_t1_loop.trips) : Fin 3 → Nat :=
  let c0_189 : Index := 0#32
  let c128_190 : Index := 128#32
  let c0_i32_74 : BitVec 32 := 0#32
  let c1_i32_75 : BitVec 32 := 1#32
  let arg14 : BitVec 32 := Scf.iv c0_i32_74 c1_i32_75 k0_t1
  let c1_i32_115 : BitVec 32 := 1#32
  let v215 : BitVec 32 := Scalar.addi arg14 c1_i32_115
  let c7_i32 : BitVec 32 := 7#32
  let v216 : BitVec 32 := Scalar.minsi v215 c7_i32
  let c512_i32_188 : BitVec 32 := 512#32
  let v322 : BitVec 32 := Scalar.muli v216 c512_i32_188
  let v323 : BitVec 32 := v322
  let v324 : Index := Scalar.indexCast v323
  ![0, 128, v324.toNat]
def k0_mult54 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c1_i32_115 : BitVec 32 := 1#32
  let v215 : BitVec 32 := Scalar.addi arg14 c1_i32_115
  let c7_i32 : BitVec 32 := 7#32
  let v216 : BitVec 32 := Scalar.minsi v215 c7_i32
  let c512_i32_191 : BitVec 32 := 512#32
  let v327 : BitVec 32 := Scalar.muli v216 c512_i32_191
  v327
def k0_mult55 : BitVec 32 :=
  let c0_i32_194 : BitVec 32 := 0#32
  c0_i32_194
def k0_mult56 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c512_i32_208 : BitVec 32 := 512#32
  let v349 : BitVec 32 := Scalar.muli arg14 c512_i32_208
  v349
def k0_off56 (k0_t1 : Fin k0_t1_loop.trips) : Fin 3 → Nat :=
  let c0_209 : Index := 0#32
  let c128_210 : Index := 128#32
  let c0_i32_74 : BitVec 32 := 0#32
  let c1_i32_75 : BitVec 32 := 1#32
  let arg14 : BitVec 32 := Scf.iv c0_i32_74 c1_i32_75 k0_t1
  let c512_i32_208 : BitVec 32 := 512#32
  let v349 : BitVec 32 := Scalar.muli arg14 c512_i32_208
  let v350 : BitVec 32 := v349
  let v351 : Index := Scalar.indexCast v350
  ![0, 128, v351.toNat]
def k0_mult57 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c512_i32_252 : BitVec 32 := 512#32
  let v408 : BitVec 32 := Scalar.muli arg14 c512_i32_252
  v408
def k0_off57 (k0_t1 : Fin k0_t1_loop.trips) : Fin 3 → Nat :=
  let c0_253 : Index := 0#32
  let c0_i32_74 : BitVec 32 := 0#32
  let c1_i32_75 : BitVec 32 := 1#32
  let arg14 : BitVec 32 := Scf.iv c0_i32_74 c1_i32_75 k0_t1
  let c512_i32_252 : BitVec 32 := 512#32
  let v408 : BitVec 32 := Scalar.muli arg14 c512_i32_252
  let v409 : BitVec 32 := v408
  let v410 : Index := Scalar.indexCast v409
  let c0_254 : Index := 0#32
  ![0, v410.toNat, 0]
def k0_off58 (k0_t1 : Fin k0_t1_loop.trips) : Fin 3 → Nat :=
  let c0_260 : Index := 0#32
  let c0_i32_74 : BitVec 32 := 0#32
  let c1_i32_75 : BitVec 32 := 1#32
  let arg14 : BitVec 32 := Scf.iv c0_i32_74 c1_i32_75 k0_t1
  let c512_i32_252 : BitVec 32 := 512#32
  let v408 : BitVec 32 := Scalar.muli arg14 c512_i32_252
  let v409 : BitVec 32 := v408
  let v428 : Index := Scalar.indexCast v409
  let c128_261 : Index := 128#32
  ![0, v428.toNat, 128]
def k0_cond2 (k0_t1 : Fin k0_t1_loop.trips) : BitVec 1 :=
  let c0_i32_74 : BitVec 32 := 0#32
  let c1_i32_75 : BitVec 32 := 1#32
  let arg14 : BitVec 32 := Scf.iv c0_i32_74 c1_i32_75 k0_t1
  let c2_i32_124 : BitVec 32 := 2#32
  let c0_i32_125 : BitVec 32 := 0#32
  let v230 : BitVec 1 := Scalar.cmpi .eq c2_i32_124 c0_i32_125
  let c1_i32_126 : BitVec 32 := 1#32
  let v231 : BitVec 32 := Scalar.select v230 c1_i32_126 c2_i32_124
  let v232 : BitVec 32 := Scalar.remsi arg14 v231
  let c0_i32_128 : BitVec 32 := 0#32
  let v234 : BitVec 1 := Scalar.cmpi .slt v232 c0_i32_128
  let c0_i32_129 : BitVec 32 := 0#32
  let v235 : BitVec 1 := Scalar.cmpi .slt v231 c0_i32_129
  let v236 : BitVec 1 := Scalar.xori v234 v235
  let c0_i32_127 : BitVec 32 := 0#32
  let v233 : BitVec 1 := Scalar.cmpi .ne v232 c0_i32_127
  let v237 : BitVec 1 := Scalar.andi v236 v233
  let v238 : BitVec 32 := Scalar.addi v232 v231
  let v239 : BitVec 32 := Scalar.select v237 v238 v232
  let c1_i32_130 : BitVec 32 := 1#32
  let v240 : BitVec 1 := Scalar.cmpi .eq v239 c1_i32_130
  let v241 : BitVec 32 := Scalar.extui v240
  let c0_i32_131 : BitVec 32 := 0#32
  let v242 : BitVec 1 := Scalar.cmpi .ne v241 c0_i32_131
  v242

@[reducible] def k0_t8_loop (k0_t1 : Fin k0_t1_loop.trips) : Scf.Loop 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_134 : BitVec 32 := 1#32
  ⟨v186, v247, c1_i32_134⟩
def k0_mult58 (k0_t1 : Fin k0_t1_loop.trips) (k0_t8 : Fin (k0_t8_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c1_i32_267 : BitVec 32 := 1#32
  let v446 : BitVec 32 := Scalar.addi arg15 c1_i32_267
  let c512_i32_268 : BitVec 32 := 512#32
  let v447 : BitVec 32 := Scalar.muli v446 c512_i32_268
  v447
def k0_off59 (k0_t1 : Fin k0_t1_loop.trips) (k0_t8 : Fin (k0_t8_loop k0_t1).trips) : Fin 3 → Nat :=
  let c0_269 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let v450 : Index := Scalar.indexCast v448
  let c0_270 : Index := 0#32
  ![0, v450.toNat, 0]
def k0_off60 (k0_t1 : Fin k0_t1_loop.trips) (k0_t8 : Fin (k0_t8_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let v453 : Index := Scalar.indexCast v448
  let c0_271 : Index := 0#32
  ![v453.toNat, 0]
def k0_mult59 (k0_t1 : Fin k0_t1_loop.trips) (k0_t8 : Fin (k0_t8_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let c256_i32_274 : BitVec 32 := 256#32
  let v462 : BitVec 32 := Scalar.addi v448 c256_i32_274
  v462
def k0_off61 (k0_t1 : Fin k0_t1_loop.trips) (k0_t8 : Fin (k0_t8_loop k0_t1).trips) : Fin 3 → Nat :=
  let c0_275 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let c256_i32_274 : BitVec 32 := 256#32
  let v462 : BitVec 32 := Scalar.addi v448 c256_i32_274
  let v463 : BitVec 32 := v462
  let v464 : Index := Scalar.indexCast v463
  let c0_276 : Index := 0#32
  ![0, v464.toNat, 0]
def k0_off62 (k0_t1 : Fin k0_t1_loop.trips) (k0_t8 : Fin (k0_t8_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let c256_i32_274 : BitVec 32 := 256#32
  let v462 : BitVec 32 := Scalar.addi v448 c256_i32_274
  let v463 : BitVec 32 := v462
  let v467 : Index := Scalar.indexCast v463
  let c0_277 : Index := 0#32
  ![v467.toNat, 0]
def k0_mult60 (k0_t1 : Fin k0_t1_loop.trips) (k0_t8 : Fin (k0_t8_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c512_i32_294 : BitVec 32 := 512#32
  let v493 : BitVec 32 := Scalar.muli arg15 c512_i32_294
  v493
def k0_off63 (k0_t1 : Fin k0_t1_loop.trips) (k0_t8 : Fin (k0_t8_loop k0_t1).trips) : Fin 3 → Nat :=
  let c0_295 : Index := 0#32
  let c0_296 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c512_i32_294 : BitVec 32 := 512#32
  let v493 : BitVec 32 := Scalar.muli arg15 c512_i32_294
  let v494 : BitVec 32 := v493
  let v495 : Index := Scalar.indexCast v494
  ![0, 0, v495.toNat]
def k0_mult61 (k0_t1 : Fin k0_t1_loop.trips) (k0_t8 : Fin (k0_t8_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c1_i32_318 : BitVec 32 := 1#32
  let v524 : BitVec 32 := Scalar.addi arg15 c1_i32_318
  let c512_i32_319 : BitVec 32 := 512#32
  let v525 : BitVec 32 := Scalar.muli v524 c512_i32_319
  v525
def k0_off64 (k0_t1 : Fin k0_t1_loop.trips) (k0_t8 : Fin (k0_t8_loop k0_t1).trips) : Fin 3 → Nat :=
  let c0_320 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let v528 : Index := Scalar.indexCast v526
  let c128_321 : Index := 128#32
  ![0, v528.toNat, 128]
def k0_off65 (k0_t1 : Fin k0_t1_loop.trips) (k0_t8 : Fin (k0_t8_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let v531 : Index := Scalar.indexCast v526
  let c128_322 : Index := 128#32
  ![v531.toNat, 128]
def k0_mult62 (k0_t1 : Fin k0_t1_loop.trips) (k0_t8 : Fin (k0_t8_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let c256_i32_325 : BitVec 32 := 256#32
  let v540 : BitVec 32 := Scalar.addi v526 c256_i32_325
  v540
def k0_off66 (k0_t1 : Fin k0_t1_loop.trips) (k0_t8 : Fin (k0_t8_loop k0_t1).trips) : Fin 3 → Nat :=
  let c0_326 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let c256_i32_325 : BitVec 32 := 256#32
  let v540 : BitVec 32 := Scalar.addi v526 c256_i32_325
  let v541 : BitVec 32 := v540
  let v542 : Index := Scalar.indexCast v541
  let c128_327 : Index := 128#32
  ![0, v542.toNat, 128]
def k0_off67 (k0_t1 : Fin k0_t1_loop.trips) (k0_t8 : Fin (k0_t8_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let c256_i32_325 : BitVec 32 := 256#32
  let v540 : BitVec 32 := Scalar.addi v526 c256_i32_325
  let v541 : BitVec 32 := v540
  let v545 : Index := Scalar.indexCast v541
  let c128_328 : Index := 128#32
  ![v545.toNat, 128]
def k0_mult63 (k0_t1 : Fin k0_t1_loop.trips) (k0_t8 : Fin (k0_t8_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c512_i32_345 : BitVec 32 := 512#32
  let v571 : BitVec 32 := Scalar.muli arg15 c512_i32_345
  v571
def k0_off68 (k0_t1 : Fin k0_t1_loop.trips) (k0_t8 : Fin (k0_t8_loop k0_t1).trips) : Fin 3 → Nat :=
  let c0_346 : Index := 0#32
  let c128_347 : Index := 128#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let c1_i32_134 : BitVec 32 := 1#32
  let arg15 : BitVec 32 := Scf.iv v186 c1_i32_134 k0_t8
  let c512_i32_345 : BitVec 32 := 512#32
  let v571 : BitVec 32 := Scalar.muli arg15 c512_i32_345
  let v572 : BitVec 32 := v571
  let v573 : Index := Scalar.indexCast v572
  ![0, 128, v573.toNat]
@[reducible] def k0_t9_loop (k0_t1 : Fin k0_t1_loop.trips) : Scf.Loop 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let v244 : BitVec 32 := Scalar.addi v186 v243
  let c1_i32_135 : BitVec 32 := 1#32
  ⟨v247, v244, c1_i32_135⟩
def k0_mult64 (k0_t1 : Fin k0_t1_loop.trips) (k0_t9 : Fin (k0_t9_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c1_i32_267 : BitVec 32 := 1#32
  let v446 : BitVec 32 := Scalar.addi arg15 c1_i32_267
  let c512_i32_268 : BitVec 32 := 512#32
  let v447 : BitVec 32 := Scalar.muli v446 c512_i32_268
  v447
def k0_off69 (k0_t1 : Fin k0_t1_loop.trips) (k0_t9 : Fin (k0_t9_loop k0_t1).trips) : Fin 3 → Nat :=
  let c0_269 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let v450 : Index := Scalar.indexCast v448
  let c0_270 : Index := 0#32
  ![0, v450.toNat, 0]
def k0_off70 (k0_t1 : Fin k0_t1_loop.trips) (k0_t9 : Fin (k0_t9_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let v453 : Index := Scalar.indexCast v448
  let c0_271 : Index := 0#32
  ![v453.toNat, 0]
def k0_mult65 (k0_t1 : Fin k0_t1_loop.trips) (k0_t9 : Fin (k0_t9_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let c256_i32_274 : BitVec 32 := 256#32
  let v462 : BitVec 32 := Scalar.addi v448 c256_i32_274
  v462
def k0_off71 (k0_t1 : Fin k0_t1_loop.trips) (k0_t9 : Fin (k0_t9_loop k0_t1).trips) : Fin 3 → Nat :=
  let c0_275 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let c256_i32_274 : BitVec 32 := 256#32
  let v462 : BitVec 32 := Scalar.addi v448 c256_i32_274
  let v463 : BitVec 32 := v462
  let v464 : Index := Scalar.indexCast v463
  let c0_276 : Index := 0#32
  ![0, v464.toNat, 0]
def k0_off72 (k0_t1 : Fin k0_t1_loop.trips) (k0_t9 : Fin (k0_t9_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c1_i32_267 : BitVec 32 := 1#32
  let v446 : BitVec 32 := Scalar.addi arg15 c1_i32_267
  let c512_i32_268 : BitVec 32 := 512#32
  let v447 : BitVec 32 := Scalar.muli v446 c512_i32_268
  let v448 : BitVec 32 := v447
  let c256_i32_274 : BitVec 32 := 256#32
  let v462 : BitVec 32 := Scalar.addi v448 c256_i32_274
  let v463 : BitVec 32 := v462
  let v467 : Index := Scalar.indexCast v463
  let c0_277 : Index := 0#32
  ![v467.toNat, 0]
def k0_mult66 (k0_t1 : Fin k0_t1_loop.trips) (k0_t9 : Fin (k0_t9_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c512_i32_294 : BitVec 32 := 512#32
  let v493 : BitVec 32 := Scalar.muli arg15 c512_i32_294
  v493
def k0_off73 (k0_t1 : Fin k0_t1_loop.trips) (k0_t9 : Fin (k0_t9_loop k0_t1).trips) : Fin 3 → Nat :=
  let c0_295 : Index := 0#32
  let c0_296 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c512_i32_294 : BitVec 32 := 512#32
  let v493 : BitVec 32 := Scalar.muli arg15 c512_i32_294
  let v494 : BitVec 32 := v493
  let v495 : Index := Scalar.indexCast v494
  ![0, 0, v495.toNat]
def k0_mult67 (k0_t1 : Fin k0_t1_loop.trips) (k0_t9 : Fin (k0_t9_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c1_i32_318 : BitVec 32 := 1#32
  let v524 : BitVec 32 := Scalar.addi arg15 c1_i32_318
  let c512_i32_319 : BitVec 32 := 512#32
  let v525 : BitVec 32 := Scalar.muli v524 c512_i32_319
  v525
def k0_off74 (k0_t1 : Fin k0_t1_loop.trips) (k0_t9 : Fin (k0_t9_loop k0_t1).trips) : Fin 3 → Nat :=
  let c0_320 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let v528 : Index := Scalar.indexCast v526
  let c128_321 : Index := 128#32
  ![0, v528.toNat, 128]
def k0_off75 (k0_t1 : Fin k0_t1_loop.trips) (k0_t9 : Fin (k0_t9_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let v531 : Index := Scalar.indexCast v526
  let c128_322 : Index := 128#32
  ![v531.toNat, 128]
def k0_mult68 (k0_t1 : Fin k0_t1_loop.trips) (k0_t9 : Fin (k0_t9_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let c256_i32_325 : BitVec 32 := 256#32
  let v540 : BitVec 32 := Scalar.addi v526 c256_i32_325
  v540
def k0_off76 (k0_t1 : Fin k0_t1_loop.trips) (k0_t9 : Fin (k0_t9_loop k0_t1).trips) : Fin 3 → Nat :=
  let c0_326 : Index := 0#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let c256_i32_325 : BitVec 32 := 256#32
  let v540 : BitVec 32 := Scalar.addi v526 c256_i32_325
  let v541 : BitVec 32 := v540
  let v542 : Index := Scalar.indexCast v541
  let c128_327 : Index := 128#32
  ![0, v542.toNat, 128]
def k0_off77 (k0_t1 : Fin k0_t1_loop.trips) (k0_t9 : Fin (k0_t9_loop k0_t1).trips) : Fin 2 → Nat :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c1_i32_318 : BitVec 32 := 1#32
  let v524 : BitVec 32 := Scalar.addi arg15 c1_i32_318
  let c512_i32_319 : BitVec 32 := 512#32
  let v525 : BitVec 32 := Scalar.muli v524 c512_i32_319
  let v526 : BitVec 32 := v525
  let c256_i32_325 : BitVec 32 := 256#32
  let v540 : BitVec 32 := Scalar.addi v526 c256_i32_325
  let v541 : BitVec 32 := v540
  let v545 : Index := Scalar.indexCast v541
  let c128_328 : Index := 128#32
  ![v545.toNat, 128]
def k0_mult69 (k0_t1 : Fin k0_t1_loop.trips) (k0_t9 : Fin (k0_t9_loop k0_t1).trips) : BitVec 32 :=
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c512_i32_345 : BitVec 32 := 512#32
  let v571 : BitVec 32 := Scalar.muli arg15 c512_i32_345
  v571
def k0_off78 (k0_t1 : Fin k0_t1_loop.trips) (k0_t9 : Fin (k0_t9_loop k0_t1).trips) : Fin 3 → Nat :=
  let c0_346 : Index := 0#32
  let c128_347 : Index := 128#32
  let c0_i32_74 : BitVec 32 := 0#32
  let c1_i32_75 : BitVec 32 := 1#32
  let arg14 : BitVec 32 := Scf.iv c0_i32_74 c1_i32_75 k0_t1
  let c1_i32_96 : BitVec 32 := 1#32
  let v185 : BitVec 32 := Scalar.subi arg14 c1_i32_96
  let c0_i32_97 : BitVec 32 := 0#32
  let v186 : BitVec 32 := Scalar.maxsi v185 c0_i32_97
  let v243 : BitVec 32 := Scalar.subi arg14 v186
  let c1_i32_133 : BitVec 32 := 1#32
  let v245 : BitVec 32 := Scalar.divsi v243 c1_i32_133
  let v246 : BitVec 32 := Scalar.muli v245 c1_i32_133
  let v247 : BitVec 32 := Scalar.addi v186 v246
  let c1_i32_135 : BitVec 32 := 1#32
  let arg15 : BitVec 32 := Scf.iv v247 c1_i32_135 k0_t9
  let c512_i32_345 : BitVec 32 := 512#32
  let v571 : BitVec 32 := Scalar.muli arg15 c512_i32_345
  let v572 : BitVec 32 := v571
  let v573 : Index := Scalar.indexCast v572
  ![0, 128, v573.toNat]
def k0_mult70 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c1_i32_115 : BitVec 32 := 1#32
  let v215 : BitVec 32 := Scalar.addi arg14 c1_i32_115
  let c7_i32 : BitVec 32 := 7#32
  let v216 : BitVec 32 := Scalar.minsi v215 c7_i32
  let c512_i32_136 : BitVec 32 := 512#32
  let v248 : BitVec 32 := Scalar.muli v216 c512_i32_136
  v248
def k0_off79 (k0_t1 : Fin k0_t1_loop.trips) : Fin 3 → Nat :=
  let c0_137 : Index := 0#32
  let c0_138 : Index := 0#32
  let c0_i32_74 : BitVec 32 := 0#32
  let c1_i32_75 : BitVec 32 := 1#32
  let arg14 : BitVec 32 := Scf.iv c0_i32_74 c1_i32_75 k0_t1
  let c1_i32_115 : BitVec 32 := 1#32
  let v215 : BitVec 32 := Scalar.addi arg14 c1_i32_115
  let c7_i32 : BitVec 32 := 7#32
  let v216 : BitVec 32 := Scalar.minsi v215 c7_i32
  let c512_i32_136 : BitVec 32 := 512#32
  let v248 : BitVec 32 := Scalar.muli v216 c512_i32_136
  let v249 : BitVec 32 := v248
  let v250 : Index := Scalar.indexCast v249
  ![0, 0, v250.toNat]
def k0_mult71 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c1_i32_115 : BitVec 32 := 1#32
  let v215 : BitVec 32 := Scalar.addi arg14 c1_i32_115
  let c7_i32 : BitVec 32 := 7#32
  let v216 : BitVec 32 := Scalar.minsi v215 c7_i32
  let c512_i32_139 : BitVec 32 := 512#32
  let v253 : BitVec 32 := Scalar.muli v216 c512_i32_139
  v253
def k0_off80 (k0_t1 : Fin k0_t1_loop.trips) : Fin 3 → Nat :=
  let c0_140 : Index := 0#32
  let c0_141 : Index := 0#32
  let c0_i32_74 : BitVec 32 := 0#32
  let c1_i32_75 : BitVec 32 := 1#32
  let arg14 : BitVec 32 := Scf.iv c0_i32_74 c1_i32_75 k0_t1
  let c1_i32_115 : BitVec 32 := 1#32
  let v215 : BitVec 32 := Scalar.addi arg14 c1_i32_115
  let c7_i32 : BitVec 32 := 7#32
  let v216 : BitVec 32 := Scalar.minsi v215 c7_i32
  let c512_i32_139 : BitVec 32 := 512#32
  let v253 : BitVec 32 := Scalar.muli v216 c512_i32_139
  let v254 : BitVec 32 := v253
  let v255 : Index := Scalar.indexCast v254
  ![0, 0, v255.toNat]
def k0_mult72 : BitVec 32 :=
  let c0_i32_142 : BitVec 32 := 0#32
  c0_i32_142
def k0_mult73 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c512_i32_156 : BitVec 32 := 512#32
  let v275 : BitVec 32 := Scalar.muli arg14 c512_i32_156
  v275
def k0_off81 (k0_t1 : Fin k0_t1_loop.trips) : Fin 3 → Nat :=
  let c0_157 : Index := 0#32
  let c0_158 : Index := 0#32
  let c0_i32_74 : BitVec 32 := 0#32
  let c1_i32_75 : BitVec 32 := 1#32
  let arg14 : BitVec 32 := Scf.iv c0_i32_74 c1_i32_75 k0_t1
  let c512_i32_156 : BitVec 32 := 512#32
  let v275 : BitVec 32 := Scalar.muli arg14 c512_i32_156
  let v276 : BitVec 32 := v275
  let v277 : Index := Scalar.indexCast v276
  ![0, 0, v277.toNat]
def k0_mult74 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c1_i32_115 : BitVec 32 := 1#32
  let v215 : BitVec 32 := Scalar.addi arg14 c1_i32_115
  let c7_i32 : BitVec 32 := 7#32
  let v216 : BitVec 32 := Scalar.minsi v215 c7_i32
  let c512_i32_188 : BitVec 32 := 512#32
  let v322 : BitVec 32 := Scalar.muli v216 c512_i32_188
  v322
def k0_off82 (k0_t1 : Fin k0_t1_loop.trips) : Fin 3 → Nat :=
  let c0_189 : Index := 0#32
  let c128_190 : Index := 128#32
  let c0_i32_74 : BitVec 32 := 0#32
  let c1_i32_75 : BitVec 32 := 1#32
  let arg14 : BitVec 32 := Scf.iv c0_i32_74 c1_i32_75 k0_t1
  let c1_i32_115 : BitVec 32 := 1#32
  let v215 : BitVec 32 := Scalar.addi arg14 c1_i32_115
  let c7_i32 : BitVec 32 := 7#32
  let v216 : BitVec 32 := Scalar.minsi v215 c7_i32
  let c512_i32_188 : BitVec 32 := 512#32
  let v322 : BitVec 32 := Scalar.muli v216 c512_i32_188
  let v323 : BitVec 32 := v322
  let v324 : Index := Scalar.indexCast v323
  ![0, 128, v324.toNat]
def k0_mult75 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c1_i32_115 : BitVec 32 := 1#32
  let v215 : BitVec 32 := Scalar.addi arg14 c1_i32_115
  let c7_i32 : BitVec 32 := 7#32
  let v216 : BitVec 32 := Scalar.minsi v215 c7_i32
  let c512_i32_191 : BitVec 32 := 512#32
  let v327 : BitVec 32 := Scalar.muli v216 c512_i32_191
  v327
def k0_mult76 : BitVec 32 :=
  let c0_i32_194 : BitVec 32 := 0#32
  c0_i32_194
def k0_mult77 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c512_i32_208 : BitVec 32 := 512#32
  let v349 : BitVec 32 := Scalar.muli arg14 c512_i32_208
  v349
def k0_off83 (k0_t1 : Fin k0_t1_loop.trips) : Fin 3 → Nat :=
  let c0_209 : Index := 0#32
  let c128_210 : Index := 128#32
  let c0_i32_74 : BitVec 32 := 0#32
  let c1_i32_75 : BitVec 32 := 1#32
  let arg14 : BitVec 32 := Scf.iv c0_i32_74 c1_i32_75 k0_t1
  let c512_i32_208 : BitVec 32 := 512#32
  let v349 : BitVec 32 := Scalar.muli arg14 c512_i32_208
  let v350 : BitVec 32 := v349
  let v351 : Index := Scalar.indexCast v350
  ![0, 128, v351.toNat]
def k0_mult78 (k0_t1 : Fin k0_t1_loop.trips) : BitVec 32 :=
  let c0_i32_74 : BitVec 32 := 0#32
  let c1_i32_75 : BitVec 32 := 1#32
  let arg14 : BitVec 32 := Scf.iv c0_i32_74 c1_i32_75 k0_t1
  let c512_i32_252 : BitVec 32 := 512#32
  let v408 : BitVec 32 := Scalar.muli arg14 c512_i32_252
  v408
def k0_off84 (k0_t1 : Fin k0_t1_loop.trips) : Fin 3 → Nat :=
  let c0_253 : Index := 0#32
  let c0_i32_74 : BitVec 32 := 0#32
  let c1_i32_75 : BitVec 32 := 1#32
  let arg14 : BitVec 32 := Scf.iv c0_i32_74 c1_i32_75 k0_t1
  let c512_i32_252 : BitVec 32 := 512#32
  let v408 : BitVec 32 := Scalar.muli arg14 c512_i32_252
  let v409 : BitVec 32 := v408
  let v410 : Index := Scalar.indexCast v409
  let c0_254 : Index := 0#32
  ![0, v410.toNat, 0]
def k0_off85 (k0_t1 : Fin k0_t1_loop.trips) : Fin 3 → Nat :=
  let c0_260 : Index := 0#32
  let c0_i32_74 : BitVec 32 := 0#32
  let c1_i32_75 : BitVec 32 := 1#32
  let arg14 : BitVec 32 := Scf.iv c0_i32_74 c1_i32_75 k0_t1
  let c512_i32_252 : BitVec 32 := 512#32
  let v408 : BitVec 32 := Scalar.muli arg14 c512_i32_252
  let v409 : BitVec 32 := v408
  let v428 : Index := Scalar.indexCast v409
  let c128_261 : Index := 128#32
  ![0, v428.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel5Ideal.lean ====
variable {F : FTy → Type} [FloatOps F] [Named F]
def κ : String → Option EReal := fun
  | "mask" => some ⊥
  | _ => none
-- ==== Reference5Ideal.lean ====
abbrev S8x1024x4096 : Shape := ⟨3, ![8, 1024, 4096]⟩
abbrev S8x4096x1024 : Shape := ⟨3, ![8, 4096, 1024]⟩
abbrev S8x128x4096 : Shape := ⟨3, ![8, 128, 4096]⟩
abbrev S8x4096x128 : Shape := ⟨3, ![8, 4096, 128]⟩
abbrev S8x8x128x4096 : Shape := ⟨4, ![8, 8, 128, 4096]⟩
abbrev S8x4096x8x128 : Shape := ⟨4, ![8, 4096, 8, 128]⟩
abbrev S8x8x16x4096 : Shape := ⟨4, ![8, 8, 16, 4096]⟩
abbrev S8x4096x8x16 : Shape := ⟨4, ![8, 4096, 8, 16]⟩
abbrev S8x8x4096x4096 : Shape := ⟨4, ![8, 8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x8x4096 : Shape := ⟨3, ![8, 8, 4096]⟩
abbrev S8x8x4096x1 : Shape := ⟨4, ![8, 8, 4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S8x1024x4096, .bf16⟩
  | .hbm, ⟨1, _⟩ => ⟨S8x4096x1024, .bf16⟩
  | .hbm, ⟨2, _⟩ => ⟨S8x1024x4096, .bf16⟩
  | .hbm, ⟨3, _⟩ => ⟨S8x4096x1024, .bf16⟩
  | .hbm, ⟨4, _⟩ => ⟨S8x128x4096, .bf16⟩
  | .hbm, ⟨5, _⟩ => ⟨S8x4096x128, .bf16⟩
  | .hbm, ⟨6, _⟩ => ⟨S8x1024x4096, .f32⟩
  | .hbm, ⟨7, _⟩ => ⟨S8x8x128x4096, .f32⟩
  | .hbm, ⟨8, _⟩ => ⟨S8x4096x1024, .f32⟩
  | .hbm, ⟨9, _⟩ => ⟨S8x4096x8x128, .f32⟩
  | .hbm, ⟨10, _⟩ => ⟨S8x1024x4096, .f32⟩
  | .hbm, ⟨11, _⟩ => ⟨S8x8x128x4096, .f32⟩
  | .hbm, ⟨12, _⟩ => ⟨S8x128x4096, .f32⟩
  | .hbm, ⟨13, _⟩ => ⟨S8x8x16x4096, .f32⟩
  | .hbm, ⟨14, _⟩ => ⟨S8x4096x128, .f32⟩
  | .hbm, ⟨15, _⟩ => ⟨S8x4096x8x16, .f32⟩
  | .hbm, ⟨16, _⟩ => ⟨S8x8x4096x4096, .f32⟩
  | .hbm, ⟨17, _⟩ => ⟨S8x8x4096x4096, .f32⟩
  | .hbm, ⟨18, _⟩ => ⟨S8x8x4096x4096, .f32⟩
  | .hbm, ⟨19, _⟩ => ⟨S4096, .i32⟩
  | .hbm, ⟨20, _⟩ => ⟨S4096x1, .i32⟩
  | .hbm, ⟨21, _⟩ => ⟨S4096, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S8x8x4096x4096, .i1⟩
  | .hbm, ⟨29, _⟩ => ⟨S8x8x4096x4096, .f32⟩
  | .hbm, ⟨30, _⟩ => ⟨S8x8x4096x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x8x4096, .f32⟩
  | .hbm, ⟨35, _⟩ => ⟨S8x8x4096x1, .f32⟩
  | .hbm, ⟨36, _⟩ => ⟨S8x8x4096x4096, .f32⟩
  | .hbm, ⟨37, _⟩ => ⟨S8x8x4096x4096, .f32⟩
  | .hbm, ⟨38, _⟩ => ⟨S8x8x4096x4096, .f32⟩
  | .hbm, ⟨39, _⟩ => ⟨S8x8x4096x4096, .f32⟩
  | .hbm, ⟨40, _⟩ => ⟨S8x8x4096x4096, .f32⟩
  | .hbm, ⟨41, _⟩ => ⟨S_, .f32⟩
  | .hbm, ⟨42, _⟩ => ⟨S8x8x4096, .f32⟩
  | .hbm, ⟨43, _⟩ => ⟨S8x8x4096x1, .f32⟩
  | .hbm, ⟨44, _⟩ => ⟨S8x8x4096x4096, .f32⟩
  | .hbm, ⟨45, _⟩ => ⟨S8x8x4096x4096, .f32⟩
  | .hbm, ⟨46, _⟩ => ⟨S8x8x128x4096, .f32⟩
  | .hbm, ⟨47, _⟩ => ⟨S8x4096x8x128, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S_, .f32⟩
  | .hbm, ⟨53, _⟩ => ⟨S8x4096x1024, .f32⟩
  | .hbm, ⟨54, _⟩ => ⟨S8x4096x1024, .f32⟩
  | .hbm, ⟨55, _⟩ => ⟨S_, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .bf16⟩
  | _, _ => ⟨S8x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Proof.PostSpec.lean ====
/-
  What one row of the layer's second half holds, over the extended reals: the output projection of the mixed heads
  onto the residual, the squared-relu MLP behind an RMS norm, the gated per-layer embedding, and the final RMS norm.
  Every function takes the rows and the weight matrices as functions of their coordinates.
-/
module

public import Idealize.ShloMosaic.Lib.Pointwise

@[expose] public section

noncomputable section

namespace Cert.PostSpec

open Idealize.ShloMosaic

/-- A row of `n` numbers. -/
abbrev Row (n : ℕ) := Fin n → EReal
/-- A matrix of `k` rows and `n` columns. -/
abbrev Mat (k n : ℕ) := Fin k → Fin n → EReal

/-- A row times a matrix. -/
def rowMul {k n : ℕ} (v : Row k) (w : Mat k n) : Row n := fun j => ∑ i, v i * w i j

/-- The reciprocal root of the mean square of a row of 1024 numbers, with the norm's small constant added. -/
def invRms (v : Row 1024) : EReal :=
  Ideal.rsqrt (Ideal.div (∑ i, v i * v i) (Ideal.ofBits .f32 0x44800000#32) + Ideal.ofBits .f32 0x358637BD#32)

/-- The RMS norm of a row, scaled by the weights `g`. -/
def rmsNorm (v g : Row 1024) : Row 1024 := fun j => v j * invRms v * g j

/-- The square of the positive part. -/
def sqRelu (a : EReal) : EReal := max a 0 * max a 0

/-- The row after the output projection. -/
def afterMix (x o : Row 1024) (wo : Mat 1024 1024) : Row 1024 := fun j => x j + rowMul o wo j

/-- The row after the MLP. -/
def afterMlp (x : Row 1024) (g : Row 1024) (up : Mat 1024 4096) (dn : Mat 4096 1024) : Row 1024 :=
  fun j => x j + rowMul (fun l => sqRelu (rowMul (rmsNorm x g) up l)) dn j

/-- The row after the gated per-layer embedding. -/
def afterPle (x : Row 1024) (p : Row 256) (pp : Mat 256 1024) (pg : Mat 1024 1024) : Row 1024 :=
  fun j => x j + rowMul p pp j * Ideal.div 1 (1 + Ideal.exp (-(rowMul x pg j)))

/-- One row of the result. -/
def out (x o : Row 1024) (wo : Mat 1024 1024) (g : Row 1024) (up : Mat 1024 4096) (dn : Mat 4096 1024)
    (p : Row 256) (pp : Mat 256 1024) (pg : Mat 1024 1024) (gf : Row 1024) : Row 1024 :=
  rmsNorm (afterPle (afterMlp (afterMix x o wo) g up dn) p pp pg) gf

/-- One row of the result where no final norm follows. -/
def layer (x o : Row 1024) (wo : Mat 1024 1024) (g : Row 1024) (up : Mat 1024 4096) (dn : Mat 4096 1024)
    (p : Row 256) (pp : Mat 256 1024) (pg : Mat 1024 1024) : Row 1024 :=
  afterPle (afterMlp (afterMix x o wo) g up dn) p pp pg

/-- Two rows of 512 numbers side by side. -/
def cat (a b : Row 512) : Row 1024 := fun j => if h : j.val < 512 then a ⟨j, h⟩ else b ⟨j.val - 512, by omega⟩

/-- A sum over `n` positions, cut after the first `a` of them. -/
theorem sum_cut {n : ℕ} (a b : ℕ) (h : n = a + b) (f : Fin n → EReal) :
    ∑ l, f l = (∑ l : Fin a, f ⟨l, by omega⟩) + ∑ l : Fin b, f ⟨a + l, by omega⟩ := by
  subst h
  exact Fin.sum_univ_add f

/-- Two rows side by side times a matrix: the first row times its upper half and the second times its lower. -/
theorem rowMul_cat {n : ℕ} (a b : Row 512) (w : Mat 1024 n) (j : Fin n) : rowMul (cat a b) w j =
    (∑ l : Fin 512, a l * w ⟨l, by omega⟩ j) + ∑ l : Fin 512, b l * w ⟨512 + l, by omega⟩ j := by
  unfold rowMul
  rw [sum_cut 512 512 rfl]
  refine congrArg₂ _ (Finset.sum_congr rfl fun l _ => by rw [cat, dif_pos l.isLt]) ?_
  · exact Finset.sum_congr rfl fun l _ => by
      rw [cat, dif_neg (by show ¬ 512 + l.val < 512; omega)]
      exact congrArg (fun q => b q * _) (Fin.ext (Nat.add_sub_cancel_left 512 l.val))

/-- A sum over 4096 positions is its four quarters, added in order. -/
theorem sum_quarters (f : Fin 4096 → EReal) :
    ∑ l, f l = (((∑ l : Fin 1024, f ⟨l, by omega⟩) + ∑ l : Fin 1024, f ⟨1024 + l, by omega⟩)
      + ∑ l : Fin 1024, f ⟨2048 + l, by omega⟩) + ∑ l : Fin 1024, f ⟨3072 + l, by omega⟩ := by
  rw [sum_cut 3072 1024 rfl f, sum_cut 2048 1024 rfl (fun l : Fin 3072 => f ⟨l, by omega⟩),
    sum_cut 1024 1024 rfl (fun l : Fin 2048 => f ⟨l, by omega⟩)]

/-- The MLP's row with its hidden units taken a quarter at a time. -/
theorem afterMlp_quarters (x g : Row 1024) (up : Mat 1024 4096) (dn : Mat 4096 1024) (j : Fin 1024) :
    afterMlp x g up dn j =
      (((x j + ∑ l : Fin 1024, sqRelu (rowMul (rmsNorm x g) up ⟨l, by omega⟩) * dn ⟨l, by omega⟩ j)
        + ∑ l : Fin 1024, sqRelu (rowMul (rmsNorm x g) up ⟨1024 + l, by omega⟩) * dn ⟨1024 + l, by omega⟩ j)
        + ∑ l : Fin 1024, sqRelu (rowMul (rmsNorm x g) up ⟨2048 + l, by omega⟩) * dn ⟨2048 + l, by omega⟩ j)
        + ∑ l : Fin 1024, sqRelu (rowMul (rmsNorm x g) up ⟨3072 + l, by omega⟩) * dn ⟨3072 + l, by omega⟩ j := by
  simp only [afterMlp]
  conv_lhs => rw [rowMul]
  rw [sum_quarters]
  simp only [add_assoc]

end Cert.PostSpec

end
-- ==== Proof.PostBlock.lean ====
/-
  What the second half's call leaves in one block of 1024 rows, over the extended reals: at each row, `PostSpec.out` of
  that row of its operands' blocks. The body takes the MLP's 4096 hidden units a quarter at a time, each quarter's
  product added onto the residual.
-/
module

public import proofs.«01_k».proof.Proof.Gen.Kernel2Ideal.Value
public import proofs.«01_k».proof.Proof.PostSpec
public import Idealize.ShloMosaic.Lib.Pointwise

@[expose] public section

set_option maxRecDepth 16384

noncomputable section

namespace Cert.PostBlock

open Idealize.ShloMosaic Cert.Kernel2Ideal Cert.Kernel2Ideal.Gen Cert.PostSpec

/-- Row `r` of a block. -/
abbrev row {s0 s1 : ℕ} (x : (⟨2, ![s0, s1]⟩ : Shape).Idx → EReal) (r : Fin s0) : Row s1 := fun j => x (ix2 r j)
/-- A block as a matrix. -/
abbrev mat {s0 s1 : ℕ} (x : (⟨2, ![s0, s1]⟩ : Shape).Idx → EReal) : Mat s0 s1 := fun i j => x (ix2 i j)

/-- The residual after the projection. -/
theorem pay2_apply (o : Vec Ideal S1024x1024 .bf16) (x : Vec Ideal S1024x1024 .f32) (wo : Vec Ideal S1024x1024 .bf16)
    (r c : Fin 1024) : k0_pay2 (F := Ideal) o x wo (ix2 r c) = afterMix (row x r) (row o r) (mat wo) c := by
  pointwise [k0_pay2]
  rfl

/-- The MLP's input: the norm of that row. -/
theorem pay3_apply (o : Vec Ideal S1024x1024 .bf16) (x : Vec Ideal S1024x1024 .f32) (wo : Vec Ideal S1024x1024 .bf16)
    (g : Vec Ideal S1x1024 .f32) (r c : Fin 1024) :
    k0_pay3 (F := Ideal) o x wo g (ix2 r c) = rmsNorm (afterMix (row x r) (row o r) (mat wo)) (row g 0) c := by
  pointwise [k0_pay3]
  simp only [pay2_apply]
  rfl

/-- The residual after the first quarter of the hidden units. -/
theorem pay4_apply (o : Vec Ideal S1024x1024 .bf16) (x : Vec Ideal S1024x1024 .f32) (wo : Vec Ideal S1024x1024 .bf16)
    (g : Vec Ideal S1x1024 .f32) (up dn : Vec Ideal S1024x1024 .bf16) (r c : Fin 1024) :
    k0_pay4 (F := Ideal) o x wo g up dn (ix2 r c) = afterMix (row x r) (row o r) (mat wo) c
      + ∑ l : Fin 1024, sqRelu (rowMul (rmsNorm (afterMix (row x r) (row o r) (mat wo)) (row g 0)) (mat up) l) * dn (ix2 l c) := by
  pointwise [k0_pay4]
  simp only [pay2_apply, pay3_apply]
  rfl

/-- The second quarter's hidden units before the square. -/
theorem pay5_apply (o : Vec Ideal S1024x1024 .bf16) (x : Vec Ideal S1024x1024 .f32) (wo : Vec Ideal S1024x1024 .bf16)
    (g : Vec Ideal S1x1024 .f32) (up : Vec Ideal S1024x1024 .bf16) (r c : Fin 1024) :
    k0_pay5 (F := Ideal) o x wo g up (ix2 r c)
      = rowMul (rmsNorm (afterMix (row x r) (row o r) (mat wo)) (row g 0)) (mat up) c := by
  pointwise [k0_pay5]
  simp only [pay3_apply]
  rfl

/-- The residual after the other three quarters. -/
theorem pay6_apply (h : FVec Ideal S1024x1024 .bf16) (y a : FVec Ideal S1024x1024 .f32)
    (d1 u2 d2 u3 d3 : Vec Ideal S1024x1024 .bf16) (r c : Fin 1024) :
    k0_pay6 (F := Ideal) h y a d1 u2 d2 u3 d3 (ix2 r c) =
      ((y (ix2 r c) + ∑ l : Fin 1024, sqRelu (a (ix2 r l)) * d1 (ix2 l c))
        + ∑ l : Fin 1024, sqRelu (rowMul (row h r) (mat u2) l) * d2 (ix2 l c))
        + ∑ l : Fin 1024, sqRelu (rowMul (row h r) (mat u3) l) * d3 (ix2 l c) := by
  pointwise [k0_pay6]
  rfl

/-- The exponential the gate's quotient takes. -/
theorem pay7_apply (h : FVec Ideal S1024x1024 .bf16) (y a : FVec Ideal S1024x1024 .f32)
    (d1 u2 d2 u3 d3 pg : Vec Ideal S1024x1024 .bf16) (r c : Fin 1024) :
    k0_pay7 (F := Ideal) h y a d1 u2 d2 u3 d3 pg (ix2 r c) =
      Ideal.exp (-(rowMul (row (k0_pay6 (F := Ideal) h y a d1 u2 d2 u3 d3) r) (mat pg) c)) := by
  pointwise [k0_pay7]
  rw [zero_sub]
  rfl

/-- The embedding's gated projection added, and the final norm. -/
theorem pay1_apply (y e : FVec Ideal S1024x1024 .f32) (p : Vec Ideal S1024x256 .f32) (pp : Vec Ideal S256x1024 .bf16)
    (gf : Vec Ideal S1x1024 .f32) (r c : Fin 1024) :
    k0_pay1 (F := Ideal) y e (Scalar.ofBits .f32 0x3F800000#32) p pp gf (ix2 r c) =
      rmsNorm (fun j => y (ix2 r j) + rowMul (row p r) (mat pp) j * Ideal.div 1 (1 + e (ix2 r j))) (row gf 0) c := by
  pointwise [k0_pay1]
  rfl

/-- One row of what the body leaves in the output's block. -/
theorem out_apply (x0 : Vec Ideal S1024x1024 .f32) (x1 : Vec Ideal S1024x1024 .bf16) (x2 : Vec Ideal S1024x1024 .bf16)
    (x3 : Vec Ideal S1x1024 .f32) (x4 : Vec Ideal S1024x4096 .bf16) (x5 : Vec Ideal S4096x1024 .bf16)
    (x6 : Vec Ideal S1024x256 .f32) (x7 : Vec Ideal S256x1024 .bf16) (x8 : Vec Ideal S1024x1024 .bf16)
    (x9 : Vec Ideal S1x1024 .f32) (r c : Fin 1024) :
    out0_10 (F := Ideal) x0 x1 x2 x3 x4 x5 x6 x7 x8 x9 (ix2 r c) =
      out (row x0 r) (row x1 r) (mat x2) (row x3 0) (mat x4) (mat x5) (row x6 r) (mat x7) (mat x8) (row x9 0) c := by
  have hz : (![0, 0] : Fin 2 → ℕ) = fun _ => 0 := by decide
  unfold_out out0_10
  rw [View.canon_unit_zero hz]
  have l0 : ∀ {e} (x : Vec Ideal S1024x1024 e), View.ld x r0_0 = x := fun x => View.ld_unit_zero (S := S1024x1024) hz _ x
  have l1 : ∀ {e} (x : Vec Ideal S1x1024 e), View.ld x r0_1 = x := fun x => View.ld_unit_zero (S := S1x1024) hz _ x
  have l10 : ∀ {e} (x : Vec Ideal S1024x256 e), View.ld x r0_10 = x := fun x => View.ld_unit_zero (S := S1024x256) hz _ x
  have l11 : ∀ {e} (x : Vec Ideal S256x1024 e), View.ld x r0_11 = x := fun x => View.ld_unit_zero (S := S256x1024) hz _ x
  simp only [l0, l1, l10, l11]
  rw [pay1_apply]
  simp only [pay7_apply, out]
  have e6 : row (k0_pay6 (F := Ideal) (k0_pay3 x1 x0 x2 x3) (k0_pay4 x1 x0 x2 x3 (View.ld x4 r0_2) (View.ld x5 r0_3))
      (k0_pay5 x1 x0 x2 x3 (View.ld x4 r0_4)) (View.ld x5 r0_5) (View.ld x4 r0_6) (View.ld x5 r0_7) (View.ld x4 r0_8)
      (View.ld x5 r0_9)) r = afterMlp (afterMix (row x0 r) (row x1 r) (mat x2)) (row x3 0) (mat x4) (mat x5) := by
    funext j
    rw [row, pay6_apply, afterMlp_quarters]
    simp only [pay4_apply, pay5_apply, rowMul, row, mat, pay3_apply]
    pointwise
  rw [e6]
  simp only [congrFun e6]
  rfl

end Cert.PostBlock

end
-- ==== Proof.PostArray.lean ====
/-
  What the second half's call leaves in its result, over the extended reals: at row `i` of the 32768 (token `i % 4096`
  of sequence `i / 4096`), `PostSpec.out` of that token's rows of the arguments.
-/
module

public import proofs.«01_k».proof.Proof.PostBlock
public import Idealize.ShloMosaic.Lib.Pipeline.ValueKit
public import Idealize.ShloMosaic.Lib.StableHlo.RunRead

@[expose] public section

set_option maxRecDepth 16384

noncomputable section

namespace Cert.PostArray

open Idealize.ShloMosaic Idealize.ShloMosaic.TcCoe Idealize.SL.Sem
open Idealize.ShloMosaic.Pipeline (Dat)
open Cert.Kernel2Ideal Cert.Kernel2Ideal.Gen Cert.PostSpec Cert.PostBlock

/-- The result of the layer's second half, from the arguments' arrays. -/
def G (x : S8x4096x1024.Idx → EReal) (o : S8x4096x1024.Idx → EReal) (wo : S1024x1024.Idx → EReal)
    (g : S1024.Idx → EReal) (up : S1024x4096.Idx → EReal) (dn : S4096x1024.Idx → EReal)
    (p : S8x4096x256.Idx → EReal) (pp : S256x1024.Idx → EReal) (pg : S1024x1024.Idx → EReal)
    (gf : S1024.Idx → EReal) : S32768x1024.Idx → EReal := fun i =>
  have h : (i 0).val < 32768 := (i 0).isLt
  let b : Fin 8 := ⟨(i 0).val / 4096, by omega⟩
  let t : Fin 4096 := ⟨(i 0).val % 4096, by omega⟩
  out (fun j => x (ix3 b t j)) (fun j => o (ix3 b t j)) (mat wo) (fun j => g (ix1 j)) (mat up) (mat dn)
    (fun j => p (ix3 b t j)) (mat pp) (mat pg) (fun j => gf (ix1 j)) (i 1)

variable (m : (ℓ : Loc nD τ sig) → Buf (Elt Ideal) ℓ) (ρ : Dev nD → PrngReg)

/-- Every window's block index at a grid point: the row blocks move with the point, the weights stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![0, 0] ∧ win0_8.index t = ![0, 0] ∧ win0_9.index t = ![0, 0] ∧ win0_10.index t = ![t.val, 0] :=
  (by decide +kernel : ∀ t : Fin grid0.N, _)

/-- Eight sequences of 4096 rows laid one after the other, at row `n`. -/
theorem flat_rows {α : Type} {C : ℕ} (x : (⟨3, ![8, 4096, C]⟩ : Shape).Idx → α)
    (h : (⟨3, ![8, 4096, C]⟩ : Shape).ShapeCasts ⟨2, ![32768, C]⟩) (n : Fin 32768) (j : Fin C) :
    shapeCast ⟨2, ![32768, C]⟩ x h (ix2 n j) = x (ix3 ⟨n.val / 4096, by omega⟩ ⟨n.val % 4096, by omega⟩ j) :=
  shapeCast_apply _ _ _ _ (by
    rw [Shape.rowMajor_val_three, Shape.rowMajor_val_two]
    show (n.val / 4096 * 4096 + n.val % 4096) * C + j.val = n.val * C + j.val
    rw [Nat.div_add_mod'])

/-- Core `c`'s argument arrays as launched. -/
abbrev A (c : Dev nD) (b : Ref sig .tc) : Buf (Elt Ideal) ((c : Thread nD τ).loc b) := m ((c : Thread nD τ).loc b)

/-- The region finds the residual with its sequences one after the other. -/
theorem V_v0 (c : Dev nD) : V m c main_v0 = shapeCast S32768x1024 (A m c main_arg0) shapeCasts_S8x4096x1024_S32768x1024 := by
  unfold V
  after_reads_simp
  try rfl

theorem V_v1 (c : Dev nD) : V m c main_v1 = shapeCast S32768x1024 (A m c main_arg1) shapeCasts_S8x4096x1024_S32768x1024 := by
  unfold V
  after_reads_simp
  try rfl

theorem V_v6 (c : Dev nD) : V m c main_v6 = shapeCast S32768x256 (A m c main_arg6) shapeCasts_S8x4096x256_S32768x256 := by
  unfold V
  after_reads_simp
  try rfl

/-- The residual's block at a point, read at the token it holds. -/
theorem blk0 (c : Dev nD) (t : Fin cfg0.N) (r j : Fin 1024) (ht : t.val < 32) :
    iblk m c 0 t (ix2 r j) = A m c main_arg0 (ix3 ⟨(t.val * 1024 + r.val) / 4096, by omega⟩ ⟨(t.val * 1024 + r.val) % 4096, by omega⟩ j) := by
  have e : iblk m c 0 t (ix2 r j) = V m c main_v0 (ix2 ⟨t.val * 1024 + r.val, by omega⟩ j) := by
    blk_ext [iblk, idx t]
  rw [e, V_v0, flat_rows]

theorem blk1 (c : Dev nD) (t : Fin cfg0.N) (r j : Fin 1024) (ht : t.val < 32) :
    iblk m c 1 t (ix2 r j) = A m c main_arg1 (ix3 ⟨(t.val * 1024 + r.val) / 4096, by omega⟩ ⟨(t.val * 1024 + r.val) % 4096, by omega⟩ j) := by
  have e : iblk m c 1 t (ix2 r j) = V m c main_v1 (ix2 ⟨t.val * 1024 + r.val, by omega⟩ j) := by
    blk_ext [iblk, idx t]
  rw [e, V_v1, flat_rows]

theorem blk6 (c : Dev nD) (t : Fin cfg0.N) (r : Fin 1024) (j : Fin 256) (ht : t.val < 32) :
    iblk m c 6 t (ix2 r j) = A m c main_arg6 (ix3 ⟨(t.val * 1024 + r.val) / 4096, by omega⟩ ⟨(t.val * 1024 + r.val) % 4096, by omega⟩ j) := by
  have e : iblk m c 6 t (ix2 r j) = V m c main_v6 (ix2 ⟨t.val * 1024 + r.val, by omega⟩ j) := by
    blk_ext [iblk, idx t]
  rw [e, V_v6, flat_rows]

/-- The array after the run. -/
theorem final (c : Dev nD) : (dats m 0 c).arrAt 10 cfg0.N =
    G (A m c main_arg0) (A m c main_arg1) (A m c main_arg2) (A m c main_arg3) (A m c main_arg4) (A m c main_arg5)
      (A m c main_arg6) (A m c main_arg7) (A m c main_arg8) (A m c main_arg9) := by
  refine (dats m 0 c).arrAt_eq_of_covers 10 _ (by decide +kernel) fun t hf y => ?_
  blk_simp
  rw [after0_10]
  idx_vars y
  rw [out_apply]
  unfold G
  have ht : t.val < 32 := t.isLt
  have e0 : (((View.whole main_v10).slice (win0_10.rect t)).emb (ix2 y0 y1) 0 : ℕ) = t.val * 1024 + y0.val := by
    blk_simp [idx t]
  have e1 : ((View.whole main_v10).slice (win0_10.rect t)).emb (ix2 y0 y1) 1 = y1 := by
    apply Fin.ext
    blk_simp [idx t]
  dsimp only
  rw [e1]
  congr 1
  all_goals try funext i
  all_goals try funext j
  all_goals try simp only [row, mat]
  · rw [blk0 m c t y0 i ht]
    simp only [e0]
  · rw [blk1 m c t y0 i ht]
    simp only [e0]
  · blk_point [iblk, V, idx t]
  · blk_point [iblk, V, idx t]
  · blk_point [iblk, V, idx t]
  · blk_point [iblk, V, idx t]
  · rw [blk6 m c t y0 i ht]
    simp only [e0]
  · blk_point [iblk, V, idx t]
  · blk_point [iblk, V, idx t]
  · blk_point [iblk, V, idx t]

end Cert.PostArray

end
-- ==== Proof.PostRef.lean ====
/-
  What the plain reference of the layer's second half computes, over the extended reals: `PostArray.G` of its arguments.
-/
module

public import proofs.«01_k».proof.Proof.Gen.Reference2Ideal.Run
public import proofs.«01_k».proof.Proof.Gen.Reference2Ideal.Read
public import proofs.«01_k».proof.Proof.PostArray
public import Idealize.ShloMosaic.Lib.Pointwise

@[expose] public section

set_option maxRecDepth 16384

noncomputable section

namespace Cert.PostRef

open Idealize.ShloMosaic Cert.Reference2Ideal Cert.Reference2Ideal.Gen Cert.Reference2Ideal.Read Cert.PostSpec
open Cert.PostBlock (mat)

variable (x0 : (⟨S8x4096x1024, .f32⟩ : BufTy).Contents (Elt Ideal)) (x1 : (⟨S8x4096x1024, .bf16⟩ : BufTy).Contents (Elt Ideal))
  (x2 : (⟨S1024x1024, .f32⟩ : BufTy).Contents (Elt Ideal)) (x3 : (⟨S1024, .f32⟩ : BufTy).Contents (Elt Ideal)) (x4 : (⟨S1024x4096, .f32⟩ : BufTy).Contents (Elt Ideal))
  (x5 : (⟨S4096x1024, .f32⟩ : BufTy).Contents (Elt Ideal)) (x6 : (⟨S8x4096x256, .f32⟩ : BufTy).Contents (Elt Ideal)) (x7 : (⟨S256x1024, .f32⟩ : BufTy).Contents (Elt Ideal))
  (x8 : (⟨S1024x1024, .f32⟩ : BufTy).Contents (Elt Ideal)) (x9 : (⟨S1024, .f32⟩ : BufTy).Contents (Elt Ideal))

/-- Token `t` of sequence `b` of an array over the tokens. -/
abbrev tok {n : ℕ} (x : (⟨3, ![8, 4096, n]⟩ : Shape).Idx → EReal) (b : Fin 8) (t : Fin 4096) : Row n := fun j => x (ix3 b t j)
/-- A vector of weights as a row. -/
abbrev vec (x : S1024.Idx → EReal) : Row 1024 := fun j => x (ix1 j)

/-- The residual after the projection. -/
theorem v2_eq (b : Fin 8) (t : Fin 4096) (j : Fin 1024) : val_main_v2 (F := Ideal) x0 x1 x2 (ix3 b t j)
    = afterMix (tok x0 b t) (tok x1 b t) (mat x2) j := by
  pointwise [val_main_v0, val_main_v1, val_main_v2]
  rfl

/-- The MLP's normed input. -/
theorem v15_eq (b : Fin 8) (t : Fin 4096) (j : Fin 1024) : val_main_v15 (F := Ideal) x0 x1 x2 x3 (ix3 b t j)
    = rmsNorm (afterMix (tok x0 b t) (tok x1 b t) (mat x2)) (vec x3) j := by
  pointwise [val_main_v3, val_main_v4, val_main_v5, val_main_v6, val_main_v7, val_main_v8, val_main_v9, val_main_v10, val_main_v11, val_main_v12, val_main_v13, val_main_v14, val_main_v15, val_main_cst, val_main_cst_0, val_main_cst_1]
  simp only [v2_eq]
  rfl

/-- The residual after the MLP. -/
theorem v20_eq (b : Fin 8) (t : Fin 4096) (j : Fin 1024) : val_main_v20 (F := Ideal) x0 x1 x2 x3 x4 x5 (ix3 b t j)
    = afterMlp (afterMix (tok x0 b t) (tok x1 b t) (mat x2)) (vec x3) (mat x4) (mat x5) j := by
  pointwise [val_main_v16, val_main_v17, val_main_v18, val_main_v19, val_main_v20, val_main_call0_cst, val_main_call0_v0]
  simp only [v2_eq, v15_eq]
  rfl

/-- The residual after the gated embedding. -/
theorem v30_eq (b : Fin 8) (t : Fin 4096) (j : Fin 1024) : val_main_v30 (F := Ideal) x0 x1 x2 x3 x4 x5 x6 x7 x8 (ix3 b t j)
    = afterPle (afterMlp (afterMix (tok x0 b t) (tok x1 b t) (mat x2)) (vec x3) (mat x4) (mat x5)) (tok x6 b t) (mat x7) (mat x8) j := by
  pointwise [val_main_v21, val_main_v22, val_main_v23, val_main_v24, val_main_v25, val_main_v26, val_main_v27, val_main_v28, val_main_v29, val_main_v30, val_main_cst_2, val_main_cst_3]
  simp only [v20_eq]
  rfl

/-- The result's row. -/
theorem v43_eq (b : Fin 8) (t : Fin 4096) (j : Fin 1024) : val_main_v43 (F := Ideal) x0 x1 x2 x3 x4 x5 x6 x7 x8 x9 (ix3 b t j)
    = out (tok x0 b t) (tok x1 b t) (mat x2) (vec x3) (mat x4) (mat x5) (tok x6 b t) (mat x7) (mat x8) (vec x9) j := by
  pointwise [val_main_v31, val_main_v32, val_main_v33, val_main_v34, val_main_v35, val_main_v36, val_main_v37, val_main_v38, val_main_v39, val_main_v40, val_main_v41, val_main_v42, val_main_v43, val_main_cst_4, val_main_cst_5, val_main_cst_6]
  simp only [v30_eq]
  rfl

/-- The reference's result. -/
theorem v44_eq : val_main_v44 (F := Ideal) x0 x1 x2 x3 x4 x5 x6 x7 x8 x9 = Cert.PostArray.G x0 x1 x2 x3 x4 x5 x6 x7 x8 x9 := by
  funext i
  idx_vars i
  unfold val_main_v44 Cert.PostArray.G
  rw [Cert.PostArray.flat_rows, v43_eq]
  rfl

end Cert.PostRef

end
-- ==== Proof.PostClaim.lean ====
/-
  The layer's second half: the kernel's result is the plain reference's, over the extended reals.
-/
module

public import proofs.«01_k».proof.Defs
public import proofs.«01_k».proof.Proof.PostRef

@[expose] public section

set_option maxRecDepth 16384

noncomputable section

namespace Cert.PostClaim

open Idealize.ShloMosaic Idealize.SL.Sem

/-- Both programs end with `PostArray.G` of the arguments, so their results agree. -/
theorem agrees : algebraic_Kernel2Ideal_Reference2Ideal := fun m ρ m' ρ' _ hag =>
  ⟨fun c => Cert.PostArray.G (Cert.PostArray.A m c Kernel2Ideal.main_arg0) (Cert.PostArray.A m c Kernel2Ideal.main_arg1)
      (Cert.PostArray.A m c Kernel2Ideal.main_arg2) (Cert.PostArray.A m c Kernel2Ideal.main_arg3)
      (Cert.PostArray.A m c Kernel2Ideal.main_arg4) (Cert.PostArray.A m c Kernel2Ideal.main_arg5)
      (Cert.PostArray.A m c Kernel2Ideal.main_arg6) (Cert.PostArray.A m c Kernel2Ideal.main_arg7)
      (Cert.PostArray.A m c Kernel2Ideal.main_arg8) (Cert.PostArray.A m c Kernel2Ideal.main_arg9),
    (θ_run _ _ _).mono (fun _ h c => ⟨(h c).1.trans (Cert.PostArray.final m c), (h c).2⟩) (Cert.Kernel2Ideal.Value.run_blocks m ρ),
    (θ_run _ _ _).mono (fun _ h c => ⟨(h c).1.trans (by
      obtain ⟨h0, h1, h2, h3, h4, h5, h6, h7, h8, h9⟩ := hag c
      rw [Cert.Reference2Ideal.Read.val_main_v44_eq, Cert.PostRef.v44_eq]
      rw [h0, h1, h2, h3, h4, h5, h6, h7, h8, h9]), (h c).2⟩) (Cert.Reference2Ideal.Value.run m' ρ')⟩

end Cert.PostClaim

end
-- ==== Proof.PostEvenBlock.lean ====
/-
  What the second half's call of an even layer leaves in one block of 1024 rows: as `PostBlock`, with the two groups of
  heads side by side and no final norm.
-/
module

public import proofs.«01_k».proof.Proof.Gen.Kernel3Ideal.Value
public import proofs.«01_k».proof.Proof.PostBlock

@[expose] public section

set_option maxRecDepth 16384

noncomputable section

namespace Cert.PostEvenBlock

open Idealize.ShloMosaic Cert.Kernel3Ideal Cert.Kernel3Ideal.Gen Cert.PostSpec
open Cert.PostBlock (row mat)

/-- The residual after the projection of the two groups' heads. -/
theorem pay2_apply (a b : Vec Ideal S1024x512 .bf16) (x : Vec Ideal S1024x1024 .f32) (wo : Vec Ideal S1024x1024 .bf16)
    (r c : Fin 1024) : k0_pay2 (F := Ideal) a b x wo (ix2 r c) = afterMix (row x r) (cat (row a r) (row b r)) (mat wo) c := by
  rw [afterMix, rowMul_cat]
  pointwise [k0_pay2]

/-- The MLP's input: the norm of that row. -/
theorem pay3_apply (a b : Vec Ideal S1024x512 .bf16) (x : Vec Ideal S1024x1024 .f32) (wo : Vec Ideal S1024x1024 .bf16)
    (g : Vec Ideal S1x1024 .f32) (r c : Fin 1024) :
    k0_pay3 (F := Ideal) a b x wo g (ix2 r c)
      = rmsNorm (afterMix (row x r) (cat (row a r) (row b r)) (mat wo)) (row g 0) c := by
  pointwise [k0_pay3]
  simp only [pay2_apply]
  rfl

/-- The residual after the first quarter of the hidden units. -/
theorem pay4_apply (a b : Vec Ideal S1024x512 .bf16) (x : Vec Ideal S1024x1024 .f32) (wo : Vec Ideal S1024x1024 .bf16)
    (g : Vec Ideal S1x1024 .f32) (up dn : Vec Ideal S1024x1024 .bf16) (r c : Fin 1024) :
    k0_pay4 (F := Ideal) a b x wo g up dn (ix2 r c) = afterMix (row x r) (cat (row a r) (row b r)) (mat wo) c
      + ∑ l : Fin 1024, sqRelu (rowMul (rmsNorm (afterMix (row x r) (cat (row a r) (row b r)) (mat wo)) (row g 0)) (mat up) l)
        * dn (ix2 l c) := by
  pointwise [k0_pay4]
  simp only [pay2_apply, pay3_apply]
  rfl

/-- The residual after the other three quarters. -/
theorem pay5_apply (h : FVec Ideal S1024x1024 .bf16) (y : FVec Ideal S1024x1024 .f32)
    (u1 d1 u2 d2 u3 d3 : Vec Ideal S1024x1024 .bf16) (r c : Fin 1024) :
    k0_pay5 (F := Ideal) h y u1 d1 u2 d2 u3 d3 (ix2 r c) =
      ((y (ix2 r c) + ∑ l : Fin 1024, sqRelu (rowMul (row h r) (mat u1) l) * d1 (ix2 l c))
        + ∑ l : Fin 1024, sqRelu (rowMul (row h r) (mat u2) l) * d2 (ix2 l c))
        + ∑ l : Fin 1024, sqRelu (rowMul (row h r) (mat u3) l) * d3 (ix2 l c) := by
  pointwise [k0_pay5]
  rfl

/-- The gate before its sigmoid. -/
theorem pay6_apply (h : FVec Ideal S1024x1024 .bf16) (y : FVec Ideal S1024x1024 .f32)
    (u1 d1 u2 d2 u3 d3 pg : Vec Ideal S1024x1024 .bf16) (r c : Fin 1024) :
    k0_pay6 (F := Ideal) h y u1 d1 u2 d2 u3 d3 pg (ix2 r c) =
      rowMul (row (k0_pay5 (F := Ideal) h y u1 d1 u2 d2 u3 d3) r) (mat pg) c := by
  pointwise [k0_pay6]
  rfl

/-- The embedding's gated projection added. -/
theorem pay1_apply (y e : FVec Ideal S1024x1024 .f32) (p : Vec Ideal S1024x256 .f32) (pp : Vec Ideal S256x1024 .bf16)
    (r c : Fin 1024) :
    k0_pay1 (F := Ideal) y e p pp (ix2 r c) =
      y (ix2 r c) + rowMul (row p r) (mat pp) c * Ideal.div 1 (1 + Ideal.exp (-(e (ix2 r c)))) := by
  pointwise [k0_pay1]
  rw [zero_sub]
  rfl

/-- One row of what the body leaves in the output's block. -/
theorem out_apply (x0 : Vec Ideal S1024x1024 .f32) (xa xb : Vec Ideal S1024x512 .bf16) (x2 : Vec Ideal S1024x1024 .bf16)
    (x3 : Vec Ideal S1x1024 .f32) (x4 : Vec Ideal S1024x4096 .bf16) (x5 : Vec Ideal S4096x1024 .bf16)
    (x6 : Vec Ideal S1024x256 .f32) (x7 : Vec Ideal S256x1024 .bf16) (x8 : Vec Ideal S1024x1024 .bf16) (r c : Fin 1024) :
    out0_10 (F := Ideal) x0 xa xb x2 x3 x4 x5 x6 x7 x8 (ix2 r c) =
      layer (row x0 r) (cat (row xa r) (row xb r)) (mat x2) (row x3 0) (mat x4) (mat x5) (row x6 r) (mat x7) (mat x8) c := by
  have hz : (![0, 0] : Fin 2 → ℕ) = fun _ => 0 := by decide
  unfold_out out0_10
  rw [View.canon_unit_zero hz]
  have l0 : ∀ {e} (x : Vec Ideal S1024x512 e), View.ld x r0_0 = x := fun x => View.ld_unit_zero (S := S1024x512) hz _ x
  have l1 : ∀ {e} (x : Vec Ideal S1024x1024 e), View.ld x r0_1 = x := fun x => View.ld_unit_zero (S := S1024x1024) hz _ x
  have l2 : ∀ {e} (x : Vec Ideal S1x1024 e), View.ld x r0_2 = x := fun x => View.ld_unit_zero (S := S1x1024) hz _ x
  have l11 : ∀ {e} (x : Vec Ideal S1024x256 e), View.ld x r0_11 = x := fun x => View.ld_unit_zero (S := S1024x256) hz _ x
  have l12 : ∀ {e} (x : Vec Ideal S256x1024 e), View.ld x r0_12 = x := fun x => View.ld_unit_zero (S := S256x1024) hz _ x
  simp only [l0, l1, l2, l11, l12]
  rw [pay1_apply]
  simp only [pay6_apply, layer]
  have e5 : row (k0_pay5 (F := Ideal) (k0_pay3 xa xb x0 x2 x3)
      (k0_pay4 xa xb x0 x2 x3 (View.ld x4 r0_3) (View.ld x5 r0_4))
      (View.ld x4 r0_5) (View.ld x5 r0_6) (View.ld x4 r0_7) (View.ld x5 r0_8) (View.ld x4 r0_9) (View.ld x5 r0_10)) r
      = afterMlp (afterMix (row x0 r) (cat (row xa r) (row xb r)) (mat x2)) (row x3 0) (mat x4) (mat x5) := by
    funext j
    rw [row, pay5_apply, afterMlp_quarters]
    simp only [pay4_apply, rowMul, row, mat, pay3_apply]
    pointwise
  rw [e5]
  simp only [congrFun e5]
  rfl

end Cert.PostEvenBlock

end
-- ==== Proof.PostEvenArray.lean ====
/-
  What the second half's call of an even layer leaves in its result, over the extended reals: at row `i` of the
  32768 (token `i % 4096` of sequence `i / 4096`), `PostSpec.layer` of that token's rows of the arguments.
-/
module

public import proofs.«01_k».proof.Proof.PostEvenBlock
public import proofs.«01_k».proof.Proof.PostArray
public import Idealize.ShloMosaic.Lib.Pipeline.ValueKit
public import Idealize.ShloMosaic.Lib.StableHlo.RunRead

@[expose] public section

set_option maxRecDepth 16384

noncomputable section

namespace Cert.PostEvenArray

open Idealize.ShloMosaic Idealize.ShloMosaic.TcCoe Idealize.SL.Sem
open Idealize.ShloMosaic.Pipeline (Dat)
open Cert.Kernel3Ideal Cert.Kernel3Ideal.Gen Cert.PostSpec Cert.PostEvenBlock
open Cert.PostBlock (row mat)

/-- The result of the layer's second half, from the arguments' arrays. -/
def G (x : S8x4096x1024.Idx → EReal) (oa ob : S8x4096x512.Idx → EReal) (wo : S1024x1024.Idx → EReal)
    (g : S1024.Idx → EReal) (up : S1024x4096.Idx → EReal) (dn : S4096x1024.Idx → EReal)
    (p : S8x4096x256.Idx → EReal) (pp : S256x1024.Idx → EReal) (pg : S1024x1024.Idx → EReal) : S32768x1024.Idx → EReal := fun i =>
  have h : (i 0).val < 32768 := (i 0).isLt
  let b : Fin 8 := ⟨(i 0).val / 4096, by omega⟩
  let t : Fin 4096 := ⟨(i 0).val % 4096, by omega⟩
  layer (fun j => x (ix3 b t j)) (cat (fun j => oa (ix3 b t j)) (fun j => ob (ix3 b t j))) (mat wo) (fun j => g (ix1 j)) (mat up) (mat dn)
    (fun j => p (ix3 b t j)) (mat pp) (mat pg) (i 1)

variable (m : (ℓ : Loc nD τ sig) → Buf (Elt Ideal) ℓ) (ρ : Dev nD → PrngReg)

/-- Every window's block index at a grid point: the row blocks move with the point, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![0, 0] ∧ win0_9.index t = ![0, 0] ∧ win0_10.index t = ![t.val, 0] :=
  (by decide +kernel : ∀ t : Fin grid0.N, _)

/-- Core `c`'s argument arrays as launched. -/
abbrev A (c : Dev nD) (b : Ref sig .tc) : Buf (Elt Ideal) ((c : Thread nD τ).loc b) := m ((c : Thread nD τ).loc b)

/-- The region finds the residual with its sequences one after the other. -/
theorem V_v0 (c : Dev nD) : V m c main_v0 = shapeCast S32768x1024 (A m c main_arg0) shapeCasts_S8x4096x1024_S32768x1024 := by
  unfold V
  after_reads_simp
  try rfl

theorem V_v1 (c : Dev nD) : V m c main_v1 = shapeCast S32768x512 (A m c main_arg1) shapeCasts_S8x4096x512_S32768x512 := by
  unfold V
  after_reads_simp
  try rfl

theorem V_v2 (c : Dev nD) : V m c main_v2 = shapeCast S32768x512 (A m c main_arg2) shapeCasts_S8x4096x512_S32768x512 := by
  unfold V
  after_reads_simp
  try rfl

theorem V_v7 (c : Dev nD) : V m c main_v7 = shapeCast S32768x256 (A m c main_arg7) shapeCasts_S8x4096x256_S32768x256 := by
  unfold V
  after_reads_simp
  try rfl

/-- The residual's block at a point, read at the token it holds. -/
theorem blk0 (c : Dev nD) (t : Fin cfg0.N) (r j : Fin 1024) (ht : t.val < 32) :
    iblk m c 0 t (ix2 r j) = A m c main_arg0 (ix3 ⟨(t.val * 1024 + r.val) / 4096, by omega⟩ ⟨(t.val * 1024 + r.val) % 4096, by omega⟩ j) := by
  have e : iblk m c 0 t (ix2 r j) = V m c main_v0 (ix2 ⟨t.val * 1024 + r.val, by omega⟩ j) := by
    blk_ext [iblk, idx t]
  rw [e, V_v0, Cert.PostArray.flat_rows]

theorem blk1 (c : Dev nD) (t : Fin cfg0.N) (r : Fin 1024) (j : Fin 512) (ht : t.val < 32) :
    iblk m c 1 t (ix2 r j) = A m c main_arg1 (ix3 ⟨(t.val * 1024 + r.val) / 4096, by omega⟩ ⟨(t.val * 1024 + r.val) % 4096, by omega⟩ j) := by
  have e : iblk m c 1 t (ix2 r j) = V m c main_v1 (ix2 ⟨t.val * 1024 + r.val, by omega⟩ j) := by
    blk_ext [iblk, idx t]
  rw [e, V_v1, Cert.PostArray.flat_rows]

theorem blk2 (c : Dev nD) (t : Fin cfg0.N) (r : Fin 1024) (j : Fin 512) (ht : t.val < 32) :
    iblk m c 2 t (ix2 r j) = A m c main_arg2 (ix3 ⟨(t.val * 1024 + r.val) / 4096, by omega⟩ ⟨(t.val * 1024 + r.val) % 4096, by omega⟩ j) := by
  have e : iblk m c 2 t (ix2 r j) = V m c main_v2 (ix2 ⟨t.val * 1024 + r.val, by omega⟩ j) := by
    blk_ext [iblk, idx t]
  rw [e, V_v2, Cert.PostArray.flat_rows]

theorem blk7 (c : Dev nD) (t : Fin cfg0.N) (r : Fin 1024) (j : Fin 256) (ht : t.val < 32) :
    iblk m c 7 t (ix2 r j) = A m c main_arg7 (ix3 ⟨(t.val * 1024 + r.val) / 4096, by omega⟩ ⟨(t.val * 1024 + r.val) % 4096, by omega⟩ j) := by
  have e : iblk m c 7 t (ix2 r j) = V m c main_v7 (ix2 ⟨t.val * 1024 + r.val, by omega⟩ j) := by
    blk_ext [iblk, idx t]
  rw [e, V_v7, Cert.PostArray.flat_rows]

/-- The array after the run. -/
theorem final (c : Dev nD) : (dats m 0 c).arrAt 10 cfg0.N =
    G (A m c main_arg0) (A m c main_arg1) (A m c main_arg2) (A m c main_arg3) (A m c main_arg4) (A m c main_arg5)
      (A m c main_arg6) (A m c main_arg7) (A m c main_arg8) (A m c main_arg9) := by
  refine (dats m 0 c).arrAt_eq_of_covers 10 _ (by decide +kernel) fun t hf y => ?_
  blk_simp
  rw [after0_10]
  idx_vars y
  rw [PostEvenBlock.out_apply]
  unfold G
  have ht : t.val < 32 := t.isLt
  have e0 : (((View.whole main_v10).slice (win0_10.rect t)).emb (ix2 y0 y1) 0 : ℕ) = t.val * 1024 + y0.val := by
    blk_simp [idx t]
  have e1 : ((View.whole main_v10).slice (win0_10.rect t)).emb (ix2 y0 y1) 1 = y1 := by
    apply Fin.ext
    blk_simp [idx t]
  dsimp only
  rw [e1]
  congr 1
  all_goals try funext i
  all_goals try funext j
  all_goals try simp only [row, mat]
  · rw [blk0 m c t y0 i ht]
    simp only [e0]
  · congr 1
    · funext j
      show iblk m c 1 t (ix2 y0 j) = _
      rw [blk1 m c t y0 j ht]
      simp only [e0]
    · funext j
      show iblk m c 2 t (ix2 y0 j) = _
      rw [blk2 m c t y0 j ht]
      simp only [e0]
  · blk_point [iblk, V, idx t]
  · blk_point [iblk, V, idx t]
  · blk_point [iblk, V, idx t]
  · blk_point [iblk, V, idx t]
  · rw [blk7 m c t y0 i ht]
    simp only [e0]
  · blk_point [iblk, V, idx t]
  · blk_point [iblk, V, idx t]

end Cert.PostEvenArray

end
-- ==== Proof.PostEvenRef.lean ====
/-
  What the plain reference of an even layer's second half computes. Its residual after the gated embedding is the last
  layer's reference's, of the two groups' outputs side by side.
-/
module

public import proofs.«01_k».proof.Proof.Gen.Reference3Ideal.Read
public import proofs.«01_k».proof.Proof.PostEvenArray
public import proofs.«01_k».proof.Proof.PostRef

@[expose] public section

set_option maxRecDepth 16384

noncomputable section

namespace Cert.PostEvenRef

open Idealize.ShloMosaic Cert.Reference3Ideal Cert.Reference3Ideal.Gen Cert.Reference3Ideal.Read Cert.PostSpec

variable (x0 : (⟨S8x4096x1024, .f32⟩ : BufTy).Contents (Elt Ideal)) (x1 x2 : (⟨S8x4096x512, .bf16⟩ : BufTy).Contents (Elt Ideal))
  (x3 : (⟨S1024x1024, .f32⟩ : BufTy).Contents (Elt Ideal)) (x4 : (⟨S1024, .f32⟩ : BufTy).Contents (Elt Ideal)) (x5 : (⟨S1024x4096, .f32⟩ : BufTy).Contents (Elt Ideal))
  (x6 : (⟨S4096x1024, .f32⟩ : BufTy).Contents (Elt Ideal)) (x7 : (⟨S8x4096x256, .f32⟩ : BufTy).Contents (Elt Ideal)) (x8 : (⟨S256x1024, .f32⟩ : BufTy).Contents (Elt Ideal))
  (x9 : (⟨S1024x1024, .f32⟩ : BufTy).Contents (Elt Ideal))

/-- The residual after the gated embedding, as the last layer's reference has it. -/
theorem v31_same : val_main_v31 (F := Ideal) x0 x1 x2 x3 x4 x5 x6 x7 x8 x9
    = Cert.Reference2Ideal.Read.val_main_v30 (F := Ideal) x0 (val_main_v0 (F := Ideal) x1 x2) x3 x4 x5 x6 x7 x8 x9 := rfl

/-- The two groups' outputs at a token. -/
theorem v0_tok (b : Fin 8) (t : Fin 4096) : Cert.PostRef.tok (val_main_v0 (F := Ideal) x1 x2) b t
    = cat (fun j => x1 (ix3 b t j)) (fun j => x2 (ix3 b t j)) := by
  funext j
  unfold cat
  pointwise [val_main_v0]

/-- The reference's result. -/
theorem v32_eq : val_main_v32 (F := Ideal) x0 x1 x2 x3 x4 x5 x6 x7 x8 x9 = Cert.PostEvenArray.G x0 x1 x2 x3 x4 x5 x6 x7 x8 x9 := by
  funext i
  idx_vars i
  unfold val_main_v32 Cert.PostEvenArray.G
  rw [Cert.PostArray.flat_rows, v31_same, Cert.PostRef.v30_eq, v0_tok]
  rfl

end Cert.PostEvenRef

end
-- ==== Proof.PostEvenClaim.lean ====
/-
  An even layer's second half: the kernel's result is the plain reference's, over the extended reals.
-/
module

public import proofs.«01_k».proof.Defs
public import proofs.«01_k».proof.Proof.PostEvenRef

@[expose] public section

set_option maxRecDepth 16384

noncomputable section

namespace Cert.PostEvenClaim

open Idealize.ShloMosaic Idealize.SL.Sem

/-- Both programs end with `PostEvenArray.G` of the arguments, so their results agree. -/
theorem agrees : algebraic_Kernel3Ideal_Reference3Ideal := fun m ρ m' ρ' _ hag =>
  ⟨fun c => Cert.PostEvenArray.G (Cert.PostEvenArray.A m c Kernel3Ideal.main_arg0) (Cert.PostEvenArray.A m c Kernel3Ideal.main_arg1)
      (Cert.PostEvenArray.A m c Kernel3Ideal.main_arg2) (Cert.PostEvenArray.A m c Kernel3Ideal.main_arg3)
      (Cert.PostEvenArray.A m c Kernel3Ideal.main_arg4) (Cert.PostEvenArray.A m c Kernel3Ideal.main_arg5)
      (Cert.PostEvenArray.A m c Kernel3Ideal.main_arg6) (Cert.PostEvenArray.A m c Kernel3Ideal.main_arg7)
      (Cert.PostEvenArray.A m c Kernel3Ideal.main_arg8) (Cert.PostEvenArray.A m c Kernel3Ideal.main_arg9),
    (θ_run _ _ _).mono (fun _ h c => ⟨(h c).1.trans (Cert.PostEvenArray.final m c), (h c).2⟩) (Cert.Kernel3Ideal.Value.run_blocks m ρ),
    (θ_run _ _ _).mono (fun _ h c => ⟨(h c).1.trans (by
      obtain ⟨h0, h1, h2, h3, h4, h5, h6, h7, h8, h9⟩ := hag c
      rw [Cert.Reference3Ideal.Read.val_main_v32_eq, Cert.PostEvenRef.v32_eq]
      rw [h0, h1, h2, h3, h4, h5, h6, h7, h8, h9]), (h c).2⟩) (Cert.Reference3Ideal.Value.run m' ρ')⟩

end Cert.PostEvenClaim

end
-- ==== Proof.PostMidBlock.lean ====
/-
  What the second half's call of a middle odd layer leaves in one block of 1024 rows: as `PostBlock`, without a final
  norm. The body's values before the last are the same terms as in the last layer's call, so their lemmas are reused.
-/
module

public import proofs.«01_k».proof.Proof.Gen.Kernel4Ideal.Value
public import proofs.«01_k».proof.Proof.PostBlock

@[expose] public section

set_option maxRecDepth 16384

noncomputable section

namespace Cert.PostMidBlock

open Idealize.ShloMosaic Cert.Kernel4Ideal Cert.Kernel4Ideal.Gen Cert.PostSpec Cert.PostBlock

/-- The embedding's gated projection added. -/
theorem pay1_apply (y e : FVec Ideal S1024x1024 .f32) (p : Vec Ideal S1024x256 .f32) (pp : Vec Ideal S256x1024 .bf16)
    (r c : Fin 1024) :
    k0_pay1 (F := Ideal) y e (Scalar.ofBits .f32 0x3F800000#32) p pp (ix2 r c) =
      y (ix2 r c) + rowMul (row p r) (mat pp) c * Ideal.div 1 (1 + e (ix2 r c)) := by
  pointwise [k0_pay1]
  rfl

theorem pay3_eq : @k0_pay3 Ideal _ = @Cert.Kernel2Ideal.Gen.k0_pay3 Ideal _ := rfl
theorem pay4_eq : @k0_pay4 Ideal _ = @Cert.Kernel2Ideal.Gen.k0_pay4 Ideal _ := rfl
theorem pay5_eq : @k0_pay5 Ideal _ = @Cert.Kernel2Ideal.Gen.k0_pay5 Ideal _ := rfl
theorem pay6_eq : @k0_pay6 Ideal _ = @Cert.Kernel2Ideal.Gen.k0_pay6 Ideal _ := rfl
theorem pay7_eq : @k0_pay7 Ideal _ = @Cert.Kernel2Ideal.Gen.k0_pay7 Ideal _ := rfl

/-- One row of what the body leaves in the output's block. -/
theorem out_apply (x0 : Vec Ideal S1024x1024 .f32) (x1 : Vec Ideal S1024x1024 .bf16) (x2 : Vec Ideal S1024x1024 .bf16)
    (x3 : Vec Ideal S1x1024 .f32) (x4 : Vec Ideal S1024x4096 .bf16) (x5 : Vec Ideal S4096x1024 .bf16)
    (x6 : Vec Ideal S1024x256 .f32) (x7 : Vec Ideal S256x1024 .bf16) (x8 : Vec Ideal S1024x1024 .bf16) (r c : Fin 1024) :
    out0_9 (F := Ideal) x0 x1 x2 x3 x4 x5 x6 x7 x8 (ix2 r c) =
      layer (row x0 r) (row x1 r) (mat x2) (row x3 0) (mat x4) (mat x5) (row x6 r) (mat x7) (mat x8) c := by
  have hz : (![0, 0] : Fin 2 → ℕ) = fun _ => 0 := by decide
  unfold_out out0_9
  rw [View.canon_unit_zero hz]
  have l0 : ∀ {e} (x : Vec Ideal S1024x1024 e), View.ld x r0_0 = x := fun x => View.ld_unit_zero (S := S1024x1024) hz _ x
  have l1 : ∀ {e} (x : Vec Ideal S1x1024 e), View.ld x r0_1 = x := fun x => View.ld_unit_zero (S := S1x1024) hz _ x
  have l10 : ∀ {e} (x : Vec Ideal S1024x256 e), View.ld x r0_10 = x := fun x => View.ld_unit_zero (S := S1024x256) hz _ x
  have l11 : ∀ {e} (x : Vec Ideal S256x1024 e), View.ld x r0_11 = x := fun x => View.ld_unit_zero (S := S256x1024) hz _ x
  simp only [l0, l1, l10, l11]
  rw [pay1_apply]
  simp only [pay3_eq, pay4_eq, pay5_eq, pay6_eq, pay7_eq]
  simp only [pay7_apply, layer]
  have e6 : row (Cert.Kernel2Ideal.Gen.k0_pay6 (F := Ideal) (Cert.Kernel2Ideal.Gen.k0_pay3 x1 x0 x2 x3)
      (Cert.Kernel2Ideal.Gen.k0_pay4 x1 x0 x2 x3 (View.ld x4 r0_2) (View.ld x5 r0_3))
      (Cert.Kernel2Ideal.Gen.k0_pay5 x1 x0 x2 x3 (View.ld x4 r0_4)) (View.ld x5 r0_5) (View.ld x4 r0_6) (View.ld x5 r0_7) (View.ld x4 r0_8)
      (View.ld x5 r0_9)) r = afterMlp (afterMix (row x0 r) (row x1 r) (mat x2)) (row x3 0) (mat x4) (mat x5) := by
    funext j
    rw [row, pay6_apply, afterMlp_quarters]
    simp only [pay4_apply, pay5_apply, rowMul, row, mat, pay3_apply]
    pointwise
  rw [e6]
  simp only [congrFun e6]
  rfl

end Cert.PostMidBlock

end
-- ==== Proof.PostMidArray.lean ====
/-
  What the second half's call of a middle odd layer leaves in its result, over the extended reals: at row `i` of the
  32768 (token `i % 4096` of sequence `i / 4096`), `PostSpec.layer` of that token's rows of the arguments.
-/
module

public import proofs.«01_k».proof.Proof.PostMidBlock
public import proofs.«01_k».proof.Proof.PostArray
public import Idealize.ShloMosaic.Lib.Pipeline.ValueKit
public import Idealize.ShloMosaic.Lib.StableHlo.RunRead

@[expose] public section

set_option maxRecDepth 16384

noncomputable section

namespace Cert.PostMidArray

open Idealize.ShloMosaic Idealize.ShloMosaic.TcCoe Idealize.SL.Sem
open Idealize.ShloMosaic.Pipeline (Dat)
open Cert.Kernel4Ideal Cert.Kernel4Ideal.Gen Cert.PostSpec Cert.PostBlock Cert.PostMidBlock

/-- The result of the layer's second half, from the arguments' arrays. -/
def G (x : S8x4096x1024.Idx → EReal) (o : S8x4096x1024.Idx → EReal) (wo : S1024x1024.Idx → EReal)
    (g : S1024.Idx → EReal) (up : S1024x4096.Idx → EReal) (dn : S4096x1024.Idx → EReal)
    (p : S8x4096x256.Idx → EReal) (pp : S256x1024.Idx → EReal) (pg : S1024x1024.Idx → EReal) : S32768x1024.Idx → EReal := fun i =>
  have h : (i 0).val < 32768 := (i 0).isLt
  let b : Fin 8 := ⟨(i 0).val / 4096, by omega⟩
  let t : Fin 4096 := ⟨(i 0).val % 4096, by omega⟩
  layer (fun j => x (ix3 b t j)) (fun j => o (ix3 b t j)) (mat wo) (fun j => g (ix1 j)) (mat up) (mat dn)
    (fun j => p (ix3 b t j)) (mat pp) (mat pg) (i 1)

variable (m : (ℓ : Loc nD τ sig) → Buf (Elt Ideal) ℓ) (ρ : Dev nD → PrngReg)

/-- Every window's block index at a grid point: the row blocks move with the point, the weights stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![0, 0] ∧ win0_8.index t = ![0, 0] ∧ win0_9.index t = ![t.val, 0] :=
  (by decide +kernel : ∀ t : Fin grid0.N, _)

/-- Core `c`'s argument arrays as launched. -/
abbrev A (c : Dev nD) (b : Ref sig .tc) : Buf (Elt Ideal) ((c : Thread nD τ).loc b) := m ((c : Thread nD τ).loc b)

/-- The region finds the residual with its sequences one after the other. -/
theorem V_v0 (c : Dev nD) : V m c main_v0 = shapeCast S32768x1024 (A m c main_arg0) shapeCasts_S8x4096x1024_S32768x1024 := by
  unfold V
  after_reads_simp
  try rfl

theorem V_v1 (c : Dev nD) : V m c main_v1 = shapeCast S32768x1024 (A m c main_arg1) shapeCasts_S8x4096x1024_S32768x1024 := by
  unfold V
  after_reads_simp
  try rfl

theorem V_v6 (c : Dev nD) : V m c main_v6 = shapeCast S32768x256 (A m c main_arg6) shapeCasts_S8x4096x256_S32768x256 := by
  unfold V
  after_reads_simp
  try rfl

/-- The residual's block at a point, read at the token it holds. -/
theorem blk0 (c : Dev nD) (t : Fin cfg0.N) (r j : Fin 1024) (ht : t.val < 32) :
    iblk m c 0 t (ix2 r j) = A m c main_arg0 (ix3 ⟨(t.val * 1024 + r.val) / 4096, by omega⟩ ⟨(t.val * 1024 + r.val) % 4096, by omega⟩ j) := by
  have e : iblk m c 0 t (ix2 r j) = V m c main_v0 (ix2 ⟨t.val * 1024 + r.val, by omega⟩ j) := by
    blk_ext [iblk, idx t]
  rw [e, V_v0, Cert.PostArray.flat_rows]

theorem blk1 (c : Dev nD) (t : Fin cfg0.N) (r j : Fin 1024) (ht : t.val < 32) :
    iblk m c 1 t (ix2 r j) = A m c main_arg1 (ix3 ⟨(t.val * 1024 + r.val) / 4096, by omega⟩ ⟨(t.val * 1024 + r.val) % 4096, by omega⟩ j) := by
  have e : iblk m c 1 t (ix2 r j) = V m c main_v1 (ix2 ⟨t.val * 1024 + r.val, by omega⟩ j) := by
    blk_ext [iblk, idx t]
  rw [e, V_v1, Cert.PostArray.flat_rows]

theorem blk6 (c : Dev nD) (t : Fin cfg0.N) (r : Fin 1024) (j : Fin 256) (ht : t.val < 32) :
    iblk m c 6 t (ix2 r j) = A m c main_arg6 (ix3 ⟨(t.val * 1024 + r.val) / 4096, by omega⟩ ⟨(t.val * 1024 + r.val) % 4096, by omega⟩ j) := by
  have e : iblk m c 6 t (ix2 r j) = V m c main_v6 (ix2 ⟨t.val * 1024 + r.val, by omega⟩ j) := by
    blk_ext [iblk, idx t]
  rw [e, V_v6, Cert.PostArray.flat_rows]

/-- The array after the run. -/
theorem final (c : Dev nD) : (dats m 0 c).arrAt 9 cfg0.N =
    G (A m c main_arg0) (A m c main_arg1) (A m c main_arg2) (A m c main_arg3) (A m c main_arg4) (A m c main_arg5)
      (A m c main_arg6) (A m c main_arg7) (A m c main_arg8) := by
  refine (dats m 0 c).arrAt_eq_of_covers 9 _ (by decide +kernel) fun t hf y => ?_
  blk_simp
  rw [after0_9]
  idx_vars y
  rw [PostMidBlock.out_apply]
  unfold G
  have ht : t.val < 32 := t.isLt
  have e0 : (((View.whole main_v9).slice (win0_9.rect t)).emb (ix2 y0 y1) 0 : ℕ) = t.val * 1024 + y0.val := by
    blk_simp [idx t]
  have e1 : ((View.whole main_v9).slice (win0_9.rect t)).emb (ix2 y0 y1) 1 = y1 := by
    apply Fin.ext
    blk_simp [idx t]
  dsimp only
  rw [e1]
  congr 1
  all_goals try funext i
  all_goals try funext j
  all_goals try simp only [row, mat]
  · rw [blk0 m c t y0 i ht]
    simp only [e0]
  · rw [blk1 m c t y0 i ht]
    simp only [e0]
  · blk_point [iblk, V, idx t]
  · blk_point [iblk, V, idx t]
  · blk_point [iblk, V, idx t]
  · blk_point [iblk, V, idx t]
  · rw [blk6 m c t y0 i ht]
    simp only [e0]
  · blk_point [iblk, V, idx t]
  · blk_point [iblk, V, idx t]

end Cert.PostMidArray

end
-- ==== Proof.PostMidRef.lean ====
/-
  What the plain reference of a middle odd layer's second half computes. Its residual after the gated embedding is the
  same expression of its arguments as in the last layer's reference.
-/
module

public import proofs.«01_k».proof.Proof.Gen.Reference4Ideal.Read
public import proofs.«01_k».proof.Proof.PostMidArray
public import proofs.«01_k».proof.Proof.PostRef

@[expose] public section

set_option maxRecDepth 16384

noncomputable section

namespace Cert.PostMidRef

open Idealize.ShloMosaic Cert.Reference4Ideal Cert.Reference4Ideal.Gen Cert.Reference4Ideal.Read Cert.PostSpec

variable (x0 : (⟨S8x4096x1024, .f32⟩ : BufTy).Contents (Elt Ideal)) (x1 : (⟨S8x4096x1024, .bf16⟩ : BufTy).Contents (Elt Ideal))
  (x2 : (⟨S1024x1024, .f32⟩ : BufTy).Contents (Elt Ideal)) (x3 : (⟨S1024, .f32⟩ : BufTy).Contents (Elt Ideal)) (x4 : (⟨S1024x4096, .f32⟩ : BufTy).Contents (Elt Ideal))
  (x5 : (⟨S4096x1024, .f32⟩ : BufTy).Contents (Elt Ideal)) (x6 : (⟨S8x4096x256, .f32⟩ : BufTy).Contents (Elt Ideal)) (x7 : (⟨S256x1024, .f32⟩ : BufTy).Contents (Elt Ideal))
  (x8 : (⟨S1024x1024, .f32⟩ : BufTy).Contents (Elt Ideal))

/-- The residual after the gated embedding, as the last layer's reference has it. -/
theorem v30_same : val_main_v30 (F := Ideal) x0 x1 x2 x3 x4 x5 x6 x7 x8
    = Cert.Reference2Ideal.Read.val_main_v30 (F := Ideal) x0 x1 x2 x3 x4 x5 x6 x7 x8 := rfl

/-- The reference's result. -/
theorem v31_eq : val_main_v31 (F := Ideal) x0 x1 x2 x3 x4 x5 x6 x7 x8 = Cert.PostMidArray.G x0 x1 x2 x3 x4 x5 x6 x7 x8 := by
  funext i
  idx_vars i
  unfold val_main_v31 Cert.PostMidArray.G
  rw [Cert.PostArray.flat_rows, v30_same, Cert.PostRef.v30_eq]
  rfl

end Cert.PostMidRef

end
-- ==== Proof.PostMidClaim.lean ====
/-
  A middle odd layer's second half: the kernel's result is the plain reference's, over the extended reals.
-/
module

public import proofs.«01_k».proof.Defs
public import proofs.«01_k».proof.Proof.PostMidRef

@[expose] public section

set_option maxRecDepth 16384

noncomputable section

namespace Cert.PostMidClaim

open Idealize.ShloMosaic Idealize.SL.Sem

/-- Both programs end with `PostMidArray.G` of the arguments, so their results agree. -/
theorem agrees : algebraic_Kernel4Ideal_Reference4Ideal := fun m ρ m' ρ' _ hag =>
  ⟨fun c => Cert.PostMidArray.G (Cert.PostMidArray.A m c Kernel4Ideal.main_arg0) (Cert.PostMidArray.A m c Kernel4Ideal.main_arg1)
      (Cert.PostMidArray.A m c Kernel4Ideal.main_arg2) (Cert.PostMidArray.A m c Kernel4Ideal.main_arg3)
      (Cert.PostMidArray.A m c Kernel4Ideal.main_arg4) (Cert.PostMidArray.A m c Kernel4Ideal.main_arg5)
      (Cert.PostMidArray.A m c Kernel4Ideal.main_arg6) (Cert.PostMidArray.A m c Kernel4Ideal.main_arg7)
      (Cert.PostMidArray.A m c Kernel4Ideal.main_arg8),
    (θ_run _ _ _).mono (fun _ h c => ⟨(h c).1.trans (Cert.PostMidArray.final m c), (h c).2⟩) (Cert.Kernel4Ideal.Value.run_blocks m ρ),
    (θ_run _ _ _).mono (fun _ h c => ⟨(h c).1.trans (by
      obtain ⟨h0, h1, h2, h3, h4, h5, h6, h7, h8⟩ := hag c
      rw [Cert.Reference4Ideal.Read.val_main_v31_eq, Cert.PostMidRef.v31_eq]
      rw [h0, h1, h2, h3, h4, h5, h6, h7, h8]), (h c).2⟩) (Cert.Reference4Ideal.Value.run m' ρ')⟩

end Cert.PostMidClaim

end
-- ==== Proof.ScanOps.lean ====
/-
  What the scan's body does at one grid point, written once: four sequences by four heads (a chain each) run over
  four chunks of 64 tokens. A chain's chunk is six operations; the stores of the body are these, chunk by chunk and
  chain by chain, and the memory each chain ends with goes back to scratch.
-/
module

public import proofs.«01_k».proof.Proof.Gen.KernelIdeal.Value

@[expose] public section

set_option maxRecDepth 16384

noncomputable section

namespace Cert.ScanOps

open Cert.KernelIdeal Cert.KernelIdeal.Gen
open Idealize.ShloMosaic Idealize.ShloMosaic.TcCoe Idealize.ShloMosaic.Tactic Idealize.SL.Sem

variable {F : FTy → Type} [FloatOps F]

/-- The pieces the body loads: chunk `n` of chain (sequence `b`, head `h`). -/
structure Loads (F : FTy → Type) where
  u : Fin 4 → Fin 4 → Fin 4 → Vec F S1x64x128 .f32
  w : Fin 4 → Fin 4 → Fin 4 → Vec F S1x64x128 .bf16
  qd : Fin 4 → Fin 4 → Fin 4 → Vec F S1x64x128 .bf16
  kd : Fin 4 → Fin 4 → Fin 4 → Vec F S1x64x128 .bf16
  qk : Fin 4 → Fin 4 → Fin 4 → Vec F S1x1x64x64 .bf16
  g : Fin 4 → Fin 4 → Fin 4 → Vec F S1x1x1 .f32
  z : Fin 4 → Fin 4 → Fin 4 → Vec F S1x64x128 .bf16
  nw : Vec F S1x128 .f32

/-- Chunk `n` of the four. -/
abbrev nth (n : ℕ) : Fin 4 := ⟨n % 4, Nat.mod_lt _ (by decide)⟩

/-- The two products with the memory, one above the other. -/
def prods (L : Loads F) (S : FVec F S128x128 .f32) (n b h : Fin 4) : FVec F S128x128 .f32 :=
  k0_pay19 S (L.w n b h) (L.qd n b h)
/-- The chunk's new values. -/
def vals (L : Loads F) (S : FVec F S128x128 .f32) (n b h : Fin 4) : FVec F S64x128 .bf16 :=
  k0_pay38 (prods L S n b h) (L.u n b h)
/-- The memory after the chunk. -/
def step (L : Loads F) (S : FVec F S128x128 .f32) (n b h : Fin 4) : FVec F S128x128 .f32 :=
  k0_pay129 S (k0_pay70 (vals L S n b h) (L.kd n b h)) (L.g n b h)
/-- What the chunk stores into the output. -/
def store (L : Loads F) (S : FVec F S128x128 .f32) (n b h : Fin 4) : FVec F S1x64x128 .bf16 :=
  k0_pay126 (prods L S n b h) (k0_pay54 (vals L S n b h) (L.qk n b h)) (L.z n b h) L.nw
/-- The memory of chain (`b`, `h`) before chunk `n`, from what scratch held. -/
def mem (L : Loads F) (init : Fin 4 → Fin 4 → Vec F S1x1x128x128 .f32) (b h : Fin 4) (n : ℕ) : FVec F S128x128 .f32 :=
  Nat.rec (k0_pay3 (init b h)) (fun k S => step L S (nth k) b h) n

theorem inb_tok (n b h : Fin 4) : ∀ a, (![b.val, 64 * n.val, 128 * h.val] : Fin 3 → ℕ) a + S1x64x128.size a ≤ S4x256x512.size a := by
  intro a; fin_cases a <;> simp [S1x64x128, S4x256x512] <;> omega
theorem inb_prod (n b h : Fin 4) : ∀ a, (![b.val, h.val, 64 * n.val, 0] : Fin 4 → ℕ) a + S1x1x64x64.size a ≤ S4x4x256x64.size a := by
  intro a; fin_cases a <;> simp [S1x1x64x64, S4x4x256x64] <;> omega
theorem inb_gate (n b h : Fin 4) : ∀ a, (![b.val, 64 * n.val + 63, 4 + h.val] : Fin 3 → ℕ) a + S1x1x1.size a ≤ S4x256x128.size a := by
  intro a; fin_cases a <;> simp [S1x1x1, S4x256x128] <;> omega
theorem inb_mem (b h : Fin 4) : ∀ a, (![b.val, h.val, 0, 0] : Fin 4 → ℕ) a + S1x1x128x128.size a ≤ S4x4x128x128.size a := by
  intro a; fin_cases a <;> simp [S1x1x128x128, S4x4x128x128] <;> omega

/-- Chunk `n` of chain (`b`, `h`) in a block of tokens. -/
abbrev tokRect (n b h : Fin 4) : Rect S4x256x512 := Rect.unit ![b.val, 64 * n.val, 128 * h.val] S1x64x128.size (inb_tok n b h)
/-- The same chunk's products of queries with keys. -/
abbrev prodRect (n b h : Fin 4) : Rect S4x4x256x64 := Rect.unit ![b.val, h.val, 64 * n.val, 0] S1x1x64x64.size (inb_prod n b h)
/-- The decay of the chunk's last token. -/
abbrev gateRect (n b h : Fin 4) : Rect S4x256x128 := Rect.unit ![b.val, 64 * n.val + 63, 4 + h.val] S1x1x1.size (inb_gate n b h)
/-- The chain's memory in scratch. -/
abbrev memRect (b h : Fin 4) : Rect S4x4x128x128 := Rect.unit ![b.val, h.val, 0, 0] S1x1x128x128.size (inb_mem b h)

/-- The stores into the output, the last one first. -/
def stores (L : Loads F) (init : Fin 4 → Fin 4 → Vec F S1x1x128x128 .f32) : List (View.Piece (Elt F) S4x256x512 .bf16) :=
  (List.finRange 64).reverse.map fun k =>
    ⟨tokRect (nth (k.val / 16)) (nth (k.val / 4)) (nth k.val),
      store L (mem L init (nth (k.val / 4)) (nth k.val) (k.val / 16)) (nth (k.val / 16)) (nth (k.val / 4)) (nth k.val)⟩
/-- The stores into scratch, the last one first. -/
def saves (L : Loads F) (init : Fin 4 → Fin 4 → Vec F S1x1x128x128 .f32) : List (View.Piece (Elt F) S4x4x128x128 .f32) :=
  (List.finRange 16).reverse.map fun k =>
    ⟨memRect (nth (k.val / 4)) (nth k.val), k0_pay533 (mem L init (nth (k.val / 4)) (nth k.val) 4)⟩

/-- The loads, from the whole staging buffers at their contents. -/
def loads (arg2 : Memref sig .tc .vmem S4x256x512 .f32) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x4x256x64 .bf16) (harg6 : arg6.IsWhole) (arg7 : Memref sig .tc .vmem S4x256x128 .f32) (harg7 : arg7.IsWhole) (arg8 : Memref sig .tc .vmem S4x256x512 .bf16) (harg8 : arg8.IsWhole) (arg9 : Memref sig .tc .vmem S1x128 .f32) (harg9 : arg9.IsWhole)
    (x0 : Vec F S4x256x512 .f32) (x1 : Vec F S4x256x512 .bf16) (x2 : Vec F S4x256x512 .bf16) (x3 : Vec F S4x256x512 .bf16) (x4 : Vec F S4x4x256x64 .bf16) (x5 : Vec F S4x256x128 .f32) (x6 : Vec F S4x256x512 .bf16) (x7 : Vec F S1x128 .f32) : Loads F where
  u n b h := View.readAt (Elt F) arg2.view (tokRect n b h).toLoadRect (harg2.unread x0)
  w n b h := View.readAt (Elt F) arg3.view (tokRect n b h).toLoadRect (harg3.unread x1)
  qd n b h := View.readAt (Elt F) arg4.view (tokRect n b h).toLoadRect (harg4.unread x2)
  kd n b h := View.readAt (Elt F) arg5.view (tokRect n b h).toLoadRect (harg5.unread x3)
  qk n b h := View.readAt (Elt F) arg6.view (prodRect n b h).toLoadRect (harg6.unread x4)
  g n b h := View.readAt (Elt F) arg7.view (gateRect n b h).toLoadRect (harg7.unread x5)
  z n b h := View.readAt (Elt F) arg8.view (tokRect n b h).toLoadRect (harg8.unread x6)
  nw := View.readAt (Elt F) arg9.view (Rect.unit ![0, 0] S1x128.size inb_S1x128_S1x128_0_0).toLoadRect (harg9.unread x7)

/-- What the chains start from at a later token block: what scratch held. -/
def initB (arg11 : Memref sig .tc .vmem S4x4x128x128 .f32) (harg11 : arg11.IsWhole) (xs0 : Vec F S4x4x128x128 .f32) (b h : Fin 4) :
    Vec F S1x1x128x128 .f32 := View.readAt (Elt F) arg11.view (memRect b h).toLoadRect (harg11.unread xs0)
/-- The zeros stored at a sequence's first token block. -/
def zeros : List (View.Piece (Elt F) S4x4x128x128 .f32) :=
  [⟨Rect.unit ![0, 0, 0, 0] S4x4x128x128.size inb_S4x4x128x128_S4x4x128x128_0_0_0_0, k0_pay2⟩]
/-- What they start from at a sequence's first token block: the zeros just stored. -/
def initA (arg11 : Memref sig .tc .vmem S4x4x128x128 .f32) (b h : Fin 4) : Vec F S1x1x128x128 .f32 :=
  arg11.view.readCov zeros (memRect b h).toLoadRect

theorem storesB (c : Dev nD) (i : grid0.Coords) (arg2 : Memref sig .tc .vmem S4x256x512 .f32) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x4x256x64 .bf16) (harg6 : arg6.IsWhole) (arg7 : Memref sig .tc .vmem S4x256x128 .f32) (harg7 : arg7.IsWhole) (arg8 : Memref sig .tc .vmem S4x256x512 .bf16) (harg8 : arg8.IsWhole) (arg9 : Memref sig .tc .vmem S1x128 .f32) (harg9 : arg9.IsWhole) (arg10 : Memref sig .tc .vmem S4x256x512 .bf16) (harg10 : arg10.IsWhole) (arg11 : Memref sig .tc .vmem S4x4x128x128 .f32) (harg11 : arg11.IsWhole) (hc0 : ¬cond0_0 i)
    (x0 : Vec F S4x256x512 .f32) (x1 : Vec F S4x256x512 .bf16) (x2 : Vec F S4x256x512 .bf16) (x3 : Vec F S4x256x512 .bf16) (x4 : Vec F S4x4x256x64 .bf16) (x5 : Vec F S4x256x128 .f32) (x6 : Vec F S4x256x512 .bf16) (x7 : Vec F S1x128 .f32) (xs0 : Vec F S4x4x128x128 .f32) :
    (kernelRun0_B c i arg2 harg2 arg3 harg3 arg4 harg4 arg5 harg5 arg6 harg6 arg7 harg7 arg8 harg8 arg9 harg9 arg10 harg10 arg11 harg11 hc0 x0 x1 x2 x3 x4 x5 x6 x7 xs0).1 = stores (loads arg2 harg2 arg3 harg3 arg4 harg4 arg5 harg5 arg6 harg6 arg7 harg7 arg8 harg8 arg9 harg9 x0 x1 x2 x3 x4 x5 x6 x7) (initB arg11 harg11 xs0) := by sl_kernel_rfl
theorem savesB (c : Dev nD) (i : grid0.Coords) (arg2 : Memref sig .tc .vmem S4x256x512 .f32) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x4x256x64 .bf16) (harg6 : arg6.IsWhole) (arg7 : Memref sig .tc .vmem S4x256x128 .f32) (harg7 : arg7.IsWhole) (arg8 : Memref sig .tc .vmem S4x256x512 .bf16) (harg8 : arg8.IsWhole) (arg9 : Memref sig .tc .vmem S1x128 .f32) (harg9 : arg9.IsWhole) (arg10 : Memref sig .tc .vmem S4x256x512 .bf16) (harg10 : arg10.IsWhole) (arg11 : Memref sig .tc .vmem S4x4x128x128 .f32) (harg11 : arg11.IsWhole) (hc0 : ¬cond0_0 i)
    (x0 : Vec F S4x256x512 .f32) (x1 : Vec F S4x256x512 .bf16) (x2 : Vec F S4x256x512 .bf16) (x3 : Vec F S4x256x512 .bf16) (x4 : Vec F S4x4x256x64 .bf16) (x5 : Vec F S4x256x128 .f32) (x6 : Vec F S4x256x512 .bf16) (x7 : Vec F S1x128 .f32) (xs0 : Vec F S4x4x128x128 .f32) :
    (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1 = saves (loads arg2 harg2 arg3 harg3 arg4 harg4 arg5 harg5 arg6 harg6 arg7 harg7 arg8 harg8 arg9 harg9 x0 x1 x2 x3 x4 x5 x6 x7) (initB arg11 harg11 xs0) := by sl_kernel_rfl
theorem storesA (c : Dev nD) (i : grid0.Coords) (arg2 : Memref sig .tc .vmem S4x256x512 .f32) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x4x256x64 .bf16) (harg6 : arg6.IsWhole) (arg7 : Memref sig .tc .vmem S4x256x128 .f32) (harg7 : arg7.IsWhole) (arg8 : Memref sig .tc .vmem S4x256x512 .bf16) (harg8 : arg8.IsWhole) (arg9 : Memref sig .tc .vmem S1x128 .f32) (harg9 : arg9.IsWhole) (arg10 : Memref sig .tc .vmem S4x256x512 .bf16) (harg10 : arg10.IsWhole) (arg11 : Memref sig .tc .vmem S4x4x128x128 .f32) (harg11 : arg11.IsWhole) (hc0 : cond0_0 i)
    (x0 : Vec F S4x256x512 .f32) (x1 : Vec F S4x256x512 .bf16) (x2 : Vec F S4x256x512 .bf16) (x3 : Vec F S4x256x512 .bf16) (x4 : Vec F S4x4x256x64 .bf16) (x5 : Vec F S4x256x128 .f32) (x6 : Vec F S4x256x512 .bf16) (x7 : Vec F S1x128 .f32) :
    (kernelRun0_A c i arg2 harg2 arg3 harg3 arg4 harg4 arg5 harg5 arg6 harg6 arg7 harg7 arg8 harg8 arg9 harg9 arg10 harg10 arg11 harg11 hc0 x0 x1 x2 x3 x4 x5 x6 x7).1 = stores (loads arg2 harg2 arg3 harg3 arg4 harg4 arg5 harg5 arg6 harg6 arg7 harg7 arg8 harg8 arg9 harg9 x0 x1 x2 x3 x4 x5 x6 x7) (initA arg11) := by sl_kernel_rfl
theorem savesA (c : Dev nD) (i : grid0.Coords) (arg2 : Memref sig .tc .vmem S4x256x512 .f32) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x4x256x64 .bf16) (harg6 : arg6.IsWhole) (arg7 : Memref sig .tc .vmem S4x256x128 .f32) (harg7 : arg7.IsWhole) (arg8 : Memref sig .tc .vmem S4x256x512 .bf16) (harg8 : arg8.IsWhole) (arg9 : Memref sig .tc .vmem S1x128 .f32) (harg9 : arg9.IsWhole) (arg10 : Memref sig .tc .vmem S4x256x512 .bf16) (harg10 : arg10.IsWhole) (arg11 : Memref sig .tc .vmem S4x4x128x128 .f32) (harg11 : arg11.IsWhole) (hc0 : cond0_0 i)
    (x0 : Vec F S4x256x512 .f32) (x1 : Vec F S4x256x512 .bf16) (x2 : Vec F S4x256x512 .bf16) (x3 : Vec F S4x256x512 .bf16) (x4 : Vec F S4x4x256x64 .bf16) (x5 : Vec F S4x256x128 .f32) (x6 : Vec F S4x256x512 .bf16) (x7 : Vec F S1x128 .f32) :
    (kernelRun0_A c i arg2 harg2 arg3 harg3 arg4 harg4 arg5 harg5 arg6 harg6 arg7 harg7 arg8 harg8 arg9 harg9 arg10 harg10 arg11 harg11 hc0 x0 x1 x2 x3 x4 x5 x6 x7).2.1 = saves (loads arg2 harg2 arg3 harg3 arg4 harg4 arg5 harg5 arg6 harg6 arg7 harg7 arg8 harg8 arg9 harg9 x0 x1 x2 x3 x4 x5 x6 x7) (initA arg11) ++ zeros := by sl_kernel_rfl

/-- What is left of the output's block and of scratch. -/
theorem outA (c : Dev nD) (i : grid0.Coords) (arg2 : Memref sig .tc .vmem S4x256x512 .f32) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x4x256x64 .bf16) (harg6 : arg6.IsWhole) (arg7 : Memref sig .tc .vmem S4x256x128 .f32) (harg7 : arg7.IsWhole) (arg8 : Memref sig .tc .vmem S4x256x512 .bf16) (harg8 : arg8.IsWhole) (arg9 : Memref sig .tc .vmem S1x128 .f32) (harg9 : arg9.IsWhole) (arg10 : Memref sig .tc .vmem S4x256x512 .bf16) (harg10 : arg10.IsWhole) (arg11 : Memref sig .tc .vmem S4x4x128x128 .f32) (harg11 : arg11.IsWhole) (hc0 : cond0_0 i)
    (x0 : Vec F S4x256x512 .f32) (x1 : Vec F S4x256x512 .bf16) (x2 : Vec F S4x256x512 .bf16) (x3 : Vec F S4x256x512 .bf16) (x4 : Vec F S4x4x256x64 .bf16) (x5 : Vec F S4x256x128 .f32) (x6 : Vec F S4x256x512 .bf16) (x7 : Vec F S1x128 .f32) :
    out0_A_8 c i arg2 harg2 arg3 harg3 arg4 harg4 arg5 harg5 arg6 harg6 arg7 harg7 arg8 harg8 arg9 harg9 arg10 harg10 arg11 harg11 hc0 x0 x1 x2 x3 x4 x5 x6 x7 = View.canon (stores (loads arg2 harg2 arg3 harg3 arg4 harg4 arg5 harg5 arg6 harg6 arg7 harg7 arg8 harg8 arg9 harg9 x0 x1 x2 x3 x4 x5 x6 x7) (initA arg11)) := by
  unfold out0_A_8
  rw [View.read_writes_junk_eq_canon, storesA]
theorem soutA (c : Dev nD) (i : grid0.Coords) (arg2 : Memref sig .tc .vmem S4x256x512 .f32) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x4x256x64 .bf16) (harg6 : arg6.IsWhole) (arg7 : Memref sig .tc .vmem S4x256x128 .f32) (harg7 : arg7.IsWhole) (arg8 : Memref sig .tc .vmem S4x256x512 .bf16) (harg8 : arg8.IsWhole) (arg9 : Memref sig .tc .vmem S1x128 .f32) (harg9 : arg9.IsWhole) (arg10 : Memref sig .tc .vmem S4x256x512 .bf16) (harg10 : arg10.IsWhole) (arg11 : Memref sig .tc .vmem S4x4x128x128 .f32) (harg11 : arg11.IsWhole) (hc0 : cond0_0 i)
    (x0 : Vec F S4x256x512 .f32) (x1 : Vec F S4x256x512 .bf16) (x2 : Vec F S4x256x512 .bf16) (x3 : Vec F S4x256x512 .bf16) (x4 : Vec F S4x4x256x64 .bf16) (x5 : Vec F S4x256x128 .f32) (x6 : Vec F S4x256x512 .bf16) (x7 : Vec F S1x128 .f32) :
    sout0_A_0 c i arg2 harg2 arg3 harg3 arg4 harg4 arg5 harg5 arg6 harg6 arg7 harg7 arg8 harg8 arg9 harg9 arg10 harg10 arg11 harg11 hc0 x0 x1 x2 x3 x4 x5 x6 x7 = View.canon (saves (loads arg2 harg2 arg3 harg3 arg4 harg4 arg5 harg5 arg6 harg6 arg7 harg7 arg8 harg8 arg9 harg9 x0 x1 x2 x3 x4 x5 x6 x7) (initA arg11) ++ zeros) := by
  unfold sout0_A_0
  rw [View.read_writes_junk_eq_canon, savesA]
theorem outB (c : Dev nD) (i : grid0.Coords) (arg2 : Memref sig .tc .vmem S4x256x512 .f32) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x4x256x64 .bf16) (harg6 : arg6.IsWhole) (arg7 : Memref sig .tc .vmem S4x256x128 .f32) (harg7 : arg7.IsWhole) (arg8 : Memref sig .tc .vmem S4x256x512 .bf16) (harg8 : arg8.IsWhole) (arg9 : Memref sig .tc .vmem S1x128 .f32) (harg9 : arg9.IsWhole) (arg10 : Memref sig .tc .vmem S4x256x512 .bf16) (harg10 : arg10.IsWhole) (arg11 : Memref sig .tc .vmem S4x4x128x128 .f32) (harg11 : arg11.IsWhole) (hc0 : ¬cond0_0 i)
    (x0 : Vec F S4x256x512 .f32) (x1 : Vec F S4x256x512 .bf16) (x2 : Vec F S4x256x512 .bf16) (x3 : Vec F S4x256x512 .bf16) (x4 : Vec F S4x4x256x64 .bf16) (x5 : Vec F S4x256x128 .f32) (x6 : Vec F S4x256x512 .bf16) (x7 : Vec F S1x128 .f32) (xs0 : Vec F S4x4x128x128 .f32) :
    out0_B_8 c i arg2 harg2 arg3 harg3 arg4 harg4 arg5 harg5 arg6 harg6 arg7 harg7 arg8 harg8 arg9 harg9 arg10 harg10 arg11 harg11 hc0 x0 x1 x2 x3 x4 x5 x6 x7 xs0 = View.canon (stores (loads arg2 harg2 arg3 harg3 arg4 harg4 arg5 harg5 arg6 harg6 arg7 harg7 arg8 harg8 arg9 harg9 x0 x1 x2 x3 x4 x5 x6 x7) (initB arg11 harg11 xs0)) := by
  unfold out0_B_8
  rw [View.read_writes_junk_eq_canon, storesB]
theorem soutB (c : Dev nD) (i : grid0.Coords) (arg2 : Memref sig .tc .vmem S4x256x512 .f32) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x4x256x64 .bf16) (harg6 : arg6.IsWhole) (arg7 : Memref sig .tc .vmem S4x256x128 .f32) (harg7 : arg7.IsWhole) (arg8 : Memref sig .tc .vmem S4x256x512 .bf16) (harg8 : arg8.IsWhole) (arg9 : Memref sig .tc .vmem S1x128 .f32) (harg9 : arg9.IsWhole) (arg10 : Memref sig .tc .vmem S4x256x512 .bf16) (harg10 : arg10.IsWhole) (arg11 : Memref sig .tc .vmem S4x4x128x128 .f32) (harg11 : arg11.IsWhole) (hc0 : ¬cond0_0 i)
    (x0 : Vec F S4x256x512 .f32) (x1 : Vec F S4x256x512 .bf16) (x2 : Vec F S4x256x512 .bf16) (x3 : Vec F S4x256x512 .bf16) (x4 : Vec F S4x4x256x64 .bf16) (x5 : Vec F S4x256x128 .f32) (x6 : Vec F S4x256x512 .bf16) (x7 : Vec F S1x128 .f32) (xs0 : Vec F S4x4x128x128 .f32) :
    sout0_B_0 c i arg2 harg2 arg3 harg3 arg4 harg4 arg5 harg5 arg6 harg6 arg7 harg7 arg8 harg8 arg9 harg9 arg10 harg10 arg11 harg11 hc0 x0 x1 x2 x3 x4 x5 x6 x7 xs0 = View.canon (saves (loads arg2 harg2 arg3 harg3 arg4 harg4 arg5 harg5 arg6 harg6 arg7 harg7 arg8 harg8 arg9 harg9 x0 x1 x2 x3 x4 x5 x6 x7) (initB arg11 harg11 xs0)) := by
  unfold sout0_B_0
  rw [View.read_writes_junk_eq_canon, savesB]

end Cert.ScanOps
-- ==== Proof.ScanSpec.lean ====
/-
  The chunked gated delta rule over the extended reals: one chunk of one head, the memory it leaves, and the gated norm of its rows.
-/
module

public import Idealize.ShloMosaic.Lib.Pointwise

@[expose] public section

noncomputable section

namespace Cert.ScanSpec

open Idealize.ShloMosaic

/-- A head's memory: keys by values. -/
abbrev Mem := Fin 128 → Fin 128 → EReal

/-- What one chunk of 64 tokens brings to one head: values, decayed keys for reading, queries, keys for writing, the
    products of queries with keys inside the chunk, and the logarithm of the whole chunk's decay. -/
structure Chunk where
  u : Fin 64 → Fin 128 → EReal
  w : Fin 64 → Fin 128 → EReal
  qd : Fin 64 → Fin 128 → EReal
  kd : Fin 64 → Fin 128 → EReal
  qk : Fin 64 → Fin 64 → EReal
  g : EReal

/-- The values less what the memory already holds for their keys. -/
def newVal (S : Mem) (k : Chunk) (c : Fin 64) (e : Fin 128) : EReal := k.u c e - ∑ d, k.w c d * S d e

/-- The rows read from the memory and from the chunk itself. -/
def outRow (S : Mem) (k : Chunk) (c : Fin 64) (e : Fin 128) : EReal :=
  (∑ d, k.qd c d * S d e) + ∑ s, k.qk c s * newVal S k s e

/-- The memory after the chunk. -/
def next (S : Mem) (k : Chunk) : Mem := fun d e => S d e * Ideal.exp k.g + ∑ c, k.kd c d * newVal S k c e

/-- The memory before chunk `n`. -/
def memory (k : ℕ → Chunk) : ℕ → Mem
  | 0 => fun _ _ => 0
  | n + 1 => next (memory k n) (k n)

/-- A row normed, scaled and gated. -/
def gated (o nw z : Fin 128 → EReal) (e : Fin 128) : EReal :=
  o e * Ideal.rsqrt (Ideal.div (∑ i, o i * o i) (Ideal.ofBits .f32 0x43000000#32) + Ideal.ofBits .f32 0x358637BD#32) * nw e
    * (z e * Ideal.div 1 (1 + Ideal.exp (-(z e))))

/-- Token `c` of chunk `n`. -/
def tok (n : ℕ) (c : Fin 64) : Fin 4096 := ⟨n % 64 * 64 + c.val, by omega⟩
/-- Lane `e` of head `h`. -/
def col (h : Fin 4) (e : Fin 128) : Fin 512 := ⟨h.val * 128 + e.val, by omega⟩
/-- The gates' column that holds head `h`'s cumulated decay. -/
def gcol (h : Fin 4) : Fin 128 := ⟨4 + h.val, by omega⟩

/-- Arrays over tokens and lanes. -/
abbrev Tokens (n : ℕ) := (⟨3, ![8, 4096, n]⟩ : Shape).Idx → EReal

/-- Chunk `n` of sequence `b`, head `h`. -/
def chunk (u w qd kd : Tokens 512) (qk : (⟨4, ![8, 4, 4096, 64]⟩ : Shape).Idx → EReal) (g : Tokens 128)
    (b : Fin 8) (h : Fin 4) (n : ℕ) : Chunk where
  u c e := u (ix3 b (tok n c) (col h e))
  w c e := w (ix3 b (tok n c) (col h e))
  qd c e := qd (ix3 b (tok n c) (col h e))
  kd c e := kd (ix3 b (tok n c) (col h e))
  qk c s := qk (ix4 b h (tok n c) s)
  g := g (ix3 b (tok n 63) (gcol h))

/-- The recurrence's result. -/
def G (u w qd kd : Tokens 512) (qk : (⟨4, ![8, 4, 4096, 64]⟩ : Shape).Idx → EReal) (g : Tokens 128) (z : Tokens 512)
    (nw : (⟨1, ![128]⟩ : Shape).Idx → EReal) (b : Fin 8) (h : Fin 4) (n : ℕ) (c : Fin 64) (e : Fin 128) : EReal :=
  gated (outRow (memory (chunk u w qd kd qk g b h) n) (chunk u w qd kd qk g b h n) c) (fun e => nw (ix1 e))
    (fun e => z (ix3 b (tok n c) (col h e))) e

end Cert.ScanSpec

end
-- ==== Proof.ScanBlock.lean ====
/-
  One chunk of one chain over the extended reals: the body's memory after it is `ScanSpec.next`, and what it stores is
  the row read from the memory, normed and gated.
-/
module

public import proofs.«01_k».proof.Proof.ScanOps
public import proofs.«01_k».proof.Proof.ScanSpec
public import Idealize.ShloMosaic.Lib.Pointwise

@[expose] public section

set_option maxRecDepth 16384

noncomputable section

namespace Cert.ScanBlock

open Idealize.ShloMosaic Cert.KernelIdeal Cert.KernelIdeal.Gen Cert.ScanSpec Cert.ScanOps

/-- A memory as a function of its key and value lanes. -/
abbrev memOf (S : FVec Ideal S128x128 .f32) : Mem := fun d e => S (ix2 d e)

/-- The chunk the loaded pieces hold. -/
def chunkOf (L : Loads Ideal) (n b h : Fin 4) : Chunk where
  u c e := L.u n b h (ix3 0 c e)
  w c e := L.w n b h (ix3 0 c e)
  qd c e := L.qd n b h (ix3 0 c e)
  kd c e := L.kd n b h (ix3 0 c e)
  qk c s := L.qk n b h (ix4 0 0 c s)
  g := L.g n b h (ix3 0 0 0)

/-- The upper product: what the memory holds for the chunk's keys. -/
theorem prods_top (L : Loads Ideal) (S : FVec Ideal S128x128 .f32) (n b h : Fin 4) (c : Fin 64) (e : Fin 128) :
    prods L S n b h (ix2 ⟨c.val, by omega⟩ e) = ∑ d, (chunkOf L n b h).w c d * memOf S d e := by
  unfold prods
  pointwise [k0_pay19]
  rfl

/-- The lower product: what the chunk's queries read from the memory. -/
theorem prods_bottom (L : Loads Ideal) (S : FVec Ideal S128x128 .f32) (n b h : Fin 4) (c : Fin 64) (e : Fin 128) :
    prods L S n b h (ix2 ⟨64 + c.val, by omega⟩ e) = ∑ d, (chunkOf L n b h).qd c d * memOf S d e := by
  unfold prods
  pointwise [k0_pay19]
  rfl

theorem vals_apply (L : Loads Ideal) (S : FVec Ideal S128x128 .f32) (n b h : Fin 4) (c : Fin 64) (e : Fin 128) :
    vals L S n b h (ix2 c e) = newVal (memOf S) (chunkOf L n b h) c e := by
  unfold vals
  pointwise [k0_pay38]
  rw [prods_top]
  rfl

/-- The memory after the chunk. -/
theorem step_apply (L : Loads Ideal) (S : FVec Ideal S128x128 .f32) (n b h : Fin 4) :
    memOf (step L S n b h) = next (memOf S) (chunkOf L n b h) := by
  funext d e
  unfold step
  pointwise [k0_pay129, k0_pay70]
  simp only [vals_apply]
  rfl

/-- What the chunk stores. -/
theorem store_apply (L : Loads Ideal) (S : FVec Ideal S128x128 .f32) (n b h : Fin 4) (c : Fin 64) (e : Fin 128) :
    store L S n b h (ix3 0 c e) = gated (outRow (memOf S) (chunkOf L n b h) c) (fun e => L.nw (ix2 0 e))
      (fun e => L.z n b h (ix3 0 c e)) e := by
  unfold store
  have hr : ∀ e : Fin 128, prods L S n b h (ix2 ⟨64 + c.val, by omega⟩ e)
      + k0_pay54 (F := Ideal) (vals L S n b h) (L.qk n b h) (ix2 c e) = outRow (memOf S) (chunkOf L n b h) c e := by
    intro e
    rw [prods_bottom]
    pointwise [k0_pay54]
    simp only [vals_apply]
    rfl
  pointwise [k0_pay126]
  simp only [hr, zero_sub]
  rfl

/-- The memory before chunk `n` of a block that starts at chunk `t` of the sequence. -/
theorem mem_apply (L : Loads Ideal) (init : Fin 4 → Fin 4 → Vec Ideal S1x1x128x128 .f32) (b h : Fin 4) (k : ℕ → Chunk) (t : ℕ)
    (h0 : ∀ d e, init b h (ix4 0 0 d e) = memory k t d e) (hk : ∀ n : Fin 4, chunkOf L n b h = k (t + n.val)) :
    ∀ n : ℕ, n ≤ 4 → memOf (mem L init b h n) = memory k (t + n)
  | 0, _ => by
    funext d e
    show k0_pay3 (init b h) (ix2 d e) = _
    pointwise [k0_pay3]
    exact h0 d e
  | n + 1, hn => by
    show memOf (step L (mem L init b h n) (nth n) b h) = next (memory k (t + n)) (k (t + n))
    rw [step_apply, mem_apply L init b h k t h0 hk n (by omega), hk]
    congr 3
    exact Nat.mod_eq_of_lt (by omega)

end Cert.ScanBlock

end
-- ==== Proof.ScanPoint.lean ====
/-
  What a grid point leaves in the output's block and in scratch, read at an index: at token `64 n + c` and lane
  `128 h + e` what chunk `n` of chain (`b`, `h`) stored there, and in scratch each chain's memory after four chunks.
-/
module

public import proofs.«01_k».proof.Proof.ScanBlock
public import Idealize.ShloMosaic.Lib.WholeRead
public import Idealize.ShloMosaic.Lib.Pipeline.CanonAppend

@[expose] public section

set_option maxRecDepth 16384

noncomputable section

namespace Cert.ScanPoint

open Idealize.ShloMosaic Idealize.ShloMosaic.TcCoe Idealize.ShloMosaic.Tactic
open Cert.KernelIdeal Cert.KernelIdeal.Gen Cert.ScanSpec Cert.ScanOps Cert.ScanBlock

/-- Token `c` of the block's chunk `n`. -/
def btok (n : Fin 4) (c : Fin 64) : Fin 256 := ⟨64 * n.val + c.val, by omega⟩
/-- Lane `e` of head `h`. -/
def bcol (h : Fin 4) (e : Fin 128) : Fin 512 := ⟨128 * h.val + e.val, by omega⟩

section

variable {F : FTy → Type} [FloatOps F] (L : Loads F) (init : Fin 4 → Fin 4 → Vec F S1x1x128x128 .f32)

/-- The output's block, entry by entry. -/
def outFn : S4x256x512.Idx → Elt F .bf16 := fun y =>
  have h0 : (y 0).val < 4 := (y 0).isLt
  have h1 : (y 1).val < 256 := (y 1).isLt
  have h2 : (y 2).val < 512 := (y 2).isLt
  store L (mem L init (nth (y 0).val) (nth ((y 2).val / 128)) ((y 1).val / 64)) (nth ((y 1).val / 64)) (nth (y 0).val)
    (nth ((y 2).val / 128)) (ix3 0 ⟨(y 1).val % 64, by omega⟩ ⟨(y 2).val % 128, by omega⟩)

theorem canon_stores (y : S4x256x512.Idx) : View.canon (stores L init) y = outFn L init y := by
  refine View.canon_apply_of_pieces (outFn L init) _ ?_ y
    (View.cover_of_tiledL (stores L init) S1x64x128.size (by sl_kernel_rfl) y)
  intro p hp x
  obtain ⟨k, -, rfl⟩ := List.mem_map.mp hp
  have hx0 : (x 0).val < 1 := (x 0).isLt
  have hx1 : (x 1).val < 64 := (x 1).isLt
  have hx2 : (x 2).val < 128 := (x 2).isLt
  have hk := k.isLt
  have e0 : (((tokRect (nth (k.val / 16)) (nth (k.val / 4)) (nth k.val)).emb x) 0).val = k.val / 4 % 4 := by
    show k.val / 4 % 4 + 1 * (x 0).val = _
    omega
  have e1 : (((tokRect (nth (k.val / 16)) (nth (k.val / 4)) (nth k.val)).emb x) 1).val = 64 * (k.val / 16) + (x 1).val := by
    show 64 * (k.val / 16 % 4) + 1 * (x 1).val = _
    omega
  have e2 : (((tokRect (nth (k.val / 16)) (nth (k.val / 4)) (nth k.val)).emb x) 2).val = 128 * (k.val % 4) + (x 2).val := by
    show 128 * (k.val % 4) + 1 * (x 2).val = _
    omega
  dsimp only [outFn]
  simp only [e0, e1, e2]
  have a1 : (64 * (k.val / 16) + (x 1).val) / 64 = k.val / 16 := by omega
  have a2 : (128 * (k.val % 4) + (x 2).val) / 128 = k.val % 4 := by omega
  have n0 : nth (k.val / 4 % 4) = nth (k.val / 4) := Fin.ext (Nat.mod_mod _ _)
  have n2 : nth (k.val % 4) = nth k.val := Fin.ext (Nat.mod_mod _ _)
  rw [a1, a2, n0, n2]
  refine congrArg _ (funext fun a => ?_)
  apply Fin.ext
  match a with
  | 0 => show (x 0).val = 0; omega
  | 1 => show (x 1).val = (64 * (k.val / 16) + (x 1).val) % 64; omega
  | 2 => show (x 2).val = (128 * (k.val % 4) + (x 2).val) % 128; omega

theorem stores_apply (n b h : Fin 4) (c : Fin 64) (e : Fin 128) :
    View.canon (stores L init) (ix3 b (btok n c) (bcol h e)) = store L (mem L init b h n.val) n b h (ix3 0 c e) := by
  rw [canon_stores]
  dsimp only [outFn]
  have a0 : nth ((ix3 b (btok n c) (bcol h e) : S4x256x512.Idx) 0).val = b := Fin.ext (Nat.mod_eq_of_lt b.isLt)
  have a1 : ((ix3 b (btok n c) (bcol h e) : S4x256x512.Idx) 1).val / 64 = n.val := by
    show (64 * n.val + c.val) / 64 = _
    omega
  have a2 : ((ix3 b (btok n c) (bcol h e) : S4x256x512.Idx) 2).val / 128 = h.val := by
    show (128 * h.val + e.val) / 128 = _
    omega
  have n1 : nth n.val = n := Fin.ext (Nat.mod_eq_of_lt n.isLt)
  have n2 : nth h.val = h := Fin.ext (Nat.mod_eq_of_lt h.isLt)
  rw [a0, a1, a2, n1, n2]
  refine congrArg _ (funext fun a => ?_)
  apply Fin.ext
  match a with
  | 0 => rfl
  | 1 => show (64 * n.val + c.val) % 64 = c.val; omega
  | 2 => show (128 * h.val + e.val) % 128 = e.val; omega

/-- Scratch, entry by entry. -/
def memFn : S4x4x128x128.Idx → Elt F .f32 := fun y => mem L init (y 0) (y 1) 4 (ix2 (y 2) (y 3))

theorem saves_piece (p) (hp : p ∈ saves L init) (x : p.1.shape.Idx) : p.2 x = memFn L init (p.1.emb x) := by
  obtain ⟨k, -, rfl⟩ := List.mem_map.mp hp
  have hx0 : (x 0).val < 1 := (x 0).isLt
  have hx1 : (x 1).val < 1 := (x 1).isLt
  have e0 : ((memRect (nth (k.val / 4)) (nth k.val)).emb x) 0 = nth (k.val / 4) := by
    apply Fin.ext
    show k.val / 4 % 4 + 1 * (x 0).val = k.val / 4 % 4
    omega
  have e1 : ((memRect (nth (k.val / 4)) (nth k.val)).emb x) 1 = nth k.val := by
    apply Fin.ext
    show k.val % 4 + 1 * (x 1).val = k.val % 4
    omega
  show k0_pay533 (mem L init (nth (k.val / 4)) (nth k.val) 4) x = memFn L init ((memRect (nth (k.val / 4)) (nth k.val)).emb x)
  unfold k0_pay533 memFn
  rw [e0, e1]
  refine shapeCast_apply _ _ _ _ ?_
  rw [Shape.rowMajor_val_two, Shape.rowMajor_val_four]
  show (0 + 1 * (x 2).val) * 128 + (0 + 1 * (x 3).val) = (((x 0).val * 1 + (x 1).val) * 128 + (x 2).val) * 128 + (x 3).val
  omega

theorem saves_cover (y : S4x4x128x128.Idx) : ∃ p ∈ saves L init, y ∈ p.1.set :=
  View.cover_of_tiledL (saves L init) S1x1x128x128.size (by sl_kernel_rfl) y

/-- Scratch after the point's stores, whatever was stored before them. -/
theorem saves_apply (L' : List (View.Piece (Elt F) S4x4x128x128 .f32)) (b h : Fin 4) (d e : Fin 128) :
    View.canon (saves L init ++ L') (ix4 b h d e) = mem L init b h 4 (ix2 d e) :=
  View.canon_append_of_pieces (memFn L init) L' _ (saves_piece L init) _ (saves_cover L init _)

end

/-! ## The loads, at an index -/

theorem readTok {e : EltTy} {a : Memref sig .tc .vmem S4x256x512 e} (ha : a.IsWhole) (x : Vec Ideal S4x256x512 e) (n b h : Fin 4)
    (c : Fin 64) (l : Fin 128) :
    View.readAt (Elt Ideal) a.view (tokRect n b h).toLoadRect (ha.unread x) (ix3 0 c l : S1x64x128.Idx) = x (ix3 b (btok n c) (bcol h l)) := by
  rw [ha.readAt_unread]
  refine congrArg x (funext fun i => Fin.ext ?_)
  match i with
  | 0 => rfl
  | 1 => show 64 * n.val + 1 * c.val = 64 * n.val + c.val; omega
  | 2 => show 128 * h.val + 1 * l.val = 128 * h.val + l.val; omega

theorem readProd {a : Memref sig .tc .vmem S4x4x256x64 .bf16} (ha : a.IsWhole) (x : Vec Ideal S4x4x256x64 .bf16) (n b h : Fin 4)
    (c s : Fin 64) :
    View.readAt (Elt Ideal) a.view (prodRect n b h).toLoadRect (ha.unread x) (ix4 0 0 c s : S1x1x64x64.Idx) = x (ix4 b h (btok n c) s) := by
  rw [ha.readAt_unread]
  refine congrArg x (funext fun i => Fin.ext ?_)
  match i with
  | 0 => rfl
  | 1 => rfl
  | 2 => show 64 * n.val + 1 * c.val = 64 * n.val + c.val; omega
  | 3 => show 0 + 1 * s.val = s.val; omega

theorem readGate {a : Memref sig .tc .vmem S4x256x128 .f32} (ha : a.IsWhole) (x : Vec Ideal S4x256x128 .f32) (n b h : Fin 4) :
    View.readAt (Elt Ideal) a.view (gateRect n b h).toLoadRect (ha.unread x) (ix3 0 0 0 : S1x1x1.Idx) = x (ix3 b (btok n 63) (gcol h)) := by
  rw [ha.readAt_unread]
  refine congrArg x (funext fun i => Fin.ext ?_)
  match i with
  | 0 => rfl
  | 1 => rfl
  | 2 => rfl

theorem readMem {a : Memref sig .tc .vmem S4x4x128x128 .f32} (ha : a.IsWhole) (x : Vec Ideal S4x4x128x128 .f32) (b h : Fin 4)
    (d e : Fin 128) : initB a ha x b h (ix4 0 0 d e) = x (ix4 b h d e) := by
  unfold initB
  rw [ha.readAt_unread]
  refine congrArg x (funext fun i => Fin.ext ?_)
  match i with
  | 0 => rfl
  | 1 => rfl
  | 2 => show 0 + 1 * d.val = d.val; omega
  | 3 => show 0 + 1 * e.val = e.val; omega

/-- A sequence's first block starts from zeros. -/
theorem readZero (a : Memref sig .tc .vmem S4x4x128x128 .f32) (b h : Fin 4) (d e : Fin 128) :
    initA (F := Ideal) a b h (ix4 0 0 d e) = 0 := by
  unfold initA zeros
  rw [View.readCov_eq_canon', View.canon_unit_zero (S := S4x4x128x128) (by decide)]
  pointwise [k0_pay2]

/-- Row 0 of the norm's weights. -/
theorem readNorm {a : Memref sig .tc .vmem S1x128 .f32} (ha : a.IsWhole) (x : Vec Ideal S1x128 .f32) (e : Fin 128) :
    View.readAt (Elt Ideal) a.view (Rect.unit ![0, 0] S1x128.size inb_S1x128_S1x128_0_0).toLoadRect (ha.unread x) (ix2 0 e : S1x128.Idx)
      = x (ix2 0 e) := by
  rw [ha.readAt_unread]
  refine congrArg x (funext fun i => Fin.ext ?_)
  match i with
  | 0 => rfl
  | 1 => show 0 + 1 * e.val = e.val; omega

/-- Chunk `n` of chain (`b`, `h`) in the operands' blocks. -/
def blkChunk (x0 : Vec Ideal S4x256x512 .f32) (x1 x2 x3 : Vec Ideal S4x256x512 .bf16) (x4 : Vec Ideal S4x4x256x64 .bf16)
    (x5 : Vec Ideal S4x256x128 .f32) (n b h : Fin 4) : Chunk where
  u c e := x0 (ix3 b (btok n c) (bcol h e))
  w c e := x1 (ix3 b (btok n c) (bcol h e))
  qd c e := x2 (ix3 b (btok n c) (bcol h e))
  kd c e := x3 (ix3 b (btok n c) (bcol h e))
  qk c s := x4 (ix4 b h (btok n c) s)
  g := x5 (ix3 b (btok n 63) (gcol h))

/-- The loads hold those chunks. -/
theorem loads_chunk (arg2 : Memref sig .tc .vmem S4x256x512 .f32) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x4x256x64 .bf16) (harg6 : arg6.IsWhole) (arg7 : Memref sig .tc .vmem S4x256x128 .f32) (harg7 : arg7.IsWhole) (arg8 : Memref sig .tc .vmem S4x256x512 .bf16) (harg8 : arg8.IsWhole) (arg9 : Memref sig .tc .vmem S1x128 .f32) (harg9 : arg9.IsWhole)
    (x0 : Vec Ideal S4x256x512 .f32) (x1 : Vec Ideal S4x256x512 .bf16) (x2 : Vec Ideal S4x256x512 .bf16) (x3 : Vec Ideal S4x256x512 .bf16) (x4 : Vec Ideal S4x4x256x64 .bf16) (x5 : Vec Ideal S4x256x128 .f32) (x6 : Vec Ideal S4x256x512 .bf16) (x7 : Vec Ideal S1x128 .f32) (n b h : Fin 4) :
    chunkOf (loads arg2 harg2 arg3 harg3 arg4 harg4 arg5 harg5 arg6 harg6 arg7 harg7 arg8 harg8 arg9 harg9 x0 x1 x2 x3 x4 x5 x6 x7) n b h =
      blkChunk x0 x1 x2 x3 x4 x5 n b h := by
  unfold chunkOf blkChunk loads
  congr 1
  · funext c e; exact readTok harg2 x0 n b h c e
  · funext c e; exact readTok harg3 x1 n b h c e
  · funext c e; exact readTok harg4 x2 n b h c e
  · funext c e; exact readTok harg5 x3 n b h c e
  · funext c s; exact readProd harg6 x4 n b h c s
  · exact readGate harg7 x5 n b h

end Cert.ScanPoint

end
-- ==== Proof.ScanArray.lean ====
/-
  The scan's array after the run. Point `t` of the grid holds sequences `4 (t / 16)` to `4 (t / 16) + 3` and tokens from
  `256 (t % 16)`; scratch carries each chain's memory from one token block to the next, and starts again from zeros with
  the next four sequences. So the block of point `t` holds the rows of chunks `4 (t % 16)` to `4 (t % 16) + 3`.
-/
module

public import proofs.«01_k».proof.Proof.ScanPoint
public import Idealize.ShloMosaic.Lib.Pipeline.ValueKit
public import Idealize.ShloMosaic.Lib.StableHlo.RunRead

@[expose] public section

set_option maxRecDepth 16384

noncomputable section

namespace Cert.ScanArray

open Idealize.ShloMosaic Idealize.ShloMosaic.TcCoe Idealize.SL.Sem
open Idealize.ShloMosaic.Pipeline (Dat)
open Cert.KernelIdeal Cert.KernelIdeal.Gen Cert.ScanSpec Cert.ScanOps Cert.ScanBlock Cert.ScanPoint

variable (m : (ℓ : Loc nD τ sig) → Buf (Elt Ideal) ℓ) (ρ : Dev nD → PrngReg)

/-- Core `c`'s argument arrays as launched. -/
abbrev A (c : Dev nD) (b : Ref sig .tc) : Buf (Elt Ideal) ((c : Thread nD τ).loc b) := m ((c : Thread nD τ).loc b)

/-- Sequence `b`'s chunks at head `h`. -/
abbrev chunks (c : Dev nD) (b : Fin 8) (h : Fin 4) : ℕ → Chunk :=
  chunk (A m c main_arg0) (A m c main_arg1) (A m c main_arg2) (A m c main_arg3) (A m c main_arg4) (A m c main_arg5) b h

/-- What is loaded at point `t`. -/
abbrev at' (c : Dev nD) (t : Fin cfg0.N) : Loads Ideal :=
  loads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t)

/-- Sequence `b` of point `n`'s four. -/
def seq (n : ℕ) (b : Fin 4) : Fin 8 := ⟨n / 16 % 2 * 4 + b.val, by omega⟩

/-- Every window's block index at a grid point. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0]
    ∧ win0_4.index t = ![t.val / 16, 0, t.val % 16, 0] ∧ win0_5.index t = ![t.val / 16, t.val % 16, 0]
    ∧ win0_6.index t = ![t.val / 16, t.val % 16, 0] ∧ win0_7.index t = ![0, 0] ∧ win0_8.index t = ![t.val / 16, t.val % 16, 0] :=
  (by decide +kernel : ∀ t : Fin grid0.N, _)

/-- The norm's weights as one row. -/
theorem V_v0 (c : Dev nD) : V m c main_v0 = shapeCast S1x128 (A m c main_arg7) shapeCasts_S128_S1x128 := by
  unfold V
  after_reads_simp
  try rfl

/-- The place of the block's token in the sequence. -/
abbrev at_ (n : ℕ) (r : Fin 256) : Fin 4096 := ⟨n % 16 * 256 + r.val, by omega⟩

theorem tok_eq (T : ℕ) (n : Fin 4) (c : Fin 64) : at_ T (btok n c) = tok (T % 16 * 4 + n.val) c := by
  apply Fin.ext
  show T % 16 * 256 + (64 * n.val + c.val) = (T % 16 * 4 + n.val) % 64 * 64 + c.val
  omega

theorem col_eq (h : Fin 4) (e : Fin 128) : bcol h e = col h e := by
  apply Fin.ext
  show 128 * h.val + e.val = h.val * 128 + e.val
  omega

theorem blk0 (c : Dev nD) (t : Fin cfg0.N) (b : Fin 4) (r : Fin 256) (l : Fin 512) :
    iblk m c 0 t (ix3 b r l) = A m c main_arg0 (ix3 (seq t.val b) (at_ t.val r) l) := by
  have ht : t.val < 32 := t.isLt
  refine Eq.trans ?_ (congrFun (V_main_arg0 m c) _)
  have hs : (seq t.val b).val = t.val / 16 * 4 + b.val := by show t.val / 16 % 2 * 4 + b.val = _; omega
  blk_ext [iblk, idx t, hs]

theorem blk1 (c : Dev nD) (t : Fin cfg0.N) (b : Fin 4) (r : Fin 256) (l : Fin 512) :
    iblk m c 1 t (ix3 b r l) = A m c main_arg1 (ix3 (seq t.val b) (at_ t.val r) l) := by
  have ht : t.val < 32 := t.isLt
  refine Eq.trans ?_ (congrFun (V_main_arg1 m c) _)
  have hs : (seq t.val b).val = t.val / 16 * 4 + b.val := by show t.val / 16 % 2 * 4 + b.val = _; omega
  blk_ext [iblk, idx t, hs]

theorem blk2 (c : Dev nD) (t : Fin cfg0.N) (b : Fin 4) (r : Fin 256) (l : Fin 512) :
    iblk m c 2 t (ix3 b r l) = A m c main_arg2 (ix3 (seq t.val b) (at_ t.val r) l) := by
  have ht : t.val < 32 := t.isLt
  refine Eq.trans ?_ (congrFun (V_main_arg2 m c) _)
  have hs : (seq t.val b).val = t.val / 16 * 4 + b.val := by show t.val / 16 % 2 * 4 + b.val = _; omega
  blk_ext [iblk, idx t, hs]

theorem blk3 (c : Dev nD) (t : Fin cfg0.N) (b : Fin 4) (r : Fin 256) (l : Fin 512) :
    iblk m c 3 t (ix3 b r l) = A m c main_arg3 (ix3 (seq t.val b) (at_ t.val r) l) := by
  have ht : t.val < 32 := t.isLt
  refine Eq.trans ?_ (congrFun (V_main_arg3 m c) _)
  have hs : (seq t.val b).val = t.val / 16 * 4 + b.val := by show t.val / 16 % 2 * 4 + b.val = _; omega
  blk_ext [iblk, idx t, hs]

theorem blk5 (c : Dev nD) (t : Fin cfg0.N) (b : Fin 4) (r : Fin 256) (l : Fin 128) :
    iblk m c 5 t (ix3 b r l) = A m c main_arg5 (ix3 (seq t.val b) (at_ t.val r) l) := by
  have ht : t.val < 32 := t.isLt
  refine Eq.trans ?_ (congrFun (V_main_arg5 m c) _)
  have hs : (seq t.val b).val = t.val / 16 * 4 + b.val := by show t.val / 16 % 2 * 4 + b.val = _; omega
  blk_ext [iblk, idx t, hs]

theorem blk6 (c : Dev nD) (t : Fin cfg0.N) (b : Fin 4) (r : Fin 256) (l : Fin 512) :
    iblk m c 6 t (ix3 b r l) = A m c main_arg6 (ix3 (seq t.val b) (at_ t.val r) l) := by
  have ht : t.val < 32 := t.isLt
  refine Eq.trans ?_ (congrFun (V_main_arg6 m c) _)
  have hs : (seq t.val b).val = t.val / 16 * 4 + b.val := by show t.val / 16 % 2 * 4 + b.val = _; omega
  blk_ext [iblk, idx t, hs]

theorem blk4 (c : Dev nD) (t : Fin cfg0.N) (b h : Fin 4) (r : Fin 256) (l : Fin 64) :
    iblk m c 4 t (ix4 b h r l) = A m c main_arg4 (ix4 (seq t.val b) h (at_ t.val r) l) := by
  have ht : t.val < 32 := t.isLt
  refine Eq.trans ?_ (congrFun (V_main_arg4 m c) _)
  have hs : (seq t.val b).val = t.val / 16 * 4 + b.val := by show t.val / 16 % 2 * 4 + b.val = _; omega
  blk_ext [iblk, idx t, hs]

theorem blk7 (c : Dev nD) (t : Fin cfg0.N) (e : Fin 128) : iblk m c 7 t (ix2 0 e) = A m c main_arg7 (ix1 e) := by
  have e1 : iblk m c 7 t (ix2 0 e) = V m c main_v0 (ix2 0 e) := by blk_ext [iblk, idx t]
  rw [e1, V_v0]
  pointwise

/-- The chunks of a point's blocks are the sequences' own. -/
theorem blk_chunk (c : Dev nD) (t : Fin cfg0.N) (n b h : Fin 4) :
    chunkOf (at' m c t) n b h = chunks m c (seq t.val b) h (t.val % 16 * 4 + n.val) := by
  rw [at', loads_chunk]
  unfold blkChunk chunks chunk
  simp only [blk0, blk1, blk2, blk3, blk4, blk5, tok_eq, col_eq]

/-- What a point leaves, over what the point before left: its stores into the output and into scratch. -/
theorem point (c : Dev nD) (t : Fin cfg0.N) (acc : Vec Ideal S4x256x512 .bf16 × Vec Ideal S4x4x128x128 .f32) :
    ∃ (init : Fin 4 → Fin 4 → Vec Ideal S1x1x128x128 .f32) (L' : List (View.Piece (Elt Ideal) S4x4x128x128 .f32)),
      Value.stAt0 m c t.val t.isLt acc = (View.canon (stores (at' m c t) init), View.canon (saves (at' m c t) init ++ L'))
      ∧ ∀ b h d e, init b h (ix4 0 0 d e) = if t.val % 16 = 0 then 0 else acc.2 (ix4 b h d e) := by
  by_cases h0 : t.val % 16 = 0
  · refine ⟨initA scM0_0, zeros, ?_, fun b h d e => ?_⟩
    · rw [Value.stAt0_A m c t acc h0, outA, soutA]
    · rw [if_pos h0]; exact readZero _ b h d e
  · refine ⟨initB scM0_0 (Memref.isWhole_whole _) acc.2, [], ?_, fun b h d e => ?_⟩
    · rw [Value.stAt0_B m c t acc h0, outB, soutB, List.append_nil]
    · rw [if_neg h0]; exact readMem _ acc.2 b h d e

/-- What a point leaves when the memory it starts from is the sequences' own. -/
theorem point_apply (c : Dev nD) (t : Fin cfg0.N) (acc : Vec Ideal S4x256x512 .bf16 × Vec Ideal S4x4x128x128 .f32)
    (hacc : t.val % 16 ≠ 0 → ∀ b h d e, acc.2 (ix4 b h d e) = memory (chunks m c (seq t.val b) h) (t.val % 16 * 4) d e) :
    (∀ (b h n : Fin 4) (r : Fin 64) (e : Fin 128), (Value.stAt0 m c t.val t.isLt acc).1 (ix3 b (btok n r) (bcol h e)) =
      G (A m c main_arg0) (A m c main_arg1) (A m c main_arg2) (A m c main_arg3) (A m c main_arg4) (A m c main_arg5)
        (A m c main_arg6) (A m c main_arg7) (seq t.val b) h (t.val % 16 * 4 + n.val) r e)
    ∧ ∀ b h d e, (Value.stAt0 m c t.val t.isLt acc).2 (ix4 b h d e) = memory (chunks m c (seq t.val b) h) (t.val % 16 * 4 + 4) d e := by
  obtain ⟨init, L', hst, hi⟩ := point m c t acc
  have hm : ∀ b h (n : ℕ), n ≤ 4 → memOf (mem (at' m c t) init b h n) = memory (chunks m c (seq t.val b) h) (t.val % 16 * 4 + n) := by
    intro b h
    refine mem_apply (at' m c t) init b h _ _ (fun d e => ?_) fun n => blk_chunk m c t n b h
    rw [hi]
    by_cases h0 : t.val % 16 = 0
    · rw [if_pos h0, h0]; rfl
    · rw [if_neg h0]; exact hacc h0 b h d e
  rw [hst]
  refine ⟨fun b h n r e => ?_, fun b h d e => ?_⟩
  · dsimp only
    rw [stores_apply, store_apply, hm b h n.val (by omega), blk_chunk]
    unfold G
    congr 1
    · funext e
      exact (readNorm _ _ e).trans (blk7 m c t e)
    · funext e
      refine (readTok _ _ n b h r e).trans ?_
      rw [blk6, tok_eq, col_eq]
  · dsimp only
    rw [saves_apply]
    exact congrFun (congrFun (hm b h 4 le_rfl) d) e

/-- What each point leaves in scratch: every chain's memory after the token block. -/
theorem scratch (c : Dev nD) : ∀ (n : ℕ) (hn : n < cfg0.N) (b h : Fin 4) (d e : Fin 128),
    (outsAt0 m c n hn).2 (ix4 b h d e) = memory (chunks m c (seq n b) h) (n % 16 * 4 + 4) d e
  | 0, hn => by
    rw [Value.outsAt0_zero]
    exact (point_apply m c ⟨0, hn⟩ _ fun h => absurd rfl h).2
  | n + 1, hn => by
    rw [Value.outsAt0_succ]
    refine (point_apply m c ⟨n + 1, hn⟩ _ fun h b hd d e => ?_).2
    dsimp only at h ⊢
    rw [scratch c n (by omega) b hd d e]
    have e1 : seq n b = seq (n + 1) b := Fin.ext (by show n / 16 % 2 * 4 + b.val = (n + 1) / 16 % 2 * 4 + b.val; omega)
    have e2 : n % 16 * 4 + 4 = (n + 1) % 16 * 4 := by omega
    rw [e1, e2]

/-- What each point leaves in the output's block. -/
theorem block (c : Dev nD) (t : Fin cfg0.N) (b h n : Fin 4) (r : Fin 64) (e : Fin 128) :
    (outsAt0 m c t.val t.isLt).1 (ix3 b (btok n r) (bcol h e)) =
      G (A m c main_arg0) (A m c main_arg1) (A m c main_arg2) (A m c main_arg3) (A m c main_arg4) (A m c main_arg5)
        (A m c main_arg6) (A m c main_arg7) (seq t.val b) h (t.val % 16 * 4 + n.val) r e := by
  obtain ⟨n', hn⟩ := t
  cases n' with
  | zero =>
    rw [Value.outsAt0_zero]
    exact (point_apply m c ⟨0, hn⟩ _ fun h => absurd rfl h).1 b h n r e
  | succ k =>
    rw [Value.outsAt0_succ]
    refine (point_apply m c ⟨k + 1, hn⟩ _ fun h b hd d e => ?_).1 b h n r e
    dsimp only at h ⊢
    rw [scratch m c k (by omega) b hd d e]
    have e1 : seq k b = seq (k + 1) b := Fin.ext (by show k / 16 % 2 * 4 + b.val = (k + 1) / 16 % 2 * 4 + b.val; omega)
    have e2 : k % 16 * 4 + 4 = (k + 1) % 16 * 4 := by omega
    rw [e1, e2]

/-- The recurrence's array, from the arguments' arrays. -/
def out (u w qd kd : Tokens 512) (qk : (⟨4, ![8, 4, 4096, 64]⟩ : Shape).Idx → EReal) (g : Tokens 128) (z : Tokens 512)
    (nw : (⟨1, ![128]⟩ : Shape).Idx → EReal) : Tokens 512 := fun i =>
  have h1 : (i 1).val < 4096 := (i 1).isLt
  have h2 : (i 2).val < 512 := (i 2).isLt
  G u w qd kd qk g z nw (i 0) ⟨(i 2).val / 128, by omega⟩ ((i 1).val / 64) ⟨(i 1).val % 64, by omega⟩ ⟨(i 2).val % 128, by omega⟩

/-- The array after the run. -/
theorem final (c : Dev nD) : (dats m 0 c).arrAt 8 cfg0.N =
    out (A m c main_arg0) (A m c main_arg1) (A m c main_arg2) (A m c main_arg3) (A m c main_arg4) (A m c main_arg5)
      (A m c main_arg6) (A m c main_arg7) := by
  refine (dats m 0 c).arrAt_eq_of_covers 8 _ (by decide +kernel) fun t hf y => ?_
  blk_simp
  rw [after0_8]
  idx_vars y
  have ht : t.val < 32 := t.isLt
  have e0 : (((View.whole main_v1).slice (win0_8.rect t)).emb (ix3 y0 y1 y2) 0 : ℕ) = t.val / 16 * 4 + y0.val := by
    blk_simp [idx t]
  have e1 : (((View.whole main_v1).slice (win0_8.rect t)).emb (ix3 y0 y1 y2) 1 : ℕ) = t.val % 16 * 256 + y1.val := by
    blk_simp [idx t]
  have e2 : (((View.whole main_v1).slice (win0_8.rect t)).emb (ix3 y0 y1 y2) 2 : ℕ) = y2.val := by
    blk_simp [idx t]
  have b1 : y1 = btok ⟨y1.val / 64, by omega⟩ ⟨y1.val % 64, by omega⟩ := Fin.ext (by show y1.val = 64 * (y1.val / 64) + y1.val % 64; omega)
  have b2 : y2 = bcol ⟨y2.val / 128, by omega⟩ ⟨y2.val % 128, by omega⟩ := Fin.ext (by show y2.val = 128 * (y2.val / 128) + y2.val % 128; omega)
  have hb := block m c t y0 ⟨y2.val / 128, by omega⟩ ⟨y1.val / 64, by omega⟩ ⟨y1.val % 64, by omega⟩ ⟨y2.val % 128, by omega⟩
  rw [← b1, ← b2] at hb
  refine hb.trans ?_
  unfold out
  dsimp only
  have s0 : ((View.whole main_v1).slice (win0_8.rect t)).emb (ix3 y0 y1 y2) 0 = seq t.val y0 := by
    apply Fin.ext
    rw [e0]
    show _ = t.val / 16 % 2 * 4 + y0.val
    omega
  rw [s0]
  have a1 : (t.val % 16 * 256 + y1.val) / 64 = t.val % 16 * 4 + y1.val / 64 := by omega
  have a2 : (t.val % 16 * 256 + y1.val) % 64 = y1.val % 64 := by omega
  simp only [e1, e2, a1, a2]

end Cert.ScanArray

end
-- ==== Proof.ScanRun.lean ====
/-
  The reference's scan as a fold: its run ends with the operations after the loop applied to a state stepped 64 times.
-/
module

public import proofs.«01_k».proof.Proof.Gen.ReferenceIdeal.Run
public import proofs.«01_k».proof.Proof.Gen.ReferenceIdeal.Step
public import Idealize.ShloMosaic.Lib.StableHlo.RunRead

@[expose] public section

set_option maxRecDepth 16384

noncomputable section

namespace Cert.ScanRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The buffers the loop carries hold state `s`, and its counter the number `j`. -/
structure Carries (V : Valuation τ sig (Elt F)) (s : State F) (j : ℕ) : Prop where
  queries : V (Proc.devRef .tc main_v27_0) = s.main_v27_0
  keys : V (Proc.devRef .tc main_v27_1) = s.main_v27_1
  values : V (Proc.devRef .tc main_v27_2) = s.main_v27_2
  weights : V (Proc.devRef .tc main_v27_3) = s.main_v27_3
  products : V (Proc.devRef .tc main_v27_4) = s.main_v27_4
  decays : V (Proc.devRef .tc main_v27_5) = s.main_v27_5
  memory : V (Proc.devRef .tc main_v27_7) = s.main_v27_7
  outputs : V (Proc.devRef .tc main_v27_8) = s.main_v27_8
  count : V (Proc.devRef .tc main_v27_6) = constantI S_ 32 (BitVec.ofNat 32 j)

variable {V : Valuation τ sig (Elt F)} {s : State F} {j : ℕ}

/-- The memory after a trip. -/
theorem memory_step (h : Carries V s j) : step_main_v27_7 V = (step j s).main_v27_7 := by
  unfold step_main_v27_7 res_main_while0b_v57
  rw [h.keys, h.values, h.weights, h.decays, h.memory, h.count]
  rfl

/-- The outputs after a trip. -/
theorem outputs_step (h : Carries V s j) : step_main_v27_8 V = (step j s).main_v27_8 := by
  unfold step_main_v27_8 res_main_while0b_v57
  rw [h.queries, h.values, h.weights, h.products, h.memory, h.outputs, h.count]
  rfl

/-- The counter after a trip. -/
theorem count_step (h : Carries V s j) : step_main_v27_6 V = constantI S_ 32 (BitVec.ofNat 32 (j + 1)) := by
  unfold step_main_v27_6
  rw [h.count]
  funext i
  exact (BitVec.ofNat_add j 1).symm

/-- A trip of the loop is a step of the state. -/
theorem trip (h : Carries V s j) : Carries (STEP V) (step j s) (j + 1) where
  queries := (STEP_main_v27_0 V).trans h.queries
  keys := (STEP_main_v27_1 V).trans h.keys
  values := (STEP_main_v27_2 V).trans h.values
  weights := (STEP_main_v27_3 V).trans h.weights
  products := (STEP_main_v27_4 V).trans h.products
  decays := (STEP_main_v27_5 V).trans h.decays
  memory := (STEP_main_v27_7 V).trans (memory_step h)
  outputs := (STEP_main_v27_8 V).trans (outputs_step h)
  count := (STEP_main_v27_6 V).trans (count_step h)

variable (m : (ℓ : Loc nD τ sig) → Buf (Elt F) ℓ) (c : Dev nD)

/-- The state before the first trip, from the memory the program starts from. -/
abbrev start : State F :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The state before trip `k`. -/
def before : ℕ → State F
  | 0 => start m c
  | k + 1 => step k (before k)

set_option maxRecDepth 65536 in
set_option maxHeartbeats 400000 in
/-- The operations before the loop leave the first state. -/
theorem entry : Carries (entryContents preI m c) (start m c) 0 := by
  constructor <;> (simp only [entryContents, afterL_cons, afterL_nil]; after_reads_simp) <;> rfl

/-- After `k` trips the loop's buffers hold the `k`-th state. -/
theorem after_trips : ∀ k, Carries (STEP^[k] (entryContents preI m c)) (before m c k) k
  | 0 => entry m c
  | k + 1 => by rw [Function.iterate_succ_apply']; exact trip (after_trips k)

/-- The run of the reference: its result is what the operations after the loop make of the 64th state. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v49)
          = Step.R_main_v49 (before m c 64) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (by
    have ho := (after_trips m c 64).outputs
    have h6 := iter_main_arg6 m c 64
    have h7 := iter_main_arg7 m c 64
    unfold out_main_v49
    rw [ho, h6, h7]
    rfl), (h c).2⟩) (Value.run m ρ)

end Cert.ScanRun

end
-- ==== Proof.ScanRef.lean ====
/-
  What the reference's scan computes, over the extended reals: `ScanSpec.G` of its arguments.
-/
module

public import proofs.«01_k».proof.Proof.ScanRun
public import proofs.«01_k».proof.Proof.ScanSpec
public import Idealize.ShloMosaic.Lib.DynamicIndex
public import Idealize.ShloMosaic.Lib.WordCmp
public import Idealize.ShloMosaic.Lib.Pointwise

@[expose] public section

set_option maxRecDepth 16384

noncomputable section

namespace Cert.ScanRef

open Idealize.ShloMosaic Cert.ReferenceIdeal Cert.ReferenceIdeal.Gen Cert.ReferenceIdeal.Step Cert.ScanSpec

variable (j : ℕ) (s : State Ideal)

/-- Dropping a leading axis of length one. -/
theorem drop_first {α : Type} {B C D E : ℕ} (x : (⟨5, ![1, B, C, D, E]⟩ : Shape).Idx → α)
    (h : (⟨5, ![1, B, C, D, E]⟩ : Shape).ShapeCasts ⟨4, ![B, C, D, E]⟩) (b : Fin B) (c : Fin C) (d : Fin D) (e : Fin E) :
    shapeCast ⟨4, ![B, C, D, E]⟩ x h (ix4 b c d e) = x (ix5 0 b c d e) :=
  shapeCast_apply _ _ _ _ (by
    rw [Shape.rowMajor_val_five, Shape.rowMajor_val_four]
    show ((((0 : ℕ) * B + b.val) * C + c.val) * D + d.val) * E + e.val = ((b.val * C + c.val) * D + d.val) * E + e.val
    rw [Nat.zero_mul, Nat.zero_add])

/-- A trip's offsets: the trip's number along the first axis. -/
theorem offsets {c0 c1 c2 c3 c4 : (⟨S_, .i32⟩ : BufTy).Contents (Elt Ideal)} (hj : j < 64)
    (h0 : c0 = constantI S_ 32 (BitVec.ofNat 32 j)) (h1 : c1 = constantI S_ 32 0#32) (h2 : c2 = constantI S_ 32 0#32)
    (h3 : c3 = constantI S_ 32 0#32) (h4 : c4 = constantI S_ 32 0#32) (a : Fin 5) :
    (((![c0, c1, c2, c3, c4] : Fin 5 → (⟨S_, .i32⟩ : BufTy).Contents (Elt Ideal))) a (Shape.Idx.first h_S_)).toInt
      = ((![j, 0, 0, 0, 0] : Fin 5 → ℕ) a : Int) := by
  subst h0 h1 h2 h3 h4
  match a with
  | 0 => exact toInt_ofNat_of_lt (by omega)
  | 1 => rfl
  | 2 => rfl
  | 3 => rfl
  | 4 => rfl

/-- Block `j` along the first axis. -/
theorem block_at {α : Type} {B C D E : ℕ} (x : (⟨5, ![64, B, C, D, E]⟩ : Shape).Idx → α) (start : Fin 5 → Int)
    (h : (⟨5, ![64, B, C, D, E]⟩ : Shape).Slices (fun _ => 0) ⟨5, ![1, B, C, D, E]⟩) (hj : j < 64)
    (hs : ∀ a, start a = ((![j, 0, 0, 0, 0] : Fin 5 → ℕ) a : Int)) (b : Fin B) (c : Fin C) (d : Fin D) (e : Fin E) :
    Host.dynamicSlice ⟨5, ![1, B, C, D, E]⟩ x start h (ix5 0 b c d e) = x (ix5 ⟨j, hj⟩ b c d e) := by
  have hoff : (⟨5, ![64, B, C, D, E]⟩ : Shape).Slices ![j, 0, 0, 0, 0] ⟨5, ![1, B, C, D, E]⟩ := ⟨rfl, fun a => match a with
    | 0 => (by omega : j + 1 ≤ 64)
    | 1 => (by omega : 0 + B ≤ B)
    | 2 => (by omega : 0 + C ≤ C)
    | 3 => (by omega : 0 + D ≤ D)
    | 4 => (by omega : 0 + E ≤ E)⟩
  rw [Host.dynamicSlice_eq_extractStridedSlice _ _ _ _ h hoff hs]
  refine congrArg x (funext fun a => match a with
    | 0 => Fin.ext (Nat.add_zero j)
    | 1 => Fin.ext (Nat.zero_add _)
    | 2 => Fin.ext (Nat.zero_add _)
    | 3 => Fin.ext (Nat.zero_add _)
    | 4 => Fin.ext (Nat.zero_add _))

/-- Writing block `j` along the first axis. -/
theorem block_put {α : Type} {B C D E : ℕ} (x : (⟨5, ![64, B, C, D, E]⟩ : Shape).Idx → α)
    (y : (⟨5, ![1, B, C, D, E]⟩ : Shape).Idx → α) (start : Fin 5 → Int)
    (h : (⟨5, ![64, B, C, D, E]⟩ : Shape).Slices (fun _ => 0) ⟨5, ![1, B, C, D, E]⟩) (hj : j < 64)
    (hs : ∀ a, start a = ((![j, 0, 0, 0, 0] : Fin 5 → ℕ) a : Int)) (n : Fin 64) (b : Fin B) (c : Fin C) (d : Fin D) (e : Fin E) :
    Host.dynamicUpdateSlice x y start h (ix5 n b c d e) = if n.val = j then y (ix5 0 b c d e) else x (ix5 n b c d e) := by
  have hoff : (⟨5, ![64, B, C, D, E]⟩ : Shape).Slices ![j, 0, 0, 0, 0] ⟨5, ![1, B, C, D, E]⟩ := ⟨rfl, fun a => match a with
    | 0 => (by omega : j + 1 ≤ 64)
    | 1 => (by omega : 0 + B ≤ B)
    | 2 => (by omega : 0 + C ≤ C)
    | 3 => (by omega : 0 + D ≤ D)
    | 4 => (by omega : 0 + E ≤ E)⟩
  rw [WordCmp.dynamicUpdateSlice_eq_update _ _ _ h _ hoff hs]
  unfold updateSlice
  by_cases hn : n.val = j
  · rw [dif_pos (fun a => match a with
      | 0 => (by omega : j ≤ n.val ∧ n.val < j + 1)
      | 1 => (by omega : 0 ≤ b.val ∧ b.val < 0 + B)
      | 2 => (by omega : 0 ≤ c.val ∧ c.val < 0 + C)
      | 3 => (by omega : 0 ≤ d.val ∧ d.val < 0 + D)
      | 4 => (by omega : 0 ≤ e.val ∧ e.val < 0 + E)), if_pos hn]
    refine congrArg y (funext fun a => match a with
      | 0 => Fin.ext (by show n.val - j = 0; omega)
      | 1 => rfl
      | 2 => rfl
      | 3 => rfl
      | 4 => rfl)
  · rw [dif_neg (fun hin => hn (by have := hin 0; change j ≤ n.val ∧ n.val < j + 1 at this; omega)), if_neg hn]

/-- The chunk a state's trip reads for one head. -/
def read (s : State Ideal) (n : Fin 64) (b : Fin 8) (h : Fin 4) (g : EReal) : Chunk where
  u c e := s.main_v27_2 (ix5 n b h c e)
  w c e := s.main_v27_3 (ix5 n b h c e)
  qd c e := s.main_v27_0 (ix5 n b h c e)
  kd c e := s.main_v27_1 (ix5 n b h c e)
  qk c e := s.main_v27_4 (ix5 n b h c e)
  g := g

variable {j}

theorem queries_at (hj : j < 64) (b : Fin 8) (h : Fin 4) (c : Fin 64) (e : Fin 128) :
    b5 j s (ix4 b h c e) = s.main_v27_0 (ix5 ⟨j, hj⟩ b h c e) := by
  unfold b5 b4
  exact (drop_first _ _ _ _ _ _).trans (block_at j _ _ _ hj (offsets j hj rfl rfl rfl rfl rfl) _ _ _ _)
theorem keys_at (hj : j < 64) (b : Fin 8) (h : Fin 4) (c : Fin 64) (e : Fin 128) :
    b11 j s (ix4 b h c e) = s.main_v27_1 (ix5 ⟨j, hj⟩ b h c e) := by
  unfold b11 b10
  exact (drop_first _ _ _ _ _ _).trans (block_at j _ _ _ hj (offsets j hj rfl rfl rfl rfl rfl) _ _ _ _)
theorem values_at (hj : j < 64) (b : Fin 8) (h : Fin 4) (c : Fin 64) (e : Fin 128) :
    b17 j s (ix4 b h c e) = s.main_v27_2 (ix5 ⟨j, hj⟩ b h c e) := by
  unfold b17 b16
  exact (drop_first _ _ _ _ _ _).trans (block_at j _ _ _ hj (offsets j hj rfl rfl rfl rfl rfl) _ _ _ _)
theorem weights_at (hj : j < 64) (b : Fin 8) (h : Fin 4) (c : Fin 64) (e : Fin 128) :
    b23 j s (ix4 b h c e) = s.main_v27_3 (ix5 ⟨j, hj⟩ b h c e) := by
  unfold b23 b22
  exact (drop_first _ _ _ _ _ _).trans (block_at j _ _ _ hj (offsets j hj rfl rfl rfl rfl rfl) _ _ _ _)
theorem products_at (hj : j < 64) (b : Fin 8) (h : Fin 4) (c e : Fin 64) :
    b29 j s (ix4 b h c e) = s.main_v27_4 (ix5 ⟨j, hj⟩ b h c e) := by
  unfold b29 b28
  exact (drop_first _ _ _ _ _ _).trans (block_at j _ _ _ hj (offsets j hj rfl rfl rfl rfl rfl) _ _ _ _)
theorem decay_at (hj : j < 64) (b : Fin 8) (h : Fin 4) : b33 j s (ix2 b h) = s.main_v27_5 (ix3 ⟨j, hj⟩ b h) := by
  unfold b33 b32
  have hoff : S64x8x4.Slices ![j, 0, 0] S1x8x4 := ⟨rfl, fun a => match a with
    | 0 => (by omega : j + 1 ≤ 64)
    | 1 => (by decide : 0 + 8 ≤ 8)
    | 2 => (by decide : 0 + 4 ≤ 4)⟩
  rw [shapeCast_apply _ _ (ix2 b h) (ix3 0 b h) (by
    rw [Shape.rowMajor_val_three, Shape.rowMajor_val_two]
    show ((0 : ℕ) * 8 + b.val) * 4 + h.val = b.val * 4 + h.val
    rw [Nat.zero_mul, Nat.zero_add])]
  rw [Host.dynamicSlice_eq_extractStridedSlice _ _ _ _ _ hoff (fun a => match a with
    | 0 => toInt_ofNat_of_lt (by omega)
    | 1 => rfl
    | 2 => rfl)]
  pointwise []

/-- The memory a trip leaves. -/
theorem memory_trip (hj : j < 64) {S : Mem} {k : Chunk} (b : Fin 8) (h : Fin 4)
    (hS : ∀ d e, s.main_v27_7 (ix4 b h d e) = S d e) {g : EReal} (hg : s.main_v27_5 (ix3 ⟨j, hj⟩ b h) = Ideal.exp g)
    (hk : k = read s ⟨j, hj⟩ b h g) (d e : Fin 128) : b43 j s (ix4 b h d e) = next S k d e := by
  subst hk
  pointwise [b43, b41, b40, b39, b42, b35, b34]
  simp only [keys_at s hj, values_at s hj, weights_at s hj, decay_at s hj, hS, hg]
  rfl

/-- The rows a trip writes. -/
theorem rows_trip (hj : j < 64) {S : Mem} {k : Chunk} (b : Fin 8) (h : Fin 4)
    (hS : ∀ d e, s.main_v27_7 (ix4 b h d e) = S d e)
    {g : EReal} (hk : k = read s ⟨j, hj⟩ b h g) (c : Fin 64) (e : Fin 128) : b38 j s (ix4 b h c e) = outRow S k c e := by
  subst hk
  pointwise [b38, b36, b37, b35, b34]
  simp only [queries_at s hj, products_at s hj, values_at s hj, weights_at s hj, hS]
  rfl

/-- The outputs after a trip. -/
theorem outputs_trip (hj : j < 64) (n : Fin 64) (b : Fin 8) (h : Fin 4) (c : Fin 64) (e : Fin 128) :
    b49 j s (ix5 n b h c e) = if n.val = j then b38 j s (ix4 b h c e) else s.main_v27_8 (ix5 n b h c e) := by
  unfold b49
  refine (block_put j _ _ _ _ hj (offsets j hj rfl rfl rfl rfl rfl) n b h c e).trans ?_
  pointwise [b44]

/-- Tokens cut into chunks and lanes into heads. -/
theorem cut_tokens {α : Type} (x : (⟨3, ![8, 4096, 512]⟩ : Shape).Idx → α)
    (hc : (⟨3, ![8, 4096, 512]⟩ : Shape).ShapeCasts ⟨5, ![8, 64, 64, 4, 128]⟩) (b : Fin 8) (n : Fin 64) (c : Fin 64) (h : Fin 4) (e : Fin 128) :
    shapeCast ⟨5, ![8, 64, 64, 4, 128]⟩ x hc (ix5 b n c h e) = x (ix3 b (tok n.val c) (col h e)) :=
  shapeCast_apply _ _ _ _ (by
    rw [Shape.rowMajor_val_three, Shape.rowMajor_val_five]
    show (b.val * 4096 + (n.val % 64 * 64 + c.val)) * 512 + (h.val * 128 + e.val) = (((b.val * 64 + n.val) * 64 + c.val) * 4 + h.val) * 128 + e.val
    omega)

/-- The products' tokens cut into chunks. -/
theorem cut_products {α : Type} (x : (⟨4, ![8, 4, 4096, 64]⟩ : Shape).Idx → α)
    (hc : (⟨4, ![8, 4, 4096, 64]⟩ : Shape).ShapeCasts ⟨5, ![8, 4, 64, 64, 64]⟩) (b : Fin 8) (h : Fin 4) (n : Fin 64) (c e : Fin 64) :
    shapeCast ⟨5, ![8, 4, 64, 64, 64]⟩ x hc (ix5 b h n c e) = x (ix4 b h (tok n.val c) e) :=
  shapeCast_apply _ _ _ _ (by
    rw [Shape.rowMajor_val_four, Shape.rowMajor_val_five]
    show ((b.val * 4 + h.val) * 4096 + (n.val % 64 * 64 + c.val)) * 64 + e.val = (((b.val * 4 + h.val) * 64 + n.val) * 64 + c.val) * 64 + e.val
    omega)

/-- The gates' tokens cut into chunks. -/
theorem cut_gates {α : Type} (x : (⟨3, ![8, 4, 4096]⟩ : Shape).Idx → α)
    (hc : (⟨3, ![8, 4, 4096]⟩ : Shape).ShapeCasts ⟨4, ![8, 4, 64, 64]⟩) (b : Fin 8) (h : Fin 4) (n : Fin 64) (c : Fin 64) :
    shapeCast ⟨4, ![8, 4, 64, 64]⟩ x hc (ix4 b h n c) = x (ix3 b h (tok n.val c)) :=
  shapeCast_apply _ _ _ _ (by
    rw [Shape.rowMajor_val_three, Shape.rowMajor_val_four]
    show (b.val * 4 + h.val) * 4096 + (n.val % 64 * 64 + c.val) = ((b.val * 4 + h.val) * 64 + n.val) * 64 + c.val
    omega)

/-- Dropping a last axis of length one. -/
theorem drop_last {α : Type} (x : (⟨4, ![8, 4, 64, 1]⟩ : Shape).Idx → α)
    (hc : (⟨4, ![8, 4, 64, 1]⟩ : Shape).ShapeCasts ⟨3, ![8, 4, 64]⟩) (b : Fin 8) (h : Fin 4) (n : Fin 64) :
    shapeCast ⟨3, ![8, 4, 64]⟩ x hc (ix3 b h n) = x (ix4 b h n 0) :=
  shapeCast_apply _ _ _ _ (by
    rw [Shape.rowMajor_val_four, Shape.rowMajor_val_three]
    show ((b.val * 4 + h.val) * 64 + n.val) * 1 + 0 = (b.val * 4 + h.val) * 64 + n.val
    omega)

/-- Chunks laid one after the other. -/
theorem join_chunks {α : Type} (x : (⟨5, ![8, 4, 64, 64, 128]⟩ : Shape).Idx → α)
    (hc : (⟨5, ![8, 4, 64, 64, 128]⟩ : Shape).ShapeCasts ⟨4, ![8, 4, 4096, 128]⟩) (b : Fin 8) (h : Fin 4) (n : Fin 64) (c : Fin 64) (e : Fin 128) :
    shapeCast ⟨4, ![8, 4, 4096, 128]⟩ x hc (ix4 b h (tok n.val c) e) = x (ix5 b h n c e) :=
  shapeCast_apply _ _ _ _ (by
    rw [Shape.rowMajor_val_five, Shape.rowMajor_val_four]
    show (((b.val * 4 + h.val) * 64 + n.val) * 64 + c.val) * 128 + e.val = ((b.val * 4 + h.val) * 4096 + (n.val % 64 * 64 + c.val)) * 128 + e.val
    omega)

/-- Lanes cut into heads. -/
theorem cut_lanes {α : Type} (x : (⟨3, ![8, 4096, 512]⟩ : Shape).Idx → α)
    (hc : (⟨3, ![8, 4096, 512]⟩ : Shape).ShapeCasts ⟨4, ![8, 4096, 4, 128]⟩) (b : Fin 8) (t : Fin 4096) (h : Fin 4) (e : Fin 128) :
    shapeCast ⟨4, ![8, 4096, 4, 128]⟩ x hc (ix4 b t h e) = x (ix3 b t (col h e)) :=
  shapeCast_apply _ _ _ _ (by
    rw [Shape.rowMajor_val_three, Shape.rowMajor_val_four]
    show (b.val * 4096 + t.val) * 512 + (h.val * 128 + e.val) = ((b.val * 4096 + t.val) * 4 + h.val) * 128 + e.val
    omega)

/-- Heads laid one after the other. -/
theorem join_heads {α : Type} (x : (⟨4, ![8, 4096, 4, 128]⟩ : Shape).Idx → α)
    (hc : (⟨4, ![8, 4096, 4, 128]⟩ : Shape).ShapeCasts ⟨3, ![8, 4096, 512]⟩) (b : Fin 8) (t : Fin 4096) (h : Fin 4) (e : Fin 128) :
    shapeCast ⟨3, ![8, 4096, 512]⟩ x hc (ix3 b t (col h e)) = x (ix4 b t h e) :=
  shapeCast_apply _ _ _ _ (by
    rw [Shape.rowMajor_val_four, Shape.rowMajor_val_three]
    show ((b.val * 4096 + t.val) * 4 + h.val) * 128 + e.val = (b.val * 4096 + t.val) * 512 + (h.val * 128 + e.val)
    omega)

section Entry

variable (x0 : (⟨S8x4096x512, .f32⟩ : BufTy).Contents (Elt Ideal)) (x1 x2 x3 : (⟨S8x4096x512, .bf16⟩ : BufTy).Contents (Elt Ideal))
  (x4 : (⟨S8x4x4096x64, .bf16⟩ : BufTy).Contents (Elt Ideal)) (x5 : (⟨S8x4096x128, .f32⟩ : BufTy).Contents (Elt Ideal))

/-- The queries the scan runs over. -/
theorem queries_start (n : Fin 64) (b : Fin 8) (h : Fin 4) (c : Fin 64) (e : Fin 128) :
    A_main_v19 (F := Ideal) x0 x1 x2 x3 x4 x5 (ix5 n b h c e) = x2 (ix3 b (tok n.val c) (col h e)) := by
  pointwise [A_main_v19, A_main_v8]
  unfold A_main_v7
  rw [cut_tokens]
  rfl

/-- The keys the scan runs over. -/
theorem keys_start (n : Fin 64) (b : Fin 8) (h : Fin 4) (c : Fin 64) (e : Fin 128) :
    A_main_v20 (F := Ideal) x0 x1 x2 x3 x4 x5 (ix5 n b h c e) = x3 (ix3 b (tok n.val c) (col h e)) := by
  pointwise [A_main_v20, A_main_v11]
  unfold A_main_v10
  rw [cut_tokens]
  rfl

/-- The values the scan runs over. -/
theorem values_start (n : Fin 64) (b : Fin 8) (h : Fin 4) (c : Fin 64) (e : Fin 128) :
    A_main_v21 (F := Ideal) x0 x1 x2 x3 x4 x5 (ix5 n b h c e) = x0 (ix3 b (tok n.val c) (col h e)) := by
  pointwise [A_main_v21, A_main_v13]
  unfold A_main_v12
  rw [cut_tokens]

/-- The decayed keys the scan runs over. -/
theorem weights_start (n : Fin 64) (b : Fin 8) (h : Fin 4) (c : Fin 64) (e : Fin 128) :
    A_main_v22 (F := Ideal) x0 x1 x2 x3 x4 x5 (ix5 n b h c e) = x1 (ix3 b (tok n.val c) (col h e)) := by
  pointwise [A_main_v22, A_main_v16]
  unfold A_main_v15
  rw [cut_tokens]
  rfl

/-- The products inside the chunks. -/
theorem products_start (n : Fin 64) (b : Fin 8) (h : Fin 4) (c e : Fin 64) :
    A_main_v23 (F := Ideal) x0 x1 x2 x3 x4 x5 (ix5 n b h c e) = x4 (ix4 b h (tok n.val c) e) := by
  pointwise [A_main_v23]
  unfold A_main_v18
  rw [cut_products]
  rfl

/-- The chunks' decays. -/
theorem decays_start (n : Fin 64) (b : Fin 8) (h : Fin 4) :
    A_main_v24 (F := Ideal) x0 x1 x2 x3 x4 x5 (ix3 n b h) = Ideal.exp (x5 (ix3 b (tok n.val 63) (gcol h))) := by
  pointwise [A_main_v24, A_main_v5]
  unfold A_main_v4
  rw [drop_last]
  pointwise [A_main_v3]
  unfold A_main_v2
  rw [cut_gates]
  pointwise [A_main_v1, A_main_v0]
  rfl

end Entry

section Fold

variable (m : (ℓ : Loc nD τ sig) → Buf (Elt Ideal) ℓ) (d : Dev nD)

/-- The reference's argument arrays as launched. -/
abbrev arg (b : Ref sig .tc) : Buf (Elt Ideal) ((d.tc : Thread nD τ).loc b) := m ((d.tc : Thread nD τ).loc b)

/-- The chunks the reference's arguments hold. -/
abbrev chunks (b : Fin 8) (h : Fin 4) (n : ℕ) : Chunk :=
  chunk (arg m d main_arg0) (arg m d main_arg1) (arg m d main_arg2) (arg m d main_arg3) (arg m d main_arg4) (arg m d main_arg5) b h n

/-- What the scan runs over does not change. -/
theorem inputs_kept (k : ℕ) : (ScanRun.before m d k).main_v27_0 = (ScanRun.start m d).main_v27_0
    ∧ (ScanRun.before m d k).main_v27_1 = (ScanRun.start m d).main_v27_1 ∧ (ScanRun.before m d k).main_v27_2 = (ScanRun.start m d).main_v27_2
    ∧ (ScanRun.before m d k).main_v27_3 = (ScanRun.start m d).main_v27_3 ∧ (ScanRun.before m d k).main_v27_4 = (ScanRun.start m d).main_v27_4
    ∧ (ScanRun.before m d k).main_v27_5 = (ScanRun.start m d).main_v27_5 := by
  induction k with
  | zero => exact ⟨rfl, rfl, rfl, rfl, rfl, rfl⟩
  | succ k ih => exact ih

/-- The chunk that trip `k` reads. -/
theorem read_chunk (k : ℕ) (n : Fin 64) (b : Fin 8) (h : Fin 4) :
    chunks m d b h n.val = read (ScanRun.before m d k) n b h (arg m d main_arg5 (ix3 b (tok n.val 63) (gcol h))) := by
  obtain ⟨h0, h1, h2, h3, h4, -⟩ := inputs_kept m d k
  unfold read
  rw [h0, h1, h2, h3, h4]
  unfold chunks chunk
  congr 1
  · funext c e; exact (values_start (arg m d main_arg0) (arg m d main_arg1) (arg m d main_arg2) (arg m d main_arg3) (arg m d main_arg4) (arg m d main_arg5) n b h c e).symm
  · funext c e; exact (weights_start (arg m d main_arg0) (arg m d main_arg1) (arg m d main_arg2) (arg m d main_arg3) (arg m d main_arg4) (arg m d main_arg5) n b h c e).symm
  · funext c e; exact (queries_start (arg m d main_arg0) (arg m d main_arg1) (arg m d main_arg2) (arg m d main_arg3) (arg m d main_arg4) (arg m d main_arg5) n b h c e).symm
  · funext c e; exact (keys_start (arg m d main_arg0) (arg m d main_arg1) (arg m d main_arg2) (arg m d main_arg3) (arg m d main_arg4) (arg m d main_arg5) n b h c e).symm
  · funext c e; exact (products_start (arg m d main_arg0) (arg m d main_arg1) (arg m d main_arg2) (arg m d main_arg3) (arg m d main_arg4) (arg m d main_arg5) n b h c e).symm

/-- Before trip `k` the state holds every head's memory. -/
theorem memory_before (b : Fin 8) (h : Fin 4) : ∀ (k : ℕ) (_ : k ≤ 64) (i e : Fin 128),
    (ScanRun.before m d k).main_v27_7 (ix4 b h i e) = memory (chunks m d b h) k i e
  | 0, _, i, e => by
    show K_main_v25 (F := Ideal) (ix4 b h i e) = 0
    pointwise [K_main_v25, K_main_cst]
  | k + 1, hk, i, e => by
    have hd : (ScanRun.before m d k).main_v27_5 (ix3 ⟨k, hk⟩ b h)
        = Ideal.exp (arg m d main_arg5 (ix3 b (tok k 63) (gcol h))) := by
      rw [(inputs_kept m d k).2.2.2.2.2]
      exact decays_start (arg m d main_arg0) (arg m d main_arg1) (arg m d main_arg2) (arg m d main_arg3) (arg m d main_arg4) (arg m d main_arg5) ⟨k, hk⟩ b h
    exact memory_trip (ScanRun.before m d k) hk b h (memory_before b h k (by omega)) hd (read_chunk m d k ⟨k, hk⟩ b h) i e

/-- Before trip `k` the first `k` chunks' rows are written. -/
theorem rows_before (b : Fin 8) (h : Fin 4) (c : Fin 64) (e : Fin 128) (n : Fin 64) : ∀ (k : ℕ) (_ : k ≤ 64) (_ : n.val < k),
    (ScanRun.before m d k).main_v27_8 (ix5 n b h c e) = outRow (memory (chunks m d b h) n.val) (chunks m d b h n.val) c e
  | 0, _, hn => absurd hn (Nat.not_lt_zero _)
  | k + 1, hk, hn => by
    show b49 k (ScanRun.before m d k) (ix5 n b h c e) = _
    rw [outputs_trip (ScanRun.before m d k) hk]
    by_cases hnk : n.val = k
    · rw [if_pos hnk, rows_trip (ScanRun.before m d k) hk b h (memory_before m d b h k (by omega)) (read_chunk m d k ⟨k, hk⟩ b h), hnk]
    · rw [if_neg hnk]
      exact rows_before b h c e n k (by omega) (by omega)

end Fold

/-- The reference's rows normed, scaled and gated. -/
theorem gated_rows (x6 : (⟨S8x4096x512, .bf16⟩ : BufTy).Contents (Elt Ideal)) (x7 : (⟨S128, .f32⟩ : BufTy).Contents (Elt Ideal))
    (b : Fin 8) (n : Fin 64) (c : Fin 64) (h : Fin 4) (e : Fin 128) :
    R_main_v49 s x6 x7 (ix3 b (tok n.val c) (col h e)) = gated (fun e => s.main_v27_8 (ix5 n b h c e)) (fun e => x7 (ix1 e))
      (fun e => x6 (ix3 b (tok n.val c) (col h e))) e := by
  unfold R_main_v49
  have hO : ∀ e, transpose S8x4096x4x128 [0, 2, 1, 3] (shapeCast S8x4x4096x128 (transpose S8x4x64x64x128 [1, 2, 0, 3, 4] (s.main_v27_8)
      transposes_S64x8x4x64x128_S8x4x64x64x128_1_2_0_3_4) shapeCasts_S8x4x64x64x128_S8x4x4096x128)
      transposes_S8x4x4096x128_S8x4096x4x128_0_2_1_3 (ix4 b (tok n.val c) h e) = s.main_v27_8 (ix5 n b h c e) := fun e => by
    generalize hX : transpose S8x4x64x64x128 [1, 2, 0, 3, 4] (s.main_v27_8) transposes_S64x8x4x64x128_S8x4x64x64x128_1_2_0_3_4 = X
    generalize hY : shapeCast S8x4x4096x128 X shapeCasts_S8x4x64x64x128_S8x4x4096x128 = Y
    pointwise []
    subst hY
    rw [join_chunks]
    subst hX
    pointwise []
  have hZ : ∀ e, shapeCast S8x4096x4x128 (extf (F := Ideal) .f32 x6 bitsLt_bf16_f32) shapeCasts_S8x4096x512_S8x4096x4x128
      (ix4 b (tok n.val c) h e) = x6 (ix3 b (tok n.val c) (col h e)) := fun e => by
    rw [cut_lanes]
    rfl
  generalize transpose S8x4096x4x128 [0, 2, 1, 3] (shapeCast S8x4x4096x128 (transpose S8x4x64x64x128 [1, 2, 0, 3, 4] (s.main_v27_8)
      transposes_S64x8x4x64x128_S8x4x64x64x128_1_2_0_3_4) shapeCasts_S8x4x64x64x128_S8x4x4096x128)
      transposes_S8x4x4096x128_S8x4096x4x128_0_2_1_3 = O at hO ⊢
  generalize shapeCast S8x4096x4x128 (extf (F := Ideal) .f32 x6 bitsLt_bf16_f32) shapeCasts_S8x4096x512_S8x4096x4x128 = Z at hZ ⊢
  generalize hY : shapeCast S8x4096x512 _ shapeCasts_S8x4096x4x128_S8x4096x512 = Y
  pointwise []
  subst hY
  refine (join_heads _ _ b (tok n.val c) h e).trans ?_
  pointwise []
  simp only [hO, hZ]
  rfl

end Cert.ScanRef

end
-- ==== Proof.ScanClaim.lean ====
/-
  The recurrence's two programs end with the same array over the extended reals.
-/
module

public import proofs.«01_k».proof.Defs
public import proofs.«01_k».proof.Proof.ScanArray
public import proofs.«01_k».proof.Proof.ScanRef

@[expose] public section

set_option maxRecDepth 16384

noncomputable section

namespace Cert.ScanClaim

open Idealize.ShloMosaic Idealize.ShloMosaic.TcCoe Idealize.SL.Sem

/-- What the reference's run leaves is the same function of its arguments. -/
theorem ref_out (m : (ℓ : Loc ReferenceIdeal.nD ReferenceIdeal.τ ReferenceIdeal.sig) → Buf (Elt Ideal) ℓ) (c : Dev ReferenceIdeal.nD) :
    Cert.ReferenceIdeal.Step.R_main_v49 (ScanRun.before m c 64) (ScanRef.arg m c ReferenceIdeal.main_arg6) (ScanRef.arg m c ReferenceIdeal.main_arg7) =
      ScanArray.out (ScanRef.arg m c ReferenceIdeal.main_arg0) (ScanRef.arg m c ReferenceIdeal.main_arg1)
        (ScanRef.arg m c ReferenceIdeal.main_arg2) (ScanRef.arg m c ReferenceIdeal.main_arg3) (ScanRef.arg m c ReferenceIdeal.main_arg4)
        (ScanRef.arg m c ReferenceIdeal.main_arg5) (ScanRef.arg m c ReferenceIdeal.main_arg6) (ScanRef.arg m c ReferenceIdeal.main_arg7) := by
  funext y
  idx_vars y
  have b1 : y1 = ScanSpec.tok (y1.val / 64) ⟨y1.val % 64, by omega⟩ :=
    Fin.ext (by show y1.val = y1.val / 64 % 64 * 64 + y1.val % 64; omega)
  have b2 : y2 = ScanSpec.col ⟨y2.val / 128, by omega⟩ ⟨y2.val % 128, by omega⟩ :=
    Fin.ext (by show y2.val = y2.val / 128 * 128 + y2.val % 128; omega)
  have hg := ScanRef.gated_rows (ScanRun.before m c 64) (ScanRef.arg m c ReferenceIdeal.main_arg6) (ScanRef.arg m c ReferenceIdeal.main_arg7)
    y0 ⟨y1.val / 64, by omega⟩ ⟨y1.val % 64, by omega⟩ ⟨y2.val / 128, by omega⟩ ⟨y2.val % 128, by omega⟩
  rw [← b1, ← b2] at hg
  refine hg.trans ?_
  show _ = ScanSpec.G _ _ _ _ _ _ _ _ y0 ⟨y2.val / 128, _⟩ (y1.val / 64) ⟨y1.val % 64, _⟩ ⟨y2.val % 128, _⟩
  unfold ScanSpec.G
  congr 1
  · funext e
    exact ScanRef.rows_before m c y0 _ _ e ⟨y1.val / 64, by omega⟩ 64 (by omega) (by omega)
  · rw [← b1]

/-- Both programs end with `ScanArray.out` of the arguments. -/
theorem agrees : algebraic_KernelIdeal_ReferenceIdeal := fun m ρ m' ρ' _ hag =>
  ⟨fun c => ScanArray.out (ScanArray.A m c KernelIdeal.main_arg0) (ScanArray.A m c KernelIdeal.main_arg1)
      (ScanArray.A m c KernelIdeal.main_arg2) (ScanArray.A m c KernelIdeal.main_arg3) (ScanArray.A m c KernelIdeal.main_arg4)
      (ScanArray.A m c KernelIdeal.main_arg5) (ScanArray.A m c KernelIdeal.main_arg6) (ScanArray.A m c KernelIdeal.main_arg7),
    (θ_run _ _ _).mono (fun _ h c => ⟨(h c).1.trans (ScanArray.final m c), (h c).2⟩) (Cert.KernelIdeal.Value.run_blocks m ρ),
    (θ_run _ _ _).mono (fun _ h c => ⟨(h c).1.trans ((ref_out m' c).trans (by
      obtain ⟨h0, h1, h2, h3, h4, h5, h6, h7⟩ := hag c
      rw [ScanRef.arg, ScanRef.arg, ScanRef.arg, ScanRef.arg, ScanRef.arg, ScanRef.arg, ScanRef.arg, ScanRef.arg,
        h0, h1, h2, h3, h4, h5, h6, h7])), (h c).2⟩) (ScanRun.run m' ρ')⟩

end Cert.ScanClaim

end
-- ==== Proof.FoxOps.lean ====
/-
  The parts of the forgetting attention, as its loads and stores find them.
-/
module

public import proofs.«01_k».proof.Proof.Gen.Kernel5Ideal.Loops
public import Idealize.ShloMosaic.Lib.WritesUnit
public import Idealize.ShloMosaic.Lib.VecWindow
public import Idealize.ShloMosaic.Lib.Pointwise

@[expose] public section

set_option maxRecDepth 16384

noncomputable section

namespace Cert.Fox

open Idealize.ShloMosaic Idealize.ShloMosaic.TcCoe Idealize.SL.Sem
open Cert.Kernel5Ideal Cert.Kernel5Ideal.Gen

variable {F : FTy → Type} [FloatOps F] [Named F]

/-! ### Loads after stores -/

section Reads

variable {sp : Space} {s : Shape} {e : EltTy} {α : EltTy → Type} (v : View sig .tc sp s e) (f : v.ty.Contents α)

/-- A load of the box just stored gives what was stored. -/
theorem load_same {off size : Fin s.rank → ℕ} (inb inb' : ∀ a, off a + size a ≤ s.size a)
    (w : (Rect.unit off size inb).shape.Idx → α e) (L : List (View.Piece α s e)) :
    View.readAt α v (Rect.unit off size inb').toLoadRect
      (v.writes α f ((⟨Rect.unit off size inb, w⟩ : View.Piece α s e) :: L)) = w :=
  funext fun x => View.read_writes_cons_unit_of_mem v f inb w L _ x rfl fun a => by
    show off a + 1 * (x a).val = off a + (x a).val
    omega

/-- A load of a box that misses the one just stored, along axis `a`, does not see that store. -/
theorem load_skip (a : Fin s.rank) {off size off' size' : Fin s.rank → ℕ}
    (inb : ∀ a, off a + size a ≤ s.size a) (inb' : ∀ a, off' a + size' a ≤ s.size a)
    (w : (Rect.unit off' size' inb').shape.Idx → α e) (L : List (View.Piece α s e))
    (h : off a + size a ≤ off' a ∨ off' a + size' a ≤ off a) :
    View.readAt α v (Rect.unit off size inb).toLoadRect
      (v.writes α f ((⟨Rect.unit off' size' inb', w⟩ : View.Piece α s e) :: L))
      = View.readAt α v (Rect.unit off size inb).toLoadRect (v.writes α f L) :=
  funext fun x => View.read_writes_cons_unit_of_not_mem v f inb' w L _ rfl a (by
    have hx := (x a).isLt
    change (x a).val < size a at hx
    show off a + 1 * (x a).val < off' a ∨ off' a + size' a ≤ off a + 1 * (x a).val
    omega)

end Reads

/-- The box of an array at the given offsets; zeros where the box does not fit. -/
def box {s : Shape} (off size : Fin s.rank → ℕ) (a : s.Idx → F .bf16) :
    (⟨s.rank, size⟩ : Shape).Idx → F .bf16 :=
  if h : ∀ d, off d + size d ≤ s.size d then fun x => a ((Rect.unit off size h).toLoadRect.idx x)
  else fun _ => FloatOps.ofBits .bf16 0

/-- A load is a box of the contents, its offsets in closed form. -/
theorem load_box {sp : Space} {s : Shape} (v : View sig .tc sp s .bf16) (X : v.ty.Contents (Elt F))
    {off off' size : Fin s.rank → ℕ} (inb : ∀ a, off a + size a ≤ s.size a) (h : off = off') :
    View.readAt (Elt F) v (Rect.unit off size inb).toLoadRect X = box (F := F) off' size (v.read (Elt F) X) := by
  subst h
  unfold box
  rw [dif_pos inb]
  rfl

/-! ### One head of one query tile -/

/-- What a head of one query tile works from: its queries with their bias rows, the keys, key biases and values
of every tile, those of every half tile, and the rows of ones. -/
structure Head (F : FTy → Type) where
  q : FVec F S256x512 .bf16
  keys : ℕ → FVec F S1x512x128 .bf16
  bias : ℕ → FVec F S512x128 .bf16
  halfKeys : ℕ → FVec F S1x256x128 .bf16
  halfBias : ℕ → FVec F S256x128 .bf16
  vals : ℕ → FVec F S1x128x512 .bf16
  ones : FVec F S16x512 .bf16

namespace Head

variable (h : Head F)

/-- The scores against key tile `j`. -/
def S (j : ℕ) : FVec F S1x1x512x512 .f32 := k0_pay7 h.q (h.keys j) (h.bias j)
/-- The largest score of key tile `j`, query by query. -/
def X (j : ℕ) : FVec F S1x1x1x512 .f32 := k0_pay8 h.q (h.keys j) (h.bias j)
/-- The running maximum after `j` tiles. -/
def M : ℕ → FVec F S1x1x512 .f32
  | 0 => fun _ => Named.named κ "mask" 0xF149F2CA#32
  | j + 1 => k0_pay13 (k0_pay10 (M j)) (X h j)
/-- The running weighted sums after `j` tiles. -/
def A : ℕ → FVec F S1x144x512 .f32
  | 0 => fun _ => FloatOps.ofBits .f32 0x00000000#32
  | j + 1 => k0_pay12 (k0_pay9 h.ones (h.vals j)) (k0_pay10 (M h j)) (X h j) (S h j) (A j)
/-- The masked scores of tile `j` on the diagonal: its first half of keys. -/
def top (j : ℕ) : FVec F S1x1x256x512 .f32 := k0_pay174 h.q (h.halfKeys (2 * j)) (h.halfBias (2 * j))
/-- The masked scores of tile `j` on the diagonal: its second half of keys against its second half of queries. -/
def bottom (j : ℕ) : FVec F S1x1x256x256 .f32 := k0_pay175 h.q (h.halfKeys (2 * j + 1)) (h.halfBias (2 * j + 1))
/-- The largest masked score of tile `j` on the diagonal. -/
def diag (j : ℕ) : FVec F S1x1x1x512 .f32 :=
  k0_pay176 (k0_pay172 h.q (h.halfKeys (2 * j)) (h.halfBias (2 * j)))
    (k0_pay173 h.q (h.halfKeys (2 * j + 1)) (h.halfBias (2 * j + 1)))
/-- The weighted sums with the diagonal tile `j` absorbed: the first half of the queries. -/
def low (j : ℕ) : FVec F S1x144x256 .f32 :=
  k0_pay153 (k0_pay152 h.ones (h.vals j) (M h j) (diag h j) (top h j) (A h j))
/-- The weighted sums with the diagonal tile `j` absorbed: the second half of the queries. -/
def high (j : ℕ) : FVec F S1x144x256 .f32 :=
  k0_pay154 (k0_pay147 h.ones (h.vals j)) (k0_pay150 (M h j) (diag h j) (bottom h j))
    (k0_pay151 h.ones (h.vals j) (M h j) (diag h j) (top h j) (A h j))
/-- The weighted sums with the diagonal tile `j` absorbed. -/
def final (j : ℕ) : FVec F S1x144x512 .f32 := fun x =>
  if hx : (x 2).val < 256 then low h j (ix3 0 (x 1) ⟨(x 2).val, hx⟩)
  else high h j (ix3 0 (x 1) ⟨(x 2).val - 256, by have h2 : (x 2).val < 512 := (x 2).isLt; omega⟩)
/-- What the head gives for query tile `j`, before the gate. -/
def attn (j : ℕ) : FVec F S128x512 .f32 :=
  k0_pay170 (fun x => final h j (ix3 0 ⟨(x 1).val, by have h1 : (x 1).val < 128 := (x 1).isLt; omega⟩ (x 2)))
    (fun x => final h j (ix3 0 128 (x 2)))
/-- The gated result of the head for query tile `j`. -/
def out (j : ℕ) (gate : FVec F S1x512x128 .bf16) : FVec F S1x512x128 .bf16 := k0_pay2 (attn h j) gate

end Head

/-! ### The kept scores, maxima and sums, as the loads find them -/

theorem inb_st (g : Fin 2) (σ : Fin 3) : ∀ a : Fin 4, (![g.val, σ.val, 0, 0] : Fin 4 → ℕ) a + S1x1x512x512.size a ≤ S2x3x512x512.size a := by
  revert g σ; decide
theorem inb_mx (g : Fin 2) (σ : Fin 3) : ∀ a : Fin 4, (![g.val, σ.val, 0, 0] : Fin 4 → ℕ) a + S1x1x1x512.size a ≤ S2x3x1x512.size a := by
  revert g σ; decide
theorem inb_m (g : Fin 2) : ∀ a : Fin 3, (![g.val, 0, 0] : Fin 3 → ℕ) a + S1x1x512.size a ≤ S2x1x512.size a := by
  revert g; decide
theorem inb_acc (g : Fin 2) : ∀ a : Fin 3, (![g.val, 0, 0] : Fin 3 → ℕ) a + S1x144x512.size a ≤ S2x144x512.size a := by
  revert g; decide
theorem inb_top (g : Fin 2) : ∀ a : Fin 4, (![g.val, 2, 0, 0] : Fin 4 → ℕ) a + S1x1x256x512.size a ≤ S2x3x512x512.size a := by
  revert g; decide
theorem inb_bottom (g : Fin 2) : ∀ a : Fin 4, (![g.val, 2, 256, 256] : Fin 4 → ℕ) a + S1x1x256x256.size a ≤ S2x3x512x512.size a := by
  revert g; decide

section Kept

variable (v9 : View sig .tc .vmem S2x3x512x512 .f32) (v10 : View sig .tc .vmem S2x3x1x512 .f32)
  (v11 : View sig .tc .vmem S2x1x512 .f32) (v12 : View sig .tc .vmem S2x144x512 .f32)

/-- Head `g`'s scores in slot `σ`. -/
abbrev ldSt (g : Fin 2) (σ : Fin 3) (f : v9.ty.Contents (Elt F)) : FVec F S1x1x512x512 .f32 :=
  View.readAt (Elt F) v9 (Rect.unit (s := S2x3x512x512) ![g.val, σ.val, 0, 0] S1x1x512x512.size (inb_st g σ)).toLoadRect f
/-- Head `g`'s maxima in slot `σ`. -/
abbrev ldMx (g : Fin 2) (σ : Fin 3) (f : v10.ty.Contents (Elt F)) : FVec F S1x1x1x512 .f32 :=
  View.readAt (Elt F) v10 (Rect.unit (s := S2x3x1x512) ![g.val, σ.val, 0, 0] S1x1x1x512.size (inb_mx g σ)).toLoadRect f
/-- Head `g`'s running maximum. -/
abbrev ldM (g : Fin 2) (f : v11.ty.Contents (Elt F)) : FVec F S1x1x512 .f32 :=
  View.readAt (Elt F) v11 (Rect.unit (s := S2x1x512) ![g.val, 0, 0] S1x1x512.size (inb_m g)).toLoadRect f
/-- Head `g`'s running sums. -/
abbrev ldA (g : Fin 2) (f : v12.ty.Contents (Elt F)) : FVec F S1x144x512 .f32 :=
  View.readAt (Elt F) v12 (Rect.unit (s := S2x144x512) ![g.val, 0, 0] S1x144x512.size (inb_acc g)).toLoadRect f
/-- Head `g`'s masked scores of the diagonal tile, first half of the keys. -/
abbrev ldTop (g : Fin 2) (f : v9.ty.Contents (Elt F)) : FVec F S1x1x256x512 .f32 :=
  View.readAt (Elt F) v9 (Rect.unit (s := S2x3x512x512) ![g.val, 2, 0, 0] S1x1x256x512.size (inb_top g)).toLoadRect f
/-- Head `g`'s masked scores of the diagonal tile, second half of the keys. -/
abbrev ldBottom (g : Fin 2) (f : v9.ty.Contents (Elt F)) : FVec F S1x1x256x256 .f32 :=
  View.readAt (Elt F) v9 (Rect.unit (s := S2x3x512x512) ![g.val, 2, 256, 256] S1x1x256x256.size (inb_bottom g)).toLoadRect f

/-- Slot `σ` holds the scores of key tile `j` and their maxima. -/
structure Scored (h : Fin 2 → Head F) (σ : Fin 3) (j : ℕ) (f9 : v9.ty.Contents (Elt F)) (f10 : v10.ty.Contents (Elt F)) : Prop where
  st : ∀ g, ldSt v9 g σ f9 = (h g).S j
  mx : ∀ g, ldMx v10 g σ f10 = (h g).X j

/-- The running maxima and sums are those after `j` tiles. -/
structure Summed (h : Fin 2 → Head F) (j : ℕ) (f11 : v11.ty.Contents (Elt F)) (f12 : v12.ty.Contents (Elt F)) : Prop where
  m : ∀ g, ldM v11 g f11 = (h g).M j
  acc : ∀ g, ldA v12 g f12 = (h g).A j

/-- The third slot holds the masked scores of the diagonal tile `j` and their maxima. -/
structure Masked (h : Fin 2 → Head F) (j : ℕ) (f9 : v9.ty.Contents (Elt F)) (f10 : v10.ty.Contents (Elt F)) : Prop where
  top : ∀ g, ldTop v9 g f9 = (h g).top j
  bottom : ∀ g, ldBottom v9 g f9 = (h g).bottom j
  mx : ∀ g, ldMx v10 g 2 f10 = (h g).diag j

end Kept

/-- The arrays a grid point works from: queries, keys, values, query biases, the two heads' key biases, ones. -/
structure Arr (F : FTy → Type) where
  q : FVec F S1x256x4096 .bf16
  k : FVec F S1x4096x256 .bf16
  v : FVec F S1x256x4096 .bf16
  qb : FVec F S1x128x4096 .bf16
  kb : FVec F S4096x256 .bf16
  ones : FVec F S16x512 .bf16

/-- Head `g` of query tile `t`. -/
def Arr.head (a : Arr F) (t : ℕ) (g : Fin 2) : Head F where
  q := k0_pay246 (box (s := S1x256x4096) ![0, 128 * g.val, 512 * t] S1x128x512.size a.q)
    (box (s := S1x128x4096) ![0, 0, 512 * t] S1x128x512.size a.qb)
  keys j := box (s := S1x4096x256) ![0, 512 * j, 128 * g.val] S1x512x128.size a.k
  bias j := box (s := S4096x256) ![512 * j, 128 * g.val] S512x128.size a.kb
  halfKeys j := box (s := S1x4096x256) ![0, 256 * j, 128 * g.val] S1x256x128.size a.k
  halfBias j := box (s := S4096x256) ![256 * j, 128 * g.val] S256x128.size a.kb
  vals j := box (s := S1x256x4096) ![0, 128 * g.val, 512 * j] S1x128x512.size a.v
  ones := a.ones

/-! ### A step of the recursion, from loads -/

section Steps

variable (h : Head F) (j : ℕ)

theorem S_of {kk : FVec F S1x512x128 .bf16} {bb : FVec F S512x128 .bf16} (hk : kk = h.keys j) (hb : bb = h.bias j) :
    k0_pay7 h.q kk bb = h.S j := by subst hk hb; rfl
theorem X_of {kk : FVec F S1x512x128 .bf16} {bb : FVec F S512x128 .bf16} (hk : kk = h.keys j) (hb : bb = h.bias j) :
    k0_pay8 h.q kk bb = h.X j := by subst hk hb; rfl
theorem M_of {m : FVec F S1x1x512 .f32} {mx : FVec F S1x1x1x512 .f32} (hm : m = h.M j) (hx : mx = h.X j) :
    k0_pay13 (k0_pay10 m) mx = h.M (j + 1) := by subst hm hx; rfl
theorem A_of {v : FVec F S1x128x512 .bf16} {m : FVec F S1x1x512 .f32} {mx : FVec F S1x1x1x512 .f32}
    {st : FVec F S1x1x512x512 .f32} {acc : FVec F S1x144x512 .f32}
    (hv : v = h.vals j) (hm : m = h.M j) (hx : mx = h.X j) (hs : st = h.S j) (ha : acc = h.A j) :
    k0_pay12 (k0_pay9 h.ones v) (k0_pay10 m) mx st acc = h.A (j + 1) := by subst hv hm hx hs ha; rfl
theorem top_of {kk : FVec F S1x256x128 .bf16} {bb : FVec F S256x128 .bf16} (hk : kk = h.halfKeys (2 * j)) (hb : bb = h.halfBias (2 * j)) :
    k0_pay174 h.q kk bb = h.top j := by subst hk hb; rfl
theorem bottom_of {kk : FVec F S1x256x128 .bf16} {bb : FVec F S256x128 .bf16} (hk : kk = h.halfKeys (2 * j + 1))
    (hb : bb = h.halfBias (2 * j + 1)) : k0_pay175 h.q kk bb = h.bottom j := by subst hk hb; rfl
theorem diag_of {kk kk' : FVec F S1x256x128 .bf16} {bb bb' : FVec F S256x128 .bf16} (hk : kk = h.halfKeys (2 * j))
    (hb : bb = h.halfBias (2 * j)) (hk' : kk' = h.halfKeys (2 * j + 1)) (hb' : bb' = h.halfBias (2 * j + 1)) :
    k0_pay176 (k0_pay172 h.q kk bb) (k0_pay173 h.q kk' bb') = h.diag j := by subst hk hb hk' hb'; rfl

end Steps

/-- A load of 512 keys. -/
theorem keys_of {v : View sig .tc .vmem S1x4096x256 .bf16} {X : v.ty.Contents (Elt F)} {off off' : Fin 3 → ℕ}
    (inb : ∀ a : Fin 3, off a + S1x512x128.size a ≤ S1x4096x256.size a) (h : off = off') :
    (View.readAt (Elt F) v (Rect.unit (s := S1x4096x256) off S1x512x128.size inb).toLoadRect X : FVec F S1x512x128 .bf16)
      = box (s := S1x4096x256) off' S1x512x128.size (v.read (Elt F) X) := load_box (s := S1x4096x256) v X inb h
/-- A load of 256 keys. -/
theorem halfKeys_of {v : View sig .tc .vmem S1x4096x256 .bf16} {X : v.ty.Contents (Elt F)} {off off' : Fin 3 → ℕ}
    (inb : ∀ a : Fin 3, off a + S1x256x128.size a ≤ S1x4096x256.size a) (h : off = off') :
    (View.readAt (Elt F) v (Rect.unit (s := S1x4096x256) off S1x256x128.size inb).toLoadRect X : FVec F S1x256x128 .bf16)
      = box (s := S1x4096x256) off' S1x256x128.size (v.read (Elt F) X) := load_box (s := S1x4096x256) v X inb h
/-- A load of 512 key biases. -/
theorem bias_of {v : View sig .tc .vmem S4096x256 .bf16} {X : v.ty.Contents (Elt F)} {off off' : Fin 2 → ℕ}
    (inb : ∀ a : Fin 2, off a + S512x128.size a ≤ S4096x256.size a) (h : off = off') :
    (View.readAt (Elt F) v (Rect.unit (s := S4096x256) off S512x128.size inb).toLoadRect X : FVec F S512x128 .bf16)
      = box (s := S4096x256) off' S512x128.size (v.read (Elt F) X) := load_box (s := S4096x256) v X inb h
/-- A load of 256 key biases. -/
theorem halfBias_of {v : View sig .tc .vmem S4096x256 .bf16} {X : v.ty.Contents (Elt F)} {off off' : Fin 2 → ℕ}
    (inb : ∀ a : Fin 2, off a + S256x128.size a ≤ S4096x256.size a) (h : off = off') :
    (View.readAt (Elt F) v (Rect.unit (s := S4096x256) off S256x128.size inb).toLoadRect X : FVec F S256x128 .bf16)
      = box (s := S4096x256) off' S256x128.size (v.read (Elt F) X) := load_box (s := S4096x256) v X inb h
/-- A load of 512 queries or values of one head. -/
theorem cols_of {v : View sig .tc .vmem S1x256x4096 .bf16} {X : v.ty.Contents (Elt F)} {off off' : Fin 3 → ℕ}
    (inb : ∀ a : Fin 3, off a + S1x128x512.size a ≤ S1x256x4096.size a) (h : off = off') :
    (View.readAt (Elt F) v (Rect.unit (s := S1x256x4096) off S1x128x512.size inb).toLoadRect X : FVec F S1x128x512 .bf16)
      = box (s := S1x256x4096) off' S1x128x512.size (v.read (Elt F) X) := load_box (s := S1x256x4096) v X inb h
/-- A load of 512 query biases. -/
theorem colBias_of {v : View sig .tc .vmem S1x128x4096 .bf16} {X : v.ty.Contents (Elt F)} {off off' : Fin 3 → ℕ}
    (inb : ∀ a : Fin 3, off a + S1x128x512.size a ≤ S1x128x4096.size a) (h : off = off') :
    (View.readAt (Elt F) v (Rect.unit (s := S1x128x4096) off S1x128x512.size inb).toLoadRect X : FVec F S1x128x512 .bf16)
      = box (s := S1x128x4096) off' S1x128x512.size (v.read (Elt F) X) := load_box (s := S1x128x4096) v X inb h

end Cert.Fox
-- ==== Proof.FoxInner.lean ====
/-
  One trip of each of a query tile's inner loops, by what it leaves in the kept scores, maxima and sums.
-/
module

public import proofs.«01_k».proof.Proof.FoxOps

@[expose] public section

set_option maxRecDepth 65536
set_option maxHeartbeats 0

noncomputable section

namespace Cert.Fox

open Idealize.ShloMosaic Idealize.ShloMosaic.TcCoe Idealize.SL.Sem
open Cert.Kernel5Ideal Cert.Kernel5Ideal.Gen

variable {F : FTy → Type} [FloatOps F] [Named F]

variable (𝒱 : Variants) (c : Dev nD) (bd : Option 𝒱.V) (i : grid0.Coords)
  (arg2 : Memref sig .tc .vmem S1x256x4096 .bf16) (harg2 : arg2.IsWhole)
  (arg3 : Memref sig .tc .vmem S1x4096x256 .bf16) (harg3 : arg3.IsWhole)
  (arg4 : Memref sig .tc .vmem S1x256x4096 .bf16) (harg4 : arg4.IsWhole)
  (arg5 : Memref sig .tc .vmem S1x4096x256 .bf16) (harg5 : arg5.IsWhole)
  (arg6 : Memref sig .tc .vmem S1x128x4096 .bf16) (harg6 : arg6.IsWhole)
  (arg7 : Memref sig .tc .vmem S1x4096x128 .bf16) (harg7 : arg7.IsWhole)
  (arg8 : Memref sig .tc .vmem S1x4096x256 .bf16) (harg8 : arg8.IsWhole)
  (arg9 : Memref sig .tc .vmem S2x3x512x512 .f32) (harg9 : arg9.IsWhole)
  (arg10 : Memref sig .tc .vmem S2x3x1x512 .f32) (harg10 : arg10.IsWhole)
  (arg11 : Memref sig .tc .vmem S2x1x512 .f32) (harg11 : arg11.IsWhole)
  (arg12 : Memref sig .tc .vmem S2x144x512 .f32) (harg12 : arg12.IsWhole)
  (arg13 : Memref sig .tc .vmem S4096x256 .bf16) (harg13 : arg13.IsWhole)
  (X2 : BufTy.Contents (Elt F) arg2.view.ty) (X3 : BufTy.Contents (Elt F) arg3.view.ty) (X4 : BufTy.Contents (Elt F) arg4.view.ty)
  (X6 : BufTy.Contents (Elt F) arg6.view.ty) (X13 : BufTy.Contents (Elt F) arg13.view.ty) (v45 : FVec F S16x512 .bf16)

/-- The arrays of the grid point, as its buffers hold them. -/
abbrev arrOf : Arr F :=
  ⟨arg2.view.read (Elt F) X2, arg3.view.read (Elt F) X3, arg4.view.read (Elt F) X4, arg6.view.read (Elt F) X6, arg13.view.read (Elt F) X13, v45⟩

/-- The heads of query tile `t`, from the grid point's buffers. -/
abbrev headOf (t : ℕ) (g : Fin 2) : Head F := (arrOf arg2 arg3 arg4 arg6 arg13 X2 X3 X4 X6 X13 v45).head t g

/-! ### The trip that takes tile `t − 2` and scores tile `t − 1` -/

theorem off20 : ∀ (k0_t1 : Fin k0_t1_loop.trips) (k : Fin (k0_t4_loop k0_t1).trips), k0_off20 k0_t1 k = ![0, 512 * ((k0_t1.val - 2) + 1), 128 * (0 : Fin 2).val] := by
  decide +kernel
theorem off21 : ∀ (k0_t1 : Fin k0_t1_loop.trips) (k : Fin (k0_t4_loop k0_t1).trips), k0_off21 k0_t1 k = ![512 * ((k0_t1.val - 2) + 1), 128 * (0 : Fin 2).val] := by
  decide +kernel
theorem off22 : ∀ (k0_t1 : Fin k0_t1_loop.trips) (k : Fin (k0_t4_loop k0_t1).trips), k0_off22 k0_t1 k = ![0, 128 * (0 : Fin 2).val, 512 * (k0_t1.val - 2)] := by
  decide +kernel
theorem off23 : ∀ (k0_t1 : Fin k0_t1_loop.trips) (k : Fin (k0_t4_loop k0_t1).trips), k0_off23 k0_t1 k = ![0, 512 * ((k0_t1.val - 2) + 1), 128 * (1 : Fin 2).val] := by
  decide +kernel
theorem off24 : ∀ (k0_t1 : Fin k0_t1_loop.trips) (k : Fin (k0_t4_loop k0_t1).trips), k0_off24 k0_t1 k = ![512 * ((k0_t1.val - 2) + 1), 128 * (1 : Fin 2).val] := by
  decide +kernel
theorem off25 : ∀ (k0_t1 : Fin k0_t1_loop.trips) (k : Fin (k0_t4_loop k0_t1).trips), k0_off25 k0_t1 k = ![0, 128 * (1 : Fin 2).val, 512 * (k0_t1.val - 2)] := by
  decide +kernel

theorem trip4 (k0_t1 : Fin k0_t1_loop.trips) (v209 : BitVec 32) (k : Fin (k0_t4_loop k0_t1).trips)
    (f9 : arg9.view.ty.Contents (Elt F)) (f10 : arg10.view.ty.Contents (Elt F)) (f11 : arg11.view.ty.Contents (Elt F)) (f12 : arg12.view.ty.Contents (Elt F))
    (hs : Scored arg9.view arg10.view (headOf arg2 arg3 arg4 arg6 arg13 X2 X3 X4 X6 X13 v45 k0_t1.val) 0 (k0_t1.val - 2) f9 f10)
    (hm : Summed arg11.view arg12.view (headOf arg2 arg3 arg4 arg6 arg13 X2 X3 X4 X6 X13 v45 k0_t1.val) (k0_t1.val - 2) f11 f12) :
    Scored arg9.view arg10.view (headOf arg2 arg3 arg4 arg6 arg13 X2 X3 X4 X6 X13 v45 k0_t1.val) 1 ((k0_t1.val - 2) + 1)
        (arg9.view.writes (Elt F) f9 ((trip_k0_t4 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q 0#32 0#32 0#32 0#32 v209 X3 X4 X13 k).1 f9 f10 f11 f12))
        (arg10.view.writes (Elt F) f10 ((trip_k0_t4 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q 0#32 0#32 0#32 0#32 v209 X3 X4 X13 k).2.1 f9 f10 f11 f12))
      ∧ Summed arg11.view arg12.view (headOf arg2 arg3 arg4 arg6 arg13 X2 X3 X4 X6 X13 v45 k0_t1.val) ((k0_t1.val - 2) + 1)
        (arg11.view.writes (Elt F) f11 ((trip_k0_t4 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q 0#32 0#32 0#32 0#32 v209 X3 X4 X13 k).2.2.1 f9 f10 f11 f12))
        (arg12.view.writes (Elt F) f12 ((trip_k0_t4 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q 0#32 0#32 0#32 0#32 v209 X3 X4 X13 k).2.2.2.1 f9 f10 f11 f12)) := by
  unfold trip_k0_t4
  dsimp only
  refine ⟨⟨fun g => ?_, fun g => ?_⟩, ⟨fun g => ?_, fun g => ?_⟩⟩ <;> fin_cases g
  · refine (load_skip _ _ 0 _ _ _ _ (by decide)).trans ((load_same _ _ _ _ _ _).trans ?_)
    have e := S_of ((headOf arg2 arg3 arg4 arg6 arg13 X2 X3 X4 X6 X13 v45 k0_t1.val) 0) ((k0_t1.val - 2) + 1) (keys_of (k0_off20_inb k0_t1 k) (off20 k0_t1 k)) (bias_of (k0_off21_inb k0_t1 k) (off21 k0_t1 k))
    exact e
  · refine (load_same _ _ _ _ _ _).trans ?_
    have e := S_of ((headOf arg2 arg3 arg4 arg6 arg13 X2 X3 X4 X6 X13 v45 k0_t1.val) 1) ((k0_t1.val - 2) + 1) (keys_of (k0_off23_inb k0_t1 k) (off23 k0_t1 k)) (bias_of (k0_off24_inb k0_t1 k) (off24 k0_t1 k))
    exact e
  · refine (load_skip _ _ 0 _ _ _ _ (by decide)).trans ((load_same _ _ _ _ _ _).trans ?_)
    have e := X_of ((headOf arg2 arg3 arg4 arg6 arg13 X2 X3 X4 X6 X13 v45 k0_t1.val) 0) ((k0_t1.val - 2) + 1) (keys_of (k0_off20_inb k0_t1 k) (off20 k0_t1 k)) (bias_of (k0_off21_inb k0_t1 k) (off21 k0_t1 k))
    exact e
  · refine (load_same _ _ _ _ _ _).trans ?_
    have e := X_of ((headOf arg2 arg3 arg4 arg6 arg13 X2 X3 X4 X6 X13 v45 k0_t1.val) 1) ((k0_t1.val - 2) + 1) (keys_of (k0_off23_inb k0_t1 k) (off23 k0_t1 k)) (bias_of (k0_off24_inb k0_t1 k) (off24 k0_t1 k))
    exact e
  · refine (load_skip _ _ 0 _ _ _ _ (by decide)).trans ((load_same _ _ _ _ _ _).trans ?_)
    have e := M_of ((headOf arg2 arg3 arg4 arg6 arg13 X2 X3 X4 X6 X13 v45 k0_t1.val) 0) (k0_t1.val - 2) (hm.m 0) (hs.mx 0)
    exact e
  · refine (load_same _ _ _ _ _ _).trans ?_
    have e := M_of ((headOf arg2 arg3 arg4 arg6 arg13 X2 X3 X4 X6 X13 v45 k0_t1.val) 1) (k0_t1.val - 2) (hm.m 1) (hs.mx 1)
    exact e
  · refine (load_skip _ _ 0 _ _ _ _ (by decide)).trans ((load_same _ _ _ _ _ _).trans ?_)
    have e := A_of ((headOf arg2 arg3 arg4 arg6 arg13 X2 X3 X4 X6 X13 v45 k0_t1.val) 0) (k0_t1.val - 2) (cols_of (k0_off22_inb k0_t1 k) (off22 k0_t1 k)) (hm.m 0) (hs.mx 0) (hs.st 0) (hm.acc 0)
    exact e
  · refine (load_same _ _ _ _ _ _).trans ?_
    have e := A_of ((headOf arg2 arg3 arg4 arg6 arg13 X2 X3 X4 X6 X13 v45 k0_t1.val) 1) (k0_t1.val - 2) (cols_of (k0_off25_inb k0_t1 k) (off25 k0_t1 k)) (hm.m 1) (hs.mx 1) (hs.st 1) (hm.acc 1)
    exact e

/-! ### The trip of an even query tile that takes tile `t − 1` and scores the diagonal tile -/

theorem off32 : ∀ (k0_t1 : Fin k0_t1_loop.trips) (hc : k0_cond1 k0_t1 = 1#1) (k : Fin (k0_t6_loop k0_t1).trips), k0_off32 k0_t1 k = ![0, 256 * (2 * k0_t1.val), 128 * (0 : Fin 2).val] := by
  decide +kernel
theorem off33 : ∀ (k0_t1 : Fin k0_t1_loop.trips) (hc : k0_cond1 k0_t1 = 1#1) (k : Fin (k0_t6_loop k0_t1).trips), k0_off33 k0_t1 k = ![256 * (2 * k0_t1.val), 128 * (0 : Fin 2).val] := by
  decide +kernel
theorem off34 : ∀ (k0_t1 : Fin k0_t1_loop.trips) (hc : k0_cond1 k0_t1 = 1#1) (k : Fin (k0_t6_loop k0_t1).trips), k0_off34 k0_t1 k = ![0, 256 * (2 * k0_t1.val + 1), 128 * (0 : Fin 2).val] := by
  decide +kernel
theorem off35 : ∀ (k0_t1 : Fin k0_t1_loop.trips) (hc : k0_cond1 k0_t1 = 1#1) (k : Fin (k0_t6_loop k0_t1).trips), k0_off35 k0_t1 k = ![256 * (2 * k0_t1.val + 1), 128 * (0 : Fin 2).val] := by
  decide +kernel
theorem off36 : ∀ (k0_t1 : Fin k0_t1_loop.trips) (hc : k0_cond1 k0_t1 = 1#1) (k : Fin (k0_t6_loop k0_t1).trips), k0_off36 k0_t1 k = ![0, 128 * (0 : Fin 2).val, 512 * (k0_t1.val - 1)] := by
  decide +kernel
theorem off37 : ∀ (k0_t1 : Fin k0_t1_loop.trips) (hc : k0_cond1 k0_t1 = 1#1) (k : Fin (k0_t6_loop k0_t1).trips), k0_off37 k0_t1 k = ![0, 256 * (2 * k0_t1.val), 128 * (1 : Fin 2).val] := by
  decide +kernel
theorem off38 : ∀ (k0_t1 : Fin k0_t1_loop.trips) (hc : k0_cond1 k0_t1 = 1#1) (k : Fin (k0_t6_loop k0_t1).trips), k0_off38 k0_t1 k = ![256 * (2 * k0_t1.val), 128 * (1 : Fin 2).val] := by
  decide +kernel
theorem off39 : ∀ (k0_t1 : Fin k0_t1_loop.trips) (hc : k0_cond1 k0_t1 = 1#1) (k : Fin (k0_t6_loop k0_t1).trips), k0_off39 k0_t1 k = ![0, 256 * (2 * k0_t1.val + 1), 128 * (1 : Fin 2).val] := by
  decide +kernel
theorem off40 : ∀ (k0_t1 : Fin k0_t1_loop.trips) (hc : k0_cond1 k0_t1 = 1#1) (k : Fin (k0_t6_loop k0_t1).trips), k0_off40 k0_t1 k = ![256 * (2 * k0_t1.val + 1), 128 * (1 : Fin 2).val] := by
  decide +kernel
theorem off41 : ∀ (k0_t1 : Fin k0_t1_loop.trips) (hc : k0_cond1 k0_t1 = 1#1) (k : Fin (k0_t6_loop k0_t1).trips), k0_off41 k0_t1 k = ![0, 128 * (1 : Fin 2).val, 512 * (k0_t1.val - 1)] := by
  decide +kernel

theorem trip6 (k0_t1 : Fin k0_t1_loop.trips) (v186 : BitVec 32) (hc : k0_cond1 k0_t1 = 1#1) (k : Fin (k0_t6_loop k0_t1).trips)
    (f9 : arg9.view.ty.Contents (Elt F)) (f10 : arg10.view.ty.Contents (Elt F)) (f11 : arg11.view.ty.Contents (Elt F)) (f12 : arg12.view.ty.Contents (Elt F))
    (hs : Scored arg9.view arg10.view (headOf arg2 arg3 arg4 arg6 arg13 X2 X3 X4 X6 X13 v45 k0_t1.val) 1 (k0_t1.val - 1) f9 f10)
    (hm : Summed arg11.view arg12.view (headOf arg2 arg3 arg4 arg6 arg13 X2 X3 X4 X6 X13 v45 k0_t1.val) (k0_t1.val - 1) f11 f12) :
    Masked arg9.view arg10.view (headOf arg2 arg3 arg4 arg6 arg13 X2 X3 X4 X6 X13 v45 k0_t1.val) k0_t1.val
        (arg9.view.writes (Elt F) f9 ((trip_k0_t6 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q v186 0#32 hc X3 X4 X13 k).1 f9 f10 f11 f12))
        (arg10.view.writes (Elt F) f10 ((trip_k0_t6 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q v186 0#32 hc X3 X4 X13 k).2.1 f9 f10 f11 f12))
      ∧ Summed arg11.view arg12.view (headOf arg2 arg3 arg4 arg6 arg13 X2 X3 X4 X6 X13 v45 k0_t1.val) ((k0_t1.val - 1) + 1)
        (arg11.view.writes (Elt F) f11 ((trip_k0_t6 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q v186 0#32 hc X3 X4 X13 k).2.2.1 f9 f10 f11 f12))
        (arg12.view.writes (Elt F) f12 ((trip_k0_t6 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q v186 0#32 hc X3 X4 X13 k).2.2.2.1 f9 f10 f11 f12)) := by
  unfold trip_k0_t6
  dsimp only
  refine ⟨⟨fun g => ?_, fun g => ?_, fun g => ?_⟩, ⟨fun g => ?_, fun g => ?_⟩⟩ <;> fin_cases g
  · refine (load_skip _ _ 0 _ _ _ _ (by decide)).trans ((load_skip _ _ 0 _ _ _ _ (by decide)).trans ((load_skip _ _ 2 _ _ _ _ (by decide)).trans ((load_same _ _ _ _ _ _).trans ?_)))
    have e := top_of ((headOf arg2 arg3 arg4 arg6 arg13 X2 X3 X4 X6 X13 v45 k0_t1.val) 0) k0_t1.val (halfKeys_of (k0_off32_inb k0_t1 k hc) (off32 k0_t1 hc k)) (halfBias_of (k0_off33_inb k0_t1 k hc) (off33 k0_t1 hc k))
    exact e
  · refine (load_skip _ _ 2 _ _ _ _ (by decide)).trans ((load_same _ _ _ _ _ _).trans ?_)
    have e := top_of ((headOf arg2 arg3 arg4 arg6 arg13 X2 X3 X4 X6 X13 v45 k0_t1.val) 1) k0_t1.val (halfKeys_of (k0_off37_inb k0_t1 k hc) (off37 k0_t1 hc k)) (halfBias_of (k0_off38_inb k0_t1 k hc) (off38 k0_t1 hc k))
    exact e
  · refine (load_skip _ _ 0 _ _ _ _ (by decide)).trans ((load_skip _ _ 0 _ _ _ _ (by decide)).trans ((load_same _ _ _ _ _ _).trans ?_))
    have e := bottom_of ((headOf arg2 arg3 arg4 arg6 arg13 X2 X3 X4 X6 X13 v45 k0_t1.val) 0) k0_t1.val (halfKeys_of (k0_off34_inb k0_t1 k hc) (off34 k0_t1 hc k)) (halfBias_of (k0_off35_inb k0_t1 k hc) (off35 k0_t1 hc k))
    exact e
  · refine (load_same _ _ _ _ _ _).trans ?_
    have e := bottom_of ((headOf arg2 arg3 arg4 arg6 arg13 X2 X3 X4 X6 X13 v45 k0_t1.val) 1) k0_t1.val (halfKeys_of (k0_off39_inb k0_t1 k hc) (off39 k0_t1 hc k)) (halfBias_of (k0_off40_inb k0_t1 k hc) (off40 k0_t1 hc k))
    exact e
  · refine (load_skip _ _ 0 _ _ _ _ (by decide)).trans ((load_same _ _ _ _ _ _).trans ?_)
    have e := diag_of ((headOf arg2 arg3 arg4 arg6 arg13 X2 X3 X4 X6 X13 v45 k0_t1.val) 0) k0_t1.val (halfKeys_of (k0_off32_inb k0_t1 k hc) (off32 k0_t1 hc k)) (halfBias_of (k0_off33_inb k0_t1 k hc) (off33 k0_t1 hc k)) (halfKeys_of (k0_off34_inb k0_t1 k hc) (off34 k0_t1 hc k)) (halfBias_of (k0_off35_inb k0_t1 k hc) (off35 k0_t1 hc k))
    exact e
  · refine (load_same _ _ _ _ _ _).trans ?_
    have e := diag_of ((headOf arg2 arg3 arg4 arg6 arg13 X2 X3 X4 X6 X13 v45 k0_t1.val) 1) k0_t1.val (halfKeys_of (k0_off37_inb k0_t1 k hc) (off37 k0_t1 hc k)) (halfBias_of (k0_off38_inb k0_t1 k hc) (off38 k0_t1 hc k)) (halfKeys_of (k0_off39_inb k0_t1 k hc) (off39 k0_t1 hc k)) (halfBias_of (k0_off40_inb k0_t1 k hc) (off40 k0_t1 hc k))
    exact e
  · refine (load_skip _ _ 0 _ _ _ _ (by decide)).trans ((load_same _ _ _ _ _ _).trans ?_)
    have e := M_of ((headOf arg2 arg3 arg4 arg6 arg13 X2 X3 X4 X6 X13 v45 k0_t1.val) 0) (k0_t1.val - 1) (hm.m 0) (hs.mx 0)
    exact e
  · refine (load_same _ _ _ _ _ _).trans ?_
    have e := M_of ((headOf arg2 arg3 arg4 arg6 arg13 X2 X3 X4 X6 X13 v45 k0_t1.val) 1) (k0_t1.val - 1) (hm.m 1) (hs.mx 1)
    exact e
  · refine (load_skip _ _ 0 _ _ _ _ (by decide)).trans ((load_same _ _ _ _ _ _).trans ?_)
    have e := A_of ((headOf arg2 arg3 arg4 arg6 arg13 X2 X3 X4 X6 X13 v45 k0_t1.val) 0) (k0_t1.val - 1) (cols_of (k0_off36_inb k0_t1 k hc) (off36 k0_t1 hc k)) (hm.m 0) (hs.mx 0) (hs.st 0) (hm.acc 0)
    exact e
  · refine (load_same _ _ _ _ _ _).trans ?_
    have e := A_of ((headOf arg2 arg3 arg4 arg6 arg13 X2 X3 X4 X6 X13 v45 k0_t1.val) 1) (k0_t1.val - 1) (cols_of (k0_off41_inb k0_t1 k hc) (off41 k0_t1 hc k)) (hm.m 1) (hs.mx 1) (hs.st 1) (hm.acc 1)
    exact e

/-! ### The trip of an odd query tile that takes tile `t − 1` and scores the diagonal tile -/

theorem off59 : ∀ (k0_t1 : Fin k0_t1_loop.trips) (hc : k0_cond2 k0_t1 = 1#1) (k : Fin (k0_t8_loop k0_t1).trips), k0_off59 k0_t1 k = ![0, 256 * (2 * k0_t1.val), 128 * (0 : Fin 2).val] := by
  decide +kernel
theorem off60 : ∀ (k0_t1 : Fin k0_t1_loop.trips) (hc : k0_cond2 k0_t1 = 1#1) (k : Fin (k0_t8_loop k0_t1).trips), k0_off60 k0_t1 k = ![256 * (2 * k0_t1.val), 128 * (0 : Fin 2).val] := by
  decide +kernel
theorem off61 : ∀ (k0_t1 : Fin k0_t1_loop.trips) (hc : k0_cond2 k0_t1 = 1#1) (k : Fin (k0_t8_loop k0_t1).trips), k0_off61 k0_t1 k = ![0, 256 * (2 * k0_t1.val + 1), 128 * (0 : Fin 2).val] := by
  decide +kernel
theorem off62 : ∀ (k0_t1 : Fin k0_t1_loop.trips) (hc : k0_cond2 k0_t1 = 1#1) (k : Fin (k0_t8_loop k0_t1).trips), k0_off62 k0_t1 k = ![256 * (2 * k0_t1.val + 1), 128 * (0 : Fin 2).val] := by
  decide +kernel
theorem off63 : ∀ (k0_t1 : Fin k0_t1_loop.trips) (hc : k0_cond2 k0_t1 = 1#1) (k : Fin (k0_t8_loop k0_t1).trips), k0_off63 k0_t1 k = ![0, 128 * (0 : Fin 2).val, 512 * (k0_t1.val - 1)] := by
  decide +kernel
theorem off64 : ∀ (k0_t1 : Fin k0_t1_loop.trips) (hc : k0_cond2 k0_t1 = 1#1) (k : Fin (k0_t8_loop k0_t1).trips), k0_off64 k0_t1 k = ![0, 256 * (2 * k0_t1.val), 128 * (1 : Fin 2).val] := by
  decide +kernel
theorem off65 : ∀ (k0_t1 : Fin k0_t1_loop.trips) (hc : k0_cond2 k0_t1 = 1#1) (k : Fin (k0_t8_loop k0_t1).trips), k0_off65 k0_t1 k = ![256 * (2 * k0_t1.val), 128 * (1 : Fin 2).val] := by
  decide +kernel
theorem off66 : ∀ (k0_t1 : Fin k0_t1_loop.trips) (hc : k0_cond2 k0_t1 = 1#1) (k : Fin (k0_t8_loop k0_t1).trips), k0_off66 k0_t1 k = ![0, 256 * (2 * k0_t1.val + 1), 128 * (1 : Fin 2).val] := by
  decide +kernel
theorem off67 : ∀ (k0_t1 : Fin k0_t1_loop.trips) (hc : k0_cond2 k0_t1 = 1#1) (k : Fin (k0_t8_loop k0_t1).trips), k0_off67 k0_t1 k = ![256 * (2 * k0_t1.val + 1), 128 * (1 : Fin 2).val] := by
  decide +kernel
theorem off68 : ∀ (k0_t1 : Fin k0_t1_loop.trips) (hc : k0_cond2 k0_t1 = 1#1) (k : Fin (k0_t8_loop k0_t1).trips), k0_off68 k0_t1 k = ![0, 128 * (1 : Fin 2).val, 512 * (k0_t1.val - 1)] := by
  decide +kernel

theorem trip8 (k0_t1 : Fin k0_t1_loop.trips) (v186 : BitVec 32) (hc : k0_cond2 k0_t1 = 1#1) (k : Fin (k0_t8_loop k0_t1).trips)
    (f9 : arg9.view.ty.Contents (Elt F)) (f10 : arg10.view.ty.Contents (Elt F)) (f11 : arg11.view.ty.Contents (Elt F)) (f12 : arg12.view.ty.Contents (Elt F))
    (hs : Scored arg9.view arg10.view (headOf arg2 arg3 arg4 arg6 arg13 X2 X3 X4 X6 X13 v45 k0_t1.val) 0 (k0_t1.val - 1) f9 f10)
    (hm : Summed arg11.view arg12.view (headOf arg2 arg3 arg4 arg6 arg13 X2 X3 X4 X6 X13 v45 k0_t1.val) (k0_t1.val - 1) f11 f12) :
    Masked arg9.view arg10.view (headOf arg2 arg3 arg4 arg6 arg13 X2 X3 X4 X6 X13 v45 k0_t1.val) k0_t1.val
        (arg9.view.writes (Elt F) f9 ((trip_k0_t8 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q v186 0#32 hc X3 X4 X13 k).1 f9 f10 f11 f12))
        (arg10.view.writes (Elt F) f10 ((trip_k0_t8 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q v186 0#32 hc X3 X4 X13 k).2.1 f9 f10 f11 f12))
      ∧ Summed arg11.view arg12.view (headOf arg2 arg3 arg4 arg6 arg13 X2 X3 X4 X6 X13 v45 k0_t1.val) ((k0_t1.val - 1) + 1)
        (arg11.view.writes (Elt F) f11 ((trip_k0_t8 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q v186 0#32 hc X3 X4 X13 k).2.2.1 f9 f10 f11 f12))
        (arg12.view.writes (Elt F) f12 ((trip_k0_t8 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q v186 0#32 hc X3 X4 X13 k).2.2.2.1 f9 f10 f11 f12)) := by
  unfold trip_k0_t8
  dsimp only
  refine ⟨⟨fun g => ?_, fun g => ?_, fun g => ?_⟩, ⟨fun g => ?_, fun g => ?_⟩⟩ <;> fin_cases g
  · refine (load_skip _ _ 0 _ _ _ _ (by decide)).trans ((load_skip _ _ 0 _ _ _ _ (by decide)).trans ((load_skip _ _ 2 _ _ _ _ (by decide)).trans ((load_same _ _ _ _ _ _).trans ?_)))
    have e := top_of ((headOf arg2 arg3 arg4 arg6 arg13 X2 X3 X4 X6 X13 v45 k0_t1.val) 0) k0_t1.val (halfKeys_of (k0_off59_inb k0_t1 k hc) (off59 k0_t1 hc k)) (halfBias_of (k0_off60_inb k0_t1 k hc) (off60 k0_t1 hc k))
    exact e
  · refine (load_skip _ _ 2 _ _ _ _ (by decide)).trans ((load_same _ _ _ _ _ _).trans ?_)
    have e := top_of ((headOf arg2 arg3 arg4 arg6 arg13 X2 X3 X4 X6 X13 v45 k0_t1.val) 1) k0_t1.val (halfKeys_of (k0_off64_inb k0_t1 k hc) (off64 k0_t1 hc k)) (halfBias_of (k0_off65_inb k0_t1 k hc) (off65 k0_t1 hc k))
    exact e
  · refine (load_skip _ _ 0 _ _ _ _ (by decide)).trans ((load_skip _ _ 0 _ _ _ _ (by decide)).trans ((load_same _ _ _ _ _ _).trans ?_))
    have e := bottom_of ((headOf arg2 arg3 arg4 arg6 arg13 X2 X3 X4 X6 X13 v45 k0_t1.val) 0) k0_t1.val (halfKeys_of (k0_off61_inb k0_t1 k hc) (off61 k0_t1 hc k)) (halfBias_of (k0_off62_inb k0_t1 k hc) (off62 k0_t1 hc k))
    exact e
  · refine (load_same _ _ _ _ _ _).trans ?_
    have e := bottom_of ((headOf arg2 arg3 arg4 arg6 arg13 X2 X3 X4 X6 X13 v45 k0_t1.val) 1) k0_t1.val (halfKeys_of (k0_off66_inb k0_t1 k hc) (off66 k0_t1 hc k)) (halfBias_of (k0_off67_inb k0_t1 k hc) (off67 k0_t1 hc k))
    exact e
  · refine (load_skip _ _ 0 _ _ _ _ (by decide)).trans ((load_same _ _ _ _ _ _).trans ?_)
    have e := diag_of ((headOf arg2 arg3 arg4 arg6 arg13 X2 X3 X4 X6 X13 v45 k0_t1.val) 0) k0_t1.val (halfKeys_of (k0_off59_inb k0_t1 k hc) (off59 k0_t1 hc k)) (halfBias_of (k0_off60_inb k0_t1 k hc) (off60 k0_t1 hc k)) (halfKeys_of (k0_off61_inb k0_t1 k hc) (off61 k0_t1 hc k)) (halfBias_of (k0_off62_inb k0_t1 k hc) (off62 k0_t1 hc k))
    exact e
  · refine (load_same _ _ _ _ _ _).trans ?_
    have e := diag_of ((headOf arg2 arg3 arg4 arg6 arg13 X2 X3 X4 X6 X13 v45 k0_t1.val) 1) k0_t1.val (halfKeys_of (k0_off64_inb k0_t1 k hc) (off64 k0_t1 hc k)) (halfBias_of (k0_off65_inb k0_t1 k hc) (off65 k0_t1 hc k)) (halfKeys_of (k0_off66_inb k0_t1 k hc) (off66 k0_t1 hc k)) (halfBias_of (k0_off67_inb k0_t1 k hc) (off67 k0_t1 hc k))
    exact e
  · refine (load_skip _ _ 0 _ _ _ _ (by decide)).trans ((load_same _ _ _ _ _ _).trans ?_)
    have e := M_of ((headOf arg2 arg3 arg4 arg6 arg13 X2 X3 X4 X6 X13 v45 k0_t1.val) 0) (k0_t1.val - 1) (hm.m 0) (hs.mx 0)
    exact e
  · refine (load_same _ _ _ _ _ _).trans ?_
    have e := M_of ((headOf arg2 arg3 arg4 arg6 arg13 X2 X3 X4 X6 X13 v45 k0_t1.val) 1) (k0_t1.val - 1) (hm.m 1) (hs.mx 1)
    exact e
  · refine (load_skip _ _ 0 _ _ _ _ (by decide)).trans ((load_same _ _ _ _ _ _).trans ?_)
    have e := A_of ((headOf arg2 arg3 arg4 arg6 arg13 X2 X3 X4 X6 X13 v45 k0_t1.val) 0) (k0_t1.val - 1) (cols_of (k0_off63_inb k0_t1 k hc) (off63 k0_t1 hc k)) (hm.m 0) (hs.mx 0) (hs.st 0) (hm.acc 0)
    exact e
  · refine (load_same _ _ _ _ _ _).trans ?_
    have e := A_of ((headOf arg2 arg3 arg4 arg6 arg13 X2 X3 X4 X6 X13 v45 k0_t1.val) 1) (k0_t1.val - 1) (cols_of (k0_off68_inb k0_t1 k hc) (off68 k0_t1 hc k)) (hm.m 1) (hs.mx 1) (hs.st 1) (hm.acc 1)
    exact e

/-! ### The trip that takes tiles `2 k` and `2 k + 1` and scores tiles `2 k + 1` and `2 k + 2` -/

theorem off8 : ∀ (k0_t1 : Fin k0_t1_loop.trips) (k : Fin (k0_t2_loop k0_t1).trips) (w : Fin 2), k0_off8 k0_t1 k (if w = 0 then 0#32 else 1#32) = ![0, 512 * ((2 * k.val) + w.val + 1), 128 * (0 : Fin 2).val] := by
  decide +kernel
theorem off9 : ∀ (k0_t1 : Fin k0_t1_loop.trips) (k : Fin (k0_t2_loop k0_t1).trips) (w : Fin 2), k0_off9 k0_t1 k (if w = 0 then 0#32 else 1#32) = ![512 * ((2 * k.val) + w.val + 1), 128 * (0 : Fin 2).val] := by
  decide +kernel
theorem off10 : ∀ (k0_t1 : Fin k0_t1_loop.trips) (k : Fin (k0_t2_loop k0_t1).trips) (w : Fin 2), k0_off10 k0_t1 k (if w = 0 then 0#32 else 1#32) = ![0, 128 * (0 : Fin 2).val, 512 * ((2 * k.val) + w.val)] := by
  decide +kernel
theorem off11 : ∀ (k0_t1 : Fin k0_t1_loop.trips) (k : Fin (k0_t2_loop k0_t1).trips) (w : Fin 2), k0_off11 k0_t1 k (if w = 0 then 0#32 else 1#32) = ![0, 512 * ((2 * k.val) + w.val + 1), 128 * (1 : Fin 2).val] := by
  decide +kernel
theorem off12 : ∀ (k0_t1 : Fin k0_t1_loop.trips) (k : Fin (k0_t2_loop k0_t1).trips) (w : Fin 2), k0_off12 k0_t1 k (if w = 0 then 0#32 else 1#32) = ![512 * ((2 * k.val) + w.val + 1), 128 * (1 : Fin 2).val] := by
  decide +kernel
theorem off13 : ∀ (k0_t1 : Fin k0_t1_loop.trips) (k : Fin (k0_t2_loop k0_t1).trips) (w : Fin 2), k0_off13 k0_t1 k (if w = 0 then 0#32 else 1#32) = ![0, 128 * (1 : Fin 2).val, 512 * ((2 * k.val) + w.val)] := by
  decide +kernel

theorem trip2 (k0_t1 : Fin k0_t1_loop.trips) (k : Fin (k0_t2_loop k0_t1).trips)
    (f9 : arg9.view.ty.Contents (Elt F)) (f10 : arg10.view.ty.Contents (Elt F)) (f11 : arg11.view.ty.Contents (Elt F)) (f12 : arg12.view.ty.Contents (Elt F))
    (hs : Scored arg9.view arg10.view (headOf arg2 arg3 arg4 arg6 arg13 X2 X3 X4 X6 X13 v45 k0_t1.val) 0 (2 * k.val) f9 f10)
    (hm : Summed arg11.view arg12.view (headOf arg2 arg3 arg4 arg6 arg13 X2 X3 X4 X6 X13 v45 k0_t1.val) (2 * k.val) f11 f12) :
    Scored arg9.view arg10.view (headOf arg2 arg3 arg4 arg6 arg13 X2 X3 X4 X6 X13 v45 k0_t1.val) 0 (((2 * k.val) + 1) + 1)
        (arg9.view.writes (Elt F) f9 ((trip_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q 0#32 0#32 0#32 0#32 X3 X4 X13 k).1 f9 f10 f11 f12))
        (arg10.view.writes (Elt F) f10 ((trip_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q 0#32 0#32 0#32 0#32 X3 X4 X13 k).2.1 f9 f10 f11 f12))
      ∧ Summed arg11.view arg12.view (headOf arg2 arg3 arg4 arg6 arg13 X2 X3 X4 X6 X13 v45 k0_t1.val) (((2 * k.val) + 1) + 1)
        (arg11.view.writes (Elt F) f11 ((trip_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q 0#32 0#32 0#32 0#32 X3 X4 X13 k).2.2.1 f9 f10 f11 f12))
        (arg12.view.writes (Elt F) f12 ((trip_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q 0#32 0#32 0#32 0#32 X3 X4 X13 k).2.2.2.1 f9 f10 f11 f12)) := by
  -- the scores and maxima of tile `2 k + 1`, and the recursion's next maxima and sums
  have s0 := S_of ((headOf arg2 arg3 arg4 arg6 arg13 X2 X3 X4 X6 X13 v45 k0_t1.val) 0) ((2 * k.val) + 1) (keys_of (k0_off8_inb k0_t1 k 0) (off8 k0_t1 k 0)) (bias_of (k0_off9_inb k0_t1 k 0) (off9 k0_t1 k 0))
  have s1 := S_of ((headOf arg2 arg3 arg4 arg6 arg13 X2 X3 X4 X6 X13 v45 k0_t1.val) 1) ((2 * k.val) + 1) (keys_of (k0_off11_inb k0_t1 k 0) (off11 k0_t1 k 0)) (bias_of (k0_off12_inb k0_t1 k 0) (off12 k0_t1 k 0))
  have x0 := X_of ((headOf arg2 arg3 arg4 arg6 arg13 X2 X3 X4 X6 X13 v45 k0_t1.val) 0) ((2 * k.val) + 1) (keys_of (k0_off8_inb k0_t1 k 0) (off8 k0_t1 k 0)) (bias_of (k0_off9_inb k0_t1 k 0) (off9 k0_t1 k 0))
  have x1 := X_of ((headOf arg2 arg3 arg4 arg6 arg13 X2 X3 X4 X6 X13 v45 k0_t1.val) 1) ((2 * k.val) + 1) (keys_of (k0_off11_inb k0_t1 k 0) (off11 k0_t1 k 0)) (bias_of (k0_off12_inb k0_t1 k 0) (off12 k0_t1 k 0))
  have m0 := M_of ((headOf arg2 arg3 arg4 arg6 arg13 X2 X3 X4 X6 X13 v45 k0_t1.val) 0) (2 * k.val) (hm.m 0) (hs.mx 0)
  have m1 := M_of ((headOf arg2 arg3 arg4 arg6 arg13 X2 X3 X4 X6 X13 v45 k0_t1.val) 1) (2 * k.val) (hm.m 1) (hs.mx 1)
  have a0 := A_of ((headOf arg2 arg3 arg4 arg6 arg13 X2 X3 X4 X6 X13 v45 k0_t1.val) 0) (2 * k.val) (cols_of (k0_off10_inb k0_t1 k 0) (off10 k0_t1 k 0)) (hm.m 0) (hs.mx 0) (hs.st 0) (hm.acc 0)
  have a1 := A_of ((headOf arg2 arg3 arg4 arg6 arg13 X2 X3 X4 X6 X13 v45 k0_t1.val) 1) (2 * k.val) (cols_of (k0_off13_inb k0_t1 k 0) (off13 k0_t1 k 0)) (hm.m 1) (hs.mx 1) (hs.st 1) (hm.acc 1)
  -- as the second half of the trip loads them
  have v377 : trip_k0_t2.sl.v377 (F := F) arg10 arg11 f10 f11 = ((headOf arg2 arg3 arg4 arg6 arg13 X2 X3 X4 X6 X13 v45 k0_t1.val) 0).M ((2 * k.val) + 1) := (load_skip _ _ 0 _ _ _ _ (by decide)).trans ((load_same _ _ _ _ _ _).trans m0)
  have v430 : trip_k0_t2.sl.v430 (F := F) arg3 arg10 arg11 arg13 k0_t1 ((headOf arg2 arg3 arg4 arg6 arg13 X2 X3 X4 X6 X13 v45 k0_t1.val) 0).q ((headOf arg2 arg3 arg4 arg6 arg13 X2 X3 X4 X6 X13 v45 k0_t1.val) 1).q X3 X13 k f10 f11 = ((headOf arg2 arg3 arg4 arg6 arg13 X2 X3 X4 X6 X13 v45 k0_t1.val) 1).M ((2 * k.val) + 1) := (load_skip _ _ 0 _ _ _ _ (by decide)).trans ((load_same _ _ _ _ _ _).trans m1)
  have v379 : trip_k0_t2.sl.v379 (F := F) arg3 arg10 arg13 k0_t1 ((headOf arg2 arg3 arg4 arg6 arg13 X2 X3 X4 X6 X13 v45 k0_t1.val) 0).q ((headOf arg2 arg3 arg4 arg6 arg13 X2 X3 X4 X6 X13 v45 k0_t1.val) 1).q X3 X13 k = ((headOf arg2 arg3 arg4 arg6 arg13 X2 X3 X4 X6 X13 v45 k0_t1.val) 0).X ((2 * k.val) + 1) := (load_skip _ _ 1 _ _ _ _ (by decide)).trans ((load_skip _ _ 0 _ _ _ _ (by decide)).trans ((load_same _ _ _ _ _ _).trans x0))
  have v432 : trip_k0_t2.sl.v432 (F := F) arg3 arg10 arg13 k0_t1 ((headOf arg2 arg3 arg4 arg6 arg13 X2 X3 X4 X6 X13 v45 k0_t1.val) 0).q ((headOf arg2 arg3 arg4 arg6 arg13 X2 X3 X4 X6 X13 v45 k0_t1.val) 1).q X3 X13 k = ((headOf arg2 arg3 arg4 arg6 arg13 X2 X3 X4 X6 X13 v45 k0_t1.val) 1).X ((2 * k.val) + 1) := (load_skip _ _ 1 _ _ _ _ (by decide)).trans ((load_skip _ _ 0 _ _ _ _ (by decide)).trans ((load_same _ _ _ _ _ _).trans x1))
  have v382 : trip_k0_t2.sl.v382 (F := F) arg3 arg9 arg13 k0_t1 ((headOf arg2 arg3 arg4 arg6 arg13 X2 X3 X4 X6 X13 v45 k0_t1.val) 0).q ((headOf arg2 arg3 arg4 arg6 arg13 X2 X3 X4 X6 X13 v45 k0_t1.val) 1).q X3 X13 k = ((headOf arg2 arg3 arg4 arg6 arg13 X2 X3 X4 X6 X13 v45 k0_t1.val) 0).S ((2 * k.val) + 1) := (load_skip _ _ 1 _ _ _ _ (by decide)).trans ((load_skip _ _ 0 _ _ _ _ (by decide)).trans ((load_same _ _ _ _ _ _).trans s0))
  have v435 : trip_k0_t2.sl.v435 (F := F) arg3 arg9 arg13 k0_t1 ((headOf arg2 arg3 arg4 arg6 arg13 X2 X3 X4 X6 X13 v45 k0_t1.val) 0).q ((headOf arg2 arg3 arg4 arg6 arg13 X2 X3 X4 X6 X13 v45 k0_t1.val) 1).q X3 X13 k = ((headOf arg2 arg3 arg4 arg6 arg13 X2 X3 X4 X6 X13 v45 k0_t1.val) 1).S ((2 * k.val) + 1) := (load_skip _ _ 1 _ _ _ _ (by decide)).trans ((load_skip _ _ 0 _ _ _ _ (by decide)).trans ((load_same _ _ _ _ _ _).trans s1))
  have v390 : trip_k0_t2.sl.v390 (F := F) arg4 arg9 arg10 arg11 arg12 v45 k0_t1 X4 k f9 f10 f11 f12 = ((headOf arg2 arg3 arg4 arg6 arg13 X2 X3 X4 X6 X13 v45 k0_t1.val) 0).A ((2 * k.val) + 1) := (load_skip _ _ 0 _ _ _ _ (by decide)).trans ((load_same _ _ _ _ _ _).trans a0)
  have v443 : trip_k0_t2.sl.v443 (F := F) arg3 arg4 arg9 arg10 arg11 arg12 arg13 v45 k0_t1 ((headOf arg2 arg3 arg4 arg6 arg13 X2 X3 X4 X6 X13 v45 k0_t1.val) 0).q ((headOf arg2 arg3 arg4 arg6 arg13 X2 X3 X4 X6 X13 v45 k0_t1.val) 1).q X3 X4 X13 k f9 f10 f11 f12 = ((headOf arg2 arg3 arg4 arg6 arg13 X2 X3 X4 X6 X13 v45 k0_t1.val) 1).A ((2 * k.val) + 1) := (load_skip _ _ 0 _ _ _ _ (by decide)).trans ((load_same _ _ _ _ _ _).trans a1)
  unfold trip_k0_t2
  dsimp only
  refine ⟨⟨fun g => ?_, fun g => ?_⟩, ⟨fun g => ?_, fun g => ?_⟩⟩ <;> fin_cases g
  · refine (load_skip _ _ 0 _ _ _ _ (by decide)).trans ((load_same _ _ _ _ _ _).trans ?_)
    have e := S_of ((headOf arg2 arg3 arg4 arg6 arg13 X2 X3 X4 X6 X13 v45 k0_t1.val) 0) (((2 * k.val) + 1) + 1) (keys_of (k0_off8_inb k0_t1 k 1) (off8 k0_t1 k 1)) (bias_of (k0_off9_inb k0_t1 k 1) (off9 k0_t1 k 1))
    exact e
  · refine (load_same _ _ _ _ _ _).trans ?_
    have e := S_of ((headOf arg2 arg3 arg4 arg6 arg13 X2 X3 X4 X6 X13 v45 k0_t1.val) 1) (((2 * k.val) + 1) + 1) (keys_of (k0_off11_inb k0_t1 k 1) (off11 k0_t1 k 1)) (bias_of (k0_off12_inb k0_t1 k 1) (off12 k0_t1 k 1))
    exact e
  · refine (load_skip _ _ 0 _ _ _ _ (by decide)).trans ((load_same _ _ _ _ _ _).trans ?_)
    have e := X_of ((headOf arg2 arg3 arg4 arg6 arg13 X2 X3 X4 X6 X13 v45 k0_t1.val) 0) (((2 * k.val) + 1) + 1) (keys_of (k0_off8_inb k0_t1 k 1) (off8 k0_t1 k 1)) (bias_of (k0_off9_inb k0_t1 k 1) (off9 k0_t1 k 1))
    exact e
  · refine (load_same _ _ _ _ _ _).trans ?_
    have e := X_of ((headOf arg2 arg3 arg4 arg6 arg13 X2 X3 X4 X6 X13 v45 k0_t1.val) 1) (((2 * k.val) + 1) + 1) (keys_of (k0_off11_inb k0_t1 k 1) (off11 k0_t1 k 1)) (bias_of (k0_off12_inb k0_t1 k 1) (off12 k0_t1 k 1))
    exact e
  · refine (load_skip _ _ 0 _ _ _ _ (by decide)).trans ((load_same _ _ _ _ _ _).trans ?_)
    have e := M_of ((headOf arg2 arg3 arg4 arg6 arg13 X2 X3 X4 X6 X13 v45 k0_t1.val) 0) ((2 * k.val) + 1) v377 v379
    exact e
  · refine (load_same _ _ _ _ _ _).trans ?_
    have e := M_of ((headOf arg2 arg3 arg4 arg6 arg13 X2 X3 X4 X6 X13 v45 k0_t1.val) 1) ((2 * k.val) + 1) v430 v432
    exact e
  · refine (load_skip _ _ 0 _ _ _ _ (by decide)).trans ((load_same _ _ _ _ _ _).trans ?_)
    have e := A_of ((headOf arg2 arg3 arg4 arg6 arg13 X2 X3 X4 X6 X13 v45 k0_t1.val) 0) ((2 * k.val) + 1) (cols_of (k0_off10_inb k0_t1 k 1) (off10 k0_t1 k 1)) v377 v379 v382 v390
    exact e
  · refine (load_same _ _ _ _ _ _).trans ?_
    have e := A_of ((headOf arg2 arg3 arg4 arg6 arg13 X2 X3 X4 X6 X13 v45 k0_t1.val) 1) ((2 * k.val) + 1) (cols_of (k0_off13_inb k0_t1 k 1) (off13 k0_t1 k 1)) v430 v432 v435 v443
    exact e

end Cert.Fox
-- ==== Proof.FoxRun.lean ====
/-
  The inner loops of a query tile, by what they leave in the kept scores, maxima and sums.
-/
module

public import proofs.«01_k».proof.Proof.FoxInner

@[expose] public section

set_option maxRecDepth 65536
set_option maxHeartbeats 0

noncomputable section

namespace Cert.Fox

open Idealize.ShloMosaic Idealize.ShloMosaic.TcCoe Idealize.SL.Sem
open Cert.Kernel5Ideal Cert.Kernel5Ideal.Gen

variable {F : FTy → Type} [FloatOps F] [Named F]

variable (𝒱 : Variants) (c : Dev nD) (bd : Option 𝒱.V) (i : grid0.Coords)
  (arg2 : Memref sig .tc .vmem S1x256x4096 .bf16) (harg2 : arg2.IsWhole)
  (arg3 : Memref sig .tc .vmem S1x4096x256 .bf16) (harg3 : arg3.IsWhole)
  (arg4 : Memref sig .tc .vmem S1x256x4096 .bf16) (harg4 : arg4.IsWhole)
  (arg5 : Memref sig .tc .vmem S1x4096x256 .bf16) (harg5 : arg5.IsWhole)
  (arg6 : Memref sig .tc .vmem S1x128x4096 .bf16) (harg6 : arg6.IsWhole)
  (arg7 : Memref sig .tc .vmem S1x4096x128 .bf16) (harg7 : arg7.IsWhole)
  (arg8 : Memref sig .tc .vmem S1x4096x256 .bf16) (harg8 : arg8.IsWhole)
  (arg9 : Memref sig .tc .vmem S2x3x512x512 .f32) (harg9 : arg9.IsWhole)
  (arg10 : Memref sig .tc .vmem S2x3x1x512 .f32) (harg10 : arg10.IsWhole)
  (arg11 : Memref sig .tc .vmem S2x1x512 .f32) (harg11 : arg11.IsWhole)
  (arg12 : Memref sig .tc .vmem S2x144x512 .f32) (harg12 : arg12.IsWhole)
  (arg13 : Memref sig .tc .vmem S4096x256 .bf16) (harg13 : arg13.IsWhole)
  (X2 : BufTy.Contents (Elt F) arg2.view.ty) (X3 : BufTy.Contents (Elt F) arg3.view.ty) (X4 : BufTy.Contents (Elt F) arg4.view.ty)
  (X6 : BufTy.Contents (Elt F) arg6.view.ty) (X13 : BufTy.Contents (Elt F) arg13.view.ty) (v45 : FVec F S16x512 .bf16)

/-- Adding a loop's stores to the ones before it. -/
theorem writes_after {sp : Space} {s : Shape} {e : EltTy} {α : EltTy → Type} (v : View sig .tc sp s e) (f : v.ty.Contents α)
    (L L' : List (View.Piece α s e)) : v.writes α f (L ++ L') = v.writes α (v.writes α f L') L := View.writes_append ..

/-! ### How often each loop runs -/

theorem trips2 : ∀ t : Fin k0_t1_loop.trips, (k0_t2_loop t).trips = (t.val - 1) / 2 := by decide +kernel
theorem trips3 : ∀ t : Fin k0_t1_loop.trips, (k0_t3_loop t).trips = 0 := by decide +kernel
theorem trips4 : ∀ t : Fin k0_t1_loop.trips, (k0_t4_loop t).trips = if t.val % 2 = 0 ∧ t.val ≠ 0 then 1 else 0 := by decide +kernel
theorem trips5 : ∀ t : Fin k0_t1_loop.trips, (k0_t5_loop t).trips = 0 := by decide +kernel
theorem trips6 : ∀ t : Fin k0_t1_loop.trips, (k0_t6_loop t).trips = if t.val = 0 then 0 else 1 := by decide +kernel
theorem trips7 : ∀ t : Fin k0_t1_loop.trips, (k0_t7_loop t).trips = 0 := by decide +kernel
theorem trips8 : ∀ t : Fin k0_t1_loop.trips, (k0_t8_loop t).trips = if t.val = 0 then 0 else 1 := by decide +kernel
theorem trips9 : ∀ t : Fin k0_t1_loop.trips, (k0_t9_loop t).trips = 0 := by decide +kernel
theorem even_iff : ∀ t : Fin k0_t1_loop.trips, k0_cond1 t = 1#1 ↔ t.val % 2 = 0 := by decide +kernel
theorem odd_iff : ∀ t : Fin k0_t1_loop.trips, k0_cond2 t = 1#1 ↔ t.val % 2 = 1 := by decide +kernel

/-! ### A loop that does not run -/

theorem idle2 (P : arg9.view.ty.Contents (Elt F) → arg10.view.ty.Contents (Elt F) → arg11.view.ty.Contents (Elt F) → arg12.view.ty.Contents (Elt F) → Prop)
    (k0_t1 : Fin k0_t1_loop.trips) (v165 v176 : FVec F S256x512 .bf16)
    (f9 : arg9.view.ty.Contents (Elt F)) (f10 : arg10.view.ty.Contents (Elt F)) (f11 : arg11.view.ty.Contents (Elt F)) (f12 : arg12.view.ty.Contents (Elt F))
    (L11 : List (View.Piece (Elt F) S2x1x512 .f32)) (L12 : List (View.Piece (Elt F) S2x144x512 .f32))
    (n : ℕ) (hn : n = 0) (h : P f9 f10 (arg11.view.writes (Elt F) f11 L11) (arg12.view.writes (Elt F) f12 L12)) :
    P (arg9.view.writes (Elt F) f9 (pb_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 X3 X4 X13 f9 f10 (arg11.view.writes (Elt F) f11 L11) (arg12.view.writes (Elt F) f12 L12) n).1) (arg10.view.writes (Elt F) f10 (pb_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 X3 X4 X13 f9 f10 (arg11.view.writes (Elt F) f11 L11) (arg12.view.writes (Elt F) f12 L12) n).2.1) (arg11.view.writes (Elt F) f11 ((pb_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 X3 X4 X13 f9 f10 (arg11.view.writes (Elt F) f11 L11) (arg12.view.writes (Elt F) f12 L12) n).2.2.1 ++ L11)) (arg12.view.writes (Elt F) f12 ((pb_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 X3 X4 X13 f9 f10 (arg11.view.writes (Elt F) f11 L11) (arg12.view.writes (Elt F) f12 L12) n).2.2.2 ++ L12)) := by
  subst hn
  exact h

theorem idle3 (P : arg9.view.ty.Contents (Elt F) → arg10.view.ty.Contents (Elt F) → arg11.view.ty.Contents (Elt F) → arg12.view.ty.Contents (Elt F) → Prop)
    (k0_t1 : Fin k0_t1_loop.trips) (v165 v176 : FVec F S256x512 .bf16) (w : BitVec 32)
    (f9 : arg9.view.ty.Contents (Elt F)) (f10 : arg10.view.ty.Contents (Elt F)) (f11 : arg11.view.ty.Contents (Elt F)) (f12 : arg12.view.ty.Contents (Elt F))
    (L9 : List (View.Piece (Elt F) S2x3x512x512 .f32)) (L10 : List (View.Piece (Elt F) S2x3x1x512 .f32))
    (L11 : List (View.Piece (Elt F) S2x1x512 .f32)) (L12 : List (View.Piece (Elt F) S2x144x512 .f32))
    (n : ℕ) (hn : n = 0) (h : P (arg9.view.writes (Elt F) f9 L9) (arg10.view.writes (Elt F) f10 L10) (arg11.view.writes (Elt F) f11 L11) (arg12.view.writes (Elt F) f12 L12)) :
    P (arg9.view.writes (Elt F) f9 ((pb_k0_t3 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).1 ++ L9)) (arg10.view.writes (Elt F) f10 ((pb_k0_t3 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).2.1 ++ L10)) (arg11.view.writes (Elt F) f11 ((pb_k0_t3 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).2.2.1 ++ L11)) (arg12.view.writes (Elt F) f12 ((pb_k0_t3 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).2.2.2 ++ L12)) := by
  subst hn
  exact h

theorem idle4 (P : arg9.view.ty.Contents (Elt F) → arg10.view.ty.Contents (Elt F) → arg11.view.ty.Contents (Elt F) → arg12.view.ty.Contents (Elt F) → Prop)
    (k0_t1 : Fin k0_t1_loop.trips) (v165 v176 : FVec F S256x512 .bf16) (w : BitVec 32)
    (f9 : arg9.view.ty.Contents (Elt F)) (f10 : arg10.view.ty.Contents (Elt F)) (f11 : arg11.view.ty.Contents (Elt F)) (f12 : arg12.view.ty.Contents (Elt F))
    (L9 : List (View.Piece (Elt F) S2x3x512x512 .f32)) (L10 : List (View.Piece (Elt F) S2x3x1x512 .f32))
    (L11 : List (View.Piece (Elt F) S2x1x512 .f32)) (L12 : List (View.Piece (Elt F) S2x144x512 .f32))
    (n : ℕ) (hn : n = 0) (h : P (arg9.view.writes (Elt F) f9 L9) (arg10.view.writes (Elt F) f10 L10) (arg11.view.writes (Elt F) f11 L11) (arg12.view.writes (Elt F) f12 L12)) :
    P (arg9.view.writes (Elt F) f9 ((pb_k0_t4 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).1 ++ L9)) (arg10.view.writes (Elt F) f10 ((pb_k0_t4 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).2.1 ++ L10)) (arg11.view.writes (Elt F) f11 ((pb_k0_t4 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).2.2.1 ++ L11)) (arg12.view.writes (Elt F) f12 ((pb_k0_t4 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).2.2.2 ++ L12)) := by
  subst hn
  exact h

theorem idle5 (P : arg9.view.ty.Contents (Elt F) → arg10.view.ty.Contents (Elt F) → arg11.view.ty.Contents (Elt F) → arg12.view.ty.Contents (Elt F) → Prop)
    (k0_t1 : Fin k0_t1_loop.trips) (v165 v176 : FVec F S256x512 .bf16) (w : BitVec 32)
    (f9 : arg9.view.ty.Contents (Elt F)) (f10 : arg10.view.ty.Contents (Elt F)) (f11 : arg11.view.ty.Contents (Elt F)) (f12 : arg12.view.ty.Contents (Elt F))
    (L9 : List (View.Piece (Elt F) S2x3x512x512 .f32)) (L10 : List (View.Piece (Elt F) S2x3x1x512 .f32))
    (L11 : List (View.Piece (Elt F) S2x1x512 .f32)) (L12 : List (View.Piece (Elt F) S2x144x512 .f32))
    (n : ℕ) (hn : n = 0) (h : P (arg9.view.writes (Elt F) f9 L9) (arg10.view.writes (Elt F) f10 L10) (arg11.view.writes (Elt F) f11 L11) (arg12.view.writes (Elt F) f12 L12)) :
    P (arg9.view.writes (Elt F) f9 ((pb_k0_t5 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).1 ++ L9)) (arg10.view.writes (Elt F) f10 ((pb_k0_t5 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).2.1 ++ L10)) (arg11.view.writes (Elt F) f11 ((pb_k0_t5 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).2.2.1 ++ L11)) (arg12.view.writes (Elt F) f12 ((pb_k0_t5 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).2.2.2 ++ L12)) := by
  subst hn
  exact h

theorem idle6 (P : arg9.view.ty.Contents (Elt F) → arg10.view.ty.Contents (Elt F) → arg11.view.ty.Contents (Elt F) → arg12.view.ty.Contents (Elt F) → Prop)
    (k0_t1 : Fin k0_t1_loop.trips) (v165 v176 : FVec F S256x512 .bf16) (w : BitVec 32) (hc : k0_cond1 k0_t1 = 1#1)
    (f9 : arg9.view.ty.Contents (Elt F)) (f10 : arg10.view.ty.Contents (Elt F)) (f11 : arg11.view.ty.Contents (Elt F)) (f12 : arg12.view.ty.Contents (Elt F))
    (L9 : List (View.Piece (Elt F) S2x3x512x512 .f32)) (L10 : List (View.Piece (Elt F) S2x3x1x512 .f32))
    (L11 : List (View.Piece (Elt F) S2x1x512 .f32)) (L12 : List (View.Piece (Elt F) S2x144x512 .f32))
    (n : ℕ) (hn : n = 0) (h : P (arg9.view.writes (Elt F) f9 L9) (arg10.view.writes (Elt F) f10 L10) (arg11.view.writes (Elt F) f11 L11) (arg12.view.writes (Elt F) f12 L12)) :
    P (arg9.view.writes (Elt F) f9 ((pb_k0_t6 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).1 ++ L9)) (arg10.view.writes (Elt F) f10 ((pb_k0_t6 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).2.1 ++ L10)) (arg11.view.writes (Elt F) f11 ((pb_k0_t6 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).2.2.1 ++ L11)) (arg12.view.writes (Elt F) f12 ((pb_k0_t6 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).2.2.2 ++ L12)) := by
  subst hn
  exact h

theorem idle7 (P : arg9.view.ty.Contents (Elt F) → arg10.view.ty.Contents (Elt F) → arg11.view.ty.Contents (Elt F) → arg12.view.ty.Contents (Elt F) → Prop)
    (k0_t1 : Fin k0_t1_loop.trips) (v165 v176 : FVec F S256x512 .bf16) (w : BitVec 32) (hc : k0_cond1 k0_t1 = 1#1)
    (f9 : arg9.view.ty.Contents (Elt F)) (f10 : arg10.view.ty.Contents (Elt F)) (f11 : arg11.view.ty.Contents (Elt F)) (f12 : arg12.view.ty.Contents (Elt F))
    (L9 : List (View.Piece (Elt F) S2x3x512x512 .f32)) (L10 : List (View.Piece (Elt F) S2x3x1x512 .f32))
    (L11 : List (View.Piece (Elt F) S2x1x512 .f32)) (L12 : List (View.Piece (Elt F) S2x144x512 .f32))
    (n : ℕ) (hn : n = 0) (h : P (arg9.view.writes (Elt F) f9 L9) (arg10.view.writes (Elt F) f10 L10) (arg11.view.writes (Elt F) f11 L11) (arg12.view.writes (Elt F) f12 L12)) :
    P (arg9.view.writes (Elt F) f9 ((pb_k0_t7 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 hc w X3 X4 X13 (arg9.view.writes (Elt F) f9 L9) (arg10.view.writes (Elt F) f10 L10) (arg11.view.writes (Elt F) f11 L11) (arg12.view.writes (Elt F) f12 L12) n).1 ++ L9)) (arg10.view.writes (Elt F) f10 ((pb_k0_t7 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 hc w X3 X4 X13 (arg9.view.writes (Elt F) f9 L9) (arg10.view.writes (Elt F) f10 L10) (arg11.view.writes (Elt F) f11 L11) (arg12.view.writes (Elt F) f12 L12) n).2.1 ++ L10)) (arg11.view.writes (Elt F) f11 ((pb_k0_t7 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 hc w X3 X4 X13 (arg9.view.writes (Elt F) f9 L9) (arg10.view.writes (Elt F) f10 L10) (arg11.view.writes (Elt F) f11 L11) (arg12.view.writes (Elt F) f12 L12) n).2.2.1 ++ L11)) (arg12.view.writes (Elt F) f12 ((pb_k0_t7 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 hc w X3 X4 X13 (arg9.view.writes (Elt F) f9 L9) (arg10.view.writes (Elt F) f10 L10) (arg11.view.writes (Elt F) f11 L11) (arg12.view.writes (Elt F) f12 L12) n).2.2.2 ++ L12)) := by
  subst hn
  exact h

theorem idle8 (P : arg9.view.ty.Contents (Elt F) → arg10.view.ty.Contents (Elt F) → arg11.view.ty.Contents (Elt F) → arg12.view.ty.Contents (Elt F) → Prop)
    (k0_t1 : Fin k0_t1_loop.trips) (v165 v176 : FVec F S256x512 .bf16) (w : BitVec 32) (hc : k0_cond2 k0_t1 = 1#1)
    (f9 : arg9.view.ty.Contents (Elt F)) (f10 : arg10.view.ty.Contents (Elt F)) (f11 : arg11.view.ty.Contents (Elt F)) (f12 : arg12.view.ty.Contents (Elt F))
    (L9 : List (View.Piece (Elt F) S2x3x512x512 .f32)) (L10 : List (View.Piece (Elt F) S2x3x1x512 .f32))
    (L11 : List (View.Piece (Elt F) S2x1x512 .f32)) (L12 : List (View.Piece (Elt F) S2x144x512 .f32))
    (n : ℕ) (hn : n = 0) (h : P (arg9.view.writes (Elt F) f9 L9) (arg10.view.writes (Elt F) f10 L10) (arg11.view.writes (Elt F) f11 L11) (arg12.view.writes (Elt F) f12 L12)) :
    P (arg9.view.writes (Elt F) f9 ((pb_k0_t8 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).1 ++ L9)) (arg10.view.writes (Elt F) f10 ((pb_k0_t8 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).2.1 ++ L10)) (arg11.view.writes (Elt F) f11 ((pb_k0_t8 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).2.2.1 ++ L11)) (arg12.view.writes (Elt F) f12 ((pb_k0_t8 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).2.2.2 ++ L12)) := by
  subst hn
  exact h

theorem idle9 (P : arg9.view.ty.Contents (Elt F) → arg10.view.ty.Contents (Elt F) → arg11.view.ty.Contents (Elt F) → arg12.view.ty.Contents (Elt F) → Prop)
    (k0_t1 : Fin k0_t1_loop.trips) (v165 v176 : FVec F S256x512 .bf16) (w : BitVec 32) (hc : k0_cond2 k0_t1 = 1#1)
    (f9 : arg9.view.ty.Contents (Elt F)) (f10 : arg10.view.ty.Contents (Elt F)) (f11 : arg11.view.ty.Contents (Elt F)) (f12 : arg12.view.ty.Contents (Elt F))
    (L9 : List (View.Piece (Elt F) S2x3x512x512 .f32)) (L10 : List (View.Piece (Elt F) S2x3x1x512 .f32))
    (L11 : List (View.Piece (Elt F) S2x1x512 .f32)) (L12 : List (View.Piece (Elt F) S2x144x512 .f32))
    (n : ℕ) (hn : n = 0) (h : P (arg9.view.writes (Elt F) f9 L9) (arg10.view.writes (Elt F) f10 L10) (arg11.view.writes (Elt F) f11 L11) (arg12.view.writes (Elt F) f12 L12)) :
    P (arg9.view.writes (Elt F) f9 ((pb_k0_t9 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 hc w X3 X4 X13 (arg9.view.writes (Elt F) f9 L9) (arg10.view.writes (Elt F) f10 L10) (arg11.view.writes (Elt F) f11 L11) (arg12.view.writes (Elt F) f12 L12) n).1 ++ L9)) (arg10.view.writes (Elt F) f10 ((pb_k0_t9 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 hc w X3 X4 X13 (arg9.view.writes (Elt F) f9 L9) (arg10.view.writes (Elt F) f10 L10) (arg11.view.writes (Elt F) f11 L11) (arg12.view.writes (Elt F) f12 L12) n).2.1 ++ L10)) (arg11.view.writes (Elt F) f11 ((pb_k0_t9 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 hc w X3 X4 X13 (arg9.view.writes (Elt F) f9 L9) (arg10.view.writes (Elt F) f10 L10) (arg11.view.writes (Elt F) f11 L11) (arg12.view.writes (Elt F) f12 L12) n).2.2.1 ++ L11)) (arg12.view.writes (Elt F) f12 ((pb_k0_t9 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 hc w X3 X4 X13 (arg9.view.writes (Elt F) f9 L9) (arg10.view.writes (Elt F) f10 L10) (arg11.view.writes (Elt F) f11 L11) (arg12.view.writes (Elt F) f12 L12) n).2.2.2 ++ L12)) := by
  subst hn
  exact h

/-! ### The loops that run -/

theorem pairs (k0_t1 : Fin k0_t1_loop.trips) (v165 v176 : FVec F S256x512 .bf16) (hq0 : v165 = ((headOf arg2 arg3 arg4 arg6 arg13 X2 X3 X4 X6 X13 v45 k0_t1.val) 0).q) (hq1 : v176 = ((headOf arg2 arg3 arg4 arg6 arg13 X2 X3 X4 X6 X13 v45 k0_t1.val) 1).q)
    (g9 : arg9.view.ty.Contents (Elt F)) (g10 : arg10.view.ty.Contents (Elt F)) (g11 : arg11.view.ty.Contents (Elt F)) (g12 : arg12.view.ty.Contents (Elt F))
    (h : Scored arg9.view arg10.view (headOf arg2 arg3 arg4 arg6 arg13 X2 X3 X4 X6 X13 v45 k0_t1.val) 0 0 g9 g10 ∧ Summed arg11.view arg12.view (headOf arg2 arg3 arg4 arg6 arg13 X2 X3 X4 X6 X13 v45 k0_t1.val) 0 g11 g12) (n : ℕ) (hn : n ≤ (k0_t2_loop k0_t1).trips) :
    Scored arg9.view arg10.view (headOf arg2 arg3 arg4 arg6 arg13 X2 X3 X4 X6 X13 v45 k0_t1.val) 0 (2 * n) (arg9.view.writes (Elt F) g9 (pb_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 X3 X4 X13 g9 g10 g11 g12 n).1) (arg10.view.writes (Elt F) g10 (pb_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 X3 X4 X13 g9 g10 g11 g12 n).2.1)
      ∧ Summed arg11.view arg12.view (headOf arg2 arg3 arg4 arg6 arg13 X2 X3 X4 X6 X13 v45 k0_t1.val) (2 * n) (arg11.view.writes (Elt F) g11 (pb_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 X3 X4 X13 g9 g10 g11 g12 n).2.2.1) (arg12.view.writes (Elt F) g12 (pb_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 X3 X4 X13 g9 g10 g11 g12 n).2.2.2) := by
  subst hq0 hq1
  induction n with
  | zero => exact h
  | succ n ih =>
    have hk := ih (by omega)
    have e := pb_k0_t2_succ (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q 0#32 0#32 0#32 0#32 X3 X4 X13 g9 g10 g11 g12 ⟨n, hn⟩
    dsimp only at e
    rw [e]
    dsimp only
    rw [writes_after, writes_after, writes_after, writes_after]
    exact trip2 𝒱 c bd i arg2 harg2 arg3 harg3 arg4 harg4 arg5 harg5 arg6 harg6 arg7 harg7 arg8 harg8 arg9 harg9 arg10 harg10 arg11 harg11 arg12 harg12 arg13 harg13 X2 X3 X4 X6 X13 v45 k0_t1 ⟨n, hn⟩ _ _ _ _ hk.1 hk.2

/-- The loop over pairs of tiles. -/
theorem run2 (k0_t1 : Fin k0_t1_loop.trips) (v165 v176 : FVec F S256x512 .bf16) (hq0 : v165 = ((headOf arg2 arg3 arg4 arg6 arg13 X2 X3 X4 X6 X13 v45 k0_t1.val) 0).q) (hq1 : v176 = ((headOf arg2 arg3 arg4 arg6 arg13 X2 X3 X4 X6 X13 v45 k0_t1.val) 1).q)
    (f9 : arg9.view.ty.Contents (Elt F)) (f10 : arg10.view.ty.Contents (Elt F)) (f11 : arg11.view.ty.Contents (Elt F)) (f12 : arg12.view.ty.Contents (Elt F))
    (L11 : List (View.Piece (Elt F) S2x1x512 .f32)) (L12 : List (View.Piece (Elt F) S2x144x512 .f32))
    (n : ℕ) (hn : n ≤ (k0_t2_loop k0_t1).trips) (h : Scored arg9.view arg10.view (headOf arg2 arg3 arg4 arg6 arg13 X2 X3 X4 X6 X13 v45 k0_t1.val) 0 0 f9 f10 ∧ Summed arg11.view arg12.view (headOf arg2 arg3 arg4 arg6 arg13 X2 X3 X4 X6 X13 v45 k0_t1.val) 0 (arg11.view.writes (Elt F) f11 L11) (arg12.view.writes (Elt F) f12 L12)) :
    Scored arg9.view arg10.view (headOf arg2 arg3 arg4 arg6 arg13 X2 X3 X4 X6 X13 v45 k0_t1.val) 0 (2 * n) (arg9.view.writes (Elt F) f9 (pb_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 X3 X4 X13 f9 f10 (arg11.view.writes (Elt F) f11 L11) (arg12.view.writes (Elt F) f12 L12) n).1) (arg10.view.writes (Elt F) f10 (pb_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 X3 X4 X13 f9 f10 (arg11.view.writes (Elt F) f11 L11) (arg12.view.writes (Elt F) f12 L12) n).2.1)
      ∧ Summed arg11.view arg12.view (headOf arg2 arg3 arg4 arg6 arg13 X2 X3 X4 X6 X13 v45 k0_t1.val) (2 * n) (arg11.view.writes (Elt F) f11 ((pb_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 X3 X4 X13 f9 f10 (arg11.view.writes (Elt F) f11 L11) (arg12.view.writes (Elt F) f12 L12) n).2.2.1 ++ L11)) (arg12.view.writes (Elt F) f12 ((pb_k0_t2 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 X3 X4 X13 f9 f10 (arg11.view.writes (Elt F) f11 L11) (arg12.view.writes (Elt F) f12 L12) n).2.2.2 ++ L12)) := by
  rw [writes_after, writes_after]
  exact pairs 𝒱 c bd i arg2 harg2 arg3 harg3 arg4 harg4 arg5 harg5 arg6 harg6 arg7 harg7 arg8 harg8 arg9 harg9 arg10 harg10 arg11 harg11 arg12 harg12 arg13 harg13 X2 X3 X4 X6 X13 v45 k0_t1 v165 v176 hq0 hq1 _ _ _ _ h n hn

/-- The loop over the tile left over by the pairs. -/
theorem run4 (k0_t1 : Fin k0_t1_loop.trips) (v165 v176 : FVec F S256x512 .bf16) (hq0 : v165 = ((headOf arg2 arg3 arg4 arg6 arg13 X2 X3 X4 X6 X13 v45 k0_t1.val) 0).q) (hq1 : v176 = ((headOf arg2 arg3 arg4 arg6 arg13 X2 X3 X4 X6 X13 v45 k0_t1.val) 1).q) (w : BitVec 32)
    (f9 : arg9.view.ty.Contents (Elt F)) (f10 : arg10.view.ty.Contents (Elt F)) (f11 : arg11.view.ty.Contents (Elt F)) (f12 : arg12.view.ty.Contents (Elt F))
    (L9 : List (View.Piece (Elt F) S2x3x512x512 .f32)) (L10 : List (View.Piece (Elt F) S2x3x1x512 .f32))
    (L11 : List (View.Piece (Elt F) S2x1x512 .f32)) (L12 : List (View.Piece (Elt F) S2x144x512 .f32))
    (n : ℕ) (hn : n = 1) (hT : 0 < (k0_t4_loop k0_t1).trips) (h : Scored arg9.view arg10.view (headOf arg2 arg3 arg4 arg6 arg13 X2 X3 X4 X6 X13 v45 k0_t1.val) 0 (k0_t1.val - 2) (arg9.view.writes (Elt F) f9 L9) (arg10.view.writes (Elt F) f10 L10) ∧ Summed arg11.view arg12.view (headOf arg2 arg3 arg4 arg6 arg13 X2 X3 X4 X6 X13 v45 k0_t1.val) (k0_t1.val - 2) (arg11.view.writes (Elt F) f11 L11) (arg12.view.writes (Elt F) f12 L12)) :
    Scored arg9.view arg10.view (headOf arg2 arg3 arg4 arg6 arg13 X2 X3 X4 X6 X13 v45 k0_t1.val) 1 ((k0_t1.val - 2) + 1) (arg9.view.writes (Elt F) f9 ((pb_k0_t4 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).1 ++ L9)) (arg10.view.writes (Elt F) f10 ((pb_k0_t4 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).2.1 ++ L10))
      ∧ Summed arg11.view arg12.view (headOf arg2 arg3 arg4 arg6 arg13 X2 X3 X4 X6 X13 v45 k0_t1.val) ((k0_t1.val - 2) + 1) (arg11.view.writes (Elt F) f11 ((pb_k0_t4 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).2.2.1 ++ L11)) (arg12.view.writes (Elt F) f12 ((pb_k0_t4 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 w X3 X4 X13 (arg9.view.writes (Elt F) f9 L9) (arg10.view.writes (Elt F) f10 L10) (arg11.view.writes (Elt F) f11 L11) (arg12.view.writes (Elt F) f12 L12) n).2.2.2 ++ L12)) := by
  subst hq0 hq1 hn
  rw [writes_after, writes_after, writes_after, writes_after]
  have e := pb_k0_t4_succ (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q 0#32 0#32 0#32 0#32 w X3 X4 X13 (arg9.view.writes (Elt F) f9 L9) (arg10.view.writes (Elt F) f10 L10) (arg11.view.writes (Elt F) f11 L11) (arg12.view.writes (Elt F) f12 L12) ⟨0, hT⟩
  dsimp only [Nat.zero_add] at e
  rw [e]
  dsimp only
  rw [writes_after, writes_after, writes_after, writes_after]
  exact trip4 𝒱 c bd i arg2 harg2 arg3 harg3 arg4 harg4 arg5 harg5 arg6 harg6 arg7 harg7 arg8 harg8 arg9 harg9 arg10 harg10 arg11 harg11 arg12 harg12 arg13 harg13 X2 X3 X4 X6 X13 v45 k0_t1 w ⟨0, hT⟩ _ _ _ _ h.1 h.2

/-- The last tile before the diagonal, of an even query tile. -/
theorem run6 (k0_t1 : Fin k0_t1_loop.trips) (v165 v176 : FVec F S256x512 .bf16) (hq0 : v165 = ((headOf arg2 arg3 arg4 arg6 arg13 X2 X3 X4 X6 X13 v45 k0_t1.val) 0).q) (hq1 : v176 = ((headOf arg2 arg3 arg4 arg6 arg13 X2 X3 X4 X6 X13 v45 k0_t1.val) 1).q) (w : BitVec 32) (hc : k0_cond1 k0_t1 = 1#1)
    (f9 : arg9.view.ty.Contents (Elt F)) (f10 : arg10.view.ty.Contents (Elt F)) (f11 : arg11.view.ty.Contents (Elt F)) (f12 : arg12.view.ty.Contents (Elt F))
    (L9 : List (View.Piece (Elt F) S2x3x512x512 .f32)) (L10 : List (View.Piece (Elt F) S2x3x1x512 .f32))
    (L11 : List (View.Piece (Elt F) S2x1x512 .f32)) (L12 : List (View.Piece (Elt F) S2x144x512 .f32))
    (n : ℕ) (hn : n = 1) (hT : 0 < (k0_t6_loop k0_t1).trips) (h : Scored arg9.view arg10.view (headOf arg2 arg3 arg4 arg6 arg13 X2 X3 X4 X6 X13 v45 k0_t1.val) 1 (k0_t1.val - 1) (arg9.view.writes (Elt F) f9 L9) (arg10.view.writes (Elt F) f10 L10) ∧ Summed arg11.view arg12.view (headOf arg2 arg3 arg4 arg6 arg13 X2 X3 X4 X6 X13 v45 k0_t1.val) (k0_t1.val - 1) (arg11.view.writes (Elt F) f11 L11) (arg12.view.writes (Elt F) f12 L12)) :
    Masked arg9.view arg10.view (headOf arg2 arg3 arg4 arg6 arg13 X2 X3 X4 X6 X13 v45 k0_t1.val) k0_t1.val (arg9.view.writes (Elt F) f9 ((pb_k0_t6 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).1 ++ L9)) (arg10.view.writes (Elt F) f10 ((pb_k0_t6 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).2.1 ++ L10))
      ∧ Summed arg11.view arg12.view (headOf arg2 arg3 arg4 arg6 arg13 X2 X3 X4 X6 X13 v45 k0_t1.val) ((k0_t1.val - 1) + 1) (arg11.view.writes (Elt F) f11 ((pb_k0_t6 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).2.2.1 ++ L11)) (arg12.view.writes (Elt F) f12 ((pb_k0_t6 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).2.2.2 ++ L12)) := by
  subst hq0 hq1 hn
  rw [writes_after, writes_after, writes_after, writes_after]
  have e := pb_k0_t6_succ (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q w 0#32 hc X3 X4 X13 (arg9.view.writes (Elt F) f9 L9) (arg10.view.writes (Elt F) f10 L10) (arg11.view.writes (Elt F) f11 L11) (arg12.view.writes (Elt F) f12 L12) ⟨0, hT⟩
  dsimp only [Nat.zero_add] at e
  rw [e]
  dsimp only
  rw [writes_after, writes_after, writes_after, writes_after]
  exact trip6 𝒱 c bd i arg2 harg2 arg3 harg3 arg4 harg4 arg5 harg5 arg6 harg6 arg7 harg7 arg8 harg8 arg9 harg9 arg10 harg10 arg11 harg11 arg12 harg12 arg13 harg13 X2 X3 X4 X6 X13 v45 k0_t1 w hc ⟨0, hT⟩ _ _ _ _ h.1 h.2

/-- The last tile before the diagonal, of an odd query tile. -/
theorem run8 (k0_t1 : Fin k0_t1_loop.trips) (v165 v176 : FVec F S256x512 .bf16) (hq0 : v165 = ((headOf arg2 arg3 arg4 arg6 arg13 X2 X3 X4 X6 X13 v45 k0_t1.val) 0).q) (hq1 : v176 = ((headOf arg2 arg3 arg4 arg6 arg13 X2 X3 X4 X6 X13 v45 k0_t1.val) 1).q) (w : BitVec 32) (hc : k0_cond2 k0_t1 = 1#1)
    (f9 : arg9.view.ty.Contents (Elt F)) (f10 : arg10.view.ty.Contents (Elt F)) (f11 : arg11.view.ty.Contents (Elt F)) (f12 : arg12.view.ty.Contents (Elt F))
    (L9 : List (View.Piece (Elt F) S2x3x512x512 .f32)) (L10 : List (View.Piece (Elt F) S2x3x1x512 .f32))
    (L11 : List (View.Piece (Elt F) S2x1x512 .f32)) (L12 : List (View.Piece (Elt F) S2x144x512 .f32))
    (n : ℕ) (hn : n = 1) (hT : 0 < (k0_t8_loop k0_t1).trips) (h : Scored arg9.view arg10.view (headOf arg2 arg3 arg4 arg6 arg13 X2 X3 X4 X6 X13 v45 k0_t1.val) 0 (k0_t1.val - 1) (arg9.view.writes (Elt F) f9 L9) (arg10.view.writes (Elt F) f10 L10) ∧ Summed arg11.view arg12.view (headOf arg2 arg3 arg4 arg6 arg13 X2 X3 X4 X6 X13 v45 k0_t1.val) (k0_t1.val - 1) (arg11.view.writes (Elt F) f11 L11) (arg12.view.writes (Elt F) f12 L12)) :
    Masked arg9.view arg10.view (headOf arg2 arg3 arg4 arg6 arg13 X2 X3 X4 X6 X13 v45 k0_t1.val) k0_t1.val (arg9.view.writes (Elt F) f9 ((pb_k0_t8 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).1 ++ L9)) (arg10.view.writes (Elt F) f10 ((pb_k0_t8 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).2.1 ++ L10))
      ∧ Summed arg11.view arg12.view (headOf arg2 arg3 arg4 arg6 arg13 X2 X3 X4 X6 X13 v45 k0_t1.val) ((k0_t1.val - 1) + 1) (arg11.view.writes (Elt F) f11 ((pb_k0_t8 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).2.2.1 ++ L11)) (arg12.view.writes (Elt F) f12 ((pb_k0_t8 (F := F) 𝒱 c bd i arg2 harg2 arg3 harg3 arg4 harg4 arg5 harg5 arg6 harg6 arg7 harg7 arg8 harg8 arg9 harg9 arg10 harg10 arg11 harg11 arg12 harg12 arg13 harg13 v45 k0_t1 0#32 v165 v176 w 0#32 hc X3 X4 X13 (arg9.view.writes (Elt F) f9 L9) (arg10.view.writes (Elt F) f10 L10) (arg11.view.writes (Elt F) f11 L11) (arg12.view.writes (Elt F) f12 L12) n).2.2.2 ++ L12)) := by
  subst hq0 hq1 hn
  rw [writes_after, writes_after, writes_after, writes_after]
  have e := pb_k0_t8_succ (F := F) 𝒱 c bd i arg2 harg2 arg3 harg3 arg4 harg4 arg5 harg5 arg6 harg6 arg7 harg7 arg8 harg8 arg9 harg9 arg10 harg10 arg11 harg11 arg12 harg12 arg13 harg13 v45 k0_t1 0#32 ((headOf arg2 arg3 arg4 arg6 arg13 X2 X3 X4 X6 X13 v45 k0_t1.val) 0).q ((headOf arg2 arg3 arg4 arg6 arg13 X2 X3 X4 X6 X13 v45 k0_t1.val) 1).q w 0#32 hc X3 X4 X13 (arg9.view.writes (Elt F) f9 L9) (arg10.view.writes (Elt F) f10 L10) (arg11.view.writes (Elt F) f11 L11) (arg12.view.writes (Elt F) f12 L12) ⟨0, hT⟩
  dsimp only [Nat.zero_add] at e
  rw [e]
  dsimp only
  rw [writes_after, writes_after, writes_after, writes_after]
  exact trip8 𝒱 c bd i arg2 harg2 arg3 harg3 arg4 harg4 arg5 harg5 arg6 harg6 arg7 harg7 arg8 harg8 arg9 harg9 arg10 harg10 arg11 harg11 arg12 harg12 arg13 harg13 X2 X3 X4 X6 X13 v45 k0_t1 w hc ⟨0, hT⟩ _ _ _ _ h.1 h.2

end Cert.Fox
-- ==== Proof.FoxTrip.lean ====
module

public import proofs.«01_k».proof.Proof.Gen.Kernel5Ideal.Loops
public import proofs.«01_k».proof.Proof.Gen.Kernel5Ideal.Frame
public import Idealize.ShloMosaic.Lib.Exec
public import Idealize.ShloMosaic.Lib.Tactic

@[expose] public section

set_option maxRecDepth 65536
set_option maxHeartbeats 0

noncomputable section
namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F] [Named F]

/-- The separation algebra of the run. -/
local notation "𝕄G" => MT nD τ sig Unit (Elt F) ℕ (UR sig nD τ) ℕ

/-- Inner loop 1 of a query tile, at the words its body does not read. -/
@[sl_loop] def inner2 (𝒱 : Variants) (c : Dev nD) (bd : Option 𝒱.V) (E : Set ℕ) (i : grid0.Coords) (arg2 : Memref sig .tc .vmem S1x256x4096 .bf16) (harg2 : arg2.IsWhole) (arg3 : Memref sig .tc .vmem S1x4096x256 .bf16) (harg3 : arg3.IsWhole) (arg4 : Memref sig .tc .vmem S1x256x4096 .bf16) (harg4 : arg4.IsWhole) (arg5 : Memref sig .tc .vmem S1x4096x256 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x256 .bf16) (harg8 : arg8.IsWhole) (arg9 : Memref sig .tc .vmem S2x3x512x512 .f32) (harg9 : arg9.IsWhole) (arg10 : Memref sig .tc .vmem S2x3x1x512 .f32) (harg10 : arg10.IsWhole) (arg11 : Memref sig .tc .vmem S2x1x512 .f32) (harg11 : arg11.IsWhole) (arg12 : Memref sig .tc .vmem S2x144x512 .f32) (harg12 : arg12.IsWhole) (arg13 : Memref sig .tc .vmem S4096x256 .bf16) (harg13 : arg13.IsWhole) (v45 : FVec F S16x512 .bf16) (k0_t1 : Fin k0_t1_loop.trips) (v165 : FVec F S256x512 .bf16) (v176 : FVec F S256x512 .bf16) (X_arg3 : BufTy.Contents (Elt F) arg3.view.ty) (X_arg4 : BufTy.Contents (Elt F) arg4.view.ty) (X_arg13 : BufTy.Contents (Elt F) arg13.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) :
    _root_.Cert.Kernel5Ideal.Gen.LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 :=
  loopInv_k0_t2 (F := F) 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 X_arg3 X_arg4 X_arg13 G_arg9 G_arg10 G_arg11 G_arg12

/-- Inner loop 2 of a query tile, at the words its body does not read. -/
@[sl_loop] def inner3 (𝒱 : Variants) (c : Dev nD) (bd : Option 𝒱.V) (E : Set ℕ) (i : grid0.Coords) (arg2 : Memref sig .tc .vmem S1x256x4096 .bf16) (harg2 : arg2.IsWhole) (arg3 : Memref sig .tc .vmem S1x4096x256 .bf16) (harg3 : arg3.IsWhole) (arg4 : Memref sig .tc .vmem S1x256x4096 .bf16) (harg4 : arg4.IsWhole) (arg5 : Memref sig .tc .vmem S1x4096x256 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x256 .bf16) (harg8 : arg8.IsWhole) (arg9 : Memref sig .tc .vmem S2x3x512x512 .f32) (harg9 : arg9.IsWhole) (arg10 : Memref sig .tc .vmem S2x3x1x512 .f32) (harg10 : arg10.IsWhole) (arg11 : Memref sig .tc .vmem S2x1x512 .f32) (harg11 : arg11.IsWhole) (arg12 : Memref sig .tc .vmem S2x144x512 .f32) (harg12 : arg12.IsWhole) (arg13 : Memref sig .tc .vmem S4096x256 .bf16) (harg13 : arg13.IsWhole) (v45 : FVec F S16x512 .bf16) (k0_t1 : Fin k0_t1_loop.trips) (v165 : FVec F S256x512 .bf16) (v176 : FVec F S256x512 .bf16) (v208 : BitVec 32) (X_arg3 : BufTy.Contents (Elt F) arg3.view.ty) (X_arg4 : BufTy.Contents (Elt F) arg4.view.ty) (X_arg13 : BufTy.Contents (Elt F) arg13.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) :
    _root_.Cert.Kernel5Ideal.Gen.LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 v208 :=
  loopInv_k0_t3 (F := F) 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 v208 X_arg3 X_arg4 X_arg13 G_arg9 G_arg10 G_arg11 G_arg12

/-- Inner loop 3 of a query tile, at the words its body does not read. -/
@[sl_loop] def inner4 (𝒱 : Variants) (c : Dev nD) (bd : Option 𝒱.V) (E : Set ℕ) (i : grid0.Coords) (arg2 : Memref sig .tc .vmem S1x256x4096 .bf16) (harg2 : arg2.IsWhole) (arg3 : Memref sig .tc .vmem S1x4096x256 .bf16) (harg3 : arg3.IsWhole) (arg4 : Memref sig .tc .vmem S1x256x4096 .bf16) (harg4 : arg4.IsWhole) (arg5 : Memref sig .tc .vmem S1x4096x256 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x256 .bf16) (harg8 : arg8.IsWhole) (arg9 : Memref sig .tc .vmem S2x3x512x512 .f32) (harg9 : arg9.IsWhole) (arg10 : Memref sig .tc .vmem S2x3x1x512 .f32) (harg10 : arg10.IsWhole) (arg11 : Memref sig .tc .vmem S2x1x512 .f32) (harg11 : arg11.IsWhole) (arg12 : Memref sig .tc .vmem S2x144x512 .f32) (harg12 : arg12.IsWhole) (arg13 : Memref sig .tc .vmem S4096x256 .bf16) (harg13 : arg13.IsWhole) (v45 : FVec F S16x512 .bf16) (k0_t1 : Fin k0_t1_loop.trips) (v165 : FVec F S256x512 .bf16) (v176 : FVec F S256x512 .bf16) (v209 : BitVec 32) (X_arg3 : BufTy.Contents (Elt F) arg3.view.ty) (X_arg4 : BufTy.Contents (Elt F) arg4.view.ty) (X_arg13 : BufTy.Contents (Elt F) arg13.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) :
    _root_.Cert.Kernel5Ideal.Gen.LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 v209 :=
  loopInv_k0_t4 (F := F) 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 v209 X_arg3 X_arg4 X_arg13 G_arg9 G_arg10 G_arg11 G_arg12

/-- Inner loop 4 of a query tile, at the words its body does not read. -/
@[sl_loop] def inner5 (𝒱 : Variants) (c : Dev nD) (bd : Option 𝒱.V) (E : Set ℕ) (i : grid0.Coords) (arg2 : Memref sig .tc .vmem S1x256x4096 .bf16) (harg2 : arg2.IsWhole) (arg3 : Memref sig .tc .vmem S1x4096x256 .bf16) (harg3 : arg3.IsWhole) (arg4 : Memref sig .tc .vmem S1x256x4096 .bf16) (harg4 : arg4.IsWhole) (arg5 : Memref sig .tc .vmem S1x4096x256 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x256 .bf16) (harg8 : arg8.IsWhole) (arg9 : Memref sig .tc .vmem S2x3x512x512 .f32) (harg9 : arg9.IsWhole) (arg10 : Memref sig .tc .vmem S2x3x1x512 .f32) (harg10 : arg10.IsWhole) (arg11 : Memref sig .tc .vmem S2x1x512 .f32) (harg11 : arg11.IsWhole) (arg12 : Memref sig .tc .vmem S2x144x512 .f32) (harg12 : arg12.IsWhole) (arg13 : Memref sig .tc .vmem S4096x256 .bf16) (harg13 : arg13.IsWhole) (v45 : FVec F S16x512 .bf16) (k0_t1 : Fin k0_t1_loop.trips) (v165 : FVec F S256x512 .bf16) (v176 : FVec F S256x512 .bf16) (v214 : BitVec 32) (X_arg3 : BufTy.Contents (Elt F) arg3.view.ty) (X_arg4 : BufTy.Contents (Elt F) arg4.view.ty) (X_arg13 : BufTy.Contents (Elt F) arg13.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) :
    _root_.Cert.Kernel5Ideal.Gen.LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 v214 :=
  loopInv_k0_t5 (F := F) 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 0#32 0#32 0#32 0#32 v214 X_arg3 X_arg4 X_arg13 G_arg9 G_arg10 G_arg11 G_arg12

/-- Inner loop 5 of a query tile, at the words its body does not read. -/
@[sl_loop] def inner6 (𝒱 : Variants) (c : Dev nD) (bd : Option 𝒱.V) (E : Set ℕ) (i : grid0.Coords) (arg2 : Memref sig .tc .vmem S1x256x4096 .bf16) (harg2 : arg2.IsWhole) (arg3 : Memref sig .tc .vmem S1x4096x256 .bf16) (harg3 : arg3.IsWhole) (arg4 : Memref sig .tc .vmem S1x256x4096 .bf16) (harg4 : arg4.IsWhole) (arg5 : Memref sig .tc .vmem S1x4096x256 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x256 .bf16) (harg8 : arg8.IsWhole) (arg9 : Memref sig .tc .vmem S2x3x512x512 .f32) (harg9 : arg9.IsWhole) (arg10 : Memref sig .tc .vmem S2x3x1x512 .f32) (harg10 : arg10.IsWhole) (arg11 : Memref sig .tc .vmem S2x1x512 .f32) (harg11 : arg11.IsWhole) (arg12 : Memref sig .tc .vmem S2x144x512 .f32) (harg12 : arg12.IsWhole) (arg13 : Memref sig .tc .vmem S4096x256 .bf16) (harg13 : arg13.IsWhole) (v45 : FVec F S16x512 .bf16) (k0_t1 : Fin k0_t1_loop.trips) (v165 : FVec F S256x512 .bf16) (v176 : FVec F S256x512 .bf16) (v186 : BitVec 32) (k0_h1 : k0_cond1 k0_t1 = 1#1) (X_arg3 : BufTy.Contents (Elt F) arg3.view.ty) (X_arg4 : BufTy.Contents (Elt F) arg4.view.ty) (X_arg13 : BufTy.Contents (Elt F) arg13.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) :
    _root_.Cert.Kernel5Ideal.Gen.LoopInvTy_k0_t6 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 v186 0#32 k0_h1 :=
  loopInv_k0_t6 (F := F) 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 v186 0#32 k0_h1 X_arg3 X_arg4 X_arg13 G_arg9 G_arg10 G_arg11 G_arg12

/-- Inner loop 6 of a query tile, at the words its body does not read. -/
@[sl_loop] def inner7 (𝒱 : Variants) (c : Dev nD) (bd : Option 𝒱.V) (E : Set ℕ) (i : grid0.Coords) (arg2 : Memref sig .tc .vmem S1x256x4096 .bf16) (harg2 : arg2.IsWhole) (arg3 : Memref sig .tc .vmem S1x4096x256 .bf16) (harg3 : arg3.IsWhole) (arg4 : Memref sig .tc .vmem S1x256x4096 .bf16) (harg4 : arg4.IsWhole) (arg5 : Memref sig .tc .vmem S1x4096x256 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x256 .bf16) (harg8 : arg8.IsWhole) (arg9 : Memref sig .tc .vmem S2x3x512x512 .f32) (harg9 : arg9.IsWhole) (arg10 : Memref sig .tc .vmem S2x3x1x512 .f32) (harg10 : arg10.IsWhole) (arg11 : Memref sig .tc .vmem S2x1x512 .f32) (harg11 : arg11.IsWhole) (arg12 : Memref sig .tc .vmem S2x144x512 .f32) (harg12 : arg12.IsWhole) (arg13 : Memref sig .tc .vmem S4096x256 .bf16) (harg13 : arg13.IsWhole) (v45 : FVec F S16x512 .bf16) (k0_t1 : Fin k0_t1_loop.trips) (v165 : FVec F S256x512 .bf16) (v176 : FVec F S256x512 .bf16) (k0_h1 : k0_cond1 k0_t1 = 1#1) (v247 : BitVec 32) (X_arg3 : BufTy.Contents (Elt F) arg3.view.ty) (X_arg4 : BufTy.Contents (Elt F) arg4.view.ty) (X_arg13 : BufTy.Contents (Elt F) arg13.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) :
    _root_.Cert.Kernel5Ideal.Gen.LoopInvTy_k0_t7 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 0#32 0#32 k0_h1 v247 :=
  loopInv_k0_t7 (F := F) 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 0#32 0#32 k0_h1 v247 X_arg3 X_arg4 X_arg13 G_arg9 G_arg10 G_arg11 G_arg12

/-- Inner loop 7 of a query tile, at the words its body does not read. -/
@[sl_loop] def inner8 (𝒱 : Variants) (c : Dev nD) (bd : Option 𝒱.V) (E : Set ℕ) (i : grid0.Coords) (arg2 : Memref sig .tc .vmem S1x256x4096 .bf16) (harg2 : arg2.IsWhole) (arg3 : Memref sig .tc .vmem S1x4096x256 .bf16) (harg3 : arg3.IsWhole) (arg4 : Memref sig .tc .vmem S1x256x4096 .bf16) (harg4 : arg4.IsWhole) (arg5 : Memref sig .tc .vmem S1x4096x256 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x256 .bf16) (harg8 : arg8.IsWhole) (arg9 : Memref sig .tc .vmem S2x3x512x512 .f32) (harg9 : arg9.IsWhole) (arg10 : Memref sig .tc .vmem S2x3x1x512 .f32) (harg10 : arg10.IsWhole) (arg11 : Memref sig .tc .vmem S2x1x512 .f32) (harg11 : arg11.IsWhole) (arg12 : Memref sig .tc .vmem S2x144x512 .f32) (harg12 : arg12.IsWhole) (arg13 : Memref sig .tc .vmem S4096x256 .bf16) (harg13 : arg13.IsWhole) (v45 : FVec F S16x512 .bf16) (k0_t1 : Fin k0_t1_loop.trips) (v165 : FVec F S256x512 .bf16) (v176 : FVec F S256x512 .bf16) (v186 : BitVec 32) (k0_h2 : k0_cond2 k0_t1 = 1#1) (X_arg3 : BufTy.Contents (Elt F) arg3.view.ty) (X_arg4 : BufTy.Contents (Elt F) arg4.view.ty) (X_arg13 : BufTy.Contents (Elt F) arg13.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) :
    _root_.Cert.Kernel5Ideal.Gen.LoopInvTy_k0_t8 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 v186 0#32 k0_h2 :=
  loopInv_k0_t8 (F := F) 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 v186 0#32 k0_h2 X_arg3 X_arg4 X_arg13 G_arg9 G_arg10 G_arg11 G_arg12

/-- Inner loop 8 of a query tile, at the words its body does not read. -/
@[sl_loop] def inner9 (𝒱 : Variants) (c : Dev nD) (bd : Option 𝒱.V) (E : Set ℕ) (i : grid0.Coords) (arg2 : Memref sig .tc .vmem S1x256x4096 .bf16) (harg2 : arg2.IsWhole) (arg3 : Memref sig .tc .vmem S1x4096x256 .bf16) (harg3 : arg3.IsWhole) (arg4 : Memref sig .tc .vmem S1x256x4096 .bf16) (harg4 : arg4.IsWhole) (arg5 : Memref sig .tc .vmem S1x4096x256 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x256 .bf16) (harg8 : arg8.IsWhole) (arg9 : Memref sig .tc .vmem S2x3x512x512 .f32) (harg9 : arg9.IsWhole) (arg10 : Memref sig .tc .vmem S2x3x1x512 .f32) (harg10 : arg10.IsWhole) (arg11 : Memref sig .tc .vmem S2x1x512 .f32) (harg11 : arg11.IsWhole) (arg12 : Memref sig .tc .vmem S2x144x512 .f32) (harg12 : arg12.IsWhole) (arg13 : Memref sig .tc .vmem S4096x256 .bf16) (harg13 : arg13.IsWhole) (v45 : FVec F S16x512 .bf16) (k0_t1 : Fin k0_t1_loop.trips) (v165 : FVec F S256x512 .bf16) (v176 : FVec F S256x512 .bf16) (k0_h2 : k0_cond2 k0_t1 = 1#1) (v247 : BitVec 32) (X_arg3 : BufTy.Contents (Elt F) arg3.view.ty) (X_arg4 : BufTy.Contents (Elt F) arg4.view.ty) (X_arg13 : BufTy.Contents (Elt F) arg13.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) :
    _root_.Cert.Kernel5Ideal.Gen.LoopInvTy_k0_t9 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 0#32 0#32 k0_h2 v247 :=
  loopInv_k0_t9 (F := F) 𝒱 c bd E i arg2 harg2 arg3 harg3 arg4 harg4 arg5 harg5 arg6 harg6 arg7 harg7 arg8 harg8 arg9 harg9 arg10 harg10 arg11 harg11 arg12 harg12 arg13 harg13 v45 k0_t1 0#32 v165 v176 0#32 0#32 k0_h2 v247 X_arg3 X_arg4 X_arg13 G_arg9 G_arg10 G_arg11 G_arg12

/-- The buffers one query tile touches: the six it reads, at their contents, and the five it
writes. -/
abbrev Held (c : Dev nD) (arg2 : Memref sig .tc .vmem S1x256x4096 .bf16) (arg3 : Memref sig .tc .vmem S1x4096x256 .bf16) (arg4 : Memref sig .tc .vmem S1x256x4096 .bf16) (arg5 : Memref sig .tc .vmem S1x4096x256 .bf16) (arg6 : Memref sig .tc .vmem S1x128x4096 .bf16) (arg8 : Memref sig .tc .vmem S1x4096x256 .bf16) (arg9 : Memref sig .tc .vmem S2x3x512x512 .f32) (arg10 : Memref sig .tc .vmem S2x3x1x512 .f32) (arg11 : Memref sig .tc .vmem S2x1x512 .f32) (arg12 : Memref sig .tc .vmem S2x144x512 .f32) (arg13 : Memref sig .tc .vmem S4096x256 .bf16)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X13 : BufTy.Contents (Elt F) arg13.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg13.view.loc (c : Thread nD τ) ↦[arg13.view.set]{fullShare} X13) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

/-- One even query tile. -/
@[irreducible] def tripEven (𝒱 : Variants) (c : Dev nD) (bd : Option 𝒱.V) (i : grid0.Coords)
    (arg2 : Memref sig .tc .vmem S1x256x4096 .bf16) (harg2 : arg2.IsWhole) (arg3 : Memref sig .tc .vmem S1x4096x256 .bf16) (harg3 : arg3.IsWhole) (arg4 : Memref sig .tc .vmem S1x256x4096 .bf16) (harg4 : arg4.IsWhole) (arg5 : Memref sig .tc .vmem S1x4096x256 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x256 .bf16) (harg8 : arg8.IsWhole) (arg9 : Memref sig .tc .vmem S2x3x512x512 .f32) (harg9 : arg9.IsWhole) (arg10 : Memref sig .tc .vmem S2x3x1x512 .f32) (harg10 : arg10.IsWhole) (arg11 : Memref sig .tc .vmem S2x1x512 .f32) (harg11 : arg11.IsWhole) (arg12 : Memref sig .tc .vmem S2x144x512 .f32) (harg12 : arg12.IsWhole) (arg13 : Memref sig .tc .vmem S4096x256 .bf16) (harg13 : arg13.IsWhole)
    (v45 : FVec F S16x512 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X13 : BufTy.Contents (Elt F) arg13.view.ty) (k : Fin k0_t1_loop.trips) (h1 : k0_cond1 k = 1#1) (h2 : ¬ k0_cond2 k = 1#1) :
    Σ' (L8 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S1x4096x256 .bf16)) (L9 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S2x3x512x512 .f32)) (L10 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S2x3x1x512 .f32)) (L11 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S2x1x512 .f32)), { L12 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S2x144x512 .f32) // ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
      Held (F := F) c arg2 arg3 arg4 arg5 arg6 arg8 arg9 arg10 arg11 arg12 arg13 X2 X3 X4 X5 X6 X13 f8 f9 f10 f11 f12
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 v45 k PUnit.unit)
          (fun _ => Held (F := F) c arg2 arg3 arg4 arg5 arg6 arg8 arg9 arg10 arg11 arg12 arg13 X2 X3 X4 X5 X6 X13 (arg8.view.writes (Elt F) f8 (L8 f8 f9 f10 f11 f12)) (arg9.view.writes (Elt F) f9 (L9 f8 f9 f10 f11 f12)) (arg10.view.writes (Elt F) f10 (L10 f8 f9 f10 f11 f12)) (arg11.view.writes (Elt F) arg11.view.junk (L11 f8 f9 f10 f11 f12)) (arg12.view.writes (Elt F) arg12.view.junk (L12 f8 f9 f10 f11 f12))) } := by
  refine ⟨?_, ?_, ?_, ?_, ?_, fun E f8 f9 f10 f11 f12 => ?run⟩
  case run =>
    unfold k0_t1_body
    iintro ⟨H2, H3, H4, H5, H6, H13, H8, H9, H10, H11, H12⟩
    sl_exec
    sl_step
    sl_close

/-- One odd query tile. -/
@[irreducible] def tripOdd (𝒱 : Variants) (c : Dev nD) (bd : Option 𝒱.V) (i : grid0.Coords)
    (arg2 : Memref sig .tc .vmem S1x256x4096 .bf16) (harg2 : arg2.IsWhole) (arg3 : Memref sig .tc .vmem S1x4096x256 .bf16) (harg3 : arg3.IsWhole) (arg4 : Memref sig .tc .vmem S1x256x4096 .bf16) (harg4 : arg4.IsWhole) (arg5 : Memref sig .tc .vmem S1x4096x256 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x256 .bf16) (harg8 : arg8.IsWhole) (arg9 : Memref sig .tc .vmem S2x3x512x512 .f32) (harg9 : arg9.IsWhole) (arg10 : Memref sig .tc .vmem S2x3x1x512 .f32) (harg10 : arg10.IsWhole) (arg11 : Memref sig .tc .vmem S2x1x512 .f32) (harg11 : arg11.IsWhole) (arg12 : Memref sig .tc .vmem S2x144x512 .f32) (harg12 : arg12.IsWhole) (arg13 : Memref sig .tc .vmem S4096x256 .bf16) (harg13 : arg13.IsWhole)
    (v45 : FVec F S16x512 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X13 : BufTy.Contents (Elt F) arg13.view.ty) (k : Fin k0_t1_loop.trips) (h1 : ¬ k0_cond1 k = 1#1) (h2 : k0_cond2 k = 1#1) :
    Σ' (L8 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S1x4096x256 .bf16)) (L9 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S2x3x512x512 .f32)) (L10 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S2x3x1x512 .f32)) (L11 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S2x1x512 .f32)), { L12 : BufTy.Contents (Elt F) arg8.view.ty → BufTy.Contents (Elt F) arg9.view.ty → BufTy.Contents (Elt F) arg10.view.ty → BufTy.Contents (Elt F) arg11.view.ty → BufTy.Contents (Elt F) arg12.view.ty → List (View.Piece (Elt F) S2x144x512 .f32) // ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
      Held (F := F) c arg2 arg3 arg4 arg5 arg6 arg8 arg9 arg10 arg11 arg12 arg13 X2 X3 X4 X5 X6 X13 f8 f9 f10 f11 f12
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 v45 k PUnit.unit)
          (fun _ => Held (F := F) c arg2 arg3 arg4 arg5 arg6 arg8 arg9 arg10 arg11 arg12 arg13 X2 X3 X4 X5 X6 X13 (arg8.view.writes (Elt F) f8 (L8 f8 f9 f10 f11 f12)) (arg9.view.writes (Elt F) f9 (L9 f8 f9 f10 f11 f12)) (arg10.view.writes (Elt F) f10 (L10 f8 f9 f10 f11 f12)) (arg11.view.writes (Elt F) arg11.view.junk (L11 f8 f9 f10 f11 f12)) (arg12.view.writes (Elt F) arg12.view.junk (L12 f8 f9 f10 f11 f12))) } := by
  refine ⟨?_, ?_, ?_, ?_, ?_, fun E f8 f9 f10 f11 f12 => ?run⟩
  case run =>
    unfold k0_t1_body
    iintro ⟨H2, H3, H4, H5, H6, H13, H8, H9, H10, H11, H12⟩
    sl_exec
    sl_step
    sl_close
-- ==== Proof.FoxTile.lean ====
/-
  What one query tile stores, and the scores it leaves for the next one.
-/
module

public import proofs.«01_k».proof.Proof.FoxRun
public import proofs.«01_k».proof.Proof.FoxTrip

@[expose] public section

set_option maxRecDepth 65536
set_option maxHeartbeats 0

noncomputable section

namespace Cert.Fox

open Idealize.ShloMosaic Idealize.ShloMosaic.TcCoe Idealize.SL.Sem
open Cert.Kernel5Ideal Cert.Kernel5Ideal.Gen

variable {F : FTy → Type} [FloatOps F] [Named F]

section Steps

variable (h : Head F) (j : ℕ)

theorem S_of' {q : FVec F S256x512 .bf16} {kk : FVec F S1x512x128 .bf16} {bb : FVec F S512x128 .bf16} (hq : q = h.q)
    (hk : kk = h.keys j) (hb : bb = h.bias j) : k0_pay7 q kk bb = h.S j := by subst hq hk hb; rfl
theorem X_of' {q : FVec F S256x512 .bf16} {kk : FVec F S1x512x128 .bf16} {bb : FVec F S512x128 .bf16} (hq : q = h.q)
    (hk : kk = h.keys j) (hb : bb = h.bias j) : k0_pay8 q kk bb = h.X j := by subst hq hk hb; rfl
theorem low_of {v : FVec F S1x128x512 .bf16} {m : FVec F S1x1x512 .f32} {dx : FVec F S1x1x1x512 .f32}
    {top : FVec F S1x1x256x512 .f32} {acc : FVec F S1x144x512 .f32}
    (hv : v = h.vals j) (hm : m = h.M j) (hx : dx = h.diag j) (ht : top = h.top j) (ha : acc = h.A j) :
    k0_pay153 (k0_pay152 h.ones v m dx top acc) = h.low j := by subst hv hm hx ht ha; rfl
theorem high_of {v : FVec F S1x128x512 .bf16} {m : FVec F S1x1x512 .f32} {dx : FVec F S1x1x1x512 .f32}
    {top : FVec F S1x1x256x512 .f32} {bot : FVec F S1x1x256x256 .f32} {acc : FVec F S1x144x512 .f32}
    (hv : v = h.vals j) (hm : m = h.M j) (hx : dx = h.diag j) (ht : top = h.top j) (hb : bot = h.bottom j) (ha : acc = h.A j) :
    k0_pay154 (k0_pay147 h.ones v) (k0_pay150 m dx bot) (k0_pay151 h.ones v m dx top acc) = h.high j := by
  subst hv hm hx ht hb ha; rfl
theorem out_of {acc : FVec F S1x128x512 .f32} {l : FVec F S1x1x512 .f32} {gate gate' : FVec F S1x512x128 .bf16}
    (ha : acc = fun x => h.final j (ix3 0 ⟨(x 1).val, by have h1 : (x 1).val < 128 := (x 1).isLt; omega⟩ (x 2)))
    (hl : l = fun x => h.final j (ix3 0 128 (x 2))) (hg : gate = gate') :
    k0_pay2 (k0_pay170 acc l) gate = h.out j gate' := by subst ha hl hg; rfl
theorem headq_of {a : Arr F} {t : ℕ} {g : Fin 2} {q b : FVec F S1x128x512 .bf16}
    (hq : q = box (s := S1x256x4096) ![0, 128 * g.val, 512 * t] S1x128x512.size a.q)
    (hb : b = box (s := S1x128x4096) ![0, 0, 512 * t] S1x128x512.size a.qb) :
    k0_pay246 q b = (a.head t g).q := by subst hq hb; rfl

/-- The sums loaded after both halves are stored. -/
theorem read_sums (v : View sig .tc .vmem S2x144x512 .f32) (f : v.ty.Contents (Elt F)) (g : Fin 2)
    (i0 : ∀ a : Fin 3, (![g.val, 0, 0] : Fin 3 → ℕ) a + S1x128x512.size a ≤ S2x144x512.size a)
    (i1 : ∀ a : Fin 3, (![g.val, 0, 256] : Fin 3 → ℕ) a + S1x144x256.size a ≤ S2x144x512.size a)
    (i2 : ∀ a : Fin 3, (![g.val, 0, 0] : Fin 3 → ℕ) a + S1x144x256.size a ≤ S2x144x512.size a)
    {hi lo : FVec F S1x144x256 .f32} (hh : hi = h.high j) (hl : lo = h.low j) (L : List (View.Piece (Elt F) S2x144x512 .f32)) :
    (View.readAt (Elt F) v (Rect.unit (s := S2x144x512) ![g.val, 0, 0] S1x128x512.size i0).toLoadRect
      (v.writes (Elt F) f (⟨Rect.unit (s := S2x144x512) ![g.val, 0, 256] S1x144x256.size i1, hi⟩
        :: ⟨Rect.unit (s := S2x144x512) ![g.val, 0, 0] S1x144x256.size i2, lo⟩ :: L)) : FVec F S1x128x512 .f32)
      = fun x => h.final j (ix3 0 ⟨(x 1).val, by have h1 : (x 1).val < 128 := (x 1).isLt; omega⟩ (x 2)) := by
  subst hh hl
  funext x
  have h0 : (x 0).val < 1 := (x 0).isLt
  have h1 : (x 1).val < 128 := (x 1).isLt
  have h2 : (x 2).val < 512 := (x 2).isLt
  show _ = if hx : (x 2).val < 256 then _ else _
  by_cases hx : (x 2).val < 256
  · rw [dif_pos hx]
    refine (View.read_writes_cons_unit_of_not_mem v f i1 _ _ _ rfl 2 (.inl ?_)).trans
      (View.read_writes_cons_unit_of_mem v f i2 _ _ _ (ix3 0 ⟨(x 1).val, by omega⟩ ⟨(x 2).val, hx⟩) rfl ?_)
    · show 0 + 1 * (x 2).val < 256
      omega
    · intro a
      fin_cases a
      · show g.val + 1 * (x 0).val = g.val + 0
        omega
      · show 0 + 1 * (x 1).val = 0 + (x 1).val
        omega
      · show 0 + 1 * (x 2).val = 0 + (x 2).val
        omega
  · rw [dif_neg hx]
    refine View.read_writes_cons_unit_of_mem v f i1 _ _ _ (ix3 0 ⟨(x 1).val, by omega⟩ ⟨(x 2).val - 256, by omega⟩) rfl ?_
    intro a
    fin_cases a
    · show g.val + 1 * (x 0).val = g.val + 0
      omega
    · show 0 + 1 * (x 1).val = 0 + (x 1).val
      omega
    · show 0 + 1 * (x 2).val = 256 + ((x 2).val - 256)
      omega

/-- The sums' row of ones loaded after both halves are stored. -/
theorem read_total (v : View sig .tc .vmem S2x144x512 .f32) (f : v.ty.Contents (Elt F)) (g : Fin 2)
    (i0 : ∀ a : Fin 3, (![g.val, 128, 0] : Fin 3 → ℕ) a + S1x1x512.size a ≤ S2x144x512.size a)
    (i1 : ∀ a : Fin 3, (![g.val, 0, 256] : Fin 3 → ℕ) a + S1x144x256.size a ≤ S2x144x512.size a)
    (i2 : ∀ a : Fin 3, (![g.val, 0, 0] : Fin 3 → ℕ) a + S1x144x256.size a ≤ S2x144x512.size a)
    {hi lo : FVec F S1x144x256 .f32} (hh : hi = h.high j) (hl : lo = h.low j) (L : List (View.Piece (Elt F) S2x144x512 .f32)) :
    (View.readAt (Elt F) v (Rect.unit (s := S2x144x512) ![g.val, 128, 0] S1x1x512.size i0).toLoadRect
      (v.writes (Elt F) f (⟨Rect.unit (s := S2x144x512) ![g.val, 0, 256] S1x144x256.size i1, hi⟩
        :: ⟨Rect.unit (s := S2x144x512) ![g.val, 0, 0] S1x144x256.size i2, lo⟩ :: L)) : FVec F S1x1x512 .f32)
      = fun x => h.final j (ix3 0 128 (x 2)) := by
  subst hh hl
  funext x
  have h0 : (x 0).val < 1 := (x 0).isLt
  have h1 : (x 1).val < 1 := (x 1).isLt
  have h2 : (x 2).val < 512 := (x 2).isLt
  show _ = if hx : (x 2).val < 256 then _ else _
  by_cases hx : (x 2).val < 256
  · rw [dif_pos hx]
    refine (View.read_writes_cons_unit_of_not_mem v f i1 _ _ _ rfl 2 (.inl ?_)).trans
      (View.read_writes_cons_unit_of_mem v f i2 _ _ _ (ix3 0 128 ⟨(x 2).val, hx⟩) rfl ?_)
    · show 0 + 1 * (x 2).val < 256
      omega
    · intro a
      fin_cases a
      · show g.val + 1 * (x 0).val = g.val + 0
        omega
      · show 128 + 1 * (x 1).val = 0 + 128
        omega
      · show 0 + 1 * (x 2).val = 0 + (x 2).val
        omega
  · rw [dif_neg hx]
    refine View.read_writes_cons_unit_of_mem v f i1 _ _ _ (ix3 0 128 ⟨(x 2).val - 256, by omega⟩) rfl ?_
    intro a
    fin_cases a
    · show g.val + 1 * (x 0).val = g.val + 0
      omega
    · show 128 + 1 * (x 1).val = 0 + 128
      omega
    · show 0 + 1 * (x 2).val = 256 + ((x 2).val - 256)
      omega

/-- Two stores of equal values at equal offsets. -/
theorem piece_eq {off off' : Fin 3 → ℕ} (ho : off = off')
    (i1 : ∀ a : Fin 3, off a + S1x512x128.size a ≤ S1x4096x256.size a)
    (i2 : ∀ a : Fin 3, off' a + S1x512x128.size a ≤ S1x4096x256.size a)
    {w w' : FVec F S1x512x128 .bf16} (hw : w = w') :
    (⟨Rect.unit (s := S1x4096x256) off S1x512x128.size i1, w⟩ : View.Piece (Elt F) S1x4096x256 .bf16)
      = ⟨Rect.unit (s := S1x4096x256) off' S1x512x128.size i2, w'⟩ := by subst ho hw; rfl

/-- A load of a tile's gates. -/
theorem gate_of {v : View sig .tc .vmem S1x4096x256 .bf16} {X : v.ty.Contents (Elt F)} {off off' : Fin 3 → ℕ}
    (inb : ∀ a : Fin 3, off a + S1x512x128.size a ≤ S1x4096x256.size a) (h : off = off') :
    (View.readAt (Elt F) v (Rect.unit (s := S1x4096x256) off S1x512x128.size inb).toLoadRect X : FVec F S1x512x128 .bf16)
      = box (s := S1x4096x256) off' S1x512x128.size (v.read (Elt F) X) := load_box (s := S1x4096x256) v X inb h

end Steps

variable (𝒱 : Variants) (c : Dev nD) (bd : Option 𝒱.V) (i : grid0.Coords)
  (arg2 : Memref sig .tc .vmem S1x256x4096 .bf16) (harg2 : arg2.IsWhole)
  (arg3 : Memref sig .tc .vmem S1x4096x256 .bf16) (harg3 : arg3.IsWhole)
  (arg4 : Memref sig .tc .vmem S1x256x4096 .bf16) (harg4 : arg4.IsWhole)
  (arg5 : Memref sig .tc .vmem S1x4096x256 .bf16) (harg5 : arg5.IsWhole)
  (arg6 : Memref sig .tc .vmem S1x128x4096 .bf16) (harg6 : arg6.IsWhole)
  (arg7 : Memref sig .tc .vmem S1x4096x128 .bf16) (harg7 : arg7.IsWhole)
  (arg8 : Memref sig .tc .vmem S1x4096x256 .bf16) (harg8 : arg8.IsWhole)
  (arg9 : Memref sig .tc .vmem S2x3x512x512 .f32) (harg9 : arg9.IsWhole)
  (arg10 : Memref sig .tc .vmem S2x3x1x512 .f32) (harg10 : arg10.IsWhole)
  (arg11 : Memref sig .tc .vmem S2x1x512 .f32) (harg11 : arg11.IsWhole)
  (arg12 : Memref sig .tc .vmem S2x144x512 .f32) (harg12 : arg12.IsWhole)
  (arg13 : Memref sig .tc .vmem S4096x256 .bf16) (harg13 : arg13.IsWhole)
  (X2 : BufTy.Contents (Elt F) arg2.view.ty) (X3 : BufTy.Contents (Elt F) arg3.view.ty) (X4 : BufTy.Contents (Elt F) arg4.view.ty)
  (X6 : BufTy.Contents (Elt F) arg6.view.ty) (X13 : BufTy.Contents (Elt F) arg13.view.ty) (v45 : FVec F S16x512 .bf16)

theorem off5 : ∀ k : Fin k0_t1_loop.trips, k0_off5 k = ![0, 128 * (0 : Fin 2).val, 512 * k.val] := by decide +kernel
theorem off6 : ∀ k : Fin k0_t1_loop.trips, k0_off6 k = ![0, 0, 512 * k.val] := by decide +kernel
theorem off7 : ∀ k : Fin k0_t1_loop.trips, k0_off7 k = ![0, 128 * (1 : Fin 2).val, 512 * k.val] := by decide +kernel
theorem off52 : ∀ k : Fin k0_t1_loop.trips, k0_off52 k = ![0, 128 * (0 : Fin 2).val, 512 * (min (k.val + 1) 7)] := by decide +kernel
theorem off53 : ∀ k : Fin k0_t1_loop.trips, k0_off53 k = ![0, 0, 512 * (min (k.val + 1) 7)] := by decide +kernel
theorem off54 : ∀ k : Fin k0_t1_loop.trips, k0_off54 k = ![0, 128 * (0 : Fin 2).val, 512 * k.val] := by decide +kernel
theorem off55 : ∀ k : Fin k0_t1_loop.trips, k0_off55 k = ![0, 128 * (1 : Fin 2).val, 512 * (min (k.val + 1) 7)] := by decide +kernel
theorem off56 : ∀ k : Fin k0_t1_loop.trips, k0_off56 k = ![0, 128 * (1 : Fin 2).val, 512 * k.val] := by decide +kernel
theorem off57 : ∀ k : Fin k0_t1_loop.trips, k0_off57 k = ![0, 512 * k.val, 128 * (0 : Fin 2).val] := by decide +kernel
theorem off58 : ∀ k : Fin k0_t1_loop.trips, k0_off58 k = ![0, 512 * k.val, 128 * (1 : Fin 2).val] := by decide +kernel
theorem off79 : ∀ k : Fin k0_t1_loop.trips, k0_off79 k = ![0, 128 * (0 : Fin 2).val, 512 * (min (k.val + 1) 7)] := by decide +kernel
theorem off80 : ∀ k : Fin k0_t1_loop.trips, k0_off80 k = ![0, 0, 512 * (min (k.val + 1) 7)] := by decide +kernel
theorem off81 : ∀ k : Fin k0_t1_loop.trips, k0_off81 k = ![0, 128 * (0 : Fin 2).val, 512 * k.val] := by decide +kernel
theorem off82 : ∀ k : Fin k0_t1_loop.trips, k0_off82 k = ![0, 128 * (1 : Fin 2).val, 512 * (min (k.val + 1) 7)] := by decide +kernel
theorem off83 : ∀ k : Fin k0_t1_loop.trips, k0_off83 k = ![0, 128 * (1 : Fin 2).val, 512 * k.val] := by decide +kernel
theorem off84 : ∀ k : Fin k0_t1_loop.trips, k0_off84 k = ![0, 512 * k.val, 128 * (0 : Fin 2).val] := by decide +kernel
theorem off85 : ∀ k : Fin k0_t1_loop.trips, k0_off85 k = ![0, 512 * k.val, 128 * (1 : Fin 2).val] := by decide +kernel

theorem inb_out : ∀ (k : Fin k0_t1_loop.trips) (g : Fin 2) (a : Fin 3),
    (![0, 512 * k.val, 128 * g.val] : Fin 3 → ℕ) a + S1x512x128.size a ≤ S1x4096x256.size a := by decide +kernel

/-- What query tile `k` stores: each head's gated result. -/
def stored (X5 : BufTy.Contents (Elt F) arg5.view.ty) (k : Fin k0_t1_loop.trips) : List (View.Piece (Elt F) S1x4096x256 .bf16) :=
  [⟨Rect.unit (s := S1x4096x256) ![0, 512 * k.val, 128 * (1 : Fin 2).val] S1x512x128.size (inb_out k 1),
      ((headOf arg2 arg3 arg4 arg6 arg13 X2 X3 X4 X6 X13 v45 k.val) 1).out k.val (box (s := S1x4096x256) ![0, 512 * k.val, 128 * (1 : Fin 2).val] S1x512x128.size (arg5.view.read (Elt F) X5))⟩,
    ⟨Rect.unit (s := S1x4096x256) ![0, 512 * k.val, 128 * (0 : Fin 2).val] S1x512x128.size (inb_out k 0),
      ((headOf arg2 arg3 arg4 arg6 arg13 X2 X3 X4 X6 X13 v45 k.val) 0).out k.val (box (s := S1x4096x256) ![0, 512 * k.val, 128 * (0 : Fin 2).val] S1x512x128.size (arg5.view.read (Elt F) X5))⟩]

/-- What query tile `t` finds: before any key tile its own diagonal scores, otherwise the scores of key tile 0. -/
def Found (t : ℕ) (f9 : arg9.view.ty.Contents (Elt F)) (f10 : arg10.view.ty.Contents (Elt F)) : Prop :=
  (t = 0 → Masked arg9.view arg10.view (headOf arg2 arg3 arg4 arg6 arg13 X2 X3 X4 X6 X13 v45 0) 0 f9 f10) ∧
    (t ≠ 0 → Scored arg9.view arg10.view (headOf arg2 arg3 arg4 arg6 arg13 X2 X3 X4 X6 X13 v45 t) 0 0 f9 f10)

/-- The maxima and sums before any key tile. -/
theorem summed_init (t : ℕ) (g11 : arg11.view.ty.Contents (Elt F)) (g12 : arg12.view.ty.Contents (Elt F))
    (i1 : ∀ a : Fin 3, (![0, 0, 0] : Fin 3 → ℕ) a + S2x1x512.size a ≤ S2x1x512.size a)
    (i2 : ∀ a : Fin 3, (![0, 0, 0] : Fin 3 → ℕ) a + S2x144x512.size a ≤ S2x144x512.size a) :
    Summed arg11.view arg12.view (headOf arg2 arg3 arg4 arg6 arg13 X2 X3 X4 X6 X13 v45 t) 0
      (arg11.view.writes (Elt F) g11 [⟨Rect.unit (s := S2x1x512) ![0, 0, 0] S2x1x512.size i1, k0_pay248⟩])
      (arg12.view.writes (Elt F) g12 [⟨Rect.unit (s := S2x144x512) ![0, 0, 0] S2x144x512.size i2, k0_pay249⟩]) := by
  refine ⟨fun g => funext fun x => ?_, fun g => funext fun x => ?_⟩
  · refine View.read_writes_cons_unit_of_mem arg11.view g11 i1 _ _ _ ((Rect.unit (s := S2x1x512) ![g.val, 0, 0] S1x1x512.size (inb_m g)).toLoadRect.idx x) rfl ?_
    intro a
    fin_cases a <;> exact (Nat.zero_add _).symm
  · refine View.read_writes_cons_unit_of_mem arg12.view g12 i2 _ _ _ ((Rect.unit (s := S2x144x512) ![g.val, 0, 0] S1x144x512.size (inb_acc g)).toLoadRect.idx x) rfl ?_
    intro a
    fin_cases a <;> exact (Nat.zero_add _).symm

/-! ### An even query tile -/

theorem queriesEven (k : Fin k0_t1_loop.trips) : (tripEven.sl.r (F := F) arg2 arg6 X2 X6 k) = ((headOf arg2 arg3 arg4 arg6 arg13 X2 X3 X4 X6 X13 v45 k.val) 0).q ∧ (tripEven.sl.r_1 (F := F) arg2 arg6 X2 X6 k) = ((headOf arg2 arg3 arg4 arg6 arg13 X2 X3 X4 X6 X13 v45 k.val) 1).q :=
  ⟨headq_of (cols_of (k0_off5_inb k) (off5 k)) (colBias_of (k0_off6_inb k) (off6 k)),
    headq_of (cols_of (k0_off7_inb k) (off7 k)) (colBias_of (k0_off6_inb k) (off6 k))⟩

/-- After its loops over the key tiles: the diagonal tile's masked scores, and the maxima and sums of the tiles before it. -/
theorem loopsEven (k : Fin k0_t1_loop.trips) (h1 : k0_cond1 k = 1#1)
    (f9 : arg9.view.ty.Contents (Elt F)) (f10 : arg10.view.ty.Contents (Elt F))
    (hf : Found arg2 arg3 arg4 arg6 arg9 arg10 arg13 X2 X3 X4 X6 X13 v45 k.val f9 f10) :
    Masked arg9.view arg10.view (headOf arg2 arg3 arg4 arg6 arg13 X2 X3 X4 X6 X13 v45 k.val) k.val (arg9.view.writes (Elt F) f9 (tripEven.sl.H9_1 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10).tail) (arg10.view.writes (Elt F) f10 (tripEven.sl.H10_1 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10).tail)
      ∧ Summed arg11.view arg12.view (headOf arg2 arg3 arg4 arg6 arg13 X2 X3 X4 X6 X13 v45 k.val) k.val
        (arg11.view.writes (Elt F) (View.junk (Val := Elt F) arg11.view) (tripEven.sl.H11_1_1 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10).tail)
        (arg12.view.writes (Elt F) (View.junk (Val := Elt F) arg12.view) (tripEven.sl.H12_1_1 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10).tail) := by
  have hq := queriesEven arg2 arg3 arg4 arg6 arg13 X2 X3 X4 X6 X13 v45 k
  have hpar := (even_iff k).mp h1
  have hi := summed_init arg2 arg3 arg4 arg6 arg11 arg12 arg13 X2 X3 X4 X6 X13 v45 k.val (View.junk (Val := Elt F) arg11.view) (View.junk (Val := Elt F) arg12.view) inb_S2x1x512_S2x1x512_0_0_0 inb_S2x144x512_S2x144x512_0_0_0
  by_cases h0 : k.val = 0
  · rw [h0] at hi
    have hm := hf.1 h0
    refine idle7 𝒱 c bd i arg2 harg2 arg3 harg3 arg4 harg4 arg5 harg5 arg6 harg6 arg7 harg7 arg8 harg8 arg9 harg9 arg10 harg10 arg11 harg11 arg12 harg12 arg13 harg13 X3 X4 X13 v45 (fun a b c d => Masked arg9.view arg10.view (headOf arg2 arg3 arg4 arg6 arg13 X2 X3 X4 X6 X13 v45 k.val) k.val a b ∧ Summed arg11.view arg12.view (headOf arg2 arg3 arg4 arg6 arg13 X2 X3 X4 X6 X13 v45 k.val) k.val c d) k _ _ _ h1 _ _ _ _ _ _ _ _ _ (trips7 k) ?_
    refine idle6 𝒱 c bd i arg2 harg2 arg3 harg3 arg4 harg4 arg5 harg5 arg6 harg6 arg7 harg7 arg8 harg8 arg9 harg9 arg10 harg10 arg11 harg11 arg12 harg12 arg13 harg13 X3 X4 X13 v45 (fun a b c d => Masked arg9.view arg10.view (headOf arg2 arg3 arg4 arg6 arg13 X2 X3 X4 X6 X13 v45 k.val) k.val a b ∧ Summed arg11.view arg12.view (headOf arg2 arg3 arg4 arg6 arg13 X2 X3 X4 X6 X13 v45 k.val) k.val c d) k _ _ _ h1 _ _ _ _ _ _ _ _ _ ((trips6 k).trans (if_pos h0)) ?_
    refine idle5 𝒱 c bd i arg2 harg2 arg3 harg3 arg4 harg4 arg5 harg5 arg6 harg6 arg7 harg7 arg8 harg8 arg9 harg9 arg10 harg10 arg11 harg11 arg12 harg12 arg13 harg13 X3 X4 X13 v45 (fun a b c d => Masked arg9.view arg10.view (headOf arg2 arg3 arg4 arg6 arg13 X2 X3 X4 X6 X13 v45 k.val) k.val a b ∧ Summed arg11.view arg12.view (headOf arg2 arg3 arg4 arg6 arg13 X2 X3 X4 X6 X13 v45 k.val) k.val c d) k _ _ _ _ _ _ _ _ _ _ _ _ (trips5 k) ?_
    refine idle4 𝒱 c bd i arg2 harg2 arg3 harg3 arg4 harg4 arg5 harg5 arg6 harg6 arg7 harg7 arg8 harg8 arg9 harg9 arg10 harg10 arg11 harg11 arg12 harg12 arg13 harg13 X3 X4 X13 v45 (fun a b c d => Masked arg9.view arg10.view (headOf arg2 arg3 arg4 arg6 arg13 X2 X3 X4 X6 X13 v45 k.val) k.val a b ∧ Summed arg11.view arg12.view (headOf arg2 arg3 arg4 arg6 arg13 X2 X3 X4 X6 X13 v45 k.val) k.val c d) k _ _ _ _ _ _ _ _ _ _ _ _ ((trips4 k).trans (if_neg (by omega))) ?_
    refine idle3 𝒱 c bd i arg2 harg2 arg3 harg3 arg4 harg4 arg5 harg5 arg6 harg6 arg7 harg7 arg8 harg8 arg9 harg9 arg10 harg10 arg11 harg11 arg12 harg12 arg13 harg13 X3 X4 X13 v45 (fun a b c d => Masked arg9.view arg10.view (headOf arg2 arg3 arg4 arg6 arg13 X2 X3 X4 X6 X13 v45 k.val) k.val a b ∧ Summed arg11.view arg12.view (headOf arg2 arg3 arg4 arg6 arg13 X2 X3 X4 X6 X13 v45 k.val) k.val c d) k _ _ _ _ _ _ _ _ _ _ _ _ (trips3 k) ?_
    refine idle2 𝒱 c bd i arg2 harg2 arg3 harg3 arg4 harg4 arg5 harg5 arg6 harg6 arg7 harg7 arg8 harg8 arg9 harg9 arg10 harg10 arg11 harg11 arg12 harg12 arg13 harg13 X3 X4 X13 v45 (fun a b c d => Masked arg9.view arg10.view (headOf arg2 arg3 arg4 arg6 arg13 X2 X3 X4 X6 X13 v45 k.val) k.val a b ∧ Summed arg11.view arg12.view (headOf arg2 arg3 arg4 arg6 arg13 X2 X3 X4 X6 X13 v45 k.val) k.val c d) k _ _ _ _ _ _ _ _ _ ((trips2 k).trans (by rw [h0])) ?_
    rw [h0]
    exact ⟨hm, hi⟩
  · have hs := hf.2 h0
    have ht : 2 * ((k.val - 1) / 2) = k.val - 2 := by omega
    have e2 := run2 𝒱 c bd i arg2 harg2 arg3 harg3 arg4 harg4 arg5 harg5 arg6 harg6 arg7 harg7 arg8 harg8 arg9 harg9 arg10 harg10 arg11 harg11 arg12 harg12 arg13 harg13 X2 X3 X4 X6 X13 v45 k _ _ hq.1 hq.2 f9 f10 _ _ _ _ ((k0_t2_loop k).trips) le_rfl ⟨hs, hi⟩
    have ht' : 2 * (k0_t2_loop k).trips = k.val - 2 := by rw [trips2]; exact ht
    rw [ht'] at e2
    have e3 := idle3 𝒱 c bd i arg2 harg2 arg3 harg3 arg4 harg4 arg5 harg5 arg6 harg6 arg7 harg7 arg8 harg8 arg9 harg9 arg10 harg10 arg11 harg11 arg12 harg12 arg13 harg13 X3 X4 X13 v45 (fun a b c d => Scored arg9.view arg10.view (headOf arg2 arg3 arg4 arg6 arg13 X2 X3 X4 X6 X13 v45 k.val) 0 (k.val - 2) a b ∧ Summed arg11.view arg12.view (headOf arg2 arg3 arg4 arg6 arg13 X2 X3 X4 X6 X13 v45 k.val) (k.val - 2) c d) k (tripEven.sl.r (F := F) arg2 arg6 X2 X6 k) (tripEven.sl.r_1 (F := F) arg2 arg6 X2 X6 k) (tripEven.sl.v208 k) _ _ _ _ _ _ _ _ _ (trips3 k) e2
    have e4 := run4 𝒱 c bd i arg2 harg2 arg3 harg3 arg4 harg4 arg5 harg5 arg6 harg6 arg7 harg7 arg8 harg8 arg9 harg9 arg10 harg10 arg11 harg11 arg12 harg12 arg13 harg13 X2 X3 X4 X6 X13 v45 k _ _ hq.1 hq.2 (tripEven.sl.v209 k) _ _ _ _ _ _ _ _ ((k0_t4_loop k).trips) (by rw [trips4, if_pos (by omega)]) (by rw [trips4, if_pos (by omega)]; exact Nat.one_pos) e3
    have h12 : k.val - 2 + 1 = k.val - 1 := by omega
    rw [h12] at e4
    have e5 := idle5 𝒱 c bd i arg2 harg2 arg3 harg3 arg4 harg4 arg5 harg5 arg6 harg6 arg7 harg7 arg8 harg8 arg9 harg9 arg10 harg10 arg11 harg11 arg12 harg12 arg13 harg13 X3 X4 X13 v45 (fun a b c d => Scored arg9.view arg10.view (headOf arg2 arg3 arg4 arg6 arg13 X2 X3 X4 X6 X13 v45 k.val) 1 (k.val - 1) a b ∧ Summed arg11.view arg12.view (headOf arg2 arg3 arg4 arg6 arg13 X2 X3 X4 X6 X13 v45 k.val) (k.val - 1) c d) k (tripEven.sl.r (F := F) arg2 arg6 X2 X6 k) (tripEven.sl.r_1 (F := F) arg2 arg6 X2 X6 k) (tripEven.sl.v214 k) _ _ _ _ _ _ _ _ _ (trips5 k) e4
    have e6 := run6 𝒱 c bd i arg2 harg2 arg3 harg3 arg4 harg4 arg5 harg5 arg6 harg6 arg7 harg7 arg8 harg8 arg9 harg9 arg10 harg10 arg11 harg11 arg12 harg12 arg13 harg13 X2 X3 X4 X6 X13 v45 k _ _ hq.1 hq.2 (tripEven.sl.v186 k) h1 _ _ _ _ _ _ _ _ ((k0_t6_loop k).trips) (by rw [trips6, if_neg h0]) (by rw [trips6, if_neg h0]; exact Nat.one_pos) e5
    have h1k : k.val - 1 + 1 = k.val := by omega
    rw [h1k] at e6
    exact idle7 𝒱 c bd i arg2 harg2 arg3 harg3 arg4 harg4 arg5 harg5 arg6 harg6 arg7 harg7 arg8 harg8 arg9 harg9 arg10 harg10 arg11 harg11 arg12 harg12 arg13 harg13 X3 X4 X13 v45 (fun a b c d => Masked arg9.view arg10.view (headOf arg2 arg3 arg4 arg6 arg13 X2 X3 X4 X6 X13 v45 k.val) k.val a b ∧ Summed arg11.view arg12.view (headOf arg2 arg3 arg4 arg6 arg13 X2 X3 X4 X6 X13 v45 k.val) k.val c d) k _ _ (tripEven.sl.v247 k) h1 _ _ _ _ _ _ _ _ _ (trips7 k) e6

/-! ### An odd query tile -/

theorem queriesOdd (k : Fin k0_t1_loop.trips) : (tripOdd.sl.r (F := F) arg2 arg6 X2 X6 k) = ((headOf arg2 arg3 arg4 arg6 arg13 X2 X3 X4 X6 X13 v45 k.val) 0).q ∧ (tripOdd.sl.r_1 (F := F) arg2 arg6 X2 X6 k) = ((headOf arg2 arg3 arg4 arg6 arg13 X2 X3 X4 X6 X13 v45 k.val) 1).q :=
  ⟨headq_of (cols_of (k0_off5_inb k) (off5 k)) (colBias_of (k0_off6_inb k) (off6 k)),
    headq_of (cols_of (k0_off7_inb k) (off7 k)) (colBias_of (k0_off6_inb k) (off6 k))⟩

/-- After its loops over the key tiles: the diagonal tile's masked scores, and the maxima and sums of the tiles before it. -/
theorem loopsOdd (k : Fin k0_t1_loop.trips) (h2 : k0_cond2 k = 1#1)
    (f9 : arg9.view.ty.Contents (Elt F)) (f10 : arg10.view.ty.Contents (Elt F))
    (hf : Found arg2 arg3 arg4 arg6 arg9 arg10 arg13 X2 X3 X4 X6 X13 v45 k.val f9 f10) :
    Masked arg9.view arg10.view (headOf arg2 arg3 arg4 arg6 arg13 X2 X3 X4 X6 X13 v45 k.val) k.val (arg9.view.writes (Elt F) f9 (tripOdd.sl.H9_1 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10).tail) (arg10.view.writes (Elt F) f10 (tripOdd.sl.H10_1 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10).tail)
      ∧ Summed arg11.view arg12.view (headOf arg2 arg3 arg4 arg6 arg13 X2 X3 X4 X6 X13 v45 k.val) k.val
        (arg11.view.writes (Elt F) (View.junk (Val := Elt F) arg11.view) (tripOdd.sl.H11_1_1 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10).tail)
        (arg12.view.writes (Elt F) (View.junk (Val := Elt F) arg12.view) (tripOdd.sl.H12_1_1 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10).tail) := by
  have hq := queriesOdd arg2 arg3 arg4 arg6 arg13 X2 X3 X4 X6 X13 v45 k
  have hpar := (odd_iff k).mp h2
  have hi := summed_init arg2 arg3 arg4 arg6 arg11 arg12 arg13 X2 X3 X4 X6 X13 v45 k.val (View.junk (Val := Elt F) arg11.view) (View.junk (Val := Elt F) arg12.view) inb_S2x1x512_S2x1x512_0_0_0 inb_S2x144x512_S2x144x512_0_0_0
  have h0 : k.val ≠ 0 := by omega
  have hs := hf.2 h0
  have ht : 2 * ((k.val - 1) / 2) = k.val - 1 := by omega
  have e2 := run2 𝒱 c bd i arg2 harg2 arg3 harg3 arg4 harg4 arg5 harg5 arg6 harg6 arg7 harg7 arg8 harg8 arg9 harg9 arg10 harg10 arg11 harg11 arg12 harg12 arg13 harg13 X2 X3 X4 X6 X13 v45 k _ _ hq.1 hq.2 f9 f10 _ _ _ _ ((k0_t2_loop k).trips) le_rfl ⟨hs, hi⟩
  have ht' : 2 * (k0_t2_loop k).trips = k.val - 1 := by rw [trips2]; exact ht
  rw [ht'] at e2
  have e3 := idle3 𝒱 c bd i arg2 harg2 arg3 harg3 arg4 harg4 arg5 harg5 arg6 harg6 arg7 harg7 arg8 harg8 arg9 harg9 arg10 harg10 arg11 harg11 arg12 harg12 arg13 harg13 X3 X4 X13 v45 (fun a b c d => Scored arg9.view arg10.view (headOf arg2 arg3 arg4 arg6 arg13 X2 X3 X4 X6 X13 v45 k.val) 0 (k.val - 1) a b ∧ Summed arg11.view arg12.view (headOf arg2 arg3 arg4 arg6 arg13 X2 X3 X4 X6 X13 v45 k.val) (k.val - 1) c d) k (tripOdd.sl.r (F := F) arg2 arg6 X2 X6 k) (tripOdd.sl.r_1 (F := F) arg2 arg6 X2 X6 k) (tripOdd.sl.v208 k) _ _ _ _ _ _ _ _ _ (trips3 k) e2
  have e4 := idle4 𝒱 c bd i arg2 harg2 arg3 harg3 arg4 harg4 arg5 harg5 arg6 harg6 arg7 harg7 arg8 harg8 arg9 harg9 arg10 harg10 arg11 harg11 arg12 harg12 arg13 harg13 X3 X4 X13 v45 (fun a b c d => Scored arg9.view arg10.view (headOf arg2 arg3 arg4 arg6 arg13 X2 X3 X4 X6 X13 v45 k.val) 0 (k.val - 1) a b ∧ Summed arg11.view arg12.view (headOf arg2 arg3 arg4 arg6 arg13 X2 X3 X4 X6 X13 v45 k.val) (k.val - 1) c d) k (tripOdd.sl.r (F := F) arg2 arg6 X2 X6 k) (tripOdd.sl.r_1 (F := F) arg2 arg6 X2 X6 k) (tripOdd.sl.v209 k) _ _ _ _ _ _ _ _ _ ((trips4 k).trans (if_neg (by omega))) e3
  have e5 := idle5 𝒱 c bd i arg2 harg2 arg3 harg3 arg4 harg4 arg5 harg5 arg6 harg6 arg7 harg7 arg8 harg8 arg9 harg9 arg10 harg10 arg11 harg11 arg12 harg12 arg13 harg13 X3 X4 X13 v45 (fun a b c d => Scored arg9.view arg10.view (headOf arg2 arg3 arg4 arg6 arg13 X2 X3 X4 X6 X13 v45 k.val) 0 (k.val - 1) a b ∧ Summed arg11.view arg12.view (headOf arg2 arg3 arg4 arg6 arg13 X2 X3 X4 X6 X13 v45 k.val) (k.val - 1) c d) k (tripOdd.sl.r (F := F) arg2 arg6 X2 X6 k) (tripOdd.sl.r_1 (F := F) arg2 arg6 X2 X6 k) (tripOdd.sl.v214 k) _ _ _ _ _ _ _ _ _ (trips5 k) e4
  have e8 := run8 𝒱 c bd i arg2 harg2 arg3 harg3 arg4 harg4 arg5 harg5 arg6 harg6 arg7 harg7 arg8 harg8 arg9 harg9 arg10 harg10 arg11 harg11 arg12 harg12 arg13 harg13 X2 X3 X4 X6 X13 v45 k _ _ hq.1 hq.2 (tripOdd.sl.v186 k) h2 _ _ _ _ _ _ _ _ ((k0_t8_loop k).trips) ((trips8 k).trans (if_neg h0)) (by rw [trips8, if_neg h0]; exact Nat.one_pos) e5
  have h1k : k.val - 1 + 1 = k.val := by omega
  rw [h1k] at e8
  exact idle9 𝒱 c bd i arg2 harg2 arg3 harg3 arg4 harg4 arg5 harg5 arg6 harg6 arg7 harg7 arg8 harg8 arg9 harg9 arg10 harg10 arg11 harg11 arg12 harg12 arg13 harg13 X3 X4 X13 v45 (fun a b c d => Masked arg9.view arg10.view (headOf arg2 arg3 arg4 arg6 arg13 X2 X3 X4 X6 X13 v45 k.val) k.val a b ∧ Summed arg11.view arg12.view (headOf arg2 arg3 arg4 arg6 arg13 X2 X3 X4 X6 X13 v45 k.val) k.val c d) k _ _ (tripOdd.sl.v247 k) h2 _ _ _ _ _ _ _ _ _ (trips9 k) e8

/-- What the tile stores into the result, and the scores it leaves for the next tile. -/
theorem tileEven_eq (X5 : BufTy.Contents (Elt F) arg5.view.ty) (k : Fin k0_t1_loop.trips) (h1 : k0_cond1 k = 1#1) (h2 : ¬ k0_cond2 k = 1#1)
    (f8 : arg8.view.ty.Contents (Elt F)) (f9 : arg9.view.ty.Contents (Elt F)) (f10 : arg10.view.ty.Contents (Elt F))
    (f11 : arg11.view.ty.Contents (Elt F)) (f12 : arg12.view.ty.Contents (Elt F))
    (hf : Found arg2 arg3 arg4 arg6 arg9 arg10 arg13 X2 X3 X4 X6 X13 v45 k.val f9 f10) :
    (tripEven (F := F) 𝒱 c bd i arg2 harg2 arg3 harg3 arg4 harg4 arg5 harg5 arg6 harg6 arg7 harg7 arg8 harg8 arg9 harg9 arg10 harg10 arg11 harg11 arg12 harg12 arg13 harg13 v45 X2 X3 X4 X5 X6 X13 k h1 h2).1 f8 f9 f10 f11 f12 = stored arg2 arg3 arg4 arg5 arg6 arg13 X2 X3 X4 X6 X13 v45 X5 k
      ∧ Scored arg9.view arg10.view (headOf arg2 arg3 arg4 arg6 arg13 X2 X3 X4 X6 X13 v45 (min (k.val + 1) 7)) 0 0
          (arg9.view.writes (Elt F) f9 ((tripEven (F := F) 𝒱 c bd i arg2 harg2 arg3 harg3 arg4 harg4 arg5 harg5 arg6 harg6 arg7 harg7 arg8 harg8 arg9 harg9 arg10 harg10 arg11 harg11 arg12 harg12 arg13 harg13 v45 X2 X3 X4 X5 X6 X13 k h1 h2).2.1 f8 f9 f10 f11 f12)) (arg10.view.writes (Elt F) f10 ((tripEven (F := F) 𝒱 c bd i arg2 harg2 arg3 harg3 arg4 harg4 arg5 harg5 arg6 harg6 arg7 harg7 arg8 harg8 arg9 harg9 arg10 harg10 arg11 harg11 arg12 harg12 arg13 harg13 v45 X2 X3 X4 X5 X6 X13 k h1 h2).2.2.1 f8 f9 f10 f11 f12)) := by
  obtain ⟨hm, hs⟩ := loopsEven 𝒱 c bd i arg2 harg2 arg3 harg3 arg4 harg4 arg5 harg5 arg6 harg6 arg7 harg7 arg8 harg8 arg9 harg9 arg10 harg10 arg11 harg11 arg12 harg12 arg13 harg13 X2 X3 X4 X6 X13 v45 k h1 f9 f10 hf
  -- the first head
  have m0 : tripEven.sl.v281 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10 = ((headOf arg2 arg3 arg4 arg6 arg13 X2 X3 X4 X6 X13 v45 k.val) 0).M k.val := hs.m 0
  have x0 : tripEven.sl.v283 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10 = ((headOf arg2 arg3 arg4 arg6 arg13 X2 X3 X4 X6 X13 v45 k.val) 0).diag k.val := (load_skip _ _ 1 _ _ _ _ (by decide)).trans (hm.mx 0)
  have t0 : tripEven.sl.v286 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10 = ((headOf arg2 arg3 arg4 arg6 arg13 X2 X3 X4 X6 X13 v45 k.val) 0).top k.val := (load_skip _ _ 1 _ _ _ _ (by decide)).trans (hm.top 0)
  have b0 : tripEven.sl.v292 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10 = ((headOf arg2 arg3 arg4 arg6 arg13 X2 X3 X4 X6 X13 v45 k.val) 0).bottom k.val := (load_skip _ _ 1 _ _ _ _ (by decide)).trans (hm.bottom 0)
  have a0 : tripEven.sl.v301 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10 = ((headOf arg2 arg3 arg4 arg6 arg13 X2 X3 X4 X6 X13 v45 k.val) 0).A k.val := hs.acc 0
  have lo0 := low_of ((headOf arg2 arg3 arg4 arg6 arg13 X2 X3 X4 X6 X13 v45 k.val) 0) k.val (cols_of (k0_off54_inb k h1) (off54 k)) m0 x0 t0 a0
  have hi0 := high_of ((headOf arg2 arg3 arg4 arg6 arg13 X2 X3 X4 X6 X13 v45 k.val) 0) k.val (cols_of (k0_off54_inb k h1) (off54 k)) m0 x0 t0 b0 a0
  -- the second head
  have m1 : tripEven.sl.v355 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10 = ((headOf arg2 arg3 arg4 arg6 arg13 X2 X3 X4 X6 X13 v45 k.val) 1).M k.val := (load_skip _ _ 0 _ _ _ _ (by decide)).trans (hs.m 1)
  have x1 : tripEven.sl.v357 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10 = ((headOf arg2 arg3 arg4 arg6 arg13 X2 X3 X4 X6 X13 v45 k.val) 1).diag k.val := (load_skip _ _ 1 _ _ _ _ (by decide)).trans ((load_skip _ _ 1 _ _ _ _ (by decide)).trans (hm.mx 1))
  have t1 : tripEven.sl.v360 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10 = ((headOf arg2 arg3 arg4 arg6 arg13 X2 X3 X4 X6 X13 v45 k.val) 1).top k.val := (load_skip _ _ 1 _ _ _ _ (by decide)).trans ((load_skip _ _ 1 _ _ _ _ (by decide)).trans (hm.top 1))
  have b1 : tripEven.sl.v366 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10 = ((headOf arg2 arg3 arg4 arg6 arg13 X2 X3 X4 X6 X13 v45 k.val) 1).bottom k.val := (load_skip _ _ 1 _ _ _ _ (by decide)).trans ((load_skip _ _ 1 _ _ _ _ (by decide)).trans (hm.bottom 1))
  have a1 : tripEven.sl.v375 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10 = ((headOf arg2 arg3 arg4 arg6 arg13 X2 X3 X4 X6 X13 v45 k.val) 1).A k.val := (load_skip _ _ 0 _ _ _ _ (by decide)).trans ((load_skip _ _ 0 _ _ _ _ (by decide)).trans (hs.acc 1))
  have lo1 := low_of ((headOf arg2 arg3 arg4 arg6 arg13 X2 X3 X4 X6 X13 v45 k.val) 1) k.val (cols_of (k0_off56_inb k h1) (off56 k)) m1 x1 t1 a1
  have hi1 := high_of ((headOf arg2 arg3 arg4 arg6 arg13 X2 X3 X4 X6 X13 v45 k.val) 1) k.val (cols_of (k0_off56_inb k h1) (off56 k)) m1 x1 t1 b1 a1
  -- the sums as the division loads them
  have s0 := read_sums ((headOf arg2 arg3 arg4 arg6 arg13 X2 X3 X4 X6 X13 v45 k.val) 0) k.val arg12.view (View.junk (Val := Elt F) arg12.view) 0 inb_S2x144x512_S1x128x512_0_0_0 inb_S2x144x512_S1x144x256_0_0_256 inb_S2x144x512_S1x144x256_0_0_0 hi0 lo0 (tripEven.sl.H12_1_1 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10).tail
  have l0 := read_total ((headOf arg2 arg3 arg4 arg6 arg13 X2 X3 X4 X6 X13 v45 k.val) 0) k.val arg12.view (View.junk (Val := Elt F) arg12.view) 0 inb_S2x144x512_S1x1x512_0_128_0 inb_S2x144x512_S1x144x256_0_0_256 inb_S2x144x512_S1x144x256_0_0_0 hi0 lo0 (tripEven.sl.H12_1_1 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10).tail
  have s1 := read_sums ((headOf arg2 arg3 arg4 arg6 arg13 X2 X3 X4 X6 X13 v45 k.val) 1) k.val arg12.view (View.junk (Val := Elt F) arg12.view) 1 inb_S2x144x512_S1x128x512_1_0_0 inb_S2x144x512_S1x144x256_1_0_256 inb_S2x144x512_S1x144x256_1_0_0 hi1 lo1 (tripEven.sl.H12_2 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10)
  have l1 := read_total ((headOf arg2 arg3 arg4 arg6 arg13 X2 X3 X4 X6 X13 v45 k.val) 1) k.val arg12.view (View.junk (Val := Elt F) arg12.view) 1 inb_S2x144x512_S1x1x512_1_128_0 inb_S2x144x512_S1x144x256_1_0_256 inb_S2x144x512_S1x144x256_1_0_0 hi1 lo1 (tripEven.sl.H12_2 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10)
  have s0' : tripEven.sl.v396 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10 = _ := (load_skip _ _ 0 _ _ _ _ (by decide)).trans ((load_skip _ _ 0 _ _ _ _ (by decide)).trans s0)
  have l0' : tripEven.sl.v398 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10 = _ := (load_skip _ _ 0 _ _ _ _ (by decide)).trans ((load_skip _ _ 0 _ _ _ _ (by decide)).trans l0)
  have s1' : tripEven.sl.v402 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10 = _ := s1
  have l1' : tripEven.sl.v404 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h1 f9 f10 = _ := l1
  have o0 := out_of ((headOf arg2 arg3 arg4 arg6 arg13 X2 X3 X4 X6 X13 v45 k.val) 0) k.val s0' l0' (gate_of (v := arg5.view) (X := X5) (k0_off57_inb k h1) (off57 k))
  have o1 := out_of ((headOf arg2 arg3 arg4 arg6 arg13 X2 X3 X4 X6 X13 v45 k.val) 1) k.val s1' l1' (gate_of (v := arg5.view) (X := X5) (k0_off58_inb k h1) (off58 k))
  have qn0 := headq_of (a := arrOf arg2 arg3 arg4 arg6 arg13 X2 X3 X4 X6 X13 v45) (g := 0) (cols_of (k0_off52_inb k h1) (off52 k)) (colBias_of (k0_off53_inb k h1) (off53 k))
  have qn1 := headq_of (a := arrOf arg2 arg3 arg4 arg6 arg13 X2 X3 X4 X6 X13 v45) (g := 1) (cols_of (k0_off55_inb k h1) (off55 k)) (colBias_of (k0_off53_inb k h1) (off53 k))
  unfold tripEven
  refine ⟨?_, ?_, ?_⟩
  · have p0 := piece_eq (off57 k) (k0_off57_inb k h1) (inb_out k 0) o0
    have p1 := piece_eq (off58 k) (k0_off58_inb k h1) (inb_out k 1) o1
    exact congrArg₂ List.cons p1 (congrArg₂ List.cons p0 rfl)
  · intro g
    fin_cases g
    · refine (load_skip _ _ 0 _ _ _ _ (by decide)).trans ((load_same _ _ _ _ _ _).trans ?_)
      have e := S_of' ((headOf arg2 arg3 arg4 arg6 arg13 X2 X3 X4 X6 X13 v45 (min (k.val + 1) 7)) 0) 0 qn0 (keys_of inb_S1x4096x256_S1x512x128_0_0_0 (show _ = ![0, 512 * 0, 128 * (0 : Fin 2).val] from rfl)) (bias_of inb_S4096x256_S512x128_0_0 (show _ = ![512 * 0, 128 * (0 : Fin 2).val] from rfl))
      exact e
    · refine (load_same _ _ _ _ _ _).trans ?_
      have e := S_of' ((headOf arg2 arg3 arg4 arg6 arg13 X2 X3 X4 X6 X13 v45 (min (k.val + 1) 7)) 1) 0 qn1 (keys_of inb_S1x4096x256_S1x512x128_0_0_128 (show _ = ![0, 512 * 0, 128 * (1 : Fin 2).val] from rfl)) (bias_of inb_S4096x256_S512x128_0_128 (show _ = ![512 * 0, 128 * (1 : Fin 2).val] from rfl))
      exact e
  · intro g
    fin_cases g
    · refine (load_skip _ _ 0 _ _ _ _ (by decide)).trans ((load_same _ _ _ _ _ _).trans ?_)
      have e := X_of' ((headOf arg2 arg3 arg4 arg6 arg13 X2 X3 X4 X6 X13 v45 (min (k.val + 1) 7)) 0) 0 qn0 (keys_of inb_S1x4096x256_S1x512x128_0_0_0 (show _ = ![0, 512 * 0, 128 * (0 : Fin 2).val] from rfl)) (bias_of inb_S4096x256_S512x128_0_0 (show _ = ![512 * 0, 128 * (0 : Fin 2).val] from rfl))
      exact e
    · refine (load_same _ _ _ _ _ _).trans ?_
      have e := X_of' ((headOf arg2 arg3 arg4 arg6 arg13 X2 X3 X4 X6 X13 v45 (min (k.val + 1) 7)) 1) 0 qn1 (keys_of inb_S1x4096x256_S1x512x128_0_0_128 (show _ = ![0, 512 * 0, 128 * (1 : Fin 2).val] from rfl)) (bias_of inb_S4096x256_S512x128_0_128 (show _ = ![512 * 0, 128 * (1 : Fin 2).val] from rfl))
      exact e

/-- What the tile stores into the result, and the scores it leaves for the next tile. -/
theorem tileOdd_eq (X5 : BufTy.Contents (Elt F) arg5.view.ty) (k : Fin k0_t1_loop.trips) (h1 : ¬ k0_cond1 k = 1#1) (h2 : k0_cond2 k = 1#1)
    (f8 : arg8.view.ty.Contents (Elt F)) (f9 : arg9.view.ty.Contents (Elt F)) (f10 : arg10.view.ty.Contents (Elt F))
    (f11 : arg11.view.ty.Contents (Elt F)) (f12 : arg12.view.ty.Contents (Elt F))
    (hf : Found arg2 arg3 arg4 arg6 arg9 arg10 arg13 X2 X3 X4 X6 X13 v45 k.val f9 f10) :
    (tripOdd (F := F) 𝒱 c bd i arg2 harg2 arg3 harg3 arg4 harg4 arg5 harg5 arg6 harg6 arg7 harg7 arg8 harg8 arg9 harg9 arg10 harg10 arg11 harg11 arg12 harg12 arg13 harg13 v45 X2 X3 X4 X5 X6 X13 k h1 h2).1 f8 f9 f10 f11 f12 = stored arg2 arg3 arg4 arg5 arg6 arg13 X2 X3 X4 X6 X13 v45 X5 k
      ∧ Scored arg9.view arg10.view (headOf arg2 arg3 arg4 arg6 arg13 X2 X3 X4 X6 X13 v45 (min (k.val + 1) 7)) 0 0
          (arg9.view.writes (Elt F) f9 ((tripOdd (F := F) 𝒱 c bd i arg2 harg2 arg3 harg3 arg4 harg4 arg5 harg5 arg6 harg6 arg7 harg7 arg8 harg8 arg9 harg9 arg10 harg10 arg11 harg11 arg12 harg12 arg13 harg13 v45 X2 X3 X4 X5 X6 X13 k h1 h2).2.1 f8 f9 f10 f11 f12)) (arg10.view.writes (Elt F) f10 ((tripOdd (F := F) 𝒱 c bd i arg2 harg2 arg3 harg3 arg4 harg4 arg5 harg5 arg6 harg6 arg7 harg7 arg8 harg8 arg9 harg9 arg10 harg10 arg11 harg11 arg12 harg12 arg13 harg13 v45 X2 X3 X4 X5 X6 X13 k h1 h2).2.2.1 f8 f9 f10 f11 f12)) := by
  obtain ⟨hm, hs⟩ := loopsOdd 𝒱 c bd i arg2 harg2 arg3 harg3 arg4 harg4 arg5 harg5 arg6 harg6 arg7 harg7 arg8 harg8 arg9 harg9 arg10 harg10 arg11 harg11 arg12 harg12 arg13 harg13 X2 X3 X4 X6 X13 v45 k h2 f9 f10 hf
  -- the first head
  have m0 : tripOdd.sl.v281 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10 = ((headOf arg2 arg3 arg4 arg6 arg13 X2 X3 X4 X6 X13 v45 k.val) 0).M k.val := hs.m 0
  have x0 : tripOdd.sl.v283 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10 = ((headOf arg2 arg3 arg4 arg6 arg13 X2 X3 X4 X6 X13 v45 k.val) 0).diag k.val := (load_skip _ _ 1 _ _ _ _ (by decide)).trans (hm.mx 0)
  have t0 : tripOdd.sl.v286 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10 = ((headOf arg2 arg3 arg4 arg6 arg13 X2 X3 X4 X6 X13 v45 k.val) 0).top k.val := (load_skip _ _ 1 _ _ _ _ (by decide)).trans (hm.top 0)
  have b0 : tripOdd.sl.v292 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10 = ((headOf arg2 arg3 arg4 arg6 arg13 X2 X3 X4 X6 X13 v45 k.val) 0).bottom k.val := (load_skip _ _ 1 _ _ _ _ (by decide)).trans (hm.bottom 0)
  have a0 : tripOdd.sl.v301 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10 = ((headOf arg2 arg3 arg4 arg6 arg13 X2 X3 X4 X6 X13 v45 k.val) 0).A k.val := hs.acc 0
  have lo0 := low_of ((headOf arg2 arg3 arg4 arg6 arg13 X2 X3 X4 X6 X13 v45 k.val) 0) k.val (cols_of (k0_off81_inb k h2) (off81 k)) m0 x0 t0 a0
  have hi0 := high_of ((headOf arg2 arg3 arg4 arg6 arg13 X2 X3 X4 X6 X13 v45 k.val) 0) k.val (cols_of (k0_off81_inb k h2) (off81 k)) m0 x0 t0 b0 a0
  -- the second head
  have m1 : tripOdd.sl.v355 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10 = ((headOf arg2 arg3 arg4 arg6 arg13 X2 X3 X4 X6 X13 v45 k.val) 1).M k.val := (load_skip _ _ 0 _ _ _ _ (by decide)).trans (hs.m 1)
  have x1 : tripOdd.sl.v357 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10 = ((headOf arg2 arg3 arg4 arg6 arg13 X2 X3 X4 X6 X13 v45 k.val) 1).diag k.val := (load_skip _ _ 1 _ _ _ _ (by decide)).trans ((load_skip _ _ 1 _ _ _ _ (by decide)).trans (hm.mx 1))
  have t1 : tripOdd.sl.v360 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10 = ((headOf arg2 arg3 arg4 arg6 arg13 X2 X3 X4 X6 X13 v45 k.val) 1).top k.val := (load_skip _ _ 1 _ _ _ _ (by decide)).trans ((load_skip _ _ 1 _ _ _ _ (by decide)).trans (hm.top 1))
  have b1 : tripOdd.sl.v366 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10 = ((headOf arg2 arg3 arg4 arg6 arg13 X2 X3 X4 X6 X13 v45 k.val) 1).bottom k.val := (load_skip _ _ 1 _ _ _ _ (by decide)).trans ((load_skip _ _ 1 _ _ _ _ (by decide)).trans (hm.bottom 1))
  have a1 : tripOdd.sl.v375 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10 = ((headOf arg2 arg3 arg4 arg6 arg13 X2 X3 X4 X6 X13 v45 k.val) 1).A k.val := (load_skip _ _ 0 _ _ _ _ (by decide)).trans ((load_skip _ _ 0 _ _ _ _ (by decide)).trans (hs.acc 1))
  have lo1 := low_of ((headOf arg2 arg3 arg4 arg6 arg13 X2 X3 X4 X6 X13 v45 k.val) 1) k.val (cols_of (k0_off83_inb k h2) (off83 k)) m1 x1 t1 a1
  have hi1 := high_of ((headOf arg2 arg3 arg4 arg6 arg13 X2 X3 X4 X6 X13 v45 k.val) 1) k.val (cols_of (k0_off83_inb k h2) (off83 k)) m1 x1 t1 b1 a1
  -- the sums as the division loads them
  have s0 := read_sums ((headOf arg2 arg3 arg4 arg6 arg13 X2 X3 X4 X6 X13 v45 k.val) 0) k.val arg12.view (View.junk (Val := Elt F) arg12.view) 0 inb_S2x144x512_S1x128x512_0_0_0 inb_S2x144x512_S1x144x256_0_0_256 inb_S2x144x512_S1x144x256_0_0_0 hi0 lo0 (tripOdd.sl.H12_1_1 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10).tail
  have l0 := read_total ((headOf arg2 arg3 arg4 arg6 arg13 X2 X3 X4 X6 X13 v45 k.val) 0) k.val arg12.view (View.junk (Val := Elt F) arg12.view) 0 inb_S2x144x512_S1x1x512_0_128_0 inb_S2x144x512_S1x144x256_0_0_256 inb_S2x144x512_S1x144x256_0_0_0 hi0 lo0 (tripOdd.sl.H12_1_1 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10).tail
  have s1 := read_sums ((headOf arg2 arg3 arg4 arg6 arg13 X2 X3 X4 X6 X13 v45 k.val) 1) k.val arg12.view (View.junk (Val := Elt F) arg12.view) 1 inb_S2x144x512_S1x128x512_1_0_0 inb_S2x144x512_S1x144x256_1_0_256 inb_S2x144x512_S1x144x256_1_0_0 hi1 lo1 (tripOdd.sl.H12_2 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10)
  have l1 := read_total ((headOf arg2 arg3 arg4 arg6 arg13 X2 X3 X4 X6 X13 v45 k.val) 1) k.val arg12.view (View.junk (Val := Elt F) arg12.view) 1 inb_S2x144x512_S1x1x512_1_128_0 inb_S2x144x512_S1x144x256_1_0_256 inb_S2x144x512_S1x144x256_1_0_0 hi1 lo1 (tripOdd.sl.H12_2 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10)
  have s0' : tripOdd.sl.v396 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10 = _ := (load_skip _ _ 0 _ _ _ _ (by decide)).trans ((load_skip _ _ 0 _ _ _ _ (by decide)).trans s0)
  have l0' : tripOdd.sl.v398 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10 = _ := (load_skip _ _ 0 _ _ _ _ (by decide)).trans ((load_skip _ _ 0 _ _ _ _ (by decide)).trans l0)
  have s1' : tripOdd.sl.v402 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10 = _ := s1
  have l1' : tripOdd.sl.v404 (F := F) 𝒱 c bd i arg2 harg2 arg3 harg3 arg4 harg4 arg5 harg5 arg6 harg6 arg7 harg7 arg8 harg8 arg9 harg9 arg10 harg10 arg11 harg11 arg12 harg12 arg13 harg13 v45 X2 X3 X4 X6 X13 k h2 f9 f10 = _ := l1
  have o0 := out_of ((headOf arg2 arg3 arg4 arg6 arg13 X2 X3 X4 X6 X13 v45 k.val) 0) k.val s0' l0' (gate_of (v := arg5.view) (X := X5) (k0_off84_inb k h2) (off84 k))
  have o1 := out_of ((headOf arg2 arg3 arg4 arg6 arg13 X2 X3 X4 X6 X13 v45 k.val) 1) k.val s1' l1' (gate_of (v := arg5.view) (X := X5) (k0_off85_inb k h2) (off85 k))
  have qn0 := headq_of (a := arrOf arg2 arg3 arg4 arg6 arg13 X2 X3 X4 X6 X13 v45) (g := 0) (cols_of (k0_off79_inb k h2) (off79 k)) (colBias_of (k0_off80_inb k h2) (off80 k))
  have qn1 := headq_of (a := arrOf arg2 arg3 arg4 arg6 arg13 X2 X3 X4 X6 X13 v45) (g := 1) (cols_of (k0_off82_inb k h2) (off82 k)) (colBias_of (k0_off80_inb k h2) (off80 k))
  unfold tripOdd
  refine ⟨?_, ?_, ?_⟩
  · have p0 := piece_eq (off84 k) (k0_off84_inb k h2) (inb_out k 0) o0
    have p1 := piece_eq (off85 k) (k0_off85_inb k h2) (inb_out k 1) o1
    exact congrArg₂ List.cons p1 (congrArg₂ List.cons p0 rfl)
  · intro g
    fin_cases g
    · refine (load_skip _ _ 0 _ _ _ _ (by decide)).trans ((load_same _ _ _ _ _ _).trans ?_)
      have e := S_of' ((headOf arg2 arg3 arg4 arg6 arg13 X2 X3 X4 X6 X13 v45 (min (k.val + 1) 7)) 0) 0 qn0 (keys_of inb_S1x4096x256_S1x512x128_0_0_0 (show _ = ![0, 512 * 0, 128 * (0 : Fin 2).val] from rfl)) (bias_of inb_S4096x256_S512x128_0_0 (show _ = ![512 * 0, 128 * (0 : Fin 2).val] from rfl))
      exact e
    · refine (load_same _ _ _ _ _ _).trans ?_
      have e := S_of' ((headOf arg2 arg3 arg4 arg6 arg13 X2 X3 X4 X6 X13 v45 (min (k.val + 1) 7)) 1) 0 qn1 (keys_of inb_S1x4096x256_S1x512x128_0_0_128 (show _ = ![0, 512 * 0, 128 * (1 : Fin 2).val] from rfl)) (bias_of inb_S4096x256_S512x128_0_128 (show _ = ![512 * 0, 128 * (1 : Fin 2).val] from rfl))
      exact e
  · intro g
    fin_cases g
    · refine (load_skip _ _ 0 _ _ _ _ (by decide)).trans ((load_same _ _ _ _ _ _).trans ?_)
      have e := X_of' ((headOf arg2 arg3 arg4 arg6 arg13 X2 X3 X4 X6 X13 v45 (min (k.val + 1) 7)) 0) 0 qn0 (keys_of inb_S1x4096x256_S1x512x128_0_0_0 (show _ = ![0, 512 * 0, 128 * (0 : Fin 2).val] from rfl)) (bias_of inb_S4096x256_S512x128_0_0 (show _ = ![512 * 0, 128 * (0 : Fin 2).val] from rfl))
      exact e
    · refine (load_same _ _ _ _ _ _).trans ?_
      have e := X_of' ((headOf arg2 arg3 arg4 arg6 arg13 X2 X3 X4 X6 X13 v45 (min (k.val + 1) 7)) 1) 0 qn1 (keys_of inb_S1x4096x256_S1x512x128_0_0_128 (show _ = ![0, 512 * 0, 128 * (1 : Fin 2).val] from rfl)) (bias_of inb_S4096x256_S512x128_0_128 (show _ = ![512 * 0, 128 * (1 : Fin 2).val] from rfl))
      exact e

end Cert.Fox
-- ==== Proof.FoxBody.lean ====
/-
  The query tiles of a grid point one after another, and what the point leaves in the result's block.
-/
module

public import proofs.«01_k».proof.Proof.FoxTile

@[expose] public section

set_option maxRecDepth 65536
set_option maxHeartbeats 0

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F] [Named F]

local notation "𝕄G" => MT nD τ sig Unit (Elt F) ℕ (UR sig nD τ) ℕ

variable (𝒱 : Variants) (c : Dev nD) (bd : Option 𝒱.V) (i : grid0.Coords)
  (arg2 : Memref sig .tc .vmem S1x256x4096 .bf16) (harg2 : arg2.IsWhole) (arg3 : Memref sig .tc .vmem S1x4096x256 .bf16) (harg3 : arg3.IsWhole) (arg4 : Memref sig .tc .vmem S1x256x4096 .bf16) (harg4 : arg4.IsWhole) (arg5 : Memref sig .tc .vmem S1x4096x256 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x256 .bf16) (harg8 : arg8.IsWhole) (arg9 : Memref sig .tc .vmem S2x3x512x512 .f32) (harg9 : arg9.IsWhole) (arg10 : Memref sig .tc .vmem S2x3x1x512 .f32) (harg10 : arg10.IsWhole) (arg11 : Memref sig .tc .vmem S2x1x512 .f32) (harg11 : arg11.IsWhole) (arg12 : Memref sig .tc .vmem S2x144x512 .f32) (harg12 : arg12.IsWhole) (arg13 : Memref sig .tc .vmem S4096x256 .bf16) (harg13 : arg13.IsWhole)
  (X2 : BufTy.Contents (Elt F) arg2.view.ty) (X3 : BufTy.Contents (Elt F) arg3.view.ty)
  (X4 : BufTy.Contents (Elt F) arg4.view.ty) (X5 : BufTy.Contents (Elt F) arg5.view.ty) (X6 : BufTy.Contents (Elt F) arg6.view.ty)
  (X7 : BufTy.Contents (Elt F) arg7.view.ty) (G8 : BufTy.Contents (Elt F) arg8.view.ty)
  (X13 : BufTy.Contents (Elt F) arg13.view.ty) (v45 : FVec F S16x512 .bf16)

/-- What the first `n` query tiles store. -/
def storedTo : ℕ → List (View.Piece (Elt F) S1x4096x256 .bf16)
  | 0 => []
  | n + 1 => if h : n < k0_t1_loop.trips then
      stored arg2 arg3 arg4 arg5 arg6 arg13 X2 X3 X4 X6 X13 v45 X5 ⟨n, h⟩ ++ storedTo n else storedTo n

/-- Before query tile `n`: the tiles before it stored, and the scores it starts from in scratch. -/
def Before (n : ℕ) : sProp 𝕄G :=
  iprop(∃ (f9 : BufTy.Contents (Elt F) arg9.view.ty) (f10 : BufTy.Contents (Elt F) arg10.view.ty)
      (f11 : BufTy.Contents (Elt F) arg11.view.ty) (f12 : BufTy.Contents (Elt F) arg12.view.ty),
    ⌜n < 8 → Found arg2 arg3 arg4 arg6 arg9 arg10 arg13 X2 X3 X4 X6 X13 v45 n f9 f10⌝
      ∗ Held (F := F) c arg2 arg3 arg4 arg5 arg6 arg8 arg9 arg10 arg11 arg12 arg13 X2 X3 X4 X5 X6 X13
        (arg8.view.writes (Elt F) G8 (storedTo arg2 arg3 arg4 arg5 arg6 arg13 X2 X3 X4 X5 X6 X13 v45 n)) f9 f10 f11 f12)

theorem found_next {k : Fin k0_t1_loop.trips} {f9 : BufTy.Contents (Elt F) arg9.view.ty} {f10 : BufTy.Contents (Elt F) arg10.view.ty}
    (h : Scored arg9.view arg10.view (headOf arg2 arg3 arg4 arg6 arg13 X2 X3 X4 X6 X13 v45 (min (k.val + 1) 7)) 0 0 f9 f10) :
    k.val + 1 < 8 → Found arg2 arg3 arg4 arg6 arg9 arg10 arg13 X2 X3 X4 X6 X13 v45 (k.val + 1) f9 f10 := fun hk =>
  ⟨fun h0 => absurd h0 (by omega), fun _ => by rwa [show min (k.val + 1) 7 = k.val + 1 by omega] at h⟩

theorem storedTo_succ (k : Fin k0_t1_loop.trips) :
    storedTo arg2 arg3 arg4 arg5 arg6 arg13 X2 X3 X4 X5 X6 X13 v45 (k.val + 1)
      = stored arg2 arg3 arg4 arg5 arg6 arg13 X2 X3 X4 X6 X13 v45 X5 k ++ storedTo arg2 arg3 arg4 arg5 arg6 arg13 X2 X3 X4 X5 X6 X13 v45 k.val := by
  rw [storedTo, dif_pos k.isLt]

/-- One query tile. -/
theorem tile_step (E : Set ℕ) (k : Fin k0_t1_loop.trips) :
    Before c arg2 arg3 arg4 arg5 arg6 arg8 arg9 arg10 arg11 arg12 arg13 X2 X3 X4 X5 X6 G8 X13 v45 k.val
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 v45 k PUnit.unit)
          (fun _ => Before c arg2 arg3 arg4 arg5 arg6 arg8 arg9 arg10 arg11 arg12 arg13 X2 X3 X4 X5 X6 G8 X13 v45 (k.val + 1)) := by
  have hk8 : k.val < 8 := k.isLt
  have key : ∀ (f9 : BufTy.Contents (Elt F) arg9.view.ty) (f10 : BufTy.Contents (Elt F) arg10.view.ty)
      (f11 : BufTy.Contents (Elt F) arg11.view.ty) (f12 : BufTy.Contents (Elt F) arg12.view.ty),
      Found arg2 arg3 arg4 arg6 arg9 arg10 arg13 X2 X3 X4 X6 X13 v45 k.val f9 f10 →
      (Held (F := F) c arg2 arg3 arg4 arg5 arg6 arg8 arg9 arg10 arg11 arg12 arg13 X2 X3 X4 X5 X6 X13
        (arg8.view.writes (Elt F) G8 (storedTo arg2 arg3 arg4 arg5 arg6 arg13 X2 X3 X4 X5 X6 X13 v45 k.val)) f9 f10 f11 f12
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 v45 k PUnit.unit)
          (fun _ => Before c arg2 arg3 arg4 arg5 arg6 arg8 arg9 arg10 arg11 arg12 arg13 X2 X3 X4 X5 X6 G8 X13 v45 (k.val + 1))) := by
    intro f9 f10 f11 f12 hf
    by_cases hp : k.val % 2 = 0
    · have h1 : k0_cond1 k = 1#1 := (even_iff k).mpr hp
      have h2 : ¬ k0_cond2 k = 1#1 := fun h => by have := (odd_iff k).mp h; omega
      have e := tileEven_eq 𝒱 c bd i arg2 harg2 arg3 harg3 arg4 harg4 arg5 harg5 arg6 harg6 arg7 harg7 arg8 harg8 arg9 harg9 arg10 harg10 arg11 harg11 arg12 harg12 arg13 harg13 X2 X3 X4 X6 X13 v45 X5 k h1 h2
        (arg8.view.writes (Elt F) G8 (storedTo arg2 arg3 arg4 arg5 arg6 arg13 X2 X3 X4 X5 X6 X13 v45 k.val)) f9 f10 f11 f12 hf
      refine ((tripEven (F := F) 𝒱 c bd i arg2 harg2 arg3 harg3 arg4 harg4 arg5 harg5 arg6 harg6 arg7 harg7 arg8 harg8 arg9 harg9 arg10 harg10 arg11 harg11 arg12 harg12 arg13 harg13 v45 X2 X3 X4 X5 X6 X13 k h1 h2).2.2.2.2.2 E _ f9 f10 f11 f12).trans (wp_mono _ _ _ fun _ => ?_)
      rw [e.1, ← View.writes_append, ← storedTo_succ]
      unfold Before
      iintro H
      iexists _, _, _, _
      isplitr
      · ipureintro; exact found_next arg2 arg3 arg4 arg6 arg9 arg10 arg13 X2 X3 X4 X6 X13 v45 e.2
      · iexact H
    · have h1 : ¬ k0_cond1 k = 1#1 := fun h => hp ((even_iff k).mp h)
      have h2 : k0_cond2 k = 1#1 := (odd_iff k).mpr (by omega)
      have e := tileOdd_eq 𝒱 c bd i arg2 harg2 arg3 harg3 arg4 harg4 arg5 harg5 arg6 harg6 arg7 harg7 arg8 harg8 arg9 harg9 arg10 harg10 arg11 harg11 arg12 harg12 arg13 harg13 X2 X3 X4 X6 X13 v45 X5 k h1 h2
        (arg8.view.writes (Elt F) G8 (storedTo arg2 arg3 arg4 arg5 arg6 arg13 X2 X3 X4 X5 X6 X13 v45 k.val)) f9 f10 f11 f12 hf
      refine ((tripOdd (F := F) 𝒱 c bd i arg2 harg2 arg3 harg3 arg4 harg4 arg5 harg5 arg6 harg6 arg7 harg7 arg8 harg8 arg9 harg9 arg10 harg10 arg11 harg11 arg12 harg12 arg13 harg13 v45 X2 X3 X4 X5 X6 X13 k h1 h2).2.2.2.2.2 E _ f9 f10 f11 f12).trans (wp_mono _ _ _ fun _ => ?_)
      rw [e.1, ← View.writes_append, ← storedTo_succ]
      unfold Before
      iintro H
      iexists _, _, _, _
      isplitr
      · ipureintro; exact found_next arg2 arg3 arg4 arg6 arg9 arg10 arg13 X2 X3 X4 X6 X13 v45 e.2
      · iexact H
  unfold Before
  iintro ⟨%f9, %f10, %f11, %f12, %hf, H⟩
  unfold Before at key
  iapply (key f9 f10 f11 f12 (hf hk8))
  iexact H

end Cert.Fox
-- ==== Proof.FoxStart.lean ====
/-
  A grid point of the forgetting attention from its start: the key biases of its two heads, the scores of the first
  query tile, and the query tiles one after another.
-/
module

public import proofs.«01_k».proof.Proof.FoxBody

@[expose] public section

set_option maxRecDepth 65536
set_option maxHeartbeats 0

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen

variable {F : FTy → Type} [FloatOps F] [Named F]

local notation "𝕄G" => MT nD τ sig Unit (Elt F) ℕ (UR sig nD τ) ℕ

/-! ### The key biases of the two heads -/

/-- The key biases of the grid point's two heads side by side. -/
def kbBlock (i : grid0.Coords) (kb : FVec F S1x4096x128 .bf16) : FVec F S4096x256 .bf16 := fun y =>
  if h : (y 1).val < 128 then k0_pay260 i kb (ix2 (y 0) ⟨(y 1).val, h⟩)
  else k0_pay262 (k0_pay258 kb) (k0_pay261 i) (ix2 (y 0) ⟨(y 1).val - 128, by
    have h1 : (y 1).val < 256 := (y 1).isLt
    omega⟩)

theorem box_whole (X : FVec F S1x4096x128 .bf16) : box (s := S1x4096x128) ![0, 0, 0] S1x4096x128.size X = X := by
  unfold box
  rw [dif_pos (by decide)]
  funext x
  refine congrArg X (funext fun a => Fin.ext ?_)
  fin_cases a
  · show 0 + 1 * (x 0).val = (x 0).val
    omega
  · show 0 + 1 * (x 1).val = (x 1).val
    omega
  · show 0 + 1 * (x 2).val = (x 2).val
    omega

/-- What the two stores leave in the scratch of key biases. -/
theorem read_kb (v : View sig .tc .vmem S4096x256 .bf16) (f : v.ty.Contents (Elt F)) (v7 : View sig .tc .vmem S1x4096x128 .bf16)
    (X7 : v7.ty.Contents (Elt F)) (i : grid0.Coords) {kb kb' : FVec F S1x4096x128 .bf16}
    (hkb : kb = box (s := S1x4096x128) ![0, 0, 0] S1x4096x128.size (v7.read (Elt F) X7)) (hkb' : kb' = kb)
    (i0 : ∀ a : Fin 2, (![0, 128] : Fin 2 → ℕ) a + S4096x128.size a ≤ S4096x256.size a)
    (i1 : ∀ a : Fin 2, (![0, 0] : Fin 2 → ℕ) a + S4096x128.size a ≤ S4096x256.size a) :
    v.read (Elt F) (v.writes (Elt F) f [⟨Rect.unit (s := S4096x256) ![0, 128] S4096x128.size i0, k0_pay262 (k0_pay258 kb) (k0_pay261 i)⟩,
      ⟨Rect.unit (s := S4096x256) ![0, 0] S4096x128.size i1, k0_pay260 i kb'⟩]) = kbBlock i (v7.read (Elt F) X7) := by
  rw [box_whole] at hkb
  subst hkb' hkb
  funext y
  have h0 : (y 0).val < 4096 := (y 0).isLt
  have h1 : (y 1).val < 256 := (y 1).isLt
  show _ = if h : (y 1).val < 128 then _ else _
  by_cases hx : (y 1).val < 128
  · rw [dif_pos hx]
    refine (View.read_writes_cons_unit_of_not_mem v f i0 _ _ _ rfl 1 (.inl ?_)).trans
      (View.read_writes_cons_unit_of_mem v f i1 _ _ _ (ix2 (y 0) ⟨(y 1).val, hx⟩) rfl ?_)
    · exact hx
    · intro a
      fin_cases a
      · show (y 0).val = 0 + (y 0).val
        omega
      · show (y 1).val = 0 + (y 1).val
        omega
  · rw [dif_neg hx]
    refine View.read_writes_cons_unit_of_mem v f i0 _ _ _ (ix2 (y 0) ⟨(y 1).val - 128, by omega⟩) rfl ?_
    intro a
    fin_cases a
    · show (y 0).val = 0 + (y 0).val
      omega
    · show (y 1).val = 128 + ((y 1).val - 128)
      omega

/-! ### The scores the first query tile starts from -/

theorem off1 : k0_off1 = ![0, 256 * (2 * 0 + 1), 128 * (0 : Fin 2).val] := by decide +kernel
theorem off2 : k0_off2 = ![256 * (2 * 0 + 1), 128 * (0 : Fin 2).val] := by decide +kernel
theorem off3 : k0_off3 = ![0, 256 * (2 * 0 + 1), 128 * (1 : Fin 2).val] := by decide +kernel
theorem off4 : k0_off4 = ![256 * (2 * 0 + 1), 128 * (1 : Fin 2).val] := by decide +kernel

section First

variable (h : Head F) {q qb : FVec F S1x128x512 .bf16} {kk kk' : FVec F S1x256x128 .bf16} {bb bb' : FVec F S256x128 .bf16}

theorem top_first0 (hq : k0_pay246 q qb = h.q) (hk : kk = h.halfKeys (2 * 0)) (hb : bb = h.halfBias (2 * 0)) :
    k0_pay268 (k0_pay265 q qb kk bb) = h.top 0 := by
  rw [← top_of h 0 hk hb, ← hq]; rfl
theorem bottom_first0 (hq : k0_pay246 q qb = h.q) (hk' : kk' = h.halfKeys (2 * 0 + 1)) (hb' : bb' = h.halfBias (2 * 0 + 1)) :
    k0_pay269 (k0_pay266 q qb kk' bb') = h.bottom 0 := by
  rw [← bottom_of h 0 hk' hb', ← hq]; rfl
theorem diag_first0 (hq : k0_pay246 q qb = h.q) (hk : kk = h.halfKeys (2 * 0)) (hb : bb = h.halfBias (2 * 0))
    (hk' : kk' = h.halfKeys (2 * 0 + 1)) (hb' : bb' = h.halfBias (2 * 0 + 1)) :
    k0_pay270 (k0_pay265 q qb kk bb) (k0_pay266 q qb kk' bb') = h.diag 0 := by
  rw [← diag_of h 0 hk hb hk' hb', ← hq]; rfl
theorem top_first1 (hq : k0_pay246 q qb = h.q) (hk : kk = h.halfKeys (2 * 0)) (hb : bb = h.halfBias (2 * 0)) :
    k0_pay275 (k0_pay271 q qb) kk bb = h.top 0 := by
  rw [← top_of h 0 hk hb, ← hq]; rfl
theorem bottom_first1 (hq : k0_pay246 q qb = h.q) (hk' : kk' = h.halfKeys (2 * 0 + 1)) (hb' : bb' = h.halfBias (2 * 0 + 1)) :
    k0_pay276 (k0_pay272 q qb) kk' bb' = h.bottom 0 := by
  rw [← bottom_of h 0 hk' hb', ← hq]; rfl
theorem diag_first1 (hq : k0_pay246 q qb = h.q) (hk : kk = h.halfKeys (2 * 0)) (hb : bb = h.halfBias (2 * 0))
    (hk' : kk' = h.halfKeys (2 * 0 + 1)) (hb' : bb' = h.halfBias (2 * 0 + 1)) :
    k0_pay1 (k0_pay278 (k0_pay271 q qb) (k0_pay272 q qb) kk bb kk' bb') (k0_pay279 (k0_pay271 q qb) kk bb) = h.diag 0 := by
  rw [← diag_of h 0 hk hb hk' hb', ← hq]; rfl

end First

theorem masked_first (v9 : View sig .tc .vmem S2x3x512x512 .f32) (v10 : View sig .tc .vmem S2x3x1x512 .f32)
    (f9 : v9.ty.Contents (Elt F)) (f10 : v10.ty.Contents (Elt F)) (h : Fin 2 → Head F)
    {t0 t1 : FVec F S1x1x256x512 .f32} {b0 b1 : FVec F S1x1x256x256 .f32} {d0 d1 : FVec F S1x1x1x512 .f32}
    (ht0 : t0 = (h 0).top 0) (ht1 : t1 = (h 1).top 0) (hb0 : b0 = (h 0).bottom 0) (hb1 : b1 = (h 1).bottom 0)
    (hd0 : d0 = (h 0).diag 0) (hd1 : d1 = (h 1).diag 0)
    (ib1 : ∀ a : Fin 4, (![1, 2, 256, 256] : Fin 4 → ℕ) a + S1x1x256x256.size a ≤ S2x3x512x512.size a)
    (it1 : ∀ a : Fin 4, (![1, 2, 0, 0] : Fin 4 → ℕ) a + S1x1x256x512.size a ≤ S2x3x512x512.size a)
    (ib0 : ∀ a : Fin 4, (![0, 2, 256, 256] : Fin 4 → ℕ) a + S1x1x256x256.size a ≤ S2x3x512x512.size a)
    (it0 : ∀ a : Fin 4, (![0, 2, 0, 0] : Fin 4 → ℕ) a + S1x1x256x512.size a ≤ S2x3x512x512.size a)
    (id1 : ∀ a : Fin 4, (![1, 2, 0, 0] : Fin 4 → ℕ) a + S1x1x1x512.size a ≤ S2x3x1x512.size a)
    (id0 : ∀ a : Fin 4, (![0, 2, 0, 0] : Fin 4 → ℕ) a + S1x1x1x512.size a ≤ S2x3x1x512.size a) :
    Masked v9 v10 h 0
      (v9.writes (Elt F) f9 [⟨Rect.unit (s := S2x3x512x512) ![1, 2, 256, 256] S1x1x256x256.size ib1, b1⟩,
        ⟨Rect.unit (s := S2x3x512x512) ![1, 2, 0, 0] S1x1x256x512.size it1, t1⟩,
        ⟨Rect.unit (s := S2x3x512x512) ![0, 2, 256, 256] S1x1x256x256.size ib0, b0⟩,
        ⟨Rect.unit (s := S2x3x512x512) ![0, 2, 0, 0] S1x1x256x512.size it0, t0⟩])
      (v10.writes (Elt F) f10 [⟨Rect.unit (s := S2x3x1x512) ![1, 2, 0, 0] S1x1x1x512.size id1, d1⟩,
        ⟨Rect.unit (s := S2x3x1x512) ![0, 2, 0, 0] S1x1x1x512.size id0, d0⟩]) := by
  refine ⟨Fin.forall_fin_two.mpr ⟨?_, ?_⟩, Fin.forall_fin_two.mpr ⟨?_, ?_⟩, Fin.forall_fin_two.mpr ⟨?_, ?_⟩⟩
  · exact (load_skip _ _ 0 _ _ _ _ (by decide)).trans ((load_skip _ _ 0 _ _ _ _ (by decide)).trans
      ((load_skip _ _ 2 _ _ _ _ (by decide)).trans ((load_same _ _ _ _ _ _).trans ht0)))
  · exact (load_skip _ _ 2 _ _ _ _ (by decide)).trans ((load_same _ _ _ _ _ _).trans ht1)
  · exact (load_skip _ _ 0 _ _ _ _ (by decide)).trans ((load_skip _ _ 0 _ _ _ _ (by decide)).trans
      ((load_same _ _ _ _ _ _).trans hb0))
  · exact (load_same _ _ _ _ _ _).trans hb1
  · exact (load_skip _ _ 0 _ _ _ _ (by decide)).trans ((load_same _ _ _ _ _ _).trans hd0)
  · exact (load_same _ _ _ _ _ _).trans hd1

variable (𝒱 : Variants) (c : Dev nD) (bd : Option 𝒱.V) (i : grid0.Coords)
  (arg2 : Memref sig .tc .vmem S1x256x4096 .bf16) (harg2 : arg2.IsWhole) (arg3 : Memref sig .tc .vmem S1x4096x256 .bf16) (harg3 : arg3.IsWhole) (arg4 : Memref sig .tc .vmem S1x256x4096 .bf16) (harg4 : arg4.IsWhole) (arg5 : Memref sig .tc .vmem S1x4096x256 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x256 .bf16) (harg8 : arg8.IsWhole) (arg9 : Memref sig .tc .vmem S2x3x512x512 .f32) (harg9 : arg9.IsWhole) (arg10 : Memref sig .tc .vmem S2x3x1x512 .f32) (harg10 : arg10.IsWhole) (arg11 : Memref sig .tc .vmem S2x1x512 .f32) (harg11 : arg11.IsWhole) (arg12 : Memref sig .tc .vmem S2x144x512 .f32) (harg12 : arg12.IsWhole) (arg13 : Memref sig .tc .vmem S4096x256 .bf16) (harg13 : arg13.IsWhole)
  (X2 : BufTy.Contents (Elt F) arg2.view.ty) (X3 : BufTy.Contents (Elt F) arg3.view.ty)
  (X4 : BufTy.Contents (Elt F) arg4.view.ty) (X5 : BufTy.Contents (Elt F) arg5.view.ty) (X6 : BufTy.Contents (Elt F) arg6.view.ty)
  (X7 : BufTy.Contents (Elt F) arg7.view.ty) (G8 : BufTy.Contents (Elt F) arg8.view.ty)

/-- What a grid point leaves: the key biases in scratch and the gated results of all query tiles stored. -/
def After : sProp 𝕄G :=
  iprop(∃ X13 : BufTy.Contents (Elt F) arg13.view.ty, ⌜arg13.view.read (Elt F) X13 = kbBlock i (arg7.view.read (Elt F) X7)⌝
    ∗ (arg7.view.loc (c : Thread nD τ) ↦[arg7.view.set]{fullShare} X7) ∗ Before c arg2 arg3 arg4 arg5 arg6 arg8 arg9 arg10 arg11 arg12 arg13 X2 X3 X4 X5 X6 G8 X13 k0_pay263 8)

/-- One grid point. -/
theorem body_run (E : Set ℕ) (f9 : BufTy.Contents (Elt F) arg9.view.ty) (f10 : BufTy.Contents (Elt F) arg10.view.ty)
    (f11 : BufTy.Contents (Elt F) arg11.view.ty) (f12 : BufTy.Contents (Elt F) arg12.view.ty) (f13 : BufTy.Contents (Elt F) arg13.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} G8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))
      ⊢ wp frame (wpE (defs₀ (F := F)) 𝒱 (c : Thread nD τ) bd) E (cc0_fox_attention (F := F) i arg2 harg2 arg3 harg3 arg4 harg4 arg5 harg5 arg6 harg6 arg7 harg7 arg8 harg8 arg9 harg9 arg10 harg10 arg11 harg11 arg12 harg12 arg13 harg13)
        (fun _ => After c i arg2 arg3 arg4 arg5 arg6 arg7 arg8 arg9 arg10 arg11 arg12 arg13 X2 X3 X4 X5 X6 X7 G8) := by
  iintro ⟨H2, H3, H4, H5, H6, H7, H8, H9, H10, H11, H12, H13⟩
  sl_unfold [cc0_fox_attention]
  sl_exec
  sl_for (fun (n : ℕ) (_ : PUnit) => Before (F := F) c arg2 arg3 arg4 arg5 arg6 arg8 arg9 arg10 arg11 arg12 arg13 X2 X3 X4 X5 X6 G8
    (arg13.view.writes (Elt F) (View.junk (Val := Elt F) arg13.view) (body_run.sl.H13_2 (F := F) i arg7 X7)) k0_pay263 n) $$ [H2 H3 H4 H5 H6 H8 H9 H10 H11 H12 H13]
  · intro k acc
    exact tile_step 𝒱 c bd i arg2 harg2 arg3 harg3 arg4 harg4 arg5 harg5 arg6 harg6 arg7 harg7 arg8 harg8 arg9 harg9 arg10 harg10 arg11 harg11 arg12 harg12 arg13 harg13 X2 X3 X4 X5 X6 G8 _ k0_pay263 E k
  · unfold Before
    iexists _, _, _, _
    isplitr
    on_goal 2 =>
      unfold Held
      isplitl [H2]
      · iexact H2
      isplitl [H3]
      · iexact H3
      isplitl [H4]
      · iexact H4
      isplitl [H5]
      · iexact H5
      isplitl [H6]
      · iexact H6
      isplitl [H13]
      · iexact H13
      isplitl [H8]
      · iexact H8
      isplitl [H9]
      · iexact H9
      isplitl [H10]
      · iexact H10
      isplitl [H11]
      · iexact H11
      iexact H12
    · ipureintro
      intro _
      refine ⟨fun _ => ?_, fun h0 => absurd rfl h0⟩
      have hq0 := headq_of (a := arrOf arg2 arg3 arg4 arg6 arg13 X2 X3 X4 X6 (arg13.view.writes (Elt F) (View.junk (Val := Elt F) arg13.view) (body_run.sl.H13_2 (F := F) i arg7 X7)) k0_pay263) (t := 0) (g := 0) (cols_of (v := arg2.view) (X := X2) inb_S1x256x4096_S1x128x512_0_0_0 rfl) (colBias_of (v := arg6.view) (X := X6) inb_S1x128x4096_S1x128x512_0_0_0 rfl)
      have hq1 := headq_of (a := arrOf arg2 arg3 arg4 arg6 arg13 X2 X3 X4 X6 (arg13.view.writes (Elt F) (View.junk (Val := Elt F) arg13.view) (body_run.sl.H13_2 (F := F) i arg7 X7)) k0_pay263) (t := 0) (g := 1) (cols_of (v := arg2.view) (X := X2) inb_S1x256x4096_S1x128x512_0_128_0 rfl) (colBias_of (v := arg6.view) (X := X6) inb_S1x128x4096_S1x128x512_0_0_0 rfl)
      have hk0 := halfKeys_of (v := arg3.view) (X := X3) (off := ![0, 0, 0]) (off' := ![0, 256 * (2 * 0), 128 * (0 : Fin 2).val]) inb_S1x4096x256_S1x256x128_0_0_0 rfl
      have hb0 := halfBias_of (v := arg13.view) (X := arg13.view.writes (Elt F) (View.junk (Val := Elt F) arg13.view) (body_run.sl.H13_2 (F := F) i arg7 X7)) (off := ![0, 0]) (off' := ![256 * (2 * 0), 128 * (0 : Fin 2).val]) inb_S4096x256_S256x128_0_0 rfl
      have hk0' := halfKeys_of (v := arg3.view) (X := X3) k0_off1_inb off1
      have hb0' := halfBias_of (v := arg13.view) (X := arg13.view.writes (Elt F) (View.junk (Val := Elt F) arg13.view) (body_run.sl.H13_2 (F := F) i arg7 X7)) k0_off2_inb off2
      have hk1 := halfKeys_of (v := arg3.view) (X := X3) (off := ![0, 0, 128]) (off' := ![0, 256 * (2 * 0), 128 * (1 : Fin 2).val]) inb_S1x4096x256_S1x256x128_0_0_128 rfl
      have hb1 := halfBias_of (v := arg13.view) (X := arg13.view.writes (Elt F) (View.junk (Val := Elt F) arg13.view) (body_run.sl.H13_2 (F := F) i arg7 X7)) (off := ![0, 128]) (off' := ![256 * (2 * 0), 128 * (1 : Fin 2).val]) inb_S4096x256_S256x128_0_128 rfl
      have hk1' := halfKeys_of (v := arg3.view) (X := X3) k0_off3_inb off3
      have hb1' := halfBias_of (v := arg13.view) (X := arg13.view.writes (Elt F) (View.junk (Val := Elt F) arg13.view) (body_run.sl.H13_2 (F := F) i arg7 X7)) k0_off4_inb off4
      exact masked_first _ _ _ _ _ (top_first0 _ hq0 hk0 hb0) (top_first1 _ hq1 hk1 hb1) (bottom_first0 _ hq0 hk0' hb0')
        (bottom_first1 _ hq1 hk1' hb1') (diag_first0 _ hq0 hk0 hb0 hk0' hb0') (diag_first1 _ hq1 hk1 hb1 hk1' hb1') _ _ _ _ _ _
  · iintro %_ HI
    sl_exec
    sl_step
    unfold After
    iexists (arg13.view.writes (Elt F) (View.junk (Val := Elt F) arg13.view) (body_run.sl.H13_2 (F := F) i arg7 X7))
    isplitr
    · ipureintro
      exact read_kb _ _ arg7.view X7 i (load_box (s := S1x4096x128) (size := S1x4096x128.size) arg7.view X7 inb_S1x4096x128_S1x4096x128_0_0_0 rfl) rfl _ _
    · isplitl [H7]
      · iexact H7
      · iexact HI

end Cert.Fox
-- ==== Proof.FoxFrame.lean ====
/-
  The forgetting attention's launch: what a grid point leaves in the result's block, the run, and that the arguments end
  as they were.
-/
module

public import proofs.«01_k».proof.Proof.FoxStart
public import proofs.«01_k».proof.Proof.Gen.Kernel5Ideal.Launch
public import proofs.«01_k».proof.Proof.Gen.Kernel5Ideal.Frame
public import Idealize.ShloMosaic.Lib.Claim

@[expose] public section

set_option maxRecDepth 65536
set_option maxHeartbeats 0

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds
open Cert.Kernel5Ideal Cert.Kernel5Ideal.Gen

variable {F : FTy → Type} [FloatOps F] [Named F]

local notation "𝕄G" => MT nD τ sig Unit (Elt F) ℕ (UR sig nD τ) ℕ

/-- The result's block: entry `(r, d)` is row `r % 512`, lane `d % 128` of what head `d / 128` gives for query tile `r / 512`. -/
def Blk (a : Arr F) (gate : FVec F S1x4096x256 .bf16) : FVec F S1x4096x256 .bf16 := fun y =>
  (a.head ((y 1).val / 512) ⟨(y 2).val / 128, by have h2 : (y 2).val < 256 := (y 2).isLt; omega⟩).out ((y 1).val / 512)
    (box (s := S1x4096x256) ![0, 512 * ((y 1).val / 512), 128 * ((y 2).val / 128)] S1x512x128.size gate)
    (ix3 0 ⟨(y 1).val % 512, Nat.mod_lt _ (by decide)⟩ ⟨(y 2).val % 128, Nat.mod_lt _ (by decide)⟩)

section Body

variable (𝒱 : Variants) (c : Dev nD) (bd : Option 𝒱.V) (i : grid0.Coords)
  (arg2 : Memref sig .tc .vmem S1x256x4096 .bf16) (harg2 : arg2.IsWhole) (arg3 : Memref sig .tc .vmem S1x4096x256 .bf16) (harg3 : arg3.IsWhole) (arg4 : Memref sig .tc .vmem S1x256x4096 .bf16) (harg4 : arg4.IsWhole) (arg5 : Memref sig .tc .vmem S1x4096x256 .bf16) (harg5 : arg5.IsWhole) (arg6 : Memref sig .tc .vmem S1x128x4096 .bf16) (harg6 : arg6.IsWhole) (arg7 : Memref sig .tc .vmem S1x4096x128 .bf16) (harg7 : arg7.IsWhole) (arg8 : Memref sig .tc .vmem S1x4096x256 .bf16) (harg8 : arg8.IsWhole) (arg9 : Memref sig .tc .vmem S2x3x512x512 .f32) (harg9 : arg9.IsWhole) (arg10 : Memref sig .tc .vmem S2x3x1x512 .f32) (harg10 : arg10.IsWhole) (arg11 : Memref sig .tc .vmem S2x1x512 .f32) (harg11 : arg11.IsWhole) (arg12 : Memref sig .tc .vmem S2x144x512 .f32) (harg12 : arg12.IsWhole) (arg13 : Memref sig .tc .vmem S4096x256 .bf16) (harg13 : arg13.IsWhole)
  (X2 : BufTy.Contents (Elt F) arg2.view.ty) (X3 : BufTy.Contents (Elt F) arg3.view.ty)
  (X4 : BufTy.Contents (Elt F) arg4.view.ty) (X5 : BufTy.Contents (Elt F) arg5.view.ty) (X6 : BufTy.Contents (Elt F) arg6.view.ty)
  (X7 : BufTy.Contents (Elt F) arg7.view.ty) (G8 : BufTy.Contents (Elt F) arg8.view.ty)
  (X13 : BufTy.Contents (Elt F) arg13.view.ty) (v45 : FVec F S16x512 .bf16)

/-- The rows the first `n` query tiles store read as the block. -/
theorem read_stored (n : ℕ) (hn : n ≤ 8) (y : S1x4096x256.Idx) (hy : (y 1).val < 512 * n) :
    arg8.view.read (Elt F) (arg8.view.writes (Elt F) G8 (storedTo arg2 arg3 arg4 arg5 arg6 arg13 X2 X3 X4 X5 X6 X13 v45 n)) y
      = Blk (arrOf arg2 arg3 arg4 arg6 arg13 X2 X3 X4 X6 X13 v45) (arg5.view.read (Elt F) X5) y := by
  induction n with
  | zero => exact absurd hy (by omega)
  | succ n ih =>
    have hk : n < k0_t1_loop.trips := (show n < 8 by omega)
    have h0 : (y 0).val < 1 := (y 0).isLt
    have h2 : (y 2).val < 256 := (y 2).isLt
    rw [storedTo_succ arg2 arg3 arg4 arg5 arg6 arg13 X2 X3 X4 X5 X6 X13 v45 ⟨n, hk⟩]
    unfold stored
    rw [List.cons_append, List.cons_append, List.nil_append]
    by_cases hr : (y 1).val < 512 * n
    · rw [← ih (by omega) hr]
      refine (View.read_writes_cons_unit_of_not_mem arg8.view G8 _ _ _ _ rfl 1 (.inl ?_)).trans
        (View.read_writes_cons_unit_of_not_mem arg8.view G8 _ _ _ _ rfl 1 (.inl ?_))
      · exact hr
      · exact hr
    · have hd : (y 1).val / 512 = n := by omega
      have hm : (y 1).val % 512 = (y 1).val - 512 * n := by omega
      unfold Blk
      by_cases hc : (y 2).val < 128
      · have hg : (y 2).val / 128 = 0 := by omega
        have hl : (y 2).val % 128 = (y 2).val := by omega
        have e : (⟨(y 2).val / 128, by omega⟩ : Fin 2) = 0 := Fin.ext hg
        simp only [hd, hm, hl, e, hg]
        refine (View.read_writes_cons_unit_of_not_mem arg8.view G8 _ _ _ _ rfl 2 (.inl ?_)).trans
          (View.read_writes_cons_unit_of_mem arg8.view G8 _ _ _ _ (ix3 0 ⟨(y 1).val - 512 * n, by omega⟩ ⟨(y 2).val, hc⟩) rfl ?_)
        · exact hc
        · intro b
          fin_cases b
          · show (y 0).val = 0 + 0
            omega
          · show (y 1).val = 512 * n + ((y 1).val - 512 * n)
            omega
          · show (y 2).val = 0 + (y 2).val
            omega
      · have hg : (y 2).val / 128 = 1 := by omega
        have hl : (y 2).val % 128 = (y 2).val - 128 := by omega
        have e : (⟨(y 2).val / 128, by omega⟩ : Fin 2) = 1 := Fin.ext hg
        simp only [hd, hm, hl, e, hg]
        refine View.read_writes_cons_unit_of_mem arg8.view G8 _ _ _ _ (ix3 0 ⟨(y 1).val - 512 * n, by omega⟩ ⟨(y 2).val - 128, by omega⟩) rfl ?_
        intro b
        fin_cases b
        · show (y 0).val = 0 + 0
          omega
        · show (y 1).val = 512 * n + ((y 1).val - 512 * n)
          omega
        · show (y 2).val = 128 + ((y 2).val - 128)
          omega

/-- One grid point, on buffers known by what they read. -/
theorem body_owns (E : Set ℕ) (x2 : Vec F S1x256x4096 .bf16) (x3 : Vec F S1x4096x256 .bf16) (x4 : Vec F S1x256x4096 .bf16) (x5 : Vec F S1x4096x256 .bf16) (x6 : Vec F S1x128x4096 .bf16) (x7 : Vec F S1x4096x128 .bf16) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) : sProp 𝕄G)
      ⊢ wp frame (wpE (defs₀ (F := F)) 𝒱 (c : Thread nD τ) bd) E (cc0_fox_attention (F := F) i arg2 harg2 arg3 harg3 arg4 harg4 arg5 harg5 arg6 harg6 arg7 harg7 arg8 harg8 arg9 harg9 arg10 harg10 arg11 harg11 arg12 harg12 arg13 harg13)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (Blk ⟨x2, x3, x4, x6, kbBlock i x7, k0_pay263⟩ x5) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))) := by
  have key : ∀ (X2 : BufTy.Contents (Elt F) arg2.view.ty) (X3 : BufTy.Contents (Elt F) arg3.view.ty)
      (X4 : BufTy.Contents (Elt F) arg4.view.ty) (X5 : BufTy.Contents (Elt F) arg5.view.ty) (X6 : BufTy.Contents (Elt F) arg6.view.ty)
      (X7 : BufTy.Contents (Elt F) arg7.view.ty) (G8 : BufTy.Contents (Elt F) arg8.view.ty)
      (f9 : BufTy.Contents (Elt F) arg9.view.ty) (f10 : BufTy.Contents (Elt F) arg10.view.ty)
      (f11 : BufTy.Contents (Elt F) arg11.view.ty) (f12 : BufTy.Contents (Elt F) arg12.view.ty) (f13 : BufTy.Contents (Elt F) arg13.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} G8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
      ⊢ wp frame (wpE (defs₀ (F := F)) 𝒱 (c : Thread nD τ) bd) E (cc0_fox_attention (F := F) i arg2 harg2 arg3 harg3 arg4 harg4 arg5 harg5 arg6 harg6 arg7 harg7 arg8 harg8 arg9 harg9 arg10 harg10 arg11 harg11 arg12 harg12 arg13 harg13)
        (fun _ => iprop(owns (c : Thread nD τ) arg2 fullShare (arg2.view.read (Elt F) X2) ∗ owns (c : Thread nD τ) arg3 fullShare (arg3.view.read (Elt F) X3) ∗ owns (c : Thread nD τ) arg4 fullShare (arg4.view.read (Elt F) X4) ∗ owns (c : Thread nD τ) arg5 fullShare (arg5.view.read (Elt F) X5) ∗ owns (c : Thread nD τ) arg6 fullShare (arg6.view.read (Elt F) X6) ∗ owns (c : Thread nD τ) arg7 fullShare (arg7.view.read (Elt F) X7) ∗ owns (c : Thread nD τ) arg8 fullShare (Blk ⟨(arg2.view.read (Elt F) X2), (arg3.view.read (Elt F) X3), (arg4.view.read (Elt F) X4), (arg6.view.read (Elt F) X6), kbBlock i (arg7.view.read (Elt F) X7), k0_pay263⟩ (arg5.view.read (Elt F) X5)) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))) := by
    intro X2 X3 X4 X5 X6 X7 G8 f9 f10 f11 f12 f13
    refine (body_run 𝒱 c bd i arg2 harg2 arg3 harg3 arg4 harg4 arg5 harg5 arg6 harg6 arg7 harg7 arg8 harg8 arg9 harg9 arg10 harg10 arg11 harg11 arg12 harg12 arg13 harg13 X2 X3 X4 X5 X6 X7 G8 E f9 f10 f11 f12 f13).trans (wp_mono _ _ _ fun _ => ?_)
    unfold After Before Held
    iintro ⟨%Y13, %hk, H7, %f9, %f10, %f11, %f12, %_, H2, H3, H4, H5, H6, H13, H8, H9, H10, H11, H12⟩
    have hread : arg8.view.read (Elt F) (arg8.view.writes (Elt F) G8 (storedTo arg2 arg3 arg4 arg5 arg6 arg13 X2 X3 X4 X5 X6 Y13 k0_pay263 8))
        = Blk ⟨arg2.view.read (Elt F) X2, arg3.view.read (Elt F) X3, arg4.view.read (Elt F) X4, arg6.view.read (Elt F) X6, kbBlock i (arg7.view.read (Elt F) X7), k0_pay263⟩ (arg5.view.read (Elt F) X5) := by
      rw [← hk]
      exact funext fun y => read_stored arg2 arg3 arg4 arg5 arg6 arg8 arg13 X2 X3 X4 X5 X6 G8 Y13 k0_pay263 8 le_rfl y (y 1).isLt
    isplitl [H2]; · iapply (owns_intro (c : Thread nD τ) arg2 fullShare X2); iexact H2
    isplitl [H3]; · iapply (owns_intro (c : Thread nD τ) arg3 fullShare X3); iexact H3
    isplitl [H4]; · iapply (owns_intro (c : Thread nD τ) arg4 fullShare X4); iexact H4
    isplitl [H5]; · iapply (owns_intro (c : Thread nD τ) arg5 fullShare X5); iexact H5
    isplitl [H6]; · iapply (owns_intro (c : Thread nD τ) arg6 fullShare X6); iexact H6
    isplitl [H7]; · iapply (owns_intro (c : Thread nD τ) arg7 fullShare X7); iexact H7
    isplitl [H8]
    · rw [← hread]
      iapply (owns_intro (c : Thread nD τ) arg8 fullShare _); iexact H8
    isplitl [H9]; · iexists _; iapply (owns_intro (c : Thread nD τ) arg9 fullShare f9); iexact H9
    isplitl [H10]; · iexists _; iapply (owns_intro (c : Thread nD τ) arg10 fullShare f10); iexact H10
    isplitl [H11]; · iexists _; iapply (owns_intro (c : Thread nD τ) arg11 fullShare f11); iexact H11
    isplitl [H12]; · iexists _; iapply (owns_intro (c : Thread nD τ) arg12 fullShare f12); iexact H12
    iexists _; iapply (owns_intro (c : Thread nD τ) arg13 fullShare Y13); iexact H13
  unfold owns at key ⊢
  iintro ⟨⟨%X2, %e2, H2⟩, ⟨%X3, %e3, H3⟩, ⟨%X4, %e4, H4⟩, ⟨%X5, %e5, H5⟩, ⟨%X6, %e6, H6⟩, ⟨%X7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩⟩
  subst e2 e3 e4 e5 e6 e7
  iapply (key X2 X3 X4 X5 X6 X7 f8 f9 f10 f11 f12 f13)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Body

/-! ## The launch -/

variable (m : (ℓ : Loc nD τ sig) → Buf (Elt F) ℓ) (ρ : Dev nD → PrngReg)

/-- What grid point `t` leaves in the result's block. -/
def outBlk (c : Dev nD) (t : Fin cfg0.N) : FVec F S1x4096x256 .bf16 :=
  Blk ⟨iblk m c 0 t, iblk m c 1 t, iblk m c 2 t, iblk m c 4 t, kbBlock (grid0.coords t) (iblk m c 5 t), k0_pay263⟩ (iblk m c 3 t)

/-- The run's data: the arguments' blocks stay, the result's block is what the grid point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Between grid points the scratch buffers hold anything. -/
theorem PhiA_eq (c : Dev nD) : (Pipeline.ΦA spec0 c : sProp 𝕄G)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA
  rw [scopedRest0_eq]
  simp only [owns_whole]
  try rfl

def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq,
    after0_0, after0_1, after0_2, after0_3, after0_4, after0_5, after0_6]
  unfold outBlk
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩⟩
  iapply (wp_wand_r frame (wpE (defs₀ (F := F)) Variants.none (c : Thread nD τ) none) Set.univ (Q := fun _ => iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (outBlk m c t) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d))))
  isplitl [H0 H1 H2 H3 H4 H5 H6 S0 S1 S2 S3 S4]
  · unfold outBlk
    iapply (body_owns Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) Set.univ (iblk m c 0 t) (iblk m c 1 t) (iblk m c 2 t) (iblk m c 3 t) (iblk m c 4 t) (iblk m c 5 t))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · iexact S0
    isplitl [S1]; · iexact S1
    isplitl [S2]; · iexact S2
    isplitl [S3]; · iexact S3
    iexact S4
  · unfold outBlk
    iintro %_ ⟨H0, H1, H2, H3, H4, H5, H6, S0, S1, S2, S3, S4⟩
    isplitl [Hg S0 S1 S2 S3 S4]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array ends as the data says, and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Fox
-- ==== Proof.FoxBits.lean ====
/-
  The forgetting attention at the machine's floats: the same text, its named constants read as the literals they were
  printed from.
-/
module

public import proofs.«01_k».proof.Defs
public import proofs.«01_k».proof.Proof.Gen.Kernel5
public import proofs.«01_k».proof.Proof.Gen.Kernel5.Launch
public import proofs.«01_k».proof.Proof.Gen.Kernel5Ideal
public import proofs.«01_k».proof.Proof.FoxFrame

@[expose] public section

set_option maxRecDepth 65536
set_option maxHeartbeats 0

noncomputable section

namespace Cert.FoxBits

open Idealize.ShloMosaic Idealize.ShloMosaic.TcCoe Idealize.SL.Sem

/-- A named constant at the machine's floats is the literal it was printed from. -/
@[reducible] def named : Named Bits := ⟨fun _ _ _ b => FloatOps.ofBits _ b⟩
attribute [local instance] named

/-- The two programs' kernels are one. -/
theorem bodies_eq : Cert.Kernel5.defs₀ (F := Bits) = Cert.Kernel5Ideal.defs₀ (F := Bits) :=
  congrArg Defs.onTc (funext fun l => funext fun x => match l, x with
    | 0, _ => rfl
    | ⟨_ + 1, h⟩, _ => absurd h (Nat.not_lt.2 (Nat.le_add_left _ _)))

theorem defs_eq : Cert.Kernel5.defs (F := Bits) = Cert.Kernel5Ideal.defs (F := Bits) :=
  congrArg (Pipeline.defs Cert.Kernel5.pcfgs) bodies_eq

/-- The kernel at the machine's floats ends with its arguments as they were. -/
theorem frame : quiescent_Kernel5 := fun m g _ => by
  rw [defs_eq]
  exact Cert.Fox.frame (F := Bits) m g

end Cert.FoxBits
-- ==== Proof.FoxSpec.lean ====
/-
  Softmax attention of one query over the keys up to its own position, over the reals, and its computation in tiles
  with a running maximum, over the extended reals. No program appears here.
-/
module

public import Idealize.ShloMosaic.PureOps.Ideal
public import Mathlib.Analysis.SpecialFunctions.Pow.Real

@[expose] public section

noncomputable section

namespace Cert.FoxSpec

open Idealize.ShloMosaic Finset

/-- A finite sum of reals, in the extended reals. -/
theorem coe_sum {ι : Type*} (t : Finset ι) (f : ι → ℝ) : ∑ i ∈ t, ((f i : ℝ) : EReal) = ((∑ i ∈ t, f i : ℝ) : EReal) := by
  classical
  induction t using Finset.induction_on with
  | empty => simp
  | insert a t ha ih => rw [sum_insert ha, sum_insert ha, ih, EReal.coe_add]

/-- Two to a real power. -/
abbrev pow2 (r : ℝ) : ℝ := Real.rpow 2 r

theorem pow2_add (a b : ℝ) : pow2 (a + b) = pow2 a * pow2 b := Real.rpow_add (by norm_num) a b
theorem pow2_pos (a : ℝ) : 0 < pow2 a := Real.rpow_pos_of_pos (by norm_num) a

/-- The first `n` weights' sum of `w`, the weight of key `k` being two to its score less `m`. -/
def part (s w : ℕ → ℝ) (m : ℝ) (n : ℕ) : ℝ := ∑ k ∈ range n, w k * pow2 (s k - m)

/-- The softmax of the scores `s` over the keys up to `i`, applied to `w`. -/
def attn (s w : ℕ → ℝ) (i : ℕ) : ℝ := part s w 0 (i + 1) / part s (fun _ => 1) 0 (i + 1)

/-- Taking another number off the scores scales the sums. -/
theorem part_shift (s w : ℕ → ℝ) (m m' : ℝ) (n : ℕ) : pow2 (m - m') * part s w m n = part s w m' n := by
  unfold part
  rw [mul_sum]
  refine sum_congr rfl fun k _ => ?_
  rw [mul_left_comm, ← pow2_add]
  congr 2; ring

theorem part_pos (s : ℕ → ℝ) (m : ℝ) (n : ℕ) : 0 < part s (fun _ => 1) m (n + 1) := by
  unfold part
  refine sum_pos (fun k _ => ?_) ⟨0, by simp⟩
  rw [one_mul]; exact pow2_pos _

/-- What is taken off the scores does not matter to the quotient. -/
theorem part_div (s w : ℕ → ℝ) (m : ℝ) (i : ℕ) : part s w m (i + 1) / part s (fun _ => 1) m (i + 1) = attn s w i := by
  unfold attn
  rw [← part_shift s w 0 m, ← part_shift s (fun _ => 1) 0 m, mul_div_mul_left _ _ (pow2_pos _).ne']

/-- A tile of `N` more keys. -/
theorem part_add (s w : ℕ → ℝ) (m : ℝ) (n N : ℕ) :
    part s w m n + ∑ k : Fin N, w (n + k) * pow2 (s (n + k) - m) = part s w m (n + N) := by
  unfold part
  rw [sum_range_add, Fin.sum_univ_eq_sum_range (fun k => w (n + k) * pow2 (s (n + k) - m)) N]

/-- The keys of a range up to `i` only. -/
theorem part_masked (s w : ℕ → ℝ) (m : ℝ) (n N i : ℕ) (hn : n ≤ i + 1) (hN : i < n + N) :
    part s w m n + ∑ k : Fin N, w (n + k) * (if n + k ≤ i then pow2 (s (n + k) - m) else 0) = part s w m (i + 1) := by
  obtain ⟨d, hd⟩ : ∃ d, i + 1 = n + d := ⟨i + 1 - n, by omega⟩
  rw [hd, ← part_add, Fin.sum_univ_eq_sum_range (fun k => w (n + k) * (if n + k ≤ i then pow2 (s (n + k) - m) else 0)) N,
    Fin.sum_univ_eq_sum_range (fun k => w (n + k) * pow2 (s (n + k) - m)) d]
  congr 1
  rw [← sum_subset (s₁ := range d) (s₂ := range N)]
  · refine sum_congr rfl fun k hk => ?_
    rw [mem_range] at hk
    rw [if_pos (by omega)]
  · intro k hk; rw [mem_range] at hk ⊢; omega
  · intro k _ hk
    rw [mem_range] at hk
    rw [if_neg (by omega), mul_zero]

/-- A score that is kept, or `⊥` where it is masked. -/
def mask (p : Prop) [Decidable p] (r : ℝ) : EReal := if p then (r : EReal) else ⊥

/-- Two to a masked score less a real. -/
theorem exp2_mask (p : Prop) [Decidable p] (r m : ℝ) :
    Ideal.exp2 (mask p r - (m : EReal)) = ((if p then pow2 (r - m) else 0 : ℝ) : EReal) := by
  unfold mask
  split
  · rw [← EReal.coe_sub]; rfl
  · rw [EReal.bot_sub]; rfl

theorem exp2_sub (r m : ℝ) : Ideal.exp2 ((r : EReal) - (m : EReal)) = ((pow2 (r - m) : ℝ) : EReal) := by
  rw [← EReal.coe_sub]; rfl

/-- The largest of masked scores of which one is kept is a real. -/
theorem fold_real {N : ℕ} (p : Fin N → Prop) [DecidablePred p] (r : Fin N → ℝ) (k : Fin N) (hk : p k) :
    ∃ x : ℝ, Finset.fold max (⊥ : EReal) (fun i => mask (p i) (r i)) univ = x := by
  have h1 : Finset.fold max (⊥ : EReal) (fun i => mask (p i) (r i)) univ ≠ ⊤ := by
    refine ne_of_lt ?_
    rw [Finset.fold_max_lt]
    refine ⟨bot_lt_top, fun i _ => ?_⟩
    unfold mask; split
    · exact EReal.coe_lt_top _
    · exact bot_lt_top
  have h2 : Finset.fold max (⊥ : EReal) (fun i => mask (p i) (r i)) univ ≠ ⊥ := by
    refine (ne_of_lt ?_).symm
    rw [Finset.lt_fold_max]
    refine .inr ⟨k, mem_univ _, ?_⟩
    unfold mask; rw [if_pos hk]; exact EReal.bot_lt_coe _
  exact ⟨_, (EReal.coe_toReal h1 h2).symm⟩

theorem fold_real' {N : ℕ} [NeZero N] (r : Fin N → ℝ) :
    ∃ x : ℝ, Finset.fold max (⊥ : EReal) (fun i => (r i : EReal)) univ = x := by
  obtain ⟨x, hx⟩ := fold_real (fun _ => True) r 0 trivial
  refine ⟨x, hx ▸ ?_⟩
  congr 1

/-- The maximum `M` and the sums `A` after `n` keys: nothing yet, or a real and the sums with it taken off the scores. -/
def After {ρ : Type*} (s : ℕ → ℝ) (w : ρ → ℕ → ℝ) (n : ℕ) (M : EReal) (A : ρ → EReal) : Prop :=
  (n = 0 ∧ M = ⊥ ∧ ∀ r, A r = 0) ∨ ∃ m : ℝ, M = m ∧ ∀ r, A r = (part s (w r) m n : EReal)

/-- Against a new maximum the sums are scaled. -/
theorem After.scale {ρ : Type*} {s : ℕ → ℝ} {w : ρ → ℕ → ℝ} {n : ℕ} {M : EReal} {A : ρ → EReal} (h : After s w n M A) (x : ℝ) :
    ∃ m : ℝ, max M (x : EReal) = m ∧ ∀ r, Ideal.exp2 (M - max M (x : EReal)) * A r = (part s (w r) m n : EReal) := by
  rcases h with ⟨rfl, rfl, hA⟩ | ⟨m, rfl, hA⟩
  · refine ⟨x, max_eq_right bot_le, fun r => ?_⟩
    rw [hA, mul_zero]; rfl
  · refine ⟨max m x, (EReal.coe_strictMono.monotone.map_max).symm, fun r => ?_⟩
    rw [← EReal.coe_strictMono.monotone.map_max, exp2_sub, hA, ← EReal.coe_mul, part_shift]

/-- A tile of keys absorbed. -/
theorem After.step {ρ : Type*} {s : ℕ → ℝ} {w : ρ → ℕ → ℝ} {n : ℕ} {M : EReal} {A : ρ → EReal} (h : After s w n M A) (x : ℝ) (N : ℕ) :
    After s w (n + N) (max M (x : EReal)) fun r => Ideal.exp2 (M - max M (x : EReal)) * A r
      + ∑ k : Fin N, (w r (n + k) : EReal) * Ideal.exp2 ((s (n + k) : EReal) - max M (x : EReal)) := by
  obtain ⟨m, hm, hA⟩ := h.scale x
  refine .inr ⟨m, hm, fun r => ?_⟩
  beta_reduce
  rw [hA, hm]
  simp only [exp2_sub, ← EReal.coe_mul]
  rw [coe_sum, ← EReal.coe_add, part_add]

/-- The tile on the diagonal absorbed: only the keys up to `i` count. -/
theorem After.last {ρ : Type*} {s : ℕ → ℝ} {w : ρ → ℕ → ℝ} {n : ℕ} {M : EReal} {A : ρ → EReal} (h : After s w n M A) (x : ℝ) (N i : ℕ)
    (hn : n ≤ i + 1) (hN : i < n + N) :
    ∃ m : ℝ, max M (x : EReal) = m ∧ ∀ r, Ideal.exp2 (M - max M (x : EReal)) * A r
      + ∑ k : Fin N, (w r (n + k) : EReal) * Ideal.exp2 (mask (n + k ≤ i) (s (n + k)) - max M (x : EReal))
      = (part s (w r) m (i + 1) : EReal) := by
  obtain ⟨m, hm, hA⟩ := h.scale x
  refine ⟨m, hm, fun r => ?_⟩
  rw [hA, hm]
  simp only [exp2_mask, ← EReal.coe_mul]
  rw [coe_sum, ← EReal.coe_add, part_masked _ _ _ _ _ _ hn hN]

/-- More keys than one sum: the masked sum over a further range. -/
theorem masked_more {s w : ℕ → ℝ} {m : ℝ} {M : EReal} (hM : M = m) (n N i : ℕ) (hn : n ≤ i + 1) (hN : i < n + N) :
    (part s w m n : EReal) + ∑ k : Fin N, (w (n + k) : EReal) * Ideal.exp2 (mask (n + k ≤ i) (s (n + k)) - M)
      = (part s w m (i + 1) : EReal) := by
  subst hM
  simp only [exp2_mask, ← EReal.coe_mul]
  rw [coe_sum, ← EReal.coe_add, part_masked _ _ _ _ _ _ hn hN]

/-- The quotient of two reals, the second positive. -/
theorem div_coe (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- The plain softmax: every score, masked past `i`, less the largest; its exponentials over their sum; applied to `w`. -/
theorem plain {N : ℕ} (s w : ℕ → ℝ) (i : ℕ) (hi : i < N) (M : EReal) (hM : ∃ m : ℝ, M = m) (e : Fin N → EReal)
    (he : ∀ k : Fin N, e k = Ideal.exp ((Real.log 2 : EReal) * (mask (k.val ≤ i) (s k) - M))) :
    ∑ k : Fin N, (w k : EReal) * Ideal.div (e k) (∑ k : Fin N, e k) = (attn s w i : EReal) := by
  obtain ⟨m, rfl⟩ := hM
  have h2 : ∀ k : Fin N, e k = ((if k.val ≤ i then pow2 (s k - m) else 0 : ℝ) : EReal) := fun k => by
    rw [he]
    unfold mask
    split
    · rw [← EReal.coe_sub, ← EReal.coe_mul]
      show ((Real.exp _ : ℝ) : EReal) = _
      rw [show pow2 (s k - m) = Real.exp (Real.log 2 * (s k - m)) from Real.rpow_def_of_pos (by norm_num) _]
    · rw [EReal.bot_sub, EReal.coe_mul_bot_of_pos (Real.log_pos (by norm_num))]; rfl
  have hs : ∀ w : ℕ → ℝ, ∑ k : Fin N, w k * (if k.val ≤ i then pow2 (s k - m) else 0) = part s w m (i + 1) := fun w => by
    have h := part_masked s w m 0 N i (by omega) (by omega)
    simp only [zero_add] at h
    rw [← h]; simp [part]
  have hd : ∑ k : Fin N, e k = (part s (fun _ => 1) m (i + 1) : EReal) := by
    simp only [h2]; rw [coe_sum, ← hs]; simp
  rw [hd]
  simp only [h2, div_coe _ _ (part_pos s m i), ← EReal.coe_mul]
  rw [coe_sum, ← part_div s w m, ← hs w, sum_div]
  congr 1
  refine sum_congr rfl fun k _ => by ring

end Cert.FoxSpec

end
-- ==== Proof.FoxAttn.lean ====
/-
  The attention's result as a function of its arrays: each head's scores are products of query and key lanes with bias
  lanes added, and a token's output is the causal softmax's mean of its value lanes under a gate.
-/
module

public import proofs.«01_k».proof.Proof.FoxSpec
public import Idealize.ShloMosaic.Lib.Pointwise

@[expose] public section

set_option maxRecDepth 65536

noncomputable section

namespace Cert.FoxSpec

open Idealize.ShloMosaic

/-- An array of three axes, in the attention's format. -/
abbrev Cube (A B C : ℕ) : Type := FVec Ideal ⟨3, ![A, B, C]⟩ .bf16

/-- An entry as a real, at natural numbers. -/
def cell {A B C : ℕ} (x : Cube A B C) (i j k : ℕ) : ℝ :=
  if h : i < A ∧ j < B ∧ k < C then EReal.toReal (x (ix3 ⟨i, h.1⟩ ⟨j, h.2.1⟩ ⟨k, h.2.2⟩)) else 0

/-- Every entry is a real. -/
def Reals {A B C : ℕ} (x : Cube A B C) : Prop := ∀ i j k, x (ix3 i j k) ≠ (⊤ : EReal) ∧ x (ix3 i j k) ≠ (⊥ : EReal)

theorem Reals.eq {A B C : ℕ} {x : Cube A B C} (h : Reals x) (i : Fin A) (j : Fin B) (k : Fin C) :
    x (ix3 i j k) = (cell x i j k : EReal) := by
  unfold cell
  rw [dif_pos ⟨i.isLt, j.isLt, k.isLt⟩]
  exact (EReal.coe_toReal (h i j k).1 (h i j k).2).symm

variable (q : Cube 8 1024 4096) (k : Cube 8 4096 1024) (v : Cube 8 1024 4096) (gate : Cube 8 4096 1024)
  (qb : Cube 8 128 4096) (kb : Cube 8 4096 128)

/-- Key `n`'s score against query `i`, at head `h` of sequence `b`. -/
def scores (b h i n : ℕ) : ℝ :=
  ∑ c : Fin 128, cell q b (128 * h + c.val) i * cell k b n (128 * h + c.val)
    + ∑ l : Fin 16, cell qb b (16 * h + l.val) i * cell kb b n (16 * h + l.val)

/-- The result's entry at token `t` of sequence `b`, lane `e`. -/
def attended (b : Fin 8) (t : Fin 4096) (e : Fin 1024) : EReal :=
  (attn (scores q k qb kb b (e.val / 128) t) (cell v b e) t : EReal) * Ideal.div 1 (1 + Ideal.exp (-(gate (ix3 b t e) : EReal)))

end Cert.FoxSpec

end
-- ==== Proof.FoxHead.lean ====
/-
  One head and one query of the attention kernel, over the extended reals: the running maximum and sums of `Head` are
  those of `FoxSpec.After`, so that the quotient the head ends with is the softmax attention of that query.
-/
module

public import proofs.«01_k».proof.Proof.FoxOps
public import proofs.«01_k».proof.Proof.FoxSpec
public import Idealize.ShloMosaic.Lib.Pointwise
public import Idealize.ShloMosaic.Lib.WordArith
public import Idealize.ShloMosaic.Lib.Affine

@[expose] public section

set_option maxRecDepth 65536

noncomputable section

namespace Cert.Fox

open Idealize.ShloMosaic Idealize.ShloMosaic.TcCoe Cert.Kernel5Ideal Cert.Kernel5Ideal.Gen Cert.FoxSpec

/-- The mask's constant is `⊥`. -/
theorem mask_named (w : BitVec 32) : Named.named (F := Ideal) Cert.Kernel5Ideal.κ "mask" (φ := .f32) w = (⊥ : EReal) :=
  IdealRules.named_const.ideal_named_scalar _ _ _ _ rfl

/-- The word of minus infinity. -/
theorem ofBits_ninf : Ideal.ofBits FTy.f32 4286578688#32 = ⊥ := by simp [Ideal.ofBits, Ideal.ieee]

/-- A selection by the order of two small numbers. -/
theorem select_sge (a b : ℕ) (ha : a < 2 ^ 31) (hb : b < 2 ^ 31) (x y : EReal) :
    Scalar.select (IntOp.cmpi .sge (BitVec.ofNat 32 a) (BitVec.ofNat 32 b)) x y = if b ≤ a then x else y := by
  rw [Scalar.select_def]
  refine if_congr ?_ rfl rfl
  show IntOp.cmpi .sge _ _ = 1#1 ↔ _
  rw [IntOp.cmpi_sge, WordArith.toInt_ofNat_small _ ha, WordArith.toInt_ofNat_small _ hb]
  omega

variable (h : Head Ideal)

/-- The score of key `kk` of the `i`-th 256 keys against query `qq`. -/
def halfScore (i : ℕ) (kk : Fin 256) (qq : Fin 512) : EReal :=
  ∑ x : Fin 128, (h.halfKeys i (ix3 0 kk x) : EReal) * h.q (ix2 ⟨x.val, by omega⟩ qq)
    + ∑ x : Fin 128, (h.halfBias i (ix2 kk x) : EReal) * h.q (ix2 ⟨128 + x.val, by omega⟩ qq)

/-- The score of key `kk` of the `j`-th 512 keys against query `qq`. -/
def score (j : ℕ) (kk qq : Fin 512) : EReal :=
  ∑ x : Fin 128, (h.keys j (ix3 0 kk x) : EReal) * h.q (ix2 ⟨x.val, by omega⟩ qq)
    + ∑ x : Fin 128, (h.bias j (ix2 kk x) : EReal) * h.q (ix2 ⟨128 + x.val, by omega⟩ qq)

theorem S_apply (j : ℕ) (kk qq : Fin 512) : h.S j (ix4 0 0 kk qq) = score h j kk qq := by
  pointwise [Head.S, k0_pay7, k0_pay6]
  rfl

theorem X_apply (j : ℕ) (qq : Fin 512) : h.X j (ix4 0 0 0 qq) = Finset.fold max (⊥ : EReal) (fun kk => score h j kk qq) Finset.univ := by
  rw [← ofBits_ninf]
  pointwise [Head.X, k0_pay8, k0_pay6]
  rfl

theorem M_apply (j : ℕ) (qq : Fin 512) : h.M (j + 1) (ix3 0 0 qq) = max (h.M j (ix3 0 0 qq) : EReal) (h.X j (ix4 0 0 0 qq)) := by
  show k0_pay13 (F := Ideal) (k0_pay10 (F := Ideal) (h.M j)) (h.X j) (ix3 0 0 qq) = _
  generalize h.M j = a
  generalize h.X j = b
  pointwise [k0_pay13, k0_pay10, k0_pay11]

theorem A_apply (j : ℕ) (r : Fin 144) (qq : Fin 512) : h.A (j + 1) (ix3 0 r qq)
    = Ideal.exp2 (h.M j (ix3 0 0 qq) - max (h.M j (ix3 0 0 qq) : EReal) (h.X j (ix4 0 0 0 qq))) * h.A j (ix3 0 r qq)
      + ∑ kk : Fin 512, (k0_pay9 (F := Ideal) h.ones (h.vals j) (ix2 r kk) : EReal)
        * Ideal.exp2 (h.S j (ix4 0 0 kk qq) - max (h.M j (ix3 0 0 qq) : EReal) (h.X j (ix4 0 0 0 qq))) := by
  show k0_pay12 (F := Ideal) (k0_pay9 (F := Ideal) h.ones (h.vals j)) (k0_pay10 (F := Ideal) (h.M j)) (h.X j) (h.S j) (h.A j) (ix3 0 r qq) = _
  generalize h.M j = a
  generalize h.X j = b
  generalize h.S j = s
  generalize h.A j = A
  generalize k0_pay9 (F := Ideal) h.ones (h.vals j) = w
  pointwise [k0_pay12, k0_pay10, k0_pay11]
  rfl

theorem top_apply (j : ℕ) (kk : Fin 256) (qq : Fin 512) : h.top j (ix4 0 0 kk qq) = if kk.val ≤ qq.val then halfScore h (2 * j) kk qq else ⊥ := by
  rw [← select_sge qq.val kk.val (by omega) (by omega), ← mask_named 4048155338#32]
  pointwise [Head.top, k0_pay174, k0_pay172]
  rfl

theorem bottom_apply (j : ℕ) (kk qq : Fin 256) : h.bottom j (ix4 0 0 kk qq)
    = if kk.val ≤ qq.val then halfScore h (2 * j + 1) kk ⟨256 + qq.val, by omega⟩ else ⊥ := by
  rw [← select_sge qq.val kk.val (by omega) (by omega), ← mask_named 4048155338#32]
  pointwise [Head.bottom, k0_pay175, k0_pay173]
  rfl

theorem diag_low (j : ℕ) (qq : Fin 512) (hq : qq.val < 256) : h.diag j (ix4 0 0 0 qq)
    = Finset.fold max (⊥ : EReal) (fun kk : Fin 256 => h.top j (ix4 0 0 kk qq)) Finset.univ := by
  rw [← ofBits_ninf]
  pointwise [Head.diag, Head.top, k0_pay174, k0_pay176]
  rw [dif_pos hq]

theorem diag_high (j : ℕ) (qq : Fin 512) (hq : ¬ qq.val < 256) : h.diag j (ix4 0 0 0 qq)
    = max (Finset.fold max (⊥ : EReal) (fun kk : Fin 256 => h.top j (ix4 0 0 kk qq)) Finset.univ)
      (Finset.fold max (⊥ : EReal) (fun kk : Fin 256 => h.bottom j (ix4 0 0 kk ⟨qq.val - 256, by omega⟩)) Finset.univ) := by
  rw [← ofBits_ninf]
  pointwise [Head.diag, Head.top, Head.bottom, k0_pay174, k0_pay175, k0_pay176]
  rw [dif_neg hq]
  have e : (⟨256 + (qq.val - 256), by omega⟩ : Fin 512) = qq := Fin.ext (by show 256 + (qq.val - 256) = qq.val; omega)
  rw [e]

/-- The sums after the first half of the diagonal tile. -/
theorem half_apply (j : ℕ) (r : Fin 144) (qq : Fin 512) :
    k0_pay151 (F := Ideal) h.ones (h.vals j) (h.M j) (h.diag j) (h.top j) (h.A j) (ix2 r qq)
    = Ideal.exp2 (h.M j (ix3 0 0 qq) - max (h.M j (ix3 0 0 qq) : EReal) (h.diag j (ix4 0 0 0 qq))) * h.A j (ix3 0 r qq)
      + ∑ kk : Fin 256, (k0_pay9 (F := Ideal) h.ones (h.vals j) (ix2 r ⟨kk.val, by omega⟩) : EReal)
        * Ideal.exp2 (h.top j (ix4 0 0 kk qq) - max (h.M j (ix3 0 0 qq) : EReal) (h.diag j (ix4 0 0 0 qq))) := by
  show _ = Ideal.exp2 (h.M j (ix3 0 0 qq) - max (h.M j (ix3 0 0 qq) : EReal) (h.diag j (ix4 0 0 0 qq))) * h.A j (ix3 0 r qq)
      + ∑ kk : Fin 256, (k0_pay147 (F := Ideal) h.ones (h.vals j) (ix2 r ⟨kk.val, by omega⟩) : EReal)
        * Ideal.exp2 (h.top j (ix4 0 0 kk qq) - max (h.M j (ix3 0 0 qq) : EReal) (h.diag j (ix4 0 0 0 qq)))
  generalize h.M j = a
  generalize h.diag j = b
  generalize h.top j = s
  generalize h.A j = A
  pointwise [k0_pay151, k0_pay148, k0_pay149]
  rfl

theorem final_low (j : ℕ) (r : Fin 144) (qq : Fin 512) (hq : qq.val < 256) : h.final j (ix3 0 r qq)
    = k0_pay151 (F := Ideal) h.ones (h.vals j) (h.M j) (h.diag j) (h.top j) (h.A j) (ix2 r qq) := by
  show (if hx : qq.val < 256 then h.low j (ix3 0 r ⟨qq.val, hx⟩) else _) = _
  rw [dif_pos hq]
  generalize hY : k0_pay151 (F := Ideal) h.ones (h.vals j) (h.M j) (h.diag j) (h.top j) (h.A j) = Y
  pointwise [Head.low, k0_pay153, k0_pay152]
  rw [hY]

theorem final_high (j : ℕ) (r : Fin 144) (qq : Fin 512) (hq : ¬ qq.val < 256) : h.final j (ix3 0 r qq)
    = k0_pay151 (F := Ideal) h.ones (h.vals j) (h.M j) (h.diag j) (h.top j) (h.A j) (ix2 r qq)
      + ∑ kk : Fin 256, (k0_pay9 (F := Ideal) h.ones (h.vals j) (ix2 r ⟨256 + kk.val, by omega⟩) : EReal)
        * Ideal.exp2 (h.bottom j (ix4 0 0 kk ⟨qq.val - 256, by omega⟩) - max (h.M j (ix3 0 0 qq) : EReal) (h.diag j (ix4 0 0 0 qq))) := by
  show (if hx : qq.val < 256 then _ else h.high j (ix3 0 r ⟨qq.val - 256, by omega⟩)) = _
  rw [dif_neg hq]
  show k0_pay154 (F := Ideal) (k0_pay9 (F := Ideal) h.ones (h.vals j)) (k0_pay150 (F := Ideal) (h.M j) (h.diag j) (h.bottom j))
      (k0_pay151 (F := Ideal) h.ones (h.vals j) (h.M j) (h.diag j) (h.top j) (h.A j)) (ix3 0 r ⟨qq.val - 256, by omega⟩) = _
  generalize k0_pay151 (F := Ideal) h.ones (h.vals j) (h.M j) (h.diag j) (h.top j) (h.A j) = Y
  generalize k0_pay9 (F := Ideal) h.ones (h.vals j) = w
  generalize h.M j = a
  generalize h.diag j = b
  generalize h.bottom j = s
  pointwise [k0_pay154, k0_pay150, k0_pay148, k0_pay149]
  have e : (⟨256 + (qq.val - 256), by omega⟩ : Fin 512) = qq := Fin.ext (by show 256 + (qq.val - 256) = qq.val; omega)
  simp only [e]
  rfl

/-- The scores of query `qq` and the weighted rows of a head, as reals: key `n`'s score is `s n`, row `r`'s entry there `w r n`. -/
structure Reads (qq : Fin 512) (s : ℕ → ℝ) (w : Fin 144 → ℕ → ℝ) : Prop where
  full : ∀ j < 8, ∀ kk : Fin 512, score h j kk qq = (s (512 * j + kk.val) : EReal)
  half0 : ∀ j < 8, ∀ kk : Fin 256, halfScore h (2 * j) kk qq = (s (512 * j + kk.val) : EReal)
  half1 : ∀ j < 8, ∀ kk : Fin 256, halfScore h (2 * j + 1) kk qq = (s (512 * j + 256 + kk.val) : EReal)
  row : ∀ j < 8, ∀ r (kk : Fin 512), k0_pay9 (F := Ideal) h.ones (h.vals j) (ix2 r kk) = (w r (512 * j + kk.val) : EReal)

variable {h} {qq : Fin 512} {s : ℕ → ℝ} {w : Fin 144 → ℕ → ℝ}

/-- After `j` tiles of keys. -/
theorem Reads.after (R : Reads h qq s w) : ∀ j ≤ 8, After s w (512 * j) (h.M j (ix3 0 0 qq)) fun r => h.A j (ix3 0 r qq) := by
  intro j
  induction j with
  | zero => exact fun _ => .inl ⟨rfl, mask_named _, fun r => by show Ideal.ofBits .f32 0x00000000#32 = 0; simp [Ideal.ofBits, Ideal.ieee]⟩
  | succ j ih =>
    intro hj
    obtain ⟨x, hx⟩ := fold_real' (N := 512) fun kk => s (512 * j + kk.val)
    have hX : h.X j (ix4 0 0 0 qq) = (x : EReal) := by
      rw [X_apply, ← hx]; congr 1; funext kk; exact R.full j (by omega) kk
    have hs := (ih (by omega)).step x 512
    rw [M_apply, hX]
    refine (congrArg (fun f => After s w _ _ f) (funext fun r => ?_)).mp hs
    rw [A_apply, hX]
    refine congrArg _ (Finset.sum_congr rfl fun kk _ => ?_)
    rw [R.row j (by omega), S_apply, R.full j (by omega)]

theorem Reads.top (R : Reads h qq s w) (j : ℕ) (hj : j < 8) (kk : Fin 256) :
    h.top j (ix4 0 0 kk qq) = FoxSpec.mask (kk.val ≤ qq.val) (s (512 * j + kk.val)) := by
  rw [top_apply, R.half0 j hj]; rfl

theorem Reads.bottom (R : Reads h qq s w) (j : ℕ) (hj : j < 8) (hq : ¬ qq.val < 256) (kk : Fin 256) :
    h.bottom j (ix4 0 0 kk ⟨qq.val - 256, by omega⟩) = FoxSpec.mask (256 + kk.val ≤ qq.val) (s (512 * j + 256 + kk.val)) := by
  have e : (⟨256 + (qq.val - 256), by omega⟩ : Fin 512) = qq := Fin.ext (by show 256 + (qq.val - 256) = qq.val; omega)
  rw [bottom_apply, e, R.half1 j hj]
  unfold FoxSpec.mask
  refine if_congr ?_ rfl rfl
  show kk.val ≤ qq.val - 256 ↔ _
  omega

/-- The largest masked score of the diagonal tile is a real. -/
theorem Reads.diag (R : Reads h qq s w) (j : ℕ) (hj : j < 8) : ∃ x : ℝ, h.diag j (ix4 0 0 0 qq) = (x : EReal) := by
  obtain ⟨x, hx⟩ := fold_real (N := 256) (fun kk => kk.val ≤ qq.val) (fun kk => s (512 * j + kk.val)) 0 (Nat.zero_le _)
  simp only [← R.top j hj] at hx
  by_cases hq : qq.val < 256
  · exact ⟨x, by rw [diag_low _ _ _ hq, hx]⟩
  · obtain ⟨y, hy⟩ := fold_real (N := 256) (fun kk => 256 + kk.val ≤ qq.val) (fun kk => s (512 * j + 256 + kk.val)) 0 (by show 256 + 0 ≤ _; omega)
    simp only [← R.bottom j hj hq] at hy
    exact ⟨max x y, by rw [diag_high _ _ _ hq, hx, hy, ← EReal.coe_strictMono.monotone.map_max]⟩

/-- The sums with the diagonal tile absorbed are over the keys up to the query. -/
theorem Reads.final (R : Reads h qq s w) (j : ℕ) (hj : j < 8) :
    ∃ m : ℝ, ∀ r, h.final j (ix3 0 r qq) = (part s (w r) m (512 * j + qq.val + 1) : EReal) := by
  obtain ⟨x, hx⟩ := R.diag j hj
  by_cases hq : qq.val < 256
  · obtain ⟨m, hm, hA⟩ := (R.after j (by omega)).last x 256 (512 * j + qq.val) (by omega) (by omega)
    refine ⟨m, fun r => ?_⟩
    rw [final_low _ _ _ _ hq, half_apply, hx, ← hA r]
    refine congrArg _ (Finset.sum_congr rfl fun kk _ => ?_)
    rw [R.row j hj, R.top j hj]
    simp only [Nat.add_le_add_iff_left]
  · obtain ⟨m, hm, hA⟩ := (R.after j (by omega)).last x 256 (512 * j + 255) (by omega) (by omega)
    refine ⟨m, fun r => ?_⟩
    rw [final_high _ _ _ _ hq, half_apply, hx, ← masked_more hm (512 * j + 256) 256 (512 * j + qq.val) (by omega) (by omega),
      show 512 * j + 256 = 512 * j + 255 + 1 from rfl, ← hA r]
    refine congrArg₂ _ (congrArg _ (Finset.sum_congr rfl fun kk _ => ?_)) (Finset.sum_congr rfl fun kk _ => ?_)
    · rw [R.row j hj, R.top j hj]
      unfold FoxSpec.mask
      rw [if_pos (by omega), if_pos (by omega)]
    · rw [R.row j hj, R.bottom j hj hq]
      show ((w r (512 * j + (256 + kk.val)) : ℝ) : EReal) * _ = _
      rw [← Nat.add_assoc]
      unfold FoxSpec.mask
      rw [if_congr (show 256 + kk.val ≤ qq.val ↔ 512 * j + 255 + 1 + kk.val ≤ 512 * j + qq.val by omega) rfl rfl]

/-- The head's result for the query, before the gate: its softmax attention. -/
theorem Reads.attn (R : Reads h qq s w) (j : ℕ) (hj : j < 8) (l : Fin 128) (h1 : w 128 = fun _ => 1) :
    h.attn j (ix2 l qq) = (FoxSpec.attn s (w ⟨l.val, by omega⟩) (512 * j + qq.val) : EReal) := by
  obtain ⟨m, hm⟩ := R.final j hj
  rw [← part_div s _ m, ← div_coe _ _ (part_pos s m _)]
  have e0 := hm ⟨l.val, by omega⟩
  have e1 := hm 128
  rw [h1] at e1
  rw [← e0, ← e1]
  unfold Head.attn
  generalize h.final j = Y
  pointwise [k0_pay170]

/-- The gated result. -/
theorem out_apply (h : Head Ideal) (j : ℕ) (gate : FVec Ideal S1x512x128 .bf16) (qq : Fin 512) (l : Fin 128) :
    h.out j gate (ix3 0 qq l) = (h.attn j (ix2 l qq) : EReal) * Ideal.div 1 (1 + Ideal.exp (0 - gate (ix3 0 qq l))) := by
  unfold Head.out
  generalize h.attn j = Y
  pointwise [k0_pay2]

end Cert.Fox

end
-- ==== Proof.FoxPoint.lean ====
/-
  A grid point of the attention kernel: from blocks that hold reals, one head's scores and rows are the sums over lanes
  that the attention's scores and values are.
-/
module

public import proofs.«01_k».proof.Proof.FoxHead
public import proofs.«01_k».proof.Proof.FoxFrame

@[expose] public section

set_option maxRecDepth 65536

noncomputable section

namespace Cert.Fox

open Idealize.ShloMosaic Idealize.ShloMosaic.TcCoe Cert.Kernel5Ideal Cert.Kernel5Ideal.Gen Cert.FoxSpec

/-- A box that fits, at an index. -/
theorem box_apply {s : Shape} (off size : Fin s.rank → ℕ) (a : s.Idx → EReal) (h : ∀ d, off d + size d ≤ s.size d)
    (x : (⟨s.rank, size⟩ : Shape).Idx) (y : s.Idx) (hy : ∀ d, (y d).val = off d + (x d).val) : box (F := Ideal) off size a x = a y := by
  unfold box
  rw [dif_pos h]
  refine congrArg a (funext fun d => Fin.ext ?_)
  rw [hy]
  show off d + 1 * (x d).val = _
  omega

/-- The rows that only hold ones. -/
theorem ones_apply (i : Fin 16) (j : Fin 512) : k0_pay263 (F := Ideal) (ix2 i j) = (1 : EReal) := by
  pointwise [k0_pay263]

/-- The head pair whose bias lane `x` is: sixteen lanes a head. -/
theorem lane_word (p : Fin 4) (g : Fin 2) (n : Fin 4096) (x : Fin 128) :
    IntOp.cmpi .eq (k0_pay259 (ix2 n x)) (Scalar.addi (Scalar.muli (BitVec.ofNat 32 p.val) 2#32) (BitVec.ofNat 32 g.val)) = 1#1
      ↔ x.val / 16 = 2 * p.val + g.val := by
  have e : k0_pay259 (ix2 n x) = BitVec.ofNat 32 (x.val / 16) := by
    pointwise [k0_pay259]
    revert x
    decide +kernel
  rw [e]
  clear e n
  revert p g x
  decide +kernel

/-- The two heads' key biases: each head's sixteen lanes, zeros elsewhere. -/
theorem kbBlock_apply (i : grid0.Coords) (kb : FVec Ideal S1x4096x128 .bf16) (n : Fin 4096) (g : Fin 2) (x : Fin 128) :
    kbBlock (F := Ideal) i kb (ix2 n ⟨128 * g.val + x.val, by omega⟩)
      = if x.val / 16 = 2 * (i 1).val + g.val then (kb (ix3 0 n x) : EReal) else 0 := by
  have hi : (i 1).val < 4 := (i 1).isLt
  have z : Ideal.ofBits .bf16 0#16 = 0 := by simp [Ideal.ofBits, Ideal.ieee]
  fin_cases g
  · have hw : _ ↔ x.val / 16 = 2 * (i 1).val + 0 := lane_word ⟨(i 1).val, hi⟩ 0 n x
    show (if h : 128 * 0 + x.val < 128 then k0_pay260 (F := Ideal) i kb (ix2 n ⟨128 * 0 + x.val, h⟩) else _) = _
    rw [dif_pos (by omega)]
    have e : (⟨128 * 0 + x.val, by omega⟩ : Fin 128) = x := Fin.ext (by show 128 * 0 + x.val = x.val; omega)
    rw [e]
    show _ = if x.val / 16 = 2 * (i 1).val + 0 then (kb (ix3 0 n x) : EReal) else 0
    rw [← z, ← if_congr hw rfl rfl]
    pointwise [k0_pay260, k0_pay258]
    rfl
  · have hw : _ ↔ x.val / 16 = 2 * (i 1).val + 1 := lane_word ⟨(i 1).val, hi⟩ 1 n x
    show (if h : 128 * 1 + x.val < 128 then _ else k0_pay262 (F := Ideal) (k0_pay258 (F := Ideal) kb) (k0_pay261 i) (ix2 n ⟨128 * 1 + x.val - 128, by omega⟩)) = _
    rw [dif_neg (by omega)]
    have e : (⟨128 * 1 + x.val - 128, by omega⟩ : Fin 128) = x := Fin.ext (by show 128 * 1 + x.val - 128 = x.val; omega)
    rw [e]
    show _ = if x.val / 16 = 2 * (i 1).val + 1 then (kb (ix3 0 n x) : EReal) else 0
    rw [← z, ← if_congr hw rfl rfl]
    pointwise [k0_pay262, k0_pay261, k0_pay258]
    rfl

/-- Blocks that hold reals: queries, keys, values, query biases, and the two heads' key biases. -/
structure Holds (a : Arr Ideal) (q k v qb : ℕ → ℕ → ℝ) (kb : ℕ → ℕ → ℕ → ℝ) : Prop where
  q : ∀ (c : Fin 256) (i : Fin 4096), a.q (ix3 0 c i) = (q c i : EReal)
  k : ∀ (n : Fin 4096) (c : Fin 256), a.k (ix3 0 n c) = (k n c : EReal)
  v : ∀ (c : Fin 256) (n : Fin 4096), a.v (ix3 0 c n) = (v c n : EReal)
  qb : ∀ (x : Fin 128) (i : Fin 4096), a.qb (ix3 0 x i) = (qb x i : EReal)
  kb : ∀ (n : Fin 4096) (g : Fin 2) (x : Fin 128), a.kb (ix2 n ⟨128 * g.val + x.val, by omega⟩) = (kb g n x : EReal)
  ones : ∀ (i : Fin 16) (j : Fin 512), a.ones (ix2 i j) = (1 : EReal)

variable {a : Arr Ideal} {q k v qb : ℕ → ℕ → ℝ} {kb : ℕ → ℕ → ℕ → ℝ}

/-- Key `n`'s score against query `i`, in head `g`. -/
def lanes (q k qb : ℕ → ℕ → ℝ) (kb : ℕ → ℕ → ℕ → ℝ) (g i n : ℕ) : ℝ :=
  ∑ c : Fin 128, k n (128 * g + c.val) * q (128 * g + c.val) i + ∑ x : Fin 128, kb g n x.val * qb x.val i

/-- Row `r` of the weighted arrays: a value lane, or ones. -/
def rows (v : ℕ → ℕ → ℝ) (g : ℕ) (r : Fin 144) (n : ℕ) : ℝ := if r.val < 128 then v (128 * g + r.val) n else 1

theorem Holds.query (H : Holds a q k v qb kb) (t : ℕ) (ht : t < 8) (g : Fin 2) (x : Fin 128) (qq : Fin 512) :
    (a.head t g).q (ix2 ⟨x.val, by omega⟩ qq) = (q (128 * g.val + x.val) (512 * t + qq.val) : EReal) := by
  rw [← H.q ⟨128 * g.val + x.val, by omega⟩ ⟨512 * t + qq.val, by omega⟩]
  show k0_pay246 (F := Ideal) _ _ _ = _
  rw [← box_apply (s := S1x256x4096) ![0, 128 * g.val, 512 * t] S1x128x512.size a.q
    (by intro d; fin_cases d <;> simp <;> omega) (ix3 0 x qq) _ (by intro d; fin_cases d <;> rfl)]
  generalize box (F := Ideal) (s := S1x256x4096) ![0, 128 * g.val, 512 * t] S1x128x512.size a.q = y
  generalize box (F := Ideal) (s := S1x128x4096) ![0, 0, 512 * t] S1x128x512.size a.qb = z
  pointwise [k0_pay246]

theorem Holds.queryBias (H : Holds a q k v qb kb) (t : ℕ) (ht : t < 8) (g : Fin 2) (x : Fin 128) (qq : Fin 512) :
    (a.head t g).q (ix2 ⟨128 + x.val, by omega⟩ qq) = (qb x.val (512 * t + qq.val) : EReal) := by
  rw [← H.qb x ⟨512 * t + qq.val, by omega⟩]
  show k0_pay246 (F := Ideal) _ _ _ = _
  rw [← box_apply (s := S1x128x4096) ![0, 0, 512 * t] S1x128x512.size a.qb
    (by intro d; fin_cases d <;> simp <;> omega) (ix3 0 x qq) _ (by intro d; fin_cases d <;> simp)]
  generalize box (F := Ideal) (s := S1x256x4096) ![0, 128 * g.val, 512 * t] S1x128x512.size a.q = y
  generalize box (F := Ideal) (s := S1x128x4096) ![0, 0, 512 * t] S1x128x512.size a.qb = z
  pointwise [k0_pay246]

theorem Holds.keys (H : Holds a q k v qb kb) (t : ℕ) (g : Fin 2) (j : ℕ) (hj : j < 8) (kk : Fin 512) (x : Fin 128) :
    (a.head t g).keys j (ix3 0 kk x) = (k (512 * j + kk.val) (128 * g.val + x.val) : EReal) := by
  rw [← H.k ⟨512 * j + kk.val, by omega⟩ ⟨128 * g.val + x.val, by omega⟩]
  exact box_apply (s := S1x4096x256) ![0, 512 * j, 128 * g.val] S1x512x128.size a.k
    (by intro d; fin_cases d <;> simp <;> omega) (ix3 0 kk x) _ (by intro d; fin_cases d <;> rfl)

theorem Holds.bias (H : Holds a q k v qb kb) (t : ℕ) (g : Fin 2) (j : ℕ) (hj : j < 8) (kk : Fin 512) (x : Fin 128) :
    (a.head t g).bias j (ix2 kk x) = (kb g.val (512 * j + kk.val) x.val : EReal) := by
  rw [← H.kb ⟨512 * j + kk.val, by omega⟩ g x]
  exact box_apply (s := S4096x256) ![512 * j, 128 * g.val] S512x128.size a.kb
    (by intro d; fin_cases d <;> simp <;> omega) (ix2 kk x) _ (by intro d; fin_cases d <;> rfl)

theorem Holds.halfKeys (H : Holds a q k v qb kb) (t : ℕ) (g : Fin 2) (j : ℕ) (hj : j < 16) (kk : Fin 256) (x : Fin 128) :
    (a.head t g).halfKeys j (ix3 0 kk x) = (k (256 * j + kk.val) (128 * g.val + x.val) : EReal) := by
  rw [← H.k ⟨256 * j + kk.val, by omega⟩ ⟨128 * g.val + x.val, by omega⟩]
  exact box_apply (s := S1x4096x256) ![0, 256 * j, 128 * g.val] S1x256x128.size a.k
    (by intro d; fin_cases d <;> simp <;> omega) (ix3 0 kk x) _ (by intro d; fin_cases d <;> rfl)

theorem Holds.halfBias (H : Holds a q k v qb kb) (t : ℕ) (g : Fin 2) (j : ℕ) (hj : j < 16) (kk : Fin 256) (x : Fin 128) :
    (a.head t g).halfBias j (ix2 kk x) = (kb g.val (256 * j + kk.val) x.val : EReal) := by
  rw [← H.kb ⟨256 * j + kk.val, by omega⟩ g x]
  exact box_apply (s := S4096x256) ![256 * j, 128 * g.val] S256x128.size a.kb
    (by intro d; fin_cases d <;> simp <;> omega) (ix2 kk x) _ (by intro d; fin_cases d <;> rfl)

theorem Holds.row (H : Holds a q k v qb kb) (t : ℕ) (g : Fin 2) (j : ℕ) (hj : j < 8) (r : Fin 144) (kk : Fin 512) :
    k0_pay9 (F := Ideal) (a.head t g).ones ((a.head t g).vals j) (ix2 r kk) = (rows v g.val r (512 * j + kk.val) : EReal) := by
  have hv : ∀ l : Fin 128, (a.head t g).vals j (ix3 0 l kk) = (v (128 * g.val + l.val) (512 * j + kk.val) : EReal) := fun l => by
    rw [← H.v ⟨128 * g.val + l.val, by omega⟩ ⟨512 * j + kk.val, by omega⟩]
    exact box_apply (s := S1x256x4096) ![0, 128 * g.val, 512 * j] S1x128x512.size a.v
      (by intro d; fin_cases d <;> simp <;> omega) (ix3 0 l kk) _ (by intro d; fin_cases d <;> rfl)
  have ho : ∀ i : Fin 16, (a.head t g).ones (ix2 i kk) = (1 : EReal) := fun i => H.ones i kk
  generalize (a.head t g).vals j = y at hv
  generalize (a.head t g).ones = o at ho
  unfold rows
  pointwise [k0_pay9]
  split
  · rw [hv]
  · rw [ho]; rfl

/-- What a head reads from such blocks. -/
theorem Holds.reads (H : Holds a q k v qb kb) (t : ℕ) (ht : t < 8) (g : Fin 2) (qq : Fin 512) :
    Reads (a.head t g) qq (lanes q k qb kb g.val (512 * t + qq.val)) (rows v g.val) where
  full j hj kk := by
    unfold score lanes
    simp only [H.query t ht, H.queryBias t ht, H.keys t g j hj, H.bias t g j hj, ← EReal.coe_mul]
    rw [coe_sum, coe_sum, EReal.coe_add]
  half0 j hj kk := by
    unfold halfScore lanes
    simp only [H.query t ht, H.queryBias t ht, H.halfKeys t g (2 * j) (by omega), H.halfBias t g (2 * j) (by omega), ← EReal.coe_mul]
    rw [coe_sum, coe_sum, EReal.coe_add, show 256 * (2 * j) = 512 * j by omega]
  half1 j hj kk := by
    unfold halfScore lanes
    simp only [H.query t ht, H.queryBias t ht, H.halfKeys t g (2 * j + 1) (by omega), H.halfBias t g (2 * j + 1) (by omega), ← EReal.coe_mul]
    rw [coe_sum, coe_sum, EReal.coe_add, show 256 * (2 * j + 1) = 512 * j + 256 by omega]
  row j hj r kk := H.row t g j hj r kk

/-- The block a grid point leaves, at token `i` and lane `l` of head `g`. -/
theorem Holds.blk (H : Holds a q k v qb kb) (gate : FVec Ideal S1x4096x256 .bf16) (y1 : Fin 4096) (y2 : Fin 256) :
    Blk a gate (ix3 0 y1 y2)
      = (FoxSpec.attn (lanes q k qb kb (y2.val / 128) y1.val) (v y2.val) y1.val : EReal)
        * Ideal.div 1 (1 + Ideal.exp (0 - gate (ix3 0 y1 y2))) := by
  have hR := H.reads (y1.val / 512) (by omega) ⟨y2.val / 128, by omega⟩ ⟨y1.val % 512, Nat.mod_lt _ (by decide)⟩
  have hA := hR.attn (y1.val / 512) (by omega) ⟨y2.val % 128, Nat.mod_lt _ (by decide)⟩ (by funext n; rfl)
  dsimp only at hA
  have e1 : 512 * (y1.val / 512) + y1.val % 512 = y1.val := by omega
  have e2 : (rows v (y2.val / 128) ⟨y2.val % 128, by omega⟩) = v y2.val := by
    funext n
    unfold rows
    rw [if_pos (Nat.mod_lt _ (by decide)), show 128 * (y2.val / 128) + y2.val % 128 = y2.val by omega]
  rw [e1, e2] at hA
  show (a.head (y1.val / 512) ⟨y2.val / 128, _⟩).out (y1.val / 512)
    (box (F := Ideal) (s := S1x4096x256) ![0, 512 * (y1.val / 512), 128 * (y2.val / 128)] S1x512x128.size gate)
    (ix3 0 ⟨y1.val % 512, _⟩ ⟨y2.val % 128, _⟩) = _
  rw [out_apply, hA]
  rw [box_apply (s := S1x4096x256) ![0, 512 * (y1.val / 512), 128 * (y2.val / 128)] S1x512x128.size gate
    (by intro d; fin_cases d <;> simp <;> omega) _ (ix3 0 y1 y2) (by
      intro d
      fin_cases d
      · rfl
      · show y1.val = 512 * (y1.val / 512) + y1.val % 512; omega
      · show y2.val = 128 * (y2.val / 128) + y2.val % 128; omega)]

end Cert.Fox

end
-- ==== Proof.FoxArray.lean ====
/-
  The attention's array after the run: from arrays of reals, `attended` of them. Point `t` of the grid holds sequence
  `t / 4` and the heads `2 (t % 4)` and `2 (t % 4) + 1`.
-/
module

public import proofs.«01_k».proof.Proof.FoxAttn
public import proofs.«01_k».proof.Proof.FoxPoint
public import Idealize.ShloMosaic.Lib.Pipeline.ValueKit

@[expose] public section

set_option maxRecDepth 65536

noncomputable section

namespace Cert.FoxArray

open Idealize.ShloMosaic Idealize.ShloMosaic.TcCoe Idealize.SL.Sem
open Idealize.ShloMosaic.Pipeline (Dat)
open Cert.Kernel5Ideal Cert.Kernel5Ideal.Gen Cert.FoxSpec Cert.Fox

variable (m : (ℓ : Loc nD τ sig) → Buf (Elt Ideal) ℓ)

/-- Core `c`'s argument arrays as launched. -/
abbrev A (c : Dev nD) (b : Ref sig .tc) : Buf (Elt Ideal) ((c : Thread nD τ).loc b) := m ((c : Thread nD τ).loc b)

/-- Every window's block index at a grid point, and the point's head pair. -/
theorem idx : ∀ t : Fin cfg0.N, win0_0.index t = ![t.val / 4, t.val % 4, 0] ∧ win0_1.index t = ![t.val / 4, 0, t.val % 4]
    ∧ win0_2.index t = ![t.val / 4, t.val % 4, 0] ∧ win0_3.index t = ![t.val / 4, 0, t.val % 4] ∧ win0_4.index t = ![t.val / 4, 0, 0]
    ∧ win0_5.index t = ![t.val / 4, 0, 0] ∧ win0_6.index t = ![t.val / 4, 0, t.val % 4] :=
  (by decide +kernel : ∀ t : Fin grid0.N, _)

theorem pair : ∀ t : Fin cfg0.N, (grid0.coords t 1).val = t.val % 4 := (by decide +kernel : ∀ t : Fin grid0.N, _)

/-- A point's sequence. -/
def seq (n : ℕ) : Fin 8 := ⟨n / 4 % 8, by omega⟩
/-- A lane of a point's head pair. -/
def wide (n : ℕ) (l : Fin 256) : Fin 1024 := ⟨n % 4 * 256 + l.val, by omega⟩

theorem blk0 (c : Dev nD) (t : Fin cfg0.N) (l : Fin 256) (i : Fin 4096) :
    iblk m c 0 t (ix3 0 l i) = A m c main_arg0 (ix3 (seq t.val) (wide t.val l) i) := by
  have ht : t.val < 32 := t.isLt
  refine Eq.trans ?_ (congrFun (V_main_arg0 m c) _)
  have hs : (seq t.val).val = t.val / 4 := by show t.val / 4 % 8 = _; omega
  have hw : (wide t.val l).val = t.val % 4 * 256 + l.val := rfl
  blk_ext [iblk, idx t, hs, hw]

theorem blk2 (c : Dev nD) (t : Fin cfg0.N) (l : Fin 256) (i : Fin 4096) :
    iblk m c 2 t (ix3 0 l i) = A m c main_arg2 (ix3 (seq t.val) (wide t.val l) i) := by
  have ht : t.val < 32 := t.isLt
  refine Eq.trans ?_ (congrFun (V_main_arg2 m c) _)
  have hs : (seq t.val).val = t.val / 4 := by show t.val / 4 % 8 = _; omega
  have hw : (wide t.val l).val = t.val % 4 * 256 + l.val := rfl
  blk_ext [iblk, idx t, hs, hw]

theorem blk1 (c : Dev nD) (t : Fin cfg0.N) (i : Fin 4096) (l : Fin 256) :
    iblk m c 1 t (ix3 0 i l) = A m c main_arg1 (ix3 (seq t.val) i (wide t.val l)) := by
  have ht : t.val < 32 := t.isLt
  refine Eq.trans ?_ (congrFun (V_main_arg1 m c) _)
  have hs : (seq t.val).val = t.val / 4 := by show t.val / 4 % 8 = _; omega
  have hw : (wide t.val l).val = t.val % 4 * 256 + l.val := rfl
  blk_ext [iblk, idx t, hs, hw]

theorem blk3 (c : Dev nD) (t : Fin cfg0.N) (i : Fin 4096) (l : Fin 256) :
    iblk m c 3 t (ix3 0 i l) = A m c main_arg3 (ix3 (seq t.val) i (wide t.val l)) := by
  have ht : t.val < 32 := t.isLt
  refine Eq.trans ?_ (congrFun (V_main_arg3 m c) _)
  have hs : (seq t.val).val = t.val / 4 := by show t.val / 4 % 8 = _; omega
  have hw : (wide t.val l).val = t.val % 4 * 256 + l.val := rfl
  blk_ext [iblk, idx t, hs, hw]

theorem blk4 (c : Dev nD) (t : Fin cfg0.N) (x : Fin 128) (i : Fin 4096) :
    iblk m c 4 t (ix3 0 x i) = A m c main_arg4 (ix3 (seq t.val) x i) := by
  have ht : t.val < 32 := t.isLt
  refine Eq.trans ?_ (congrFun (V_main_arg4 m c) _)
  have hs : (seq t.val).val = t.val / 4 := by show t.val / 4 % 8 = _; omega
  blk_ext [iblk, idx t, hs]

theorem blk5 (c : Dev nD) (t : Fin cfg0.N) (i : Fin 4096) (x : Fin 128) :
    iblk m c 5 t (ix3 0 i x) = A m c main_arg5 (ix3 (seq t.val) i x) := by
  have ht : t.val < 32 := t.isLt
  refine Eq.trans ?_ (congrFun (V_main_arg5 m c) _)
  have hs : (seq t.val).val = t.val / 4 := by show t.val / 4 % 8 = _; omega
  blk_ext [iblk, idx t, hs]

/-- A sum over the lanes of which only a head's sixteen count. -/
theorem lane_sum (f : ℕ → ℝ) (h : ℕ) (hh : h < 8) :
    ∑ x : Fin 128, (if x.val / 16 = h then f x.val else 0) = ∑ l : Fin 16, f (16 * h + l.val) := by
  rw [← Equiv.sum_comp (finProdFinEquiv : Fin 8 × Fin 16 ≃ Fin 128), Fintype.sum_prod_type, Finset.sum_eq_single (⟨h, hh⟩ : Fin 8)]
  · refine Finset.sum_congr rfl fun l _ => ?_
    have e : ((finProdFinEquiv : Fin 8 × Fin 16 ≃ Fin 128) (⟨h, hh⟩, l)).val = 16 * h + l.val := by
      show l.val + 16 * h = _; omega
    rw [e, if_pos (by omega)]
  · intro y _ hy
    refine Finset.sum_eq_zero fun l _ => ?_
    have e : ((finProdFinEquiv : Fin 8 × Fin 16 ≃ Fin 128) (y, l)).val = 16 * y.val + l.val := by
      show l.val + 16 * y.val = _; omega
    rw [e, if_neg]
    intro hc
    exact hy (Fin.ext (by show y.val = h; omega))
  · intro hc; exact absurd (Finset.mem_univ _) hc

section Point

variable (x0 : Cube 8 1024 4096) (x1 : Cube 8 4096 1024) (x2 : Cube 8 1024 4096) (x4 : Cube 8 128 4096) (x5 : Cube 8 4096 128)

/-- The real arrays of the head pair `p` of sequence `b`. -/
abbrev queries (b p c i : ℕ) : ℝ := cell x0 b (p * 256 + c) i
abbrev keysOf (b p n c : ℕ) : ℝ := cell x1 b n (p * 256 + c)
abbrev valuesOf (b p c n : ℕ) : ℝ := cell x2 b (p * 256 + c) n
abbrev queryBias (b x i : ℕ) : ℝ := cell x4 b x i
abbrev keyBias (b p g n x : ℕ) : ℝ := if x / 16 = 2 * p + g then cell x5 b n x else 0

/-- A head's scores over its pair's lanes are its scores. -/
theorem lanes_eq (b p g i n : ℕ) (hp : p < 4) (hg : g < 2) :
    lanes (queries x0 b p) (keysOf x1 b p) (queryBias x4 b) (keyBias x5 b p) g i n = scores x0 x1 x4 x5 b (2 * p + g) i n := by
  unfold lanes scores
  congr 1
  · refine Finset.sum_congr rfl fun c _ => ?_
    unfold queries keysOf
    rw [mul_comm, show p * 256 + (128 * g + c.val) = 128 * (2 * p + g) + c.val by omega]
  · simp only [ite_mul, zero_mul]
    rw [lane_sum (fun x => cell x5 b n x * cell x4 b x i) (2 * p + g) (by omega)]
    exact Finset.sum_congr rfl fun l _ => mul_comm _ _

end Point

variable (c : Dev nD)
  (h0 : Reals (A := 8) (B := 1024) (C := 4096) (A m c main_arg0)) (h1 : Reals (A := 8) (B := 4096) (C := 1024) (A m c main_arg1))
  (h2 : Reals (A := 8) (B := 1024) (C := 4096) (A m c main_arg2)) (h4 : Reals (A := 8) (B := 128) (C := 4096) (A m c main_arg4))
  (h5 : Reals (A := 8) (B := 4096) (C := 128) (A m c main_arg5))
include h0 h1 h2 h4 h5

/-- A point's blocks hold its sequence's and head pair's reals. -/
theorem holds (t : Fin cfg0.N) :
    Holds ⟨iblk m c 0 t, iblk m c 1 t, iblk m c 2 t, iblk m c 4 t, kbBlock (grid0.coords t) (iblk m c 5 t), k0_pay263⟩
      (queries (A m c main_arg0) (seq t.val) (t.val % 4)) (keysOf (A m c main_arg1) (seq t.val) (t.val % 4))
      (valuesOf (A m c main_arg2) (seq t.val) (t.val % 4)) (queryBias (A m c main_arg4) (seq t.val))
      (keyBias (A m c main_arg5) (seq t.val) (t.val % 4)) where
  q l i := (blk0 m c t l i).trans (h0.eq (seq t.val) (wide t.val l) i)
  k n l := (blk1 m c t n l).trans (h1.eq (seq t.val) n (wide t.val l))
  v l n := (blk2 m c t l n).trans (h2.eq (seq t.val) (wide t.val l) n)
  qb x i := (blk4 m c t x i).trans (h4.eq (seq t.val) x i)
  kb n g x := by
    refine (kbBlock_apply (grid0.coords t) (iblk m c 5 t) n g x).trans ?_
    rw [pair t]
    unfold keyBias
    split
    · exact (blk5 m c t n x).trans (h5.eq (seq t.val) n x)
    · rfl
  ones i j := ones_apply i j

/-- The block a point leaves. -/
theorem point (t : Fin cfg0.N) (y1 : Fin 4096) (y2 : Fin 256) :
    outBlk m c t (ix3 0 y1 y2) = attended (A m c main_arg0) (A m c main_arg1) (A m c main_arg2) (A m c main_arg3)
      (A m c main_arg4) (A m c main_arg5) (seq t.val) y1 (wide t.val y2) := by
  unfold outBlk
  rw [(holds m c h0 h1 h2 h4 h5 t).blk (iblk m c 3 t) y1 y2, blk3, zero_sub]
  unfold attended
  have hl : lanes (queries (A m c main_arg0) (seq t.val) (t.val % 4)) (keysOf (A m c main_arg1) (seq t.val) (t.val % 4))
      (queryBias (A m c main_arg4) (seq t.val)) (keyBias (A m c main_arg5) (seq t.val) (t.val % 4)) (y2.val / 128) y1.val
      = scores (A m c main_arg0) (A m c main_arg1) (A m c main_arg4) (A m c main_arg5) (seq t.val) ((wide t.val y2).val / 128) y1.val := by
    funext n
    rw [lanes_eq _ _ _ _ _ _ _ _ _ (Nat.mod_lt _ (by decide)) (by omega)]
    have hw : (wide t.val y2).val = t.val % 4 * 256 + y2.val := rfl
    rw [hw, show (t.val % 4 * 256 + y2.val) / 128 = 2 * (t.val % 4) + y2.val / 128 by omega]
  rw [hl]
  rfl

/-- What the array holds after the run. -/
theorem final : (dats m 0 c).arrAt 6 cfg0.N = fun y => attended (A m c main_arg0) (A m c main_arg1) (A m c main_arg2) (A m c main_arg3)
    (A m c main_arg4) (A m c main_arg5) (y 0) (y 1) (y 2) := by
  refine (dats m 0 c).arrAt_eq_of_covers 6 _ (by decide +kernel) fun t hf y => ?_
  blk_simp
  rw [after0_6]
  idx_vars y
  have ht : t.val < 32 := t.isLt
  have z0 : y0 = 0 := Fin.ext (by omega)
  subst z0
  have hs : (seq t.val).val = t.val / 4 := by show t.val / 4 % 8 = _; omega
  have e0 : ((View.whole main_v0).slice (win0_6.rect t)).emb (ix3 0 y1 y2) 0 = seq t.val := by
    apply Fin.ext
    blk_simp [idx t, hs]
    exact Nat.add_zero _
  have e1 : ((View.whole main_v0).slice (win0_6.rect t)).emb (ix3 0 y1 y2) 1 = y1 := by
    apply Fin.ext
    blk_simp [idx t]
  have e2 : ((View.whole main_v0).slice (win0_6.rect t)).emb (ix3 0 y1 y2) 2 = wide t.val y2 := by
    apply Fin.ext
    have hw : (wide t.val y2).val = t.val % 4 * 256 + y2.val := rfl
    blk_simp [idx t, hw]
  have key : ∀ (b : Fin 8) (i : Fin 4096) (l : Fin 1024), b = seq t.val → i = y1 → l = wide t.val y2 →
      outBlk m c t (ix3 0 y1 y2) = attended (A m c main_arg0) (A m c main_arg1) (A m c main_arg2) (A m c main_arg3)
        (A m c main_arg4) (A m c main_arg5) b i l := by
    rintro b i l rfl rfl rfl
    exact point m c h0 h1 h2 h4 h5 t i y2
  exact key _ _ _ e0 e1 e2

end Cert.FoxArray

end
-- ==== Proof.FoxRef.lean ====
/-
  What the plain reference of the attention computes from arrays of reals: `attended`.
-/
module

public import proofs.«01_k».proof.Proof.Gen.Reference5Ideal.Run
public import proofs.«01_k».proof.Proof.Gen.Reference5Ideal.Read
public import proofs.«01_k».proof.Proof.FoxAttn
public import Idealize.ShloMosaic.Lib.WordArith

@[expose] public section

set_option maxRecDepth 65536

noncomputable section

namespace Cert.FoxRef

open Idealize.ShloMosaic Cert.Reference5Ideal Cert.Reference5Ideal.Gen Cert.Reference5Ideal.Read Cert.FoxSpec

variable (x0 : (⟨S8x1024x4096, .bf16⟩ : BufTy).Contents (Elt Ideal)) (x1 : (⟨S8x4096x1024, .bf16⟩ : BufTy).Contents (Elt Ideal))
  (x2 : (⟨S8x1024x4096, .bf16⟩ : BufTy).Contents (Elt Ideal)) (x3 : (⟨S8x4096x1024, .bf16⟩ : BufTy).Contents (Elt Ideal))
  (x4 : (⟨S8x128x4096, .bf16⟩ : BufTy).Contents (Elt Ideal)) (x5 : (⟨S8x4096x128, .bf16⟩ : BufTy).Contents (Elt Ideal))

/-- Lane `c` of head `h`. -/
abbrev lane (h : Fin 8) (c : Fin 128) : Fin 1024 := ⟨128 * h.val + c.val, by omega⟩
/-- Bias lane `l` of head `h`. -/
abbrev biasLane (h : Fin 8) (l : Fin 16) : Fin 128 := ⟨16 * h.val + l.val, by omega⟩

theorem v1_eq (b h : Fin 8) (c : Fin 128) (i : Fin 4096) : val_main_v1 (F := Ideal) x0 (ix4 b h c i) = x0 (ix3 b (lane h c) i) := by
  rw [val_main_v1_apply, val_main_v0_apply]
  refine congrArg x0 (funext fun a => Fin.ext ?_)
  fin_cases a
  · show (((b.val * 8 + h.val) * 128 + c.val) * 4096 + i.val) / 4194304 = b.val; omega
  · show (((b.val * 8 + h.val) * 128 + c.val) * 4096 + i.val) / 4096 % 1024 = 128 * h.val + c.val; omega
  · show (((b.val * 8 + h.val) * 128 + c.val) * 4096 + i.val) % 4096 = i.val; omega

theorem v5_eq (b h : Fin 8) (c : Fin 128) (i : Fin 4096) : val_main_v5 (F := Ideal) x2 (ix4 b h c i) = x2 (ix3 b (lane h c) i) := by
  rw [val_main_v5_apply, val_main_v4_apply]
  refine congrArg x2 (funext fun a => Fin.ext ?_)
  fin_cases a
  · show (((b.val * 8 + h.val) * 128 + c.val) * 4096 + i.val) / 4194304 = b.val; omega
  · show (((b.val * 8 + h.val) * 128 + c.val) * 4096 + i.val) / 4096 % 1024 = 128 * h.val + c.val; omega
  · show (((b.val * 8 + h.val) * 128 + c.val) * 4096 + i.val) % 4096 = i.val; omega

theorem v3_eq (b h : Fin 8) (n : Fin 4096) (c : Fin 128) : val_main_v3 (F := Ideal) x1 (ix4 b n h c) = x1 (ix3 b n (lane h c)) := by
  rw [val_main_v3_apply, val_main_v2_apply]
  refine congrArg x1 (funext fun a => Fin.ext ?_)
  fin_cases a
  · show (((b.val * 4096 + n.val) * 8 + h.val) * 128 + c.val) / 4194304 = b.val; omega
  · show (((b.val * 4096 + n.val) * 8 + h.val) * 128 + c.val) / 1024 % 4096 = n.val; omega
  · show (((b.val * 4096 + n.val) * 8 + h.val) * 128 + c.val) % 1024 = 128 * h.val + c.val; omega

theorem v7_eq (b h : Fin 8) (l : Fin 16) (i : Fin 4096) : val_main_v7 (F := Ideal) x4 (ix4 b h l i) = x4 (ix3 b (biasLane h l) i) := by
  rw [val_main_v7_apply, val_main_v6_apply]
  refine congrArg x4 (funext fun a => Fin.ext ?_)
  fin_cases a
  · show (((b.val * 8 + h.val) * 16 + l.val) * 4096 + i.val) / 524288 = b.val; omega
  · show (((b.val * 8 + h.val) * 16 + l.val) * 4096 + i.val) / 4096 % 128 = 16 * h.val + l.val; omega
  · show (((b.val * 8 + h.val) * 16 + l.val) * 4096 + i.val) % 4096 = i.val; omega

theorem v9_eq (b h : Fin 8) (n : Fin 4096) (l : Fin 16) : val_main_v9 (F := Ideal) x5 (ix4 b n h l) = x5 (ix3 b n (biasLane h l)) := by
  rw [val_main_v9_apply, val_main_v8_apply]
  refine congrArg x5 (funext fun a => Fin.ext ?_)
  fin_cases a
  · show (((b.val * 4096 + n.val) * 8 + h.val) * 16 + l.val) / 524288 = b.val; omega
  · show (((b.val * 4096 + n.val) * 8 + h.val) * 16 + l.val) / 128 % 4096 = n.val; omega
  · show (((b.val * 4096 + n.val) * 8 + h.val) * 16 + l.val) % 128 = 16 * h.val + l.val; omega

variable {x0 x1 x2 x4 x5}
variable (h0 : Reals (A := 8) (B := 1024) (C := 4096) x0) (h1 : Reals (A := 8) (B := 4096) (C := 1024) x1) (h2 : Reals (A := 8) (B := 1024) (C := 4096) x2)
  (h4 : Reals (A := 8) (B := 128) (C := 4096) x4) (h5 : Reals (A := 8) (B := 4096) (C := 128) x5)
include h0 h1 h4 h5

/-- The score of key `n` against query `i`. -/
theorem v12_eq (b h : Fin 8) (i n : Fin 4096) :
    val_main_v12 (F := Ideal) x0 x1 x4 x5 (ix4 b h i n) = (scores x0 x1 x4 x5 b h i n : EReal) := by
  have e1 : val_main_v10 (F := Ideal) x0 x1 (ix4 b h i n)
      = ((∑ c : Fin 128, cell (A := 8) (B := 1024) (C := 4096) x0 b (128 * h.val + c.val) i * cell (A := 8) (B := 4096) (C := 1024) x1 b n (128 * h.val + c.val) : ℝ) : EReal) := by
    rw [val_main_v10_apply, ← coe_sum]
    refine Finset.sum_congr rfl fun c _ => ?_
    rw [EReal.coe_mul]
    exact congrArg₂ (· * ·) ((v1_eq x0 b h c i).trans (h0.eq b (lane h c) i)) ((v3_eq x1 b h n c).trans (h1.eq b n (lane h c)))
  have e2 : val_main_v11 (F := Ideal) x4 x5 (ix4 b h i n)
      = ((∑ l : Fin 16, cell (A := 8) (B := 128) (C := 4096) x4 b (16 * h.val + l.val) i * cell (A := 8) (B := 4096) (C := 128) x5 b n (16 * h.val + l.val) : ℝ) : EReal) := by
    rw [val_main_v11_apply, ← coe_sum]
    refine Finset.sum_congr rfl fun l _ => ?_
    rw [EReal.coe_mul]
    exact congrArg₂ (· * ·) ((v7_eq x4 b h l i).trans (h4.eq b (biasLane h l) i)) ((v9_eq x5 b h n l).trans (h5.eq b n (biasLane h l)))
  rw [val_main_v12_apply, e1, e2]
  unfold scores
  rw [EReal.coe_add]
  rfl

/-- The score, or minus infinity past the query. -/
theorem v20_eq (b h : Fin 8) (i n : Fin 4096) :
    val_main_v20 (F := Ideal) x0 x1 x4 x5 (ix4 b h i n) = mask (n.val ≤ i.val) (scores x0 x1 x4 x5 b h i n) := by
  rw [val_main_v20_apply, v12_eq h0 h1 h4 h5]
  have e1 : val_main_call0_v1 (F := Ideal) (ix4 b h i n) = IntOp.cmpi .sge (BitVec.ofNat 32 i.val) (BitVec.ofNat 32 n.val) := by
    rw [val_main_call0_v1_apply, val_main_v19_apply, val_main_v17_apply, val_main_v18_apply, val_main_v14_apply, val_main_v16_apply,
      val_main_v13_apply, val_main_v15_apply]
    rfl
  have e2 : val_main_call0_v2 (F := Ideal) (ix4 b h i n) = (⊥ : EReal) := by
    rw [val_main_call0_v2_apply, val_main_call0_v0_apply, val_main_cst_apply]
    show Ideal.ofBits FTy.f32 4286578688#32 = ⊥
    simp [Ideal.ofBits, Ideal.ieee]
  rw [e1, e2, Scalar.select_def]
  unfold mask
  refine if_congr ?_ rfl rfl
  show IntOp.cmpi .sge _ _ = 1#1 ↔ _
  rw [IntOp.cmpi_sge, WordArith.toInt_ofNat_small _ (by omega), WordArith.toInt_ofNat_small _ (by omega)]
  omega

/-- The largest score kept is a real: key zero's is kept. -/
theorem v22_real (b h : Fin 8) (i : Fin 4096) : ∃ m : ℝ, val_main_v22 (F := Ideal) x0 x1 x4 x5 (ix3 b h i) = (m : EReal) := by
  obtain ⟨m, hm⟩ := fold_real (N := 4096) (fun n => n.val ≤ i.val) (fun n => scores x0 x1 x4 x5 b h i n) 0 (Nat.zero_le _)
  refine ⟨m, hm ▸ ?_⟩
  simp only [← v20_eq h0 h1 h4 h5]
  have z : Ideal.ofBits FTy.f32 4286578688#32 = ⊥ := by simp [Ideal.ofBits, Ideal.ieee]
  rw [← z]
  generalize hx : val_main_v20 (F := Ideal) x0 x1 x4 x5 = y
  unfold val_main_v22
  rw [hx]
  clear hx hm
  pointwise [val_main_cst_1]

/-- The exponential of a score less the largest, in base two. -/
theorem v28_eq (b h : Fin 8) (i n : Fin 4096) : val_main_v28 (F := Ideal) x0 x1 x4 x5 (ix4 b h i n)
    = Ideal.exp ((Real.log 2 : EReal) * (mask (n.val ≤ i.val) (scores x0 x1 x4 x5 b h i n) - val_main_v22 (F := Ideal) x0 x1 x4 x5 (ix3 b h i))) := by
  have e1 : val_main_v26 (F := Ideal) (ix4 b h i n) = (Real.log 2 : EReal) := by
    rw [val_main_v26_apply, val_main_v21_apply, val_main_cst_0_apply]
    show Ideal.log (Ideal.ofBits FTy.f32 0x40000000#32) = _
    have z : Ideal.ofBits FTy.f32 0x40000000#32 = ((2 : ℝ) : EReal) := by
      simp [Ideal.ofBits, Ideal.ieee]
      rw [← EReal.coe_mul]
      norm_num
    rw [z]
    show (if (2 : ℝ) ≤ 0 then ⊥ else (Real.log 2 : EReal)) = _
    rw [if_neg (by norm_num)]
  have e2 : val_main_v24 (F := Ideal) x0 x1 x4 x5 (ix4 b h i n) = val_main_v22 (F := Ideal) x0 x1 x4 x5 (ix3 b h i) := by
    rw [val_main_v24_apply, val_main_v23_apply]
    exact congrArg _ (funext fun a => by fin_cases a <;> rfl)
  rw [val_main_v28_apply, val_main_v27_apply, val_main_v25_apply, e1, e2, v20_eq h0 h1 h4 h5]
  rfl

/-- A key's weight. -/
theorem v32_eq (b h : Fin 8) (i n : Fin 4096) : val_main_v32 (F := Ideal) x0 x1 x4 x5 (ix4 b h i n)
    = Ideal.div (val_main_v28 (F := Ideal) x0 x1 x4 x5 (ix4 b h i n)) (∑ n : Fin 4096, (val_main_v28 (F := Ideal) x0 x1 x4 x5 (ix4 b h i n) : EReal)) := by
  have e : val_main_v31 (F := Ideal) x0 x1 x4 x5 (ix4 b h i n) = ∑ n : Fin 4096, (val_main_v28 (F := Ideal) x0 x1 x4 x5 (ix4 b h i n) : EReal) := by
    rw [val_main_v31_apply, val_main_v30_apply, val_main_v29_apply, val_main_cst_2_apply]
    have z : Ideal.ofBits FTy.f32 0x00000000#32 = 0 := by simp [Ideal.ofBits, Ideal.ieee]
    show Ideal.ofBits FTy.f32 0x00000000#32 + _ = _
    rw [z, zero_add]
    refine Finset.sum_congr rfl fun n _ => congrArg _ (funext fun a => by fin_cases a <;> rfl)
  rw [val_main_v32_apply, e]
  rfl

include h2

/-- The mean of the value lanes under the weights. -/
theorem v33_eq (b h : Fin 8) (c : Fin 128) (i : Fin 4096) : val_main_v33 (F := Ideal) x0 x1 x2 x4 x5 (ix4 b h c i)
    = (attn (scores x0 x1 x4 x5 b h i) (cell (A := 8) (B := 1024) (C := 4096) x2 b (128 * h.val + c.val)) i : EReal) := by
  refine Eq.trans ?_ (plain (N := 4096) (scores x0 x1 x4 x5 b h i) (cell (A := 8) (B := 1024) (C := 4096) x2 b (128 * h.val + c.val)) i i.isLt
    (val_main_v22 (F := Ideal) x0 x1 x4 x5 (ix3 b h i)) (v22_real h0 h1 h4 h5 b h i)
    (fun n => val_main_v28 (F := Ideal) x0 x1 x4 x5 (ix4 b h i n)) (fun n => v28_eq h0 h1 h4 h5 b h i n))
  refine (val_main_v33_apply x0 x1 x2 x4 x5 _).trans ?_
  refine Finset.sum_congr rfl fun n _ => ?_
  have a1 : lidx_main_v33 (ix4 b h c i) n = ix4 b h c n := funext fun a => by fin_cases a <;> rfl
  have a2 : ridx_main_v33 (ix4 b h c i) n = ix4 b h i n := funext fun a => by fin_cases a <;> rfl
  rw [a1, a2, v5_eq, h2.eq b (lane h c) n, v32_eq h0 h1 h4 h5]

/-- The reference's result. -/
theorem v44_eq (b : Fin 8) (t : Fin 4096) (e : Fin 1024) : val_main_v44 (F := Ideal) x0 x1 x2 x3 x4 x5 (ix3 b t e)
    = attended x0 x1 x2 x3 x4 x5 b t e := by
  have e1 : val_main_v35 (F := Ideal) x0 x1 x2 x4 x5 (ix3 b t e)
      = val_main_v33 (F := Ideal) x0 x1 x2 x4 x5 (ix4 b ⟨e.val / 128, by omega⟩ ⟨e.val % 128, Nat.mod_lt _ (by decide)⟩ t) := by
    rw [val_main_v35_apply, val_main_v34_apply]
    refine congrArg _ (funext fun a => Fin.ext ?_)
    fin_cases a
    · show ((b.val * 4096 + t.val) * 1024 + e.val) / 4194304 = b.val; omega
    · show ((b.val * 4096 + t.val) * 1024 + e.val) / 128 % 8 = e.val / 128; omega
    · show ((b.val * 4096 + t.val) * 1024 + e.val) % 128 = e.val % 128; omega
    · show ((b.val * 4096 + t.val) * 1024 + e.val) / 1024 % 4096 = t.val; omega
  have e2 : val_main_v42 (F := Ideal) x3 (ix3 b t e) = Ideal.div 1 (1 + Ideal.exp (-(x3 (ix3 b t e) : EReal))) := by
    pointwise [val_main_v36, val_main_v37, val_main_v38, val_main_v39, val_main_v40, val_main_v41, val_main_v42, val_main_cst_3, val_main_cst_4]
  rw [val_main_v44_apply, val_main_v43_apply, e1, e2, v33_eq h0 h1 h2 h4 h5]
  unfold attended
  have e3 : 128 * (e.val / 128) + e.val % 128 = e.val := by omega
  show _ * _ = _ * _
  dsimp only
  rw [e3]

end Cert.FoxRef

end
-- ==== Proof.FoxFinite.lean ====
/-
  The precondition of the attention's value claim: its arrays other than the gate hold reals.
-/
module

public import proofs.«01_k».proof.Pre_finite
public import proofs.«01_k».proof.Proof.FoxAttn
public import Idealize.ShloMosaic.Lib.ReduceAll

@[expose] public section

set_option maxRecDepth 65536

noncomputable section

namespace Cert.FoxFinite

open Idealize.ShloMosaic Cert.FoxSpec

/-- The predicate's side conditions. -/
instance facts : Cert.Pre_finite.Facts where
  bitsLt_bf16_f32 := by decide
  bcast_S_S8x1024x4096 := by decide
  reducesTo_S8x1024x4096_S_d0_1_2 := by decide
  h_S_ := by decide
  bcast_S_S8x4096x1024 := by decide
  reducesTo_S8x4096x1024_S_d0_1_2 := by decide
  bcast_S_S8x128x4096 := by decide
  reducesTo_S8x128x4096_S_d0_1_2 := by decide
  bcast_S_S8x4096x128 := by decide
  reducesTo_S8x4096x128_S_d0_1_2 := by decide

instance : Subsingleton (Cert.Pre_finite.S_.Idx) := ⟨fun a b => funext fun i => i.elim0⟩

/-- An absolute value below infinity is a real's. -/
theorem below (x : EReal) (h : Ideal.cmp .olt (max x (-x)) (Ideal.ofBits .f32 0x7F800000#32) = 1#1) : x ≠ ⊤ ∧ x ≠ ⊥ := by
  have z : Ideal.ofBits .f32 0x7F800000#32 = ⊤ := by simp [Ideal.ofBits, Ideal.ieee]
  rw [z] at h
  constructor
  · rintro rfl
    simp [Ideal.cmp] at h
  · rintro rfl
    simp [Ideal.cmp] at h

/-- Where the predicate holds, the arrays hold reals. -/
theorem reals {x0 : Cube 8 1024 4096} {x1 : Cube 8 4096 1024} {x2 : Cube 8 1024 4096} {x3 : Cube 8 4096 1024} {x4 : Cube 8 128 4096}
    {x5 : Cube 8 4096 128} (h : Cert.Pre_finite.fn (F := Ideal) x0 x1 x2 x3 x4 x5 = fun _ => 1#1) :
    Reals x0 ∧ Reals x1 ∧ Reals x2 ∧ Reals x4 ∧ Reals x5 := by
  have h := congrFun h (fun i => i.elim0)
  dsimp only [Cert.Pre_finite.fn, Cert.Pre_finite.fn_part1] at h
  obtain ⟨h, e5⟩ := IntOp.andi_eq_one.1 h
  obtain ⟨h, e4⟩ := IntOp.andi_eq_one.1 h
  obtain ⟨h, e2⟩ := IntOp.andi_eq_one.1 h
  obtain ⟨e0, e1⟩ := IntOp.andi_eq_one.1 h
  refine ⟨fun i j k => ?_, fun i j k => ?_, fun i j k => ?_, fun i j k => ?_, fun i j k => ?_⟩
  · exact below _ (Host.reduce_andi_all _ _ _ _ _ e0 (ix3 i j k))
  · exact below _ (Host.reduce_andi_all _ _ _ _ _ e1 (ix3 i j k))
  · exact below _ (Host.reduce_andi_all _ _ _ _ _ e2 (ix3 i j k))
  · exact below _ (Host.reduce_andi_all _ _ _ _ _ e4 (ix3 i j k))
  · exact below _ (Host.reduce_andi_all _ _ _ _ _ e5 (ix3 i j k))

end Cert.FoxFinite

end
-- ==== Proof.FoxClaim.lean ====
/-
  The attention's value claim: over arrays of reals the kernel and the plain reference leave the same result.
-/
module

public import proofs.«01_k».proof.Defs
public import proofs.«01_k».proof.Proof.FoxArray
public import proofs.«01_k».proof.Proof.FoxRef
public import proofs.«01_k».proof.Proof.FoxFinite

@[expose] public section

set_option maxRecDepth 65536

noncomputable section

namespace Cert.FoxClaim

open Idealize.ShloMosaic Idealize.SL.Sem

/-- The result, of an argument's launch contents. -/
abbrev result (m : (ℓ : Loc Kernel5Ideal.nD Kernel5Ideal.τ Kernel5Ideal.sig) → Buf (Elt Ideal) ℓ) (c : Dev Kernel5Ideal.nD) :
    FoxSpec.Cube 8 4096 1024 :=
  fun y => FoxSpec.attended (FoxArray.A m c Kernel5Ideal.main_arg0) (FoxArray.A m c Kernel5Ideal.main_arg1)
    (FoxArray.A m c Kernel5Ideal.main_arg2) (FoxArray.A m c Kernel5Ideal.main_arg3) (FoxArray.A m c Kernel5Ideal.main_arg4)
    (FoxArray.A m c Kernel5Ideal.main_arg5) (y 0) (y 1) (y 2)

/-- Both programs end with `attended` of the arguments. -/
theorem agrees : algebraic_Kernel5Ideal_Reference5Ideal_pre_finite := fun m ρ m' ρ' hp hag => by
  have hr := fun c => FoxFinite.reals (hp c)
  refine ⟨fun c => result m c, ?_, ?_⟩
  · refine (θ_run _ _ _).mono (fun _ h c => ?_) (Cert.Fox.run_main m ρ)
    obtain ⟨r0, r1, r2, r4, r5⟩ := hr c
    have hA := Cert.Fox.A_eq m
    exact ⟨((h.1 c).1 6).trans (FoxArray.final m c r0 r1 r2 r4 r5),
      ((h.1 c).1 0).trans (((Fox.dats m 0 c).arrAt_in 0 rfl _).trans ((hA c 0).trans (Kernel5Ideal.Gen.V_main_arg0 m c))),
      ((h.1 c).1 1).trans (((Fox.dats m 0 c).arrAt_in 1 rfl _).trans ((hA c 1).trans (Kernel5Ideal.Gen.V_main_arg1 m c))),
      ((h.1 c).1 2).trans (((Fox.dats m 0 c).arrAt_in 2 rfl _).trans ((hA c 2).trans (Kernel5Ideal.Gen.V_main_arg2 m c))),
      ((h.1 c).1 3).trans (((Fox.dats m 0 c).arrAt_in 3 rfl _).trans ((hA c 3).trans (Kernel5Ideal.Gen.V_main_arg3 m c))),
      ((h.1 c).1 4).trans (((Fox.dats m 0 c).arrAt_in 4 rfl _).trans ((hA c 4).trans (Kernel5Ideal.Gen.V_main_arg4 m c))),
      ((h.1 c).1 5).trans (((Fox.dats m 0 c).arrAt_in 5 rfl _).trans ((hA c 5).trans (Kernel5Ideal.Gen.V_main_arg5 m c)))⟩
  · refine (θ_run _ _ _).mono (fun _ h c => ⟨(h c).1.trans ?_, (h c).2⟩) (Cert.Reference5Ideal.Value.run m' ρ')
    obtain ⟨r0, r1, r2, r4, r5⟩ := hr c
    obtain ⟨g0, g1, g2, g3, g4, g5⟩ := hag c
    rw [Cert.Reference5Ideal.Read.val_main_v44_eq, g0, g1, g2, g3, g4, g5]
    funext y
    idx_vars y
    exact FoxRef.v44_eq _ r0 r1 r2 r4 r5 y0 y1 y2

end Cert.FoxClaim

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Step
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Launch
public import proofs.«01_k».proof.Proof.Gen.Kernel5Ideal
public import proofs.«01_k».proof.Proof.Gen.Kernel5Ideal.Launch
public import proofs.«01_k».proof.Proof.Gen.Kernel5.Points
public import proofs.«01_k».proof.Proof.Gen.Kernel5.Skeleton
public import proofs.«01_k».proof.Proof.Gen.Kernel5.Loops
public import proofs.«01_k».proof.Proof.Gen.Kernel5.Frame
public import proofs.«01_k».proof.Proof.Gen.Kernel5Ideal.Points
public import proofs.«01_k».proof.Proof.Gen.Kernel5Ideal.Skeleton
public import proofs.«01_k».proof.Proof.Gen.Kernel5Ideal.Loops
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.PostClaim
public import proofs.«01_k».proof.Proof.PostEvenClaim
public import proofs.«01_k».proof.Proof.PostMidClaim
public import proofs.«01_k».proof.Proof.ScanClaim
public import proofs.«01_k».proof.Proof.FoxBits
public import proofs.«01_k».proof.Proof.FoxClaim
public import Idealize.ShloMosaic.Adequacy
public import Idealize.ShloMosaic.Init

@[expose] public section

noncomputable section

namespace Cert.Proof

open Idealize.ShloMosaic Idealize.SL.Sem Cert.Kernel

/-- The attention's reference leaves its arguments as they were. -/
theorem fox_reference : quiescent_Reference5Ideal := fun m ρ _ =>
  (θ_run _ _ _).mono (fun r h => ⟨fun c => (h c).2, sem_eq_zero_of_no_sems (by decide) r.2⟩) (Cert.Reference5Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.FoxFinite.facts,
  fun m ρ _ => Cert.Kernel.Gen.frame m ρ, fun m ρ _ => Cert.KernelIdeal.Gen.frame m ρ,
  fun m ρ _ => (θ_run _ _ _).mono (fun r h => ⟨fun c => (h c).2, sem_eq_zero_of_no_sems (by decide) r.2⟩) (Cert.ReferenceIdeal.Value.run m ρ),
  fun m ρ _ => Cert.Kernel2.Gen.frame m ρ, fun m ρ _ => Cert.Kernel2Ideal.Gen.frame m ρ,
  fun m ρ _ => (θ_run _ _ _).mono (fun r h => ⟨fun c => (h c).2, sem_eq_zero_of_no_sems (by decide) r.2⟩) (Cert.Reference2Ideal.Value.run m ρ),
  fun m ρ _ => Cert.Kernel3.Gen.frame m ρ, fun m ρ _ => Cert.Kernel3Ideal.Gen.frame m ρ,
  fun m ρ _ => (θ_run _ _ _).mono (fun r h => ⟨fun c => (h c).2, sem_eq_zero_of_no_sems (by decide) r.2⟩) (Cert.Reference3Ideal.Value.run m ρ),
  fun m ρ _ => Cert.Kernel4.Gen.frame m ρ, fun m ρ _ => Cert.Kernel4Ideal.Gen.frame m ρ,
  fun m ρ _ => (θ_run _ _ _).mono (fun r h => ⟨fun c => (h c).2, sem_eq_zero_of_no_sems (by decide) r.2⟩) (Cert.Reference4Ideal.Value.run m ρ),
  Cert.FoxBits.frame, fun m ρ _ => Cert.Fox.frame m ρ, fun m ρ _ => Cert.Fox.frame m ρ,
  fox_reference, fun m ρ _ => fox_reference m ρ trivial,
  trivial, Cert.ScanClaim.agrees, trivial, Cert.PostClaim.agrees, trivial, Cert.PostEvenClaim.agrees, trivial,
  Cert.PostMidClaim.agrees, IdealRules.named_const.statement Cert.Kernel5Ideal.κ "mask" .f32 0xF149F2CA#32 ⊥ rfl,
  Cert.FoxClaim.agrees⟩

end Cert.Proof

end
